-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_FfnNextRefIdeal (m : (ℓ : Loc Cert.FfnNextRefIdeal.nD Cert.FfnNextRefIdeal.τ Cert.FfnNextRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxRefIdeal (m : (ℓ : Loc Cert.FfnCtxRefIdeal.nD Cert.FfnCtxRefIdeal.τ Cert.FfnCtxRefIdeal.sig) → Buf (Elt Ideal) ℓ) : Prop :=
  True

def Pre_KvIn (m : (ℓ : Loc Cert.KvIn.nD Cert.KvIn.τ Cert.KvIn.sig) → Buf (Elt Bits) ℓ) : Prop :=
  True

def Pre_KvInIdeal (m : (ℓ : Loc Cert.KvInIdeal.nD Cert.KvInIdeal.τ Cert.KvInIdeal.sig) → Buf (Elt Ideal) ℓ) : Prop :=
  True

def Pre_KvInRefIdeal (m : (ℓ : Loc Cert.KvInRefIdeal.nD Cert.KvInRefIdeal.τ Cert.KvInRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4)
      ∧ r.2.mem ((c.tc : Thread Cert.FfnNext.nD Cert.FfnNext.τ).loc Cert.FfnNext.main_arg5) = m ((c.tc : Thread Cert.FfnNext.nD Cert.FfnNext.τ).loc Cert.FfnNext.main_arg5)
      ∧ r.2.mem ((c.tc : Thread Cert.FfnNext.nD Cert.FfnNext.τ).loc Cert.FfnNext.main_arg6) = m ((c.tc : Thread Cert.FfnNext.nD Cert.FfnNext.τ).loc Cert.FfnNext.main_arg6)
      ∧ r.2.mem ((c.tc : Thread Cert.FfnNext.nD Cert.FfnNext.τ).loc Cert.FfnNext.main_arg7) = m ((c.tc : Thread Cert.FfnNext.nD Cert.FfnNext.τ).loc Cert.FfnNext.main_arg7))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
      ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6)
      ∧ r.2.mem ((c.tc : Thread Cert.FfnNextIdeal.nD Cert.FfnNextIdeal.τ).loc Cert.FfnNextIdeal.main_arg7) = m ((c.tc : Thread Cert.FfnNextIdeal.nD Cert.FfnNextIdeal.τ).loc Cert.FfnNextIdeal.main_arg7))
      ∧ r.2.sem = fun _ => 0)

def quiescent_FfnNextRefIdeal [hFfnNextRefIdeal : Cert.FfnNextRefIdeal.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4)
      ∧ r.2.mem ((c.tc : Thread Cert.FfnNextRefIdeal.nD Cert.FfnNextRefIdeal.τ).loc Cert.FfnNextRefIdeal.main_arg5) = m ((c.tc : Thread Cert.FfnNextRefIdeal.nD Cert.FfnNextRefIdeal.τ).loc Cert.FfnNextRefIdeal.main_arg5)
      ∧ r.2.mem ((c.tc : Thread Cert.FfnNextRefIdeal.nD Cert.FfnNextRefIdeal.τ).loc Cert.FfnNextRefIdeal.main_arg6) = m ((c.tc : Thread Cert.FfnNextRefIdeal.nD Cert.FfnNextRefIdeal.τ).loc Cert.FfnNextRefIdeal.main_arg6)
      ∧ r.2.mem ((c.tc : Thread Cert.FfnNextRefIdeal.nD Cert.FfnNextRefIdeal.τ).loc Cert.FfnNextRefIdeal.main_arg7) = m ((c.tc : Thread Cert.FfnNextRefIdeal.nD Cert.FfnNextRefIdeal.τ).loc Cert.FfnNextRefIdeal.main_arg7))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2)
      ∧ r.2.mem ((c.tc : Thread Cert.HyIn.nD Cert.HyIn.τ).loc Cert.HyIn.main_arg3) = m ((c.tc : Thread Cert.HyIn.nD Cert.HyIn.τ).loc Cert.HyIn.main_arg3)
      ∧ r.2.mem ((c.tc : Thread Cert.HyIn.nD Cert.HyIn.τ).loc Cert.HyIn.main_arg4) = m ((c.tc : Thread Cert.HyIn.nD Cert.HyIn.τ).loc Cert.HyIn.main_arg4)
      ∧ r.2.mem ((c.tc : Thread Cert.HyIn.nD Cert.HyIn.τ).loc Cert.HyIn.main_arg5) = m ((c.tc : Thread Cert.HyIn.nD Cert.HyIn.τ).loc Cert.HyIn.main_arg5)
      ∧ r.2.mem ((c.tc : Thread Cert.HyIn.nD Cert.HyIn.τ).loc Cert.HyIn.main_arg6) = m ((c.tc : Thread Cert.HyIn.nD Cert.HyIn.τ).loc Cert.HyIn.main_arg6)
      ∧ r.2.mem ((c.tc : Thread Cert.HyIn.nD Cert.HyIn.τ).loc Cert.HyIn.main_arg7) = m ((c.tc : Thread Cert.HyIn.nD Cert.HyIn.τ).loc Cert.HyIn.main_arg7))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
      ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
      ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
      ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6)
      ∧ r.2.mem ((c.tc : Thread Cert.HyInIdeal.nD Cert.HyInIdeal.τ).loc Cert.HyInIdeal.main_arg7) = m ((c.tc : Thread Cert.HyInIdeal.nD Cert.HyInIdeal.τ).loc Cert.HyInIdeal.main_arg7))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3)
      ∧ r.2.mem ((c.tc : Thread Cert.HyInRefIdeal.nD Cert.HyInRefIdeal.τ).loc Cert.HyInRefIdeal.main_arg4) = m ((c.tc : Thread Cert.HyInRefIdeal.nD Cert.HyInRefIdeal.τ).loc Cert.HyInRefIdeal.main_arg4)
      ∧ r.2.mem ((c.tc : Thread Cert.HyInRefIdeal.nD Cert.HyInRefIdeal.τ).loc Cert.HyInRefIdeal.main_arg5) = m ((c.tc : Thread Cert.HyInRefIdeal.nD Cert.HyInRefIdeal.τ).loc Cert.HyInRefIdeal.main_arg5)
      ∧ r.2.mem ((c.tc : Thread Cert.HyInRefIdeal.nD Cert.HyInRefIdeal.τ).loc Cert.HyInRefIdeal.main_arg6) = m ((c.tc : Thread Cert.HyInRefIdeal.nD Cert.HyInRefIdeal.τ).loc Cert.HyInRefIdeal.main_arg6)
      ∧ r.2.mem ((c.tc : Thread Cert.HyInRefIdeal.nD Cert.HyInRefIdeal.τ).loc Cert.HyInRefIdeal.main_arg7) = m ((c.tc : Thread Cert.HyInRefIdeal.nD Cert.HyInRefIdeal.τ).loc Cert.HyInRefIdeal.main_arg7))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4)
      ∧ r.2.mem ((c.tc : Thread Cert.ProjInRefIdeal.nD Cert.ProjInRefIdeal.τ).loc Cert.ProjInRefIdeal.main_arg5) = m ((c.tc : Thread Cert.ProjInRefIdeal.nD Cert.ProjInRefIdeal.τ).loc Cert.ProjInRefIdeal.main_arg5))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6)
      ∧ r.2.mem ((c.tc : Thread Cert.ProjOut.nD Cert.ProjOut.τ).loc Cert.ProjOut.main_arg7) = m ((c.tc : Thread Cert.ProjOut.nD Cert.ProjOut.τ).loc Cert.ProjOut.main_arg7)
      ∧ r.2.mem ((c.tc : Thread Cert.ProjOut.nD Cert.ProjOut.τ).loc Cert.ProjOut.main_arg8) = m ((c.tc : Thread Cert.ProjOut.nD Cert.ProjOut.τ).loc Cert.ProjOut.main_arg8))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
      ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3)
      ∧ r.2.mem ((c.tc : Thread Cert.ProjOutRefIdeal.nD Cert.ProjOutRefIdeal.τ).loc Cert.ProjOutRefIdeal.main_arg4) = m ((c.tc : Thread Cert.ProjOutRefIdeal.nD Cert.ProjOutRefIdeal.τ).loc Cert.ProjOutRefIdeal.main_arg4)
      ∧ r.2.mem ((c.tc : Thread Cert.ProjOutRefIdeal.nD Cert.ProjOutRefIdeal.τ).loc Cert.ProjOutRefIdeal.main_arg5) = m ((c.tc : Thread Cert.ProjOutRefIdeal.nD Cert.ProjOutRefIdeal.τ).loc Cert.ProjOutRefIdeal.main_arg5)
      ∧ r.2.mem ((c.tc : Thread Cert.ProjOutRefIdeal.nD Cert.ProjOutRefIdeal.τ).loc Cert.ProjOutRefIdeal.main_arg6) = m ((c.tc : Thread Cert.ProjOutRefIdeal.nD Cert.ProjOutRefIdeal.τ).loc Cert.ProjOutRefIdeal.main_arg6)
      ∧ r.2.mem ((c.tc : Thread Cert.ProjOutRefIdeal.nD Cert.ProjOutRefIdeal.τ).loc Cert.ProjOutRefIdeal.main_arg7) = m ((c.tc : Thread Cert.ProjOutRefIdeal.nD Cert.ProjOutRefIdeal.τ).loc Cert.ProjOutRefIdeal.main_arg7)
      ∧ r.2.mem ((c.tc : Thread Cert.ProjOutRefIdeal.nD Cert.ProjOutRefIdeal.τ).loc Cert.ProjOutRefIdeal.main_arg8) = m ((c.tc : Thread Cert.ProjOutRefIdeal.nD Cert.ProjOutRefIdeal.τ).loc Cert.ProjOutRefIdeal.main_arg8))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4)
      ∧ r.2.mem ((c.tc : Thread Cert.FfnCtxRefIdeal.nD Cert.FfnCtxRefIdeal.τ).loc Cert.FfnCtxRefIdeal.main_arg5) = m ((c.tc : Thread Cert.FfnCtxRefIdeal.nD Cert.FfnCtxRefIdeal.τ).loc Cert.FfnCtxRefIdeal.main_arg5))
      ∧ r.2.sem = fun _ => 0)

def quiescent_KvIn [hKvIn : Cert.KvIn.Facts] : Prop :=
  ∀ (m : (ℓ : Loc Cert.KvIn.nD Cert.KvIn.τ Cert.KvIn.sig) → Buf (Elt Bits) ℓ) (g : Dev Cert.KvIn.nD → PrngReg), Pre_KvIn m →
    θ_run (Cert.KvIn.defs (F := Bits)) (onTc (τ := Cert.KvIn.τ) (Cert.KvIn.main (F := Bits))) ⟨m, fun _ => 0, g⟩ (fun r => (∀ c : Dev Cert.KvIn.nD,
      r.2.mem ((c.tc : Thread Cert.KvIn.nD Cert.KvIn.τ).loc Cert.KvIn.main_arg0) = m ((c.tc : Thread Cert.KvIn.nD Cert.KvIn.τ).loc Cert.KvIn.main_arg0)
      ∧ r.2.mem ((c.tc : Thread Cert.KvIn.nD Cert.KvIn.τ).loc Cert.KvIn.main_arg1) = m ((c.tc : Thread Cert.KvIn.nD Cert.KvIn.τ).loc Cert.KvIn.main_arg1)
      ∧ r.2.mem ((c.tc : Thread Cert.KvIn.nD Cert.KvIn.τ).loc Cert.KvIn.main_arg2) = m ((c.tc : Thread Cert.KvIn.nD Cert.KvIn.τ).loc Cert.KvIn.main_arg2)
      ∧ r.2.mem ((c.tc : Thread Cert.KvIn.nD Cert.KvIn.τ).loc Cert.KvIn.main_arg3) = m ((c.tc : Thread Cert.KvIn.nD Cert.KvIn.τ).loc Cert.KvIn.main_arg3)
      ∧ r.2.mem ((c.tc : Thread Cert.KvIn.nD Cert.KvIn.τ).loc Cert.KvIn.main_arg4) = m ((c.tc : Thread Cert.KvIn.nD Cert.KvIn.τ).loc Cert.KvIn.main_arg4)
      ∧ r.2.mem ((c.tc : Thread Cert.KvIn.nD Cert.KvIn.τ).loc Cert.KvIn.main_arg5) = m ((c.tc : Thread Cert.KvIn.nD Cert.KvIn.τ).loc Cert.KvIn.main_arg5))
      ∧ r.2.sem = fun _ => 0)

def quiescent_KvInIdeal [hKvInIdeal : Cert.KvInIdeal.Facts] : Prop :=
  ∀ (m : (ℓ : Loc Cert.KvInIdeal.nD Cert.KvInIdeal.τ Cert.KvInIdeal.sig) → Buf (Elt Ideal) ℓ) (g : Dev Cert.KvInIdeal.nD → PrngReg), Pre_KvInIdeal m →
    θ_run (Cert.KvInIdeal.defs (F := Ideal)) (onTc (τ := Cert.KvInIdeal.τ) (Cert.KvInIdeal.main (F := Ideal))) ⟨m, fun _ => 0, g⟩ (fun r => (∀ c : Dev Cert.KvInIdeal.nD,
      r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
      ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1)
      ∧ r.2.mem ((c.tc : Thread Cert.KvInIdeal.nD Cert.KvInIdeal.τ).loc Cert.KvInIdeal.main_arg2) = m ((c.tc : Thread Cert.KvInIdeal.nD Cert.KvInIdeal.τ).loc Cert.KvInIdeal.main_arg2)
      ∧ r.2.mem ((c.tc : Thread Cert.KvInIdeal.nD Cert.KvInIdeal.τ).loc Cert.KvInIdeal.main_arg3) = m ((c.tc : Thread Cert.KvInIdeal.nD Cert.KvInIdeal.τ).loc Cert.KvInIdeal.main_arg3)
      ∧ r.2.mem ((c.tc : Thread Cert.KvInIdeal.nD Cert.KvInIdeal.τ).loc Cert.KvInIdeal.main_arg4) = m ((c.tc : Thread Cert.KvInIdeal.nD Cert.KvInIdeal.τ).loc Cert.KvInIdeal.main_arg4)
      ∧ r.2.mem ((c.tc : Thread Cert.KvInIdeal.nD Cert.KvInIdeal.τ).loc Cert.KvInIdeal.main_arg5) = m ((c.tc : Thread Cert.KvInIdeal.nD Cert.KvInIdeal.τ).loc Cert.KvInIdeal.main_arg5))
      ∧ r.2.sem = fun _ => 0)

def quiescent_KvInRefIdeal [hKvInRefIdeal : Cert.KvInRefIdeal.Facts] : Prop :=
  ∀ (m : (ℓ : Loc Cert.KvInRefIdeal.nD Cert.KvInRefIdeal.τ Cert.KvInRefIdeal.sig) → Buf (Elt Ideal) ℓ) (g : Dev Cert.KvInRefIdeal.nD → PrngReg), Pre_KvInRefIdeal m →
    θ_run (Cert.KvInRefIdeal.defs (F := Ideal)) (onTc (τ := Cert.KvInRefIdeal.τ) (Cert.KvInRefIdeal.main (F := Ideal))) ⟨m, fun _ => 0, g⟩ (fun r => (∀ c : Dev Cert.KvInRefIdeal.nD,
      r.2.mem ((c.tc : Thread Cert.KvInRefIdeal.nD Cert.KvInRefIdeal.τ).loc Cert.KvInRefIdeal.main_arg0) = m ((c.tc : Thread Cert.KvInRefIdeal.nD Cert.KvInRefIdeal.τ).loc Cert.KvInRefIdeal.main_arg0)
      ∧ r.2.mem ((c.tc : Thread Cert.KvInRefIdeal.nD Cert.KvInRefIdeal.τ).loc Cert.KvInRefIdeal.main_arg1) = m ((c.tc : Thread Cert.KvInRefIdeal.nD Cert.KvInRefIdeal.τ).loc Cert.KvInRefIdeal.main_arg1)
      ∧ r.2.mem ((c.tc : Thread Cert.KvInRefIdeal.nD Cert.KvInRefIdeal.τ).loc Cert.KvInRefIdeal.main_arg2) = m ((c.tc : Thread Cert.KvInRefIdeal.nD Cert.KvInRefIdeal.τ).loc Cert.KvInRefIdeal.main_arg2)
      ∧ r.2.mem ((c.tc : Thread Cert.KvInRefIdeal.nD Cert.KvInRefIdeal.τ).loc Cert.KvInRefIdeal.main_arg3) = m ((c.tc : Thread Cert.KvInRefIdeal.nD Cert.KvInRefIdeal.τ).loc Cert.KvInRefIdeal.main_arg3)
      ∧ r.2.mem ((c.tc : Thread Cert.KvInRefIdeal.nD Cert.KvInRefIdeal.τ).loc Cert.KvInRefIdeal.main_arg4) = m ((c.tc : Thread Cert.KvInRefIdeal.nD Cert.KvInRefIdeal.τ).loc Cert.KvInRefIdeal.main_arg4)
      ∧ r.2.mem ((c.tc : Thread Cert.KvInRefIdeal.nD Cert.KvInRefIdeal.τ).loc Cert.KvInRefIdeal.main_arg5) = m ((c.tc : Thread Cert.KvInRefIdeal.nD Cert.KvInRefIdeal.τ).loc Cert.KvInRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v25)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v25) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v100) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnNext_FfnNextIdeal : Prop :=
  True

def algebraic_FfnNextIdeal_FfnNextRefIdeal [hFfnNextIdeal : Cert.FfnNextIdeal.Facts] [hFfnNextRefIdeal : Cert.FfnNextRefIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.FfnNextRefIdeal.nD Cert.FfnNextRefIdeal.τ Cert.FfnNextRefIdeal.sig) → Buf (Elt Ideal) ℓ) (g' : Dev Cert.FfnNextRefIdeal.nD → PrngReg), Pre_FfnNextIdeal m →
    (∀ c : Dev Cert.FfnNextIdeal.nD,
      m' ((c.tc : Thread Cert.FfnNextRefIdeal.nD Cert.FfnNextRefIdeal.τ).loc Cert.FfnNextRefIdeal.main_arg0) = m ((c.tc : Thread Cert.FfnNextIdeal.nD Cert.FfnNextIdeal.τ).loc Cert.FfnNextIdeal.main_arg0)
      ∧ m' ((c.tc : Thread Cert.FfnNextRefIdeal.nD Cert.FfnNextRefIdeal.τ).loc Cert.FfnNextRefIdeal.main_arg1) = m ((c.tc : Thread Cert.FfnNextIdeal.nD Cert.FfnNextIdeal.τ).loc Cert.FfnNextIdeal.main_arg1)
      ∧ m' ((c.tc : Thread Cert.FfnNextRefIdeal.nD Cert.FfnNextRefIdeal.τ).loc Cert.FfnNextRefIdeal.main_arg2) = m ((c.tc : Thread Cert.FfnNextIdeal.nD Cert.FfnNextIdeal.τ).loc Cert.FfnNextIdeal.main_arg2)
      ∧ m' ((c.tc : Thread Cert.FfnNextRefIdeal.nD Cert.FfnNextRefIdeal.τ).loc Cert.FfnNextRefIdeal.main_arg3) = m ((c.tc : Thread Cert.FfnNextIdeal.nD Cert.FfnNextIdeal.τ).loc Cert.FfnNextIdeal.main_arg3)
      ∧ m' ((c.tc : Thread Cert.FfnNextRefIdeal.nD Cert.FfnNextRefIdeal.τ).loc Cert.FfnNextRefIdeal.main_arg4) = m ((c.tc : Thread Cert.FfnNextIdeal.nD Cert.FfnNextIdeal.τ).loc Cert.FfnNextIdeal.main_arg4)
      ∧ m' ((c.tc : Thread Cert.FfnNextRefIdeal.nD Cert.FfnNextRefIdeal.τ).loc Cert.FfnNextRefIdeal.main_arg5) = m ((c.tc : Thread Cert.FfnNextIdeal.nD Cert.FfnNextIdeal.τ).loc Cert.FfnNextIdeal.main_arg5)
      ∧ m' ((c.tc : Thread Cert.FfnNextRefIdeal.nD Cert.FfnNextRefIdeal.τ).loc Cert.FfnNextRefIdeal.main_arg6) = m ((c.tc : Thread Cert.FfnNextIdeal.nD Cert.FfnNextIdeal.τ).loc Cert.FfnNextIdeal.main_arg6)
      ∧ m' ((c.tc : Thread Cert.FfnNextRefIdeal.nD Cert.FfnNextRefIdeal.τ).loc Cert.FfnNextRefIdeal.main_arg7) = m ((c.tc : Thread Cert.FfnNextIdeal.nD Cert.FfnNextIdeal.τ).loc Cert.FfnNextIdeal.main_arg7)) →
    ∃ (v0 : (c : Dev Cert.FfnNextIdeal.nD) → Buf (Elt Ideal) ((c.tc : Thread Cert.FfnNextIdeal.nD Cert.FfnNextIdeal.τ).loc Cert.FfnNextIdeal.main_v16_0)) (v1 : (c : Dev Cert.FfnNextIdeal.nD) → Buf (Elt Ideal) ((c.tc : Thread Cert.FfnNextIdeal.nD Cert.FfnNextIdeal.τ).loc Cert.FfnNextIdeal.main_v16_1)) (v2 : (c : Dev Cert.FfnNextIdeal.nD) → Buf (Elt Ideal) ((c.tc : Thread Cert.FfnNextIdeal.nD Cert.FfnNextIdeal.τ).loc Cert.FfnNextIdeal.main_v16_2)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v16_0) = v0 c
          ∧ r.2.mem ((c.tc : Thread Cert.FfnNextIdeal.nD Cert.FfnNextIdeal.τ).loc Cert.FfnNextIdeal.main_v16_1) = v1 c
          ∧ r.2.mem ((c.tc : Thread Cert.FfnNextIdeal.nD Cert.FfnNextIdeal.τ).loc Cert.FfnNextIdeal.main_v16_2) = v2 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
          ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
          ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6)
          ∧ r.2.mem ((c.tc : Thread Cert.FfnNextIdeal.nD Cert.FfnNextIdeal.τ).loc Cert.FfnNextIdeal.main_arg7) = m ((c.tc : Thread Cert.FfnNextIdeal.nD Cert.FfnNextIdeal.τ).loc Cert.FfnNextIdeal.main_arg7))
      ∧ θ_run (Cert.FfnNextRefIdeal.defs (F := Ideal)) (onTc (τ := Cert.FfnNextRefIdeal.τ) (Cert.FfnNextRefIdeal.main (F := Ideal))) ⟨m', fun _ => 0, g'⟩ (fun r => ∀ c : Dev Cert.FfnNextRefIdeal.nD,
          r.2.mem ((c.tc : Thread Cert.FfnNextRefIdeal.nD Cert.FfnNextRefIdeal.τ).loc Cert.FfnNextRefIdeal.main_v51) = v0 c
          ∧ r.2.mem ((c.tc : Thread Cert.FfnNextRefIdeal.nD Cert.FfnNextRefIdeal.τ).loc Cert.FfnNextRefIdeal.main_v54) = v1 c
          ∧ r.2.mem ((c.tc : Thread Cert.FfnNextRefIdeal.nD Cert.FfnNextRefIdeal.τ).loc Cert.FfnNextRefIdeal.main_v57) = v2 c
          ∧ r.2.mem ((c.tc : Thread Cert.FfnNextRefIdeal.nD Cert.FfnNextRefIdeal.τ).loc Cert.FfnNextRefIdeal.main_arg0) = m' ((c.tc : Thread Cert.FfnNextRefIdeal.nD Cert.FfnNextRefIdeal.τ).loc Cert.FfnNextRefIdeal.main_arg0)
          ∧ r.2.mem ((c.tc : Thread Cert.FfnNextRefIdeal.nD Cert.FfnNextRefIdeal.τ).loc Cert.FfnNextRefIdeal.main_arg1) = m' ((c.tc : Thread Cert.FfnNextRefIdeal.nD Cert.FfnNextRefIdeal.τ).loc Cert.FfnNextRefIdeal.main_arg1)
          ∧ r.2.mem ((c.tc : Thread Cert.FfnNextRefIdeal.nD Cert.FfnNextRefIdeal.τ).loc Cert.FfnNextRefIdeal.main_arg2) = m' ((c.tc : Thread Cert.FfnNextRefIdeal.nD Cert.FfnNextRefIdeal.τ).loc Cert.FfnNextRefIdeal.main_arg2)
          ∧ r.2.mem ((c.tc : Thread Cert.FfnNextRefIdeal.nD Cert.FfnNextRefIdeal.τ).loc Cert.FfnNextRefIdeal.main_arg3) = m' ((c.tc : Thread Cert.FfnNextRefIdeal.nD Cert.FfnNextRefIdeal.τ).loc Cert.FfnNextRefIdeal.main_arg3)
          ∧ r.2.mem ((c.tc : Thread Cert.FfnNextRefIdeal.nD Cert.FfnNextRefIdeal.τ).loc Cert.FfnNextRefIdeal.main_arg4) = m' ((c.tc : Thread Cert.FfnNextRefIdeal.nD Cert.FfnNextRefIdeal.τ).loc Cert.FfnNextRefIdeal.main_arg4)
          ∧ r.2.mem ((c.tc : Thread Cert.FfnNextRefIdeal.nD Cert.FfnNextRefIdeal.τ).loc Cert.FfnNextRefIdeal.main_arg5) = m' ((c.tc : Thread Cert.FfnNextRefIdeal.nD Cert.FfnNextRefIdeal.τ).loc Cert.FfnNextRefIdeal.main_arg5)
          ∧ r.2.mem ((c.tc : Thread Cert.FfnNextRefIdeal.nD Cert.FfnNextRefIdeal.τ).loc Cert.FfnNextRefIdeal.main_arg6) = m' ((c.tc : Thread Cert.FfnNextRefIdeal.nD Cert.FfnNextRefIdeal.τ).loc Cert.FfnNextRefIdeal.main_arg6)
          ∧ r.2.mem ((c.tc : Thread Cert.FfnNextRefIdeal.nD Cert.FfnNextRefIdeal.τ).loc Cert.FfnNextRefIdeal.main_arg7) = m' ((c.tc : Thread Cert.FfnNextRefIdeal.nD Cert.FfnNextRefIdeal.τ).loc Cert.FfnNextRefIdeal.main_arg7))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)
      ∧ m' ((c.tc : Thread Cert.HyInRefIdeal.nD Cert.HyInRefIdeal.τ).loc Cert.HyInRefIdeal.main_arg3) = m ((c.tc : Thread Cert.HyInIdeal.nD Cert.HyInIdeal.τ).loc Cert.HyInIdeal.main_arg3)
      ∧ m' ((c.tc : Thread Cert.HyInRefIdeal.nD Cert.HyInRefIdeal.τ).loc Cert.HyInRefIdeal.main_arg4) = m ((c.tc : Thread Cert.HyInIdeal.nD Cert.HyInIdeal.τ).loc Cert.HyInIdeal.main_arg4)
      ∧ m' ((c.tc : Thread Cert.HyInRefIdeal.nD Cert.HyInRefIdeal.τ).loc Cert.HyInRefIdeal.main_arg5) = m ((c.tc : Thread Cert.HyInIdeal.nD Cert.HyInIdeal.τ).loc Cert.HyInIdeal.main_arg5)
      ∧ m' ((c.tc : Thread Cert.HyInRefIdeal.nD Cert.HyInRefIdeal.τ).loc Cert.HyInRefIdeal.main_arg6) = m ((c.tc : Thread Cert.HyInIdeal.nD Cert.HyInIdeal.τ).loc Cert.HyInIdeal.main_arg6)
      ∧ m' ((c.tc : Thread Cert.HyInRefIdeal.nD Cert.HyInRefIdeal.τ).loc Cert.HyInRefIdeal.main_arg7) = m ((c.tc : Thread Cert.HyInIdeal.nD Cert.HyInIdeal.τ).loc Cert.HyInIdeal.main_arg7)) →
    ∃ (v0 : (c : Dev Cert.HyInIdeal.nD) → Buf (Elt Ideal) ((c.tc : Thread Cert.HyInIdeal.nD Cert.HyInIdeal.τ).loc Cert.HyInIdeal.main_v20_0)) (v1 : (c : Dev Cert.HyInIdeal.nD) → Buf (Elt Ideal) ((c.tc : Thread Cert.HyInIdeal.nD Cert.HyInIdeal.τ).loc Cert.HyInIdeal.main_v20_1)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v20_0) = v0 c
          ∧ r.2.mem ((c.tc : Thread Cert.HyInIdeal.nD Cert.HyInIdeal.τ).loc Cert.HyInIdeal.main_v20_1) = v1 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
          ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
          ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
          ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
          ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6)
          ∧ r.2.mem ((c.tc : Thread Cert.HyInIdeal.nD Cert.HyInIdeal.τ).loc Cert.HyInIdeal.main_arg7) = m ((c.tc : Thread Cert.HyInIdeal.nD Cert.HyInIdeal.τ).loc Cert.HyInIdeal.main_arg7))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v57) = v0 c
          ∧ r.2.mem ((c.tc : Thread Cert.HyInRefIdeal.nD Cert.HyInRefIdeal.τ).loc Cert.HyInRefIdeal.main_v59) = v1 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2)
          ∧ r.2.mem ((c.tc : Thread Cert.HyInRefIdeal.nD Cert.HyInRefIdeal.τ).loc Cert.HyInRefIdeal.main_arg3) = m' ((c.tc : Thread Cert.HyInRefIdeal.nD Cert.HyInRefIdeal.τ).loc Cert.HyInRefIdeal.main_arg3)
          ∧ r.2.mem ((c.tc : Thread Cert.HyInRefIdeal.nD Cert.HyInRefIdeal.τ).loc Cert.HyInRefIdeal.main_arg4) = m' ((c.tc : Thread Cert.HyInRefIdeal.nD Cert.HyInRefIdeal.τ).loc Cert.HyInRefIdeal.main_arg4)
          ∧ r.2.mem ((c.tc : Thread Cert.HyInRefIdeal.nD Cert.HyInRefIdeal.τ).loc Cert.HyInRefIdeal.main_arg5) = m' ((c.tc : Thread Cert.HyInRefIdeal.nD Cert.HyInRefIdeal.τ).loc Cert.HyInRefIdeal.main_arg5)
          ∧ r.2.mem ((c.tc : Thread Cert.HyInRefIdeal.nD Cert.HyInRefIdeal.τ).loc Cert.HyInRefIdeal.main_arg6) = m' ((c.tc : Thread Cert.HyInRefIdeal.nD Cert.HyInRefIdeal.τ).loc Cert.HyInRefIdeal.main_arg6)
          ∧ r.2.mem ((c.tc : Thread Cert.HyInRefIdeal.nD Cert.HyInRefIdeal.τ).loc Cert.HyInRefIdeal.main_arg7) = m' ((c.tc : Thread Cert.HyInRefIdeal.nD Cert.HyInRefIdeal.τ).loc Cert.HyInRefIdeal.main_arg7))

def preserves_ProjIn_ProjInIdeal : Prop :=
  IdealRules.named_const.Statement Cert.ProjInIdeal.κ "q_scale" .f32 0x3E0293EE#32 (((Real.log 2)⁻¹ * (Real.sqrt 128)⁻¹ : ℝ) : EReal)

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)
      ∧ m' ((c.tc : Thread Cert.ProjInRefIdeal.nD Cert.ProjInRefIdeal.τ).loc Cert.ProjInRefIdeal.main_arg5) = m ((c.tc : Thread Cert.ProjInIdeal.nD Cert.ProjInIdeal.τ).loc Cert.ProjInIdeal.main_arg5)) →
    ∃ (v0 : (c : Dev Cert.ProjInIdeal.nD) → Buf (Elt Ideal) ((c.tc : Thread Cert.ProjInIdeal.nD Cert.ProjInIdeal.τ).loc Cert.ProjInIdeal.main_v60)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v60) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v139) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3)
          ∧ r.2.mem ((c.tc : Thread Cert.ProjInRefIdeal.nD Cert.ProjInRefIdeal.τ).loc Cert.ProjInRefIdeal.main_arg4) = m' ((c.tc : Thread Cert.ProjInRefIdeal.nD Cert.ProjInRefIdeal.τ).loc Cert.ProjInRefIdeal.main_arg4)
          ∧ r.2.mem ((c.tc : Thread Cert.ProjInRefIdeal.nD Cert.ProjInRefIdeal.τ).loc Cert.ProjInRefIdeal.main_arg5) = m' ((c.tc : Thread Cert.ProjInRefIdeal.nD Cert.ProjInRefIdeal.τ).loc Cert.ProjInRefIdeal.main_arg5))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)
      ∧ m' ((c.tc : Thread Cert.ProjOutRefIdeal.nD Cert.ProjOutRefIdeal.τ).loc Cert.ProjOutRefIdeal.main_arg5) = m ((c.tc : Thread Cert.ProjOutIdeal.nD Cert.ProjOutIdeal.τ).loc Cert.ProjOutIdeal.main_arg5)
      ∧ m' ((c.tc : Thread Cert.ProjOutRefIdeal.nD Cert.ProjOutRefIdeal.τ).loc Cert.ProjOutRefIdeal.main_arg6) = m ((c.tc : Thread Cert.ProjOutIdeal.nD Cert.ProjOutIdeal.τ).loc Cert.ProjOutIdeal.main_arg6)
      ∧ m' ((c.tc : Thread Cert.ProjOutRefIdeal.nD Cert.ProjOutRefIdeal.τ).loc Cert.ProjOutRefIdeal.main_arg7) = m ((c.tc : Thread Cert.ProjOutIdeal.nD Cert.ProjOutIdeal.τ).loc Cert.ProjOutIdeal.main_arg7)
      ∧ m' ((c.tc : Thread Cert.ProjOutRefIdeal.nD Cert.ProjOutRefIdeal.τ).loc Cert.ProjOutRefIdeal.main_arg8) = m ((c.tc : Thread Cert.ProjOutIdeal.nD Cert.ProjOutIdeal.τ).loc Cert.ProjOutIdeal.main_arg8)) →
    ∃ (v0 : (c : Dev Cert.ProjOutIdeal.nD) → Buf (Elt Ideal) ((c.tc : Thread Cert.ProjOutIdeal.nD Cert.ProjOutIdeal.τ).loc Cert.ProjOutIdeal.main_v18_0)) (v1 : (c : Dev Cert.ProjOutIdeal.nD) → Buf (Elt Ideal) ((c.tc : Thread Cert.ProjOutIdeal.nD Cert.ProjOutIdeal.τ).loc Cert.ProjOutIdeal.main_v18_1)) (v2 : (c : Dev Cert.ProjOutIdeal.nD) → Buf (Elt Ideal) ((c.tc : Thread Cert.ProjOutIdeal.nD Cert.ProjOutIdeal.τ).loc Cert.ProjOutIdeal.main_v18_2)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v18_0) = v0 c
          ∧ r.2.mem ((c.tc : Thread Cert.ProjOutIdeal.nD Cert.ProjOutIdeal.τ).loc Cert.ProjOutIdeal.main_v18_1) = v1 c
          ∧ r.2.mem ((c.tc : Thread Cert.ProjOutIdeal.nD Cert.ProjOutIdeal.τ).loc Cert.ProjOutIdeal.main_v18_2) = v2 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
          ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
          ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v24) = v0 c
          ∧ r.2.mem ((c.tc : Thread Cert.ProjOutRefIdeal.nD Cert.ProjOutRefIdeal.τ).loc Cert.ProjOutRefIdeal.main_v27) = v1 c
          ∧ r.2.mem ((c.tc : Thread Cert.ProjOutRefIdeal.nD Cert.ProjOutRefIdeal.τ).loc Cert.ProjOutRefIdeal.main_v30) = v2 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3)
          ∧ r.2.mem ((c.tc : Thread Cert.ProjOutRefIdeal.nD Cert.ProjOutRefIdeal.τ).loc Cert.ProjOutRefIdeal.main_arg4) = m' ((c.tc : Thread Cert.ProjOutRefIdeal.nD Cert.ProjOutRefIdeal.τ).loc Cert.ProjOutRefIdeal.main_arg4)
          ∧ r.2.mem ((c.tc : Thread Cert.ProjOutRefIdeal.nD Cert.ProjOutRefIdeal.τ).loc Cert.ProjOutRefIdeal.main_arg5) = m' ((c.tc : Thread Cert.ProjOutRefIdeal.nD Cert.ProjOutRefIdeal.τ).loc Cert.ProjOutRefIdeal.main_arg5)
          ∧ r.2.mem ((c.tc : Thread Cert.ProjOutRefIdeal.nD Cert.ProjOutRefIdeal.τ).loc Cert.ProjOutRefIdeal.main_arg6) = m' ((c.tc : Thread Cert.ProjOutRefIdeal.nD Cert.ProjOutRefIdeal.τ).loc Cert.ProjOutRefIdeal.main_arg6)
          ∧ r.2.mem ((c.tc : Thread Cert.ProjOutRefIdeal.nD Cert.ProjOutRefIdeal.τ).loc Cert.ProjOutRefIdeal.main_arg7) = m' ((c.tc : Thread Cert.ProjOutRefIdeal.nD Cert.ProjOutRefIdeal.τ).loc Cert.ProjOutRefIdeal.main_arg7)
          ∧ r.2.mem ((c.tc : Thread Cert.ProjOutRefIdeal.nD Cert.ProjOutRefIdeal.τ).loc Cert.ProjOutRefIdeal.main_arg8) = m' ((c.tc : Thread Cert.ProjOutRefIdeal.nD Cert.ProjOutRefIdeal.τ).loc Cert.ProjOutRefIdeal.main_arg8))

def preserves_FfnCtx_FfnCtxIdeal : Prop :=
  True

def algebraic_FfnCtxIdeal_FfnCtxRefIdeal [hFfnCtxIdeal : Cert.FfnCtxIdeal.Facts] [hFfnCtxRefIdeal : Cert.FfnCtxRefIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)
      ∧ m' ((c.tc : Thread Cert.FfnCtxRefIdeal.nD Cert.FfnCtxRefIdeal.τ).loc Cert.FfnCtxRefIdeal.main_arg2) = m ((c.tc : Thread Cert.FfnCtxIdeal.nD Cert.FfnCtxIdeal.τ).loc Cert.FfnCtxIdeal.main_arg2)
      ∧ m' ((c.tc : Thread Cert.FfnCtxRefIdeal.nD Cert.FfnCtxRefIdeal.τ).loc Cert.FfnCtxRefIdeal.main_arg3) = m ((c.tc : Thread Cert.FfnCtxIdeal.nD Cert.FfnCtxIdeal.τ).loc Cert.FfnCtxIdeal.main_arg3)
      ∧ m' ((c.tc : Thread Cert.FfnCtxRefIdeal.nD Cert.FfnCtxRefIdeal.τ).loc Cert.FfnCtxRefIdeal.main_arg4) = m ((c.tc : Thread Cert.FfnCtxIdeal.nD Cert.FfnCtxIdeal.τ).loc Cert.FfnCtxIdeal.main_arg4)
      ∧ m' ((c.tc : Thread Cert.FfnCtxRefIdeal.nD Cert.FfnCtxRefIdeal.τ).loc Cert.FfnCtxRefIdeal.main_arg5) = m ((c.tc : Thread Cert.FfnCtxIdeal.nD Cert.FfnCtxIdeal.τ).loc Cert.FfnCtxIdeal.main_arg5)) →
    ∃ (v0 : (c : Dev Cert.FfnCtxIdeal.nD) → Buf (Elt Ideal) ((c.tc : Thread Cert.FfnCtxIdeal.nD Cert.FfnCtxIdeal.τ).loc Cert.FfnCtxIdeal.main_v18)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v18) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v51) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1)
          ∧ r.2.mem ((c.tc : Thread Cert.FfnCtxRefIdeal.nD Cert.FfnCtxRefIdeal.τ).loc Cert.FfnCtxRefIdeal.main_arg2) = m' ((c.tc : Thread Cert.FfnCtxRefIdeal.nD Cert.FfnCtxRefIdeal.τ).loc Cert.FfnCtxRefIdeal.main_arg2)
          ∧ r.2.mem ((c.tc : Thread Cert.FfnCtxRefIdeal.nD Cert.FfnCtxRefIdeal.τ).loc Cert.FfnCtxRefIdeal.main_arg3) = m' ((c.tc : Thread Cert.FfnCtxRefIdeal.nD Cert.FfnCtxRefIdeal.τ).loc Cert.FfnCtxRefIdeal.main_arg3)
          ∧ r.2.mem ((c.tc : Thread Cert.FfnCtxRefIdeal.nD Cert.FfnCtxRefIdeal.τ).loc Cert.FfnCtxRefIdeal.main_arg4) = m' ((c.tc : Thread Cert.FfnCtxRefIdeal.nD Cert.FfnCtxRefIdeal.τ).loc Cert.FfnCtxRefIdeal.main_arg4)
          ∧ r.2.mem ((c.tc : Thread Cert.FfnCtxRefIdeal.nD Cert.FfnCtxRefIdeal.τ).loc Cert.FfnCtxRefIdeal.main_arg5) = m' ((c.tc : Thread Cert.FfnCtxRefIdeal.nD Cert.FfnCtxRefIdeal.τ).loc Cert.FfnCtxRefIdeal.main_arg5))

def preserves_KvIn_KvInIdeal : Prop :=
  True

def algebraic_KvInIdeal_KvInRefIdeal [hKvInIdeal : Cert.KvInIdeal.Facts] [hKvInRefIdeal : Cert.KvInRefIdeal.Facts] : Prop :=
  ∀ (m : (ℓ : Loc Cert.KvInIdeal.nD Cert.KvInIdeal.τ Cert.KvInIdeal.sig) → Buf (Elt Ideal) ℓ) (g : Dev Cert.KvInIdeal.nD → PrngReg)
    (m' : (ℓ : Loc Cert.KvInRefIdeal.nD Cert.KvInRefIdeal.τ Cert.KvInRefIdeal.sig) → Buf (Elt Ideal) ℓ) (g' : Dev Cert.KvInRefIdeal.nD → PrngReg), Pre_KvInIdeal m →
    (∀ c : Dev Cert.KvInIdeal.nD,
      m' ((c.tc : Thread Cert.KvInRefIdeal.nD Cert.KvInRefIdeal.τ).loc Cert.KvInRefIdeal.main_arg0) = m ((c.tc : Thread Cert.KvInIdeal.nD Cert.KvInIdeal.τ).loc Cert.KvInIdeal.main_arg0)
      ∧ m' ((c.tc : Thread Cert.KvInRefIdeal.nD Cert.KvInRefIdeal.τ).loc Cert.KvInRefIdeal.main_arg1) = m ((c.tc : Thread Cert.KvInIdeal.nD Cert.KvInIdeal.τ).loc Cert.KvInIdeal.main_arg1)
      ∧ m' ((c.tc : Thread Cert.KvInRefIdeal.nD Cert.KvInRefIdeal.τ).loc Cert.KvInRefIdeal.main_arg2) = m ((c.tc : Thread Cert.KvInIdeal.nD Cert.KvInIdeal.τ).loc Cert.KvInIdeal.main_arg2)
      ∧ m' ((c.tc : Thread Cert.KvInRefIdeal.nD Cert.KvInRefIdeal.τ).loc Cert.KvInRefIdeal.main_arg3) = m ((c.tc : Thread Cert.KvInIdeal.nD Cert.KvInIdeal.τ).loc Cert.KvInIdeal.main_arg3)
      ∧ m' ((c.tc : Thread Cert.KvInRefIdeal.nD Cert.KvInRefIdeal.τ).loc Cert.KvInRefIdeal.main_arg4) = m ((c.tc : Thread Cert.KvInIdeal.nD Cert.KvInIdeal.τ).loc Cert.KvInIdeal.main_arg4)
      ∧ m' ((c.tc : Thread Cert.KvInRefIdeal.nD Cert.KvInRefIdeal.τ).loc Cert.KvInRefIdeal.main_arg5) = m ((c.tc : Thread Cert.KvInIdeal.nD Cert.KvInIdeal.τ).loc Cert.KvInIdeal.main_arg5)) →
    ∃ (v0 : (c : Dev Cert.KvInIdeal.nD) → Buf (Elt Ideal) ((c.tc : Thread Cert.KvInIdeal.nD Cert.KvInIdeal.τ).loc Cert.KvInIdeal.main_v20)),
      θ_run (Cert.KvInIdeal.defs (F := Ideal)) (onTc (τ := Cert.KvInIdeal.τ) (Cert.KvInIdeal.main (F := Ideal))) ⟨m, fun _ => 0, g⟩ (fun r => ∀ c : Dev Cert.KvInIdeal.nD,
          r.2.mem ((c.tc : Thread Cert.KvInIdeal.nD Cert.KvInIdeal.τ).loc Cert.KvInIdeal.main_v20) = v0 c
          ∧ r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
          ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1)
          ∧ r.2.mem ((c.tc : Thread Cert.KvInIdeal.nD Cert.KvInIdeal.τ).loc Cert.KvInIdeal.main_arg2) = m ((c.tc : Thread Cert.KvInIdeal.nD Cert.KvInIdeal.τ).loc Cert.KvInIdeal.main_arg2)
          ∧ r.2.mem ((c.tc : Thread Cert.KvInIdeal.nD Cert.KvInIdeal.τ).loc Cert.KvInIdeal.main_arg3) = m ((c.tc : Thread Cert.KvInIdeal.nD Cert.KvInIdeal.τ).loc Cert.KvInIdeal.main_arg3)
          ∧ r.2.mem ((c.tc : Thread Cert.KvInIdeal.nD Cert.KvInIdeal.τ).loc Cert.KvInIdeal.main_arg4) = m ((c.tc : Thread Cert.KvInIdeal.nD Cert.KvInIdeal.τ).loc Cert.KvInIdeal.main_arg4)
          ∧ r.2.mem ((c.tc : Thread Cert.KvInIdeal.nD Cert.KvInIdeal.τ).loc Cert.KvInIdeal.main_arg5) = m ((c.tc : Thread Cert.KvInIdeal.nD Cert.KvInIdeal.τ).loc Cert.KvInIdeal.main_arg5))
      ∧ θ_run (Cert.KvInRefIdeal.defs (F := Ideal)) (onTc (τ := Cert.KvInRefIdeal.τ) (Cert.KvInRefIdeal.main (F := Ideal))) ⟨m', fun _ => 0, g'⟩ (fun r => ∀ c : Dev Cert.KvInRefIdeal.nD,
          r.2.mem ((c.tc : Thread Cert.KvInRefIdeal.nD Cert.KvInRefIdeal.τ).loc Cert.KvInRefIdeal.main_v30) = v0 c
          ∧ r.2.mem ((c.tc : Thread Cert.KvInRefIdeal.nD Cert.KvInRefIdeal.τ).loc Cert.KvInRefIdeal.main_arg0) = m' ((c.tc : Thread Cert.KvInRefIdeal.nD Cert.KvInRefIdeal.τ).loc Cert.KvInRefIdeal.main_arg0)
          ∧ r.2.mem ((c.tc : Thread Cert.KvInRefIdeal.nD Cert.KvInRefIdeal.τ).loc Cert.KvInRefIdeal.main_arg1) = m' ((c.tc : Thread Cert.KvInRefIdeal.nD Cert.KvInRefIdeal.τ).loc Cert.KvInRefIdeal.main_arg1)
          ∧ r.2.mem ((c.tc : Thread Cert.KvInRefIdeal.nD Cert.KvInRefIdeal.τ).loc Cert.KvInRefIdeal.main_arg2) = m' ((c.tc : Thread Cert.KvInRefIdeal.nD Cert.KvInRefIdeal.τ).loc Cert.KvInRefIdeal.main_arg2)
          ∧ r.2.mem ((c.tc : Thread Cert.KvInRefIdeal.nD Cert.KvInRefIdeal.τ).loc Cert.KvInRefIdeal.main_arg3) = m' ((c.tc : Thread Cert.KvInRefIdeal.nD Cert.KvInRefIdeal.τ).loc Cert.KvInRefIdeal.main_arg3)
          ∧ r.2.mem ((c.tc : Thread Cert.KvInRefIdeal.nD Cert.KvInRefIdeal.τ).loc Cert.KvInRefIdeal.main_arg4) = m' ((c.tc : Thread Cert.KvInRefIdeal.nD Cert.KvInRefIdeal.τ).loc Cert.KvInRefIdeal.main_arg4)
          ∧ r.2.mem ((c.tc : Thread Cert.KvInRefIdeal.nD Cert.KvInRefIdeal.τ).loc Cert.KvInRefIdeal.main_arg5) = m' ((c.tc : Thread Cert.KvInRefIdeal.nD Cert.KvInRefIdeal.τ).loc Cert.KvInRefIdeal.main_arg5))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)) →
    ∃ (v0 : (c : Dev Cert.PoolIdeal.nD) → Buf (Elt Ideal) ((c.tc : Thread Cert.PoolIdeal.nD Cert.PoolIdeal.τ).loc Cert.PoolIdeal.main_v19_0)) (v1 : (c : Dev Cert.PoolIdeal.nD) → Buf (Elt Ideal) ((c.tc : Thread Cert.PoolIdeal.nD Cert.PoolIdeal.τ).loc Cert.PoolIdeal.main_v19_1)) (v2 : (c : Dev Cert.PoolIdeal.nD) → Buf (Elt Ideal) ((c.tc : Thread Cert.PoolIdeal.nD Cert.PoolIdeal.τ).loc Cert.PoolIdeal.main_v19_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v19_0) = v0 c
          ∧ r.2.mem ((c.tc : Thread Cert.PoolIdeal.nD Cert.PoolIdeal.τ).loc Cert.PoolIdeal.main_v19_1) = v1 c
          ∧ r.2.mem ((c.tc : Thread Cert.PoolIdeal.nD Cert.PoolIdeal.τ).loc Cert.PoolIdeal.main_v19_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v180) = v0 c
          ∧ r.2.mem ((c.tc : Thread Cert.PoolRefIdeal.nD Cert.PoolRefIdeal.τ).loc Cert.PoolRefIdeal.main_v183) = v1 c
          ∧ r.2.mem ((c.tc : Thread Cert.PoolRefIdeal.nD Cert.PoolRefIdeal.τ).loc Cert.PoolRefIdeal.main_v186) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hFfnNext : Cert.FfnNext.Facts) (hFfnNextIdeal : Cert.FfnNextIdeal.Facts) (hFfnNextRefIdeal : Cert.FfnNextRefIdeal.Facts) (hHyIn : Cert.HyIn.Facts) (hHyInIdeal : Cert.HyInIdeal.Facts) (hHyInRefIdeal : Cert.HyInRefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hFfnCtx : Cert.FfnCtx.Facts) (hFfnCtxIdeal : Cert.FfnCtxIdeal.Facts) (hFfnCtxRefIdeal : Cert.FfnCtxRefIdeal.Facts) (hKvIn : Cert.KvIn.Facts) (hKvInIdeal : Cert.KvInIdeal.Facts) (hKvInRefIdeal : Cert.KvInRefIdeal.Facts) (hPool : Cert.Pool.Facts) (hPoolIdeal : Cert.PoolIdeal.Facts) (hPoolRefIdeal : Cert.PoolRefIdeal.Facts) (hPre_scores_finite : Cert.Pre_scores_finite.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_FfnNext (hFfnNext := hFfnNext)
    ∧ quiescent_FfnNextIdeal (hFfnNextIdeal := hFfnNextIdeal)
    ∧ quiescent_FfnNextRefIdeal (hFfnNextRefIdeal := hFfnNextRefIdeal)
    ∧ quiescent_HyIn (hHyIn := hHyIn)
    ∧ quiescent_HyInIdeal (hHyInIdeal := hHyInIdeal)
    ∧ quiescent_HyInRefIdeal (hHyInRefIdeal := hHyInRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_FfnCtx (hFfnCtx := hFfnCtx)
    ∧ quiescent_FfnCtxIdeal (hFfnCtxIdeal := hFfnCtxIdeal)
    ∧ quiescent_FfnCtxRefIdeal (hFfnCtxRefIdeal := hFfnCtxRefIdeal)
    ∧ quiescent_KvIn (hKvIn := hKvIn)
    ∧ quiescent_KvInIdeal (hKvInIdeal := hKvInIdeal)
    ∧ quiescent_KvInRefIdeal (hKvInRefIdeal := hKvInRefIdeal)
    ∧ quiescent_Pool (hPool := hPool)
    ∧ quiescent_PoolIdeal (hPoolIdeal := hPoolIdeal)
    ∧ quiescent_PoolRefIdeal (hPoolRefIdeal := hPoolRefIdeal)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_FfnNext_FfnNextIdeal
    ∧ algebraic_FfnNextIdeal_FfnNextRefIdeal (hFfnNextIdeal := hFfnNextIdeal) (hFfnNextRefIdeal := hFfnNextRefIdeal)
    ∧ preserves_HyIn_HyInIdeal
    ∧ algebraic_HyInIdeal_HyInRefIdeal (hHyInIdeal := hHyInIdeal) (hHyInRefIdeal := hHyInRefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_FfnCtx_FfnCtxIdeal
    ∧ algebraic_FfnCtxIdeal_FfnCtxRefIdeal (hFfnCtxIdeal := hFfnCtxIdeal) (hFfnCtxRefIdeal := hFfnCtxRefIdeal)
    ∧ preserves_KvIn_KvInIdeal
    ∧ algebraic_KvInIdeal_KvInRefIdeal (hKvInIdeal := hKvInIdeal) (hKvInRefIdeal := hKvInRefIdeal)
    ∧ preserves_Pool_PoolIdeal
    ∧ algebraic_PoolIdeal_PoolRefIdeal (hPoolIdeal := hPoolIdeal) (hPoolRefIdeal := hPoolRefIdeal)
-- ==== Pre_scores_finite.lean ====
abbrev S16 : Shape := ⟨1, ![16]⟩
abbrev S16384x3072 : Shape := ⟨2, ![16384, 3072]⟩
abbrev S256x1024 : Shape := ⟨2, ![256, 1024]⟩
abbrev S_ : Shape := ⟨0, ![]⟩
abbrev S16384x2560 : Shape := ⟨2, ![16384, 2560]⟩
abbrev S256x512 : Shape := ⟨2, ![256, 512]⟩

class Facts : Prop where
  bcast_S_S16 : S_.BroadcastsInDim S16 (![] : Fin 0 → Fin S16.rank)
  slices_S16384x3072_S16384x2560_0_0 : S16384x3072.Slices ![0, 0] S16384x2560
  bcast_S_S16384x2560 : S_.BroadcastsInDim S16384x2560 (![] : Fin 0 → Fin S16384x2560.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S16 .f32) (main_arg1 : FVec F S16384x3072 .bf16) (main_arg2 : FVec F S256x1024 .bf16) : IVec S16 1 × IVec S16384x2560 1 × IVec S256x512 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_v3 : FVec F S16384x2560 .bf16 := (extractStridedSlice S16384x2560 ![0, 0] · slices_S16384x3072_S16384x2560_0_0) main_arg1
  let main_v4 : FVec F S16384x2560 .bf16 := Host.absf main_v3
  let main_cst_0 : FVec F S_ .bf16 := constant S_ .bf16 0x7F80#16
  let main_v5 : FVec F S16384x2560 .bf16 := broadcastInDim S16384x2560 ![] bcast_S_S16384x2560 main_cst_0
  let main_v6 : IVec S16384x2560 1 := cmpf .olt main_v4 main_v5
  let main_v7 : FVec F S256x512 .bf16 := (extractStridedSlice S256x512 ![0, 0] · slices_S256x1024_S256x512_0_0) main_arg2
  let main_v8 : FVec F S256x512 .bf16 := Host.absf main_v7
  let main_cst_1 : FVec F S_ .bf16 := constant S_ .bf16 0x7F80#16
  let main_v9 : FVec F S256x512 .bf16 := broadcastInDim S256x512 ![] bcast_S_S256x512 main_cst_1
  let main_v10 : IVec S256x512 1 := cmpf .olt main_v8 main_v9
  (main_v2, main_v6, main_v10)
-- ==== Attn.lean ====
abbrev S16 : Shape := ⟨1, ![16]⟩
abbrev S16384x3072 : Shape := ⟨2, ![16384, 3072]⟩
abbrev S256x1024 : Shape := ⟨2, ![256, 1024]⟩
abbrev S512 : Shape := ⟨1, ![512]⟩
abbrev S512x1 : Shape := ⟨2, ![512, 1]⟩
abbrev S_ : Shape := ⟨0, ![]⟩
abbrev S128 : Shape := ⟨1, ![128]⟩
abbrev S1x128 : Shape := ⟨2, ![1, 128]⟩
abbrev S512x128 : Shape := ⟨2, ![512, 128]⟩
abbrev S512x256 : Shape := ⟨2, ![512, 256]⟩
abbrev S1x512x256 : Shape := ⟨3, ![1, 512, 256]⟩
abbrev S3x512x256 : Shape := ⟨3, ![3, 512, 256]⟩
abbrev S16384x2048 : Shape := ⟨2, ![16384, 2048]⟩
abbrev S128x2048 : Shape := ⟨2, ![128, 2048]⟩
abbrev S128x512 : Shape := ⟨2, ![128, 512]⟩
abbrev S256x512 : Shape := ⟨2, ![256, 512]⟩
abbrev S128x128 : Shape := ⟨2, ![128, 128]⟩
abbrev S256x128 : Shape := ⟨2, ![256, 128]⟩
abbrev S640x128 : Shape := ⟨2, ![640, 128]⟩
abbrev S512x640 : Shape := ⟨2, ![512, 640]⟩
abbrev S1x512x128 : Shape := ⟨3, ![1, 512, 128]⟩
abbrev S1 : Shape := ⟨1, ![1]⟩

abbrev nBuf : Space → Nat
  | .hbm => 63
  | .vmem => 20
  | .smem => 1
  | _ => 0

abbrev bufTy : (tb : Table) → Fin (tcTables nBuf tb) → BufTy
  | .hbm, ⟨0, _⟩ => ⟨S16, .f32⟩
  | .hbm, ⟨1, _⟩ => ⟨S16384x3072, .bf16⟩
  | .hbm, ⟨2, _⟩ => ⟨S256x1024, .bf16⟩
  | .hbm, ⟨3, _⟩ => ⟨S512, .i32⟩
  | .hbm, ⟨4, _⟩ => ⟨S512x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S_, .i32⟩
  | .hbm, ⟨20, _⟩ => ⟨S_, .i1⟩
  | .hbm, ⟨21, _⟩ => ⟨S512x1, .i1⟩
  | .hbm, ⟨22, _⟩ => ⟨S512x1, .i1⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S512x1, .i32⟩
  | .hbm, ⟨27, _⟩ => ⟨S128, .i32⟩
  | .hbm, ⟨28, _⟩ => ⟨S1x128, .i32⟩
  | .hbm, ⟨29, _⟩ => ⟨S512x128, .i32⟩
  | .hbm, ⟨30, _⟩ => ⟨S512x128, .i32⟩
  | .hbm, ⟨31, _⟩ => ⟨S512x128, .i1⟩
  | .hbm, ⟨32, _⟩ => ⟨S512x128, .i32⟩
  | .hbm, ⟨33, _⟩ => ⟨S512x128, .i32⟩
  | .hbm, ⟨34, _⟩ => ⟨S512x128, .i1⟩
  | .hbm, ⟨35, _⟩ => ⟨S_, .i1⟩
  | .hbm, ⟨36, _⟩ => ⟨S512x128, .i1⟩
  | .hbm, ⟨37, _⟩ => ⟨S512x256, .i1⟩
  | .hbm, ⟨38, _⟩ => ⟨S_, .f32⟩
  | .hbm, ⟨39, _⟩ => ⟨S_, .f32⟩
  | .hbm, ⟨40, _⟩ => ⟨S512x256, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S512x256, .i1⟩
  | .hbm, ⟨45, _⟩ => ⟨S_, .f32⟩
  | .hbm, ⟨46, _⟩ => ⟨S_, .f32⟩
  | .hbm, ⟨47, _⟩ => ⟨S512x256, .f32⟩
  | .hbm, ⟨48, _⟩ => ⟨S512x256, .f32⟩
  | .hbm, ⟨49, _⟩ => ⟨S512x256, .f32⟩
  | .hbm, ⟨50, _⟩ => ⟨S512x256, .f32⟩
  | .hbm, ⟨51, _⟩ => ⟨S512x256, .i1⟩
  | .hbm, ⟨52, _⟩ => ⟨S_, .f32⟩
  | .hbm, ⟨53, _⟩ => ⟨S_, .f32⟩
  | .hbm, ⟨54, _⟩ => ⟨S512x256, .f32⟩
  | .hbm, ⟨55, _⟩ => ⟨S512x256, .f32⟩
  | .hbm, ⟨56, _⟩ => ⟨S512x256, .f32⟩
  | .hbm, ⟨57, _⟩ => ⟨S512x256, .f32⟩
  | .hbm, ⟨58, _⟩ => ⟨S1x512x256, .f32⟩
  | .hbm, ⟨59, _⟩ => ⟨S1x512x256, .f32⟩
  | .hbm, ⟨60, _⟩ => ⟨S1x512x256, .f32⟩
  | .hbm, ⟨61, _⟩ => ⟨S3x512x256, .f32⟩
  | .hbm, ⟨62, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S256x512, .bf16⟩
  | .local _ .vmem, ⟨15, _⟩ => ⟨S256x512, .bf16⟩
  | .local _ .vmem, ⟨16, _⟩ => ⟨S1x512x256, .f32⟩
  | .local _ .vmem, ⟨17, _⟩ => ⟨S1x512x256, .f32⟩
  | .local _ .vmem, ⟨18, _⟩ => ⟨S128x2048, .bf16⟩
  | .local _ .vmem, ⟨19, _⟩ => ⟨S128x2048, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_4 : Ref sig .tc := ⟨.hbm, 52, rfl⟩
abbrev main_cst_5 : Ref sig .tc := ⟨.hbm, 53, rfl⟩
abbrev main_call3_v0 : Ref sig .tc := ⟨.hbm, 54, rfl⟩
abbrev main_call3_v1 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c127_i32 : BitVec 32 := 127#32
  let v1 : BitVec 32 := Scalar.maxsi c0_i32 v0
  let v2 : BitVec 32 := Scalar.minsi c127_i32 v1
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c4_i32 : BitVec 32 := 4#32
  let c0_i32_1 : BitVec 32 := 0#32
  ![v2.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c127_i32 : BitVec 32 := 127#32
  let v1 : BitVec 32 := Scalar.maxsi c0_i32 v0
  let v2 : BitVec 32 := Scalar.minsi c127_i32 v1
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c127_i32 : BitVec 32 := 127#32
  let v1 : BitVec 32 := Scalar.maxsi c0_i32 v0
  let v2 : BitVec 32 := Scalar.minsi c127_i32 v1
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c5_i32 : BitVec 32 := 5#32
  let c0_i32_1 : BitVec 32 := 0#32
  ![v2.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c127_i32 : BitVec 32 := 127#32
  let v1 : BitVec 32 := Scalar.maxsi c0_i32 v0
  let v2 : BitVec 32 := Scalar.minsi c127_i32 v1
  let c5_i32 : BitVec 32 := 5#32
  let c0_i32_0 : BitVec 32 := 0#32
  ![v2.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 3 → Nat :=
  let arg0 : BitVec 32 := BitVec.ofNat 32 (i 0).val
  let c0_i32 : BitVec 32 := 0#32
  let v0 : BitVec 1 := Scalar.cmpi .eq arg0 c0_i32
  let c127_i32 : BitVec 32 := 127#32
  let v1 : BitVec 1 := Scalar.cmpi .eq arg0 c127_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S16 : Shape := ⟨1, ![16]⟩
abbrev S16384x3072 : Shape := ⟨2, ![16384, 3072]⟩
abbrev S256x1024 : Shape := ⟨2, ![256, 1024]⟩
abbrev S16384x2048 : Shape := ⟨2, ![16384, 2048]⟩
abbrev S128x128x4x4x128 : Shape := ⟨5, ![128, 128, 4, 4, 128]⟩
abbrev S16384x512 : Shape := ⟨2, ![16384, 512]⟩
abbrev S16384x4x128 : Shape := ⟨3, ![16384, 4, 128]⟩
abbrev S256x512 : Shape := ⟨2, ![256, 512]⟩
abbrev S256x4x128 : Shape := ⟨3, ![256, 4, 128]⟩
abbrev S_ : Shape := ⟨0, ![]⟩
abbrev S4x4 : Shape := ⟨2, ![4, 4]⟩
abbrev S4x4x1x1x1 : Shape := ⟨5, ![4, 4, 1, 1, 1]⟩
abbrev S16640x4x128 : Shape := ⟨3, ![16640, 4, 128]⟩
abbrev S130x128x4x128 : Shape := ⟨4, ![130, 128, 4, 128]⟩
abbrev S128x128x4x128 : Shape := ⟨4, ![128, 128, 4, 128]⟩
abbrev S128x384x4x128 : Shape := ⟨4, ![128, 384, 4, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x1x1 : Shape := ⟨3, ![128, 1, 1]⟩
abbrev S1x1x384 : Shape := ⟨3, ![1, 1, 384]⟩
abbrev S128x1x384 : Shape := ⟨3, ![128, 1, 384]⟩
abbrev S1x128x384 : Shape := ⟨3, ![1, 128, 384]⟩
abbrev S128x128x384 : Shape := ⟨3, ![128, 128, 384]⟩
abbrev S4x128x384x128x4 : Shape := ⟨5, ![4, 128, 384, 128, 4]⟩
abbrev S4x4x128x128x384 : Shape := ⟨5, ![4, 4, 128, 128, 384]⟩
abbrev S4x256x128x128x4 : Shape := ⟨5, ![4, 256, 128, 128, 4]⟩
abbrev S4x4x128x128x256 : Shape := ⟨5, ![4, 4, 128, 128, 256]⟩
abbrev S4x4x128x128 : Shape := ⟨4, ![4, 4, 128, 128]⟩
abbrev S4x4x128x128x1 : Shape := ⟨5, ![4, 4, 128, 128, 1]⟩
abbrev S128x4x128x4x128 : Shape := ⟨5, ![128, 4, 128, 4, 128]⟩
abbrev S4x128x4x128x128 : Shape := ⟨5, ![4, 128, 4, 128, 128]⟩

abbrev nBuf : Space → Nat
  | .hbm => 123
  | .vmem => 0
  | .smem => 0
  | _ => 0

abbrev bufTy : (tb : Table) → Fin (tcTables nBuf tb) → BufTy
  | .hbm, ⟨0, _⟩ => ⟨S16, .f32⟩
  | .hbm, ⟨1, _⟩ => ⟨S16384x3072, .bf16⟩
  | .hbm, ⟨2, _⟩ => ⟨S256x1024, .bf16⟩
  | .hbm, ⟨3, _⟩ => ⟨S16384x3072, .f32⟩
  | .hbm, ⟨4, _⟩ => ⟨S256x1024, .f32⟩
  | .hbm, ⟨5, _⟩ => ⟨S16384x2048, .f32⟩
  | .hbm, ⟨6, _⟩ => ⟨S128x128x4x4x128, .f32⟩
  | .hbm, ⟨7, _⟩ => ⟨S16384x512, .f32⟩
  | .hbm, ⟨8, _⟩ => ⟨S16384x4x128, .f32⟩
  | .hbm, ⟨9, _⟩ => ⟨S16384x512, .f32⟩
  | .hbm, ⟨10, _⟩ => ⟨S16384x4x128, .f32⟩
  | .hbm, ⟨11, _⟩ => ⟨S256x512, .f32⟩
  | .hbm, ⟨12, _⟩ => ⟨S256x4x128, .f32⟩
  | .hbm, ⟨13, _⟩ => ⟨S256x512, .f32⟩
  | .hbm, ⟨14, _⟩ => ⟨S256x4x128, .f32⟩
  | .hbm, ⟨15, _⟩ => ⟨S_, .f32⟩
  | .hbm, ⟨16, _⟩ => ⟨S_, .f32⟩
  | .hbm, ⟨17, _⟩ => ⟨S4x4, .f32⟩
  | .hbm, ⟨18, _⟩ => ⟨S4x4x1x1x1, .f32⟩
  | .hbm, ⟨19, _⟩ => ⟨S_, .i32⟩
  | .hbm, ⟨20, _⟩ => ⟨S_, .f32⟩
  | .hbm, ⟨21, _⟩ => ⟨S16640x4x128, .f32⟩
  | .hbm, ⟨22, _⟩ => ⟨S130x128x4x128, .f32⟩
  | .hbm, ⟨23, _⟩ => ⟨S128x128x4x128, .f32⟩
  | .hbm, ⟨24, _⟩ => ⟨S128x128x4x128, .f32⟩
  | .hbm, ⟨25, _⟩ => ⟨S128x128x4x128, .f32⟩
  | .hbm, ⟨26, _⟩ => ⟨S128x384x4x128, .f32⟩
  | .hbm, ⟨27, _⟩ => ⟨S_, .i32⟩
  | .hbm, ⟨28, _⟩ => ⟨S_, .f32⟩
  | .hbm, ⟨29, _⟩ => ⟨S16640x4x128, .f32⟩
  | .hbm, ⟨30, _⟩ => ⟨S130x128x4x128, .f32⟩
  | .hbm, ⟨31, _⟩ => ⟨S128x128x4x128, .f32⟩
  | .hbm, ⟨32, _⟩ => ⟨S128x128x4x128, .f32⟩
  | .hbm, ⟨33, _⟩ => ⟨S128x128x4x128, .f32⟩
  | .hbm, ⟨34, _⟩ => ⟨S128x384x4x128, .f32⟩
  | .hbm, ⟨35, _⟩ => ⟨S128, .i32⟩
  | .hbm, ⟨36, _⟩ => ⟨S128x1, .i32⟩
  | .hbm, ⟨37, _⟩ => ⟨S384, .i32⟩
  | .hbm, ⟨38, _⟩ => ⟨S1x384, .i32⟩
  | .hbm, ⟨39, _⟩ => ⟨S_, .i32⟩
  | .hbm, ⟨40, _⟩ => ⟨S1x384, .i32⟩
  | .hbm, ⟨41, _⟩ => ⟨S1x384, .i32⟩
  | .hbm, ⟨42, _⟩ => ⟨S128x384, .i32⟩
  | .hbm, ⟨43, _⟩ => ⟨S128x384, .i32⟩
  | .hbm, ⟨44, _⟩ => ⟨S128x384, .i32⟩
  | .hbm, ⟨45, _⟩ => ⟨S128, .i32⟩
  | .hbm, ⟨46, _⟩ => ⟨S128x1x1, .i32⟩
  | .hbm, ⟨47, _⟩ => ⟨S_, .i32⟩
  | .hbm, ⟨48, _⟩ => ⟨S128x1x1, .i32⟩
  | .hbm, ⟨49, _⟩ => ⟨S128x1x1, .i32⟩
  | .hbm, ⟨50, _⟩ => ⟨S_, .i32⟩
  | .hbm, ⟨51, _⟩ => ⟨S128x1x1, .i32⟩
  | .hbm, ⟨52, _⟩ => ⟨S128x1x1, .i32⟩
  | .hbm, ⟨53, _⟩ => ⟨S1x1x384, .i32⟩
  | .hbm, ⟨54, _⟩ => ⟨S128x1x384, .i32⟩
  | .hbm, ⟨55, _⟩ => ⟨S128x1x384, .i32⟩
  | .hbm, ⟨56, _⟩ => ⟨S128x1x384, .i32⟩
  | .hbm, ⟨57, _⟩ => ⟨S128x384, .i32⟩
  | .hbm, ⟨58, _⟩ => ⟨S_, .i32⟩
  | .hbm, ⟨59, _⟩ => ⟨S128x384, .i32⟩
  | .hbm, ⟨60, _⟩ => ⟨S128x384, .i1⟩
  | .hbm, ⟨61, _⟩ => ⟨S1x128x384, .i1⟩
  | .hbm, ⟨62, _⟩ => ⟨S_, .i32⟩
  | .hbm, ⟨63, _⟩ => ⟨S128x1x384, .i32⟩
  | .hbm, ⟨64, _⟩ => ⟨S128x1x384, .i1⟩
  | .hbm, ⟨65, _⟩ => ⟨S128x128x384, .i1⟩
  | .hbm, ⟨66, _⟩ => ⟨S128x128x384, .i1⟩
  | .hbm, ⟨67, _⟩ => ⟨S128x128x384, .i1⟩
  | .hbm, ⟨68, _⟩ => ⟨S_, .i32⟩
  | .hbm, ⟨69, _⟩ => ⟨S128x1x384, .i32⟩
  | .hbm, ⟨70, _⟩ => ⟨S128x1x384, .i1⟩
  | .hbm, ⟨71, _⟩ => ⟨S128x128x384, .i1⟩
  | .hbm, ⟨72, _⟩ => ⟨S128x128x384, .i1⟩
  | .hbm, ⟨73, _⟩ => ⟨S4x128x384x128x4, .f32⟩
  | .hbm, ⟨74, _⟩ => ⟨S4x4x128x128x384, .f32⟩
  | .hbm, ⟨75, _⟩ => ⟨S4x4x128x128x384, .f32⟩
  | .hbm, ⟨76, _⟩ => ⟨S4x4x128x128x384, .f32⟩
  | .hbm, ⟨77, _⟩ => ⟨S_, .f32⟩
  | .hbm, ⟨78, _⟩ => ⟨S_, .f32⟩
  | .hbm, ⟨79, _⟩ => ⟨S4x4x128x128x384, .i1⟩
  | .hbm, ⟨80, _⟩ => ⟨S4x4x128x128x384, .f32⟩
  | .hbm, ⟨81, _⟩ => ⟨S4x4x128x128x384, .f32⟩
  | .hbm, ⟨82, _⟩ => ⟨S4x256x128x128x4, .f32⟩
  | .hbm, ⟨83, _⟩ => ⟨S4x4x128x128x256, .f32⟩
  | .hbm, ⟨84, _⟩ => ⟨S4x4x128x128x256, .f32⟩
  | .hbm, ⟨85, _⟩ => ⟨S4x4x128x128x256, .f32⟩
  | .hbm, ⟨86, _⟩ => ⟨S_, .f32⟩
  | .hbm, ⟨87, _⟩ => ⟨S4x4x128x128, .f32⟩
  | .hbm, ⟨88, _⟩ => ⟨S4x4x128x128x1, .f32⟩
  | .hbm, ⟨89, _⟩ => ⟨S_, .f32⟩
  | .hbm, ⟨90, _⟩ => ⟨S4x4x128x128, .f32⟩
  | .hbm, ⟨91, _⟩ => ⟨S4x4x128x128x1, .f32⟩
  | .hbm, ⟨92, _⟩ => ⟨S4x4x128x128x1, .f32⟩
  | .hbm, ⟨93, _⟩ => ⟨S4x4x128x128x1, .f32⟩
  | .hbm, ⟨94, _⟩ => ⟨S4x4x128x128x1, .f32⟩
  | .hbm, ⟨95, _⟩ => ⟨S4x4x128x128x384, .f32⟩
  | .hbm, ⟨96, _⟩ => ⟨S4x4x128x128x384, .f32⟩
  | .hbm, ⟨97, _⟩ => ⟨S4x4x128x128x384, .f32⟩
  | .hbm, ⟨98, _⟩ => ⟨S4x4x128x128x256, .f32⟩
  | .hbm, ⟨99, _⟩ => ⟨S4x4x128x128x256, .f32⟩
  | .hbm, ⟨100, _⟩ => ⟨S4x4x128x128x256, .f32⟩
  | .hbm, ⟨101, _⟩ => ⟨S_, .f32⟩
  | .hbm, ⟨102, _⟩ => ⟨S4x4x128x128, .f32⟩
  | .hbm, ⟨103, _⟩ => ⟨S4x4x128x128x1, .f32⟩
  | .hbm, ⟨104, _⟩ => ⟨S_, .f32⟩
  | .hbm, ⟨105, _⟩ => ⟨S4x4x128x128, .f32⟩
  | .hbm, ⟨106, _⟩ => ⟨S4x4x128x128x1, .f32⟩
  | .hbm, ⟨107, _⟩ => ⟨S4x4x128x128x1, .f32⟩
  | .hbm, ⟨108, _⟩ => ⟨S4x4x128x128x1, .f32⟩
  | .hbm, ⟨109, _⟩ => ⟨S4x4x128x128x1, .f32⟩
  | .hbm, ⟨110, _⟩ => ⟨S4x4x128x128x1, .f32⟩
  | .hbm, ⟨111, _⟩ => ⟨S4x4x128x128x1, .f32⟩
  | .hbm, ⟨112, _⟩ => ⟨S4x4x128x128x384, .f32⟩
  | .hbm, ⟨113, _⟩ => ⟨S4x4x128x128x384, .f32⟩
  | .hbm, ⟨114, _⟩ => ⟨S128x4x128x4x128, .f32⟩
  | .hbm, ⟨115, _⟩ => ⟨S128x128x4x4x128, .f32⟩
  | .hbm, ⟨116, _⟩ => ⟨S4x4x128x128x256, .f32⟩
  | .hbm, ⟨117, _⟩ => ⟨S4x4x128x128x256, .f32⟩
  | .hbm, ⟨118, _⟩ => ⟨S4x128x4x128x128, .f32⟩
  | .hbm, ⟨119, _⟩ => ⟨S128x128x4x4x128, .f32⟩
  | .hbm, ⟨120, _⟩ => ⟨S128x128x4x4x128, .f32⟩
  | .hbm, ⟨121, _⟩ => ⟨S16384x2048, .f32⟩
  | .hbm, ⟨122, _⟩ => ⟨S16384x2048, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_0 : Ref sig .tc := ⟨.hbm, 27, rfl⟩
abbrev main_call1_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_2 : Ref sig .tc := ⟨.hbm, 47, rfl⟩
abbrev main_v38 : Ref sig .tc := ⟨.hbm, 48, rfl⟩
abbrev main_v39 : Ref sig .tc := ⟨.hbm, 49, rfl⟩
abbrev main_c_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_cst_11 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩

abbrev nD : Nat := 1
abbrev τ : Topo := Topo.v7x

variable {F : FTy → Type} [FloatOps F]
-- ==== Ffn.lean ====
abbrev S16384x2048 : Shape := ⟨2, ![16384, 2048]⟩
abbrev S9x2048 : Shape := ⟨2, ![9, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S_ : Shape := ⟨0, ![]⟩
abbrev S8x2048 : Shape := ⟨2, ![8, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 26
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S8x2048, .f32⟩
  | .hbm, ⟨25, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32 : BitVec 32 := 10#32
  let v45 : BitVec 1 := Scalar.cmpi .eq arg1 c10_i32
  let v46 : BitVec 32 := Scalar.extui v45
  let c0_i32_28 : BitVec 32 := 0#32
  let v47 : BitVec 1 := Scalar.cmpi .ne v46 c0_i32_28
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnIdeal.lean ====
abbrev S16384x2048 : Shape := ⟨2, ![16384, 2048]⟩
abbrev S9x2048 : Shape := ⟨2, ![9, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S_ : Shape := ⟨0, ![]⟩
abbrev S8x2048 : Shape := ⟨2, ![8, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 26
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S8x2048, .f32⟩
  | .hbm, ⟨25, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32 : BitVec 32 := 10#32
  let v45 : BitVec 1 := Scalar.cmpi .eq arg1 c10_i32
  let v46 : BitVec 32 := Scalar.extui v45
  let c0_i32_28 : BitVec 32 := 0#32
  let v47 : BitVec 1 := Scalar.cmpi .ne v46 c0_i32_28
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S9x2048 : Shape := ⟨2, ![9, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩

abbrev nBuf : Space → Nat
  | .hbm => 74
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x11264, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S_, .f32⟩
  | .hbm, ⟨41, _⟩ => ⟨S16384x5632, .f32⟩
  | .hbm, ⟨42, _⟩ => ⟨S16384x5632, .f32⟩
  | .hbm, ⟨43, _⟩ => ⟨S_, .f32⟩
  | .hbm, ⟨44, _⟩ => ⟨S16384x5632, .f32⟩
  | .hbm, ⟨45, _⟩ => ⟨S16384x5632, .f32⟩
  | .hbm, ⟨46, _⟩ => ⟨S16384x5632, .f32⟩
  | .hbm, ⟨47, _⟩ => ⟨S16384x5632, .f32⟩
  | .hbm, ⟨48, _⟩ => ⟨S16384x2048, .f32⟩
  | .hbm, ⟨49, _⟩ => ⟨S1x2048, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S16384x2048, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== FfnNext.lean ====
abbrev S16384x2048 : Shape := ⟨2, ![16384, 2048]⟩
abbrev S9x2048 : Shape := ⟨2, ![9, 2048]⟩
abbrev S2048 : Shape := ⟨1, ![2048]⟩
abbrev S2048x11264 : Shape := ⟨2, ![2048, 11264]⟩
abbrev S5632x2048 : Shape := ⟨2, ![5632, 2048]⟩
abbrev S4x2x2048x11264 : Shape := ⟨4, ![4, 2, 2048, 11264]⟩
abbrev S4x2x5632x2048 : Shape := ⟨4, ![4, 2, 5632, 2048]⟩
abbrev S1x2048 : Shape := ⟨2, ![1, 2048]⟩
abbrev S_ : Shape := ⟨0, ![]⟩
abbrev S8x2048 : Shape := ⟨2, ![8, 2048]⟩
abbrev S512x2048 : Shape := ⟨2, ![512, 2048]⟩
abbrev S2048x512 : Shape := ⟨2, ![2048, 512]⟩
abbrev S1x1x64x1024 : Shape := ⟨4, ![1, 1, 64, 1024]⟩
abbrev S1x1x16x2048 : Shape := ⟨4, ![1, 1, 16, 2048]⟩
abbrev S64x1024 : Shape := ⟨2, ![64, 1024]⟩
abbrev S16x2048 : Shape := ⟨2, ![16, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 28
  | .vmem => 21
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x11264, .bf16⟩
  | .hbm, ⟨5, _⟩ => ⟨S5632x2048, .bf16⟩
  | .hbm, ⟨6, _⟩ => ⟨S4x2x2048x11264, .f32⟩
  | .hbm, ⟨7, _⟩ => ⟨S4x2x5632x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S8x2048, .f32⟩
  | .hbm, ⟨25, _⟩ => ⟨S16384x2048, .f32⟩
  | .hbm, ⟨26, _⟩ => ⟨S2048x11264, .bf16⟩
  | .hbm, ⟨27, _⟩ => ⟨S5632x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x1x64x1024, .f32⟩
  | .local _ .vmem, ⟨10, _⟩ => ⟨S1x1x64x1024, .f32⟩
  | .local _ .vmem, ⟨11, _⟩ => ⟨S1x1x16x2048, .f32⟩
  | .local _ .vmem, ⟨12, _⟩ => ⟨S1x1x16x2048, .f32⟩
  | .local _ .vmem, ⟨13, _⟩ => ⟨S512x2048, .f32⟩
  | .local _ .vmem, ⟨14, _⟩ => ⟨S512x2048, .f32⟩
  | .local _ .vmem, ⟨15, _⟩ => ⟨S64x1024, .bf16⟩
  | .local _ .vmem, ⟨16, _⟩ => ⟨S64x1024, .bf16⟩
  | .local _ .vmem, ⟨17, _⟩ => ⟨S16x2048, .bf16⟩
  | .local _ .vmem, ⟨18, _⟩ => ⟨S16x2048, .bf16⟩
  | .local _ .vmem, ⟨19, _⟩ => ⟨S512x2048, .bf16⟩
  | .local _ .vmem, ⟨20, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32 : BitVec 32 := 10#32
  let v47 : BitVec 1 := Scalar.cmpi .eq arg1 c10_i32
  let v48 : BitVec 32 := Scalar.extui v47
  let c0_i32_40 : BitVec 32 := 0#32
  let v49 : BitVec 1 := Scalar.cmpi .ne v48 c0_i32_40
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat, arg1.toNat]

def cc0_transform_6 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, c0_i32.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnNextRefIdeal.lean ====
abbrev S16384x2048 : Shape := ⟨2, ![16384, 2048]⟩
abbrev S9x2048 : Shape := ⟨2, ![9, 2048]⟩
abbrev S2048 : Shape := ⟨1, ![2048]⟩
abbrev S2048x11264 : Shape := ⟨2, ![2048, 11264]⟩
abbrev S5632x2048 : Shape := ⟨2, ![5632, 2048]⟩
abbrev S4x2x2048x11264 : Shape := ⟨4, ![4, 2, 2048, 11264]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩
abbrev S1x1x2048x11264 : Shape := ⟨4, ![1, 1, 2048, 11264]⟩
abbrev S1x1x5632x2048 : Shape := ⟨4, ![1, 1, 5632, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x11264, .bf16⟩
  | .hbm, ⟨5, _⟩ => ⟨S5632x2048, .bf16⟩
  | .hbm, ⟨6, _⟩ => ⟨S4x2x2048x11264, .f32⟩
  | .hbm, ⟨7, _⟩ => ⟨S4x2x5632x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x11264, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S16384x5632, .f32⟩
  | .hbm, ⟨42, _⟩ => ⟨S_, .f32⟩
  | .hbm, ⟨43, _⟩ => ⟨S16384x5632, .f32⟩
  | .hbm, ⟨44, _⟩ => ⟨S16384x5632, .f32⟩
  | .hbm, ⟨45, _⟩ => ⟨S_, .f32⟩
  | .hbm, ⟨46, _⟩ => ⟨S16384x5632, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S16384x2048, .f32⟩
  | .hbm, ⟨51, _⟩ => ⟨S1x2048, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S16384x2048, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x2048, .f32⟩
  | .hbm, ⟨68, _⟩ => ⟨S16384x2048, .f32⟩
  | .hbm, ⟨69, _⟩ => ⟨S1x2048, .f32⟩
  | .hbm, ⟨70, _⟩ => ⟨S16384x2048, .f32⟩
  | .hbm, ⟨71, _⟩ => ⟨S16384x2048, .f32⟩
  | .hbm, ⟨72, _⟩ => ⟨S1x2048, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S1x1x2048x11264, .f32⟩
  | .hbm, ⟨77, _⟩ => ⟨S2048x11264, .f32⟩
  | .hbm, ⟨78, _⟩ => ⟨S2048x11264, .bf16⟩
  | .hbm, ⟨79, _⟩ => ⟨S1x1x5632x2048, .f32⟩
  | .hbm, ⟨80, _⟩ => ⟨S5632x2048, .f32⟩
  | .hbm, ⟨81, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== HyIn.lean ====
abbrev S16384x2048 : Shape := ⟨2, ![16384, 2048]⟩
abbrev S9x2048 : Shape := ⟨2, ![9, 2048]⟩
abbrev S2048 : Shape := ⟨1, ![2048]⟩
abbrev S2x2048x6144 : Shape := ⟨3, ![2, 2048, 6144]⟩
abbrev S6144 : Shape := ⟨1, ![6144]⟩
abbrev S3x6144 : Shape := ⟨2, ![3, 6144]⟩
abbrev S1x2048 : Shape := ⟨2, ![1, 2048]⟩
abbrev S_ : Shape := ⟨0, ![]⟩
abbrev S8x2048 : Shape := ⟨2, ![8, 2048]⟩
abbrev S1x6144 : Shape := ⟨2, ![1, 6144]⟩
abbrev S3x3x2048 : Shape := ⟨3, ![3, 3, 2048]⟩
abbrev S3x2048 : Shape := ⟨2, ![3, 2048]⟩
abbrev S1024x2048 : Shape := ⟨2, ![1024, 2048]⟩
abbrev S1x2048x256 : Shape := ⟨3, ![1, 2048, 256]⟩
abbrev S1x256 : Shape := ⟨2, ![1, 256]⟩
abbrev S3x3x256 : Shape := ⟨3, ![3, 3, 256]⟩
abbrev S3x256 : Shape := ⟨2, ![3, 256]⟩
abbrev S1024x256 : Shape := ⟨2, ![1024, 256]⟩
abbrev S16x2048 : Shape := ⟨2, ![16, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x256 : Shape := ⟨2, ![2048, 256]⟩
abbrev S16x256 : Shape := ⟨2, ![16, 256]⟩
abbrev S1x1x256 : Shape := ⟨3, ![1, 1, 256]⟩

abbrev nBuf : Space → Nat
  | .hbm => 31
  | .vmem => 29
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2x2048x6144, .f32⟩
  | .hbm, ⟨5, _⟩ => ⟨S6144, .f32⟩
  | .hbm, ⟨6, _⟩ => ⟨S3x6144, .f32⟩
  | .hbm, ⟨7, _⟩ => ⟨S6144, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S8x2048, .f32⟩
  | .hbm, ⟨25, _⟩ => ⟨S2x2048x6144, .bf16⟩
  | .hbm, ⟨26, _⟩ => ⟨S1x6144, .f32⟩
  | .hbm, ⟨27, _⟩ => ⟨S3x3x2048, .f32⟩
  | .hbm, ⟨28, _⟩ => ⟨S3x2048, .f32⟩
  | .hbm, ⟨29, _⟩ => ⟨S16384x2048, .bf16⟩
  | .hbm, ⟨30, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S3x3x256, .f32⟩
  | .local _ .vmem, ⟨20, _⟩ => ⟨S3x3x256, .f32⟩
  | .local _ .vmem, ⟨21, _⟩ => ⟨S3x256, .f32⟩
  | .local _ .vmem, ⟨22, _⟩ => ⟨S3x256, .f32⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x2048, .bf16⟩
  | .local _ .vmem, ⟨28, _⟩ => ⟨S16x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== HyInRefIdeal.lean ====
abbrev S16384x2048 : Shape := ⟨2, ![16384, 2048]⟩
abbrev S9x2048 : Shape := ⟨2, ![9, 2048]⟩
abbrev S2048 : Shape := ⟨1, ![2048]⟩
abbrev S2x2048x6144 : Shape := ⟨3, ![2, 2048, 6144]⟩
abbrev S6144 : Shape := ⟨1, ![6144]⟩
abbrev S3x6144 : Shape := ⟨2, ![3, 6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x6144 : Shape := ⟨3, ![1, 2048, 6144]⟩
abbrev S2048x6144 : Shape := ⟨2, ![2048, 6144]⟩
abbrev S16384x6144 : Shape := ⟨2, ![16384, 6144]⟩
abbrev S1x6144 : Shape := ⟨2, ![1, 6144]⟩
abbrev S16386x6144 : Shape := ⟨2, ![16386, 6144]⟩

abbrev nBuf : Space → Nat
  | .hbm => 74
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2x2048x6144, .f32⟩
  | .hbm, ⟨5, _⟩ => ⟨S6144, .f32⟩
  | .hbm, ⟨6, _⟩ => ⟨S3x6144, .f32⟩
  | .hbm, ⟨7, _⟩ => ⟨S6144, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S1x2048x6144, .f32⟩
  | .hbm, ⟨38, _⟩ => ⟨S2048x6144, .f32⟩
  | .hbm, ⟨39, _⟩ => ⟨S16384x6144, .f32⟩
  | .hbm, ⟨40, _⟩ => ⟨S1x6144, .f32⟩
  | .hbm, ⟨41, _⟩ => ⟨S16384x6144, .f32⟩
  | .hbm, ⟨42, _⟩ => ⟨S16384x6144, .f32⟩
  | .hbm, ⟨43, _⟩ => ⟨S_, .i32⟩
  | .hbm, ⟨44, _⟩ => ⟨S_, .f32⟩
  | .hbm, ⟨45, _⟩ => ⟨S16386x6144, .f32⟩
  | .hbm, ⟨46, _⟩ => ⟨S16384x6144, .f32⟩
  | .hbm, ⟨47, _⟩ => ⟨S1x6144, .f32⟩
  | .hbm, ⟨48, _⟩ => ⟨S6144, .f32⟩
  | .hbm, ⟨49, _⟩ => ⟨S1x6144, .f32⟩
  | .hbm, ⟨50, _⟩ => ⟨S16384x6144, .f32⟩
  | .hbm, ⟨51, _⟩ => ⟨S16384x6144, .f32⟩
  | .hbm, ⟨52, _⟩ => ⟨S1x6144, .f32⟩
  | .hbm, ⟨53, _⟩ => ⟨S6144, .f32⟩
  | .hbm, ⟨54, _⟩ => ⟨S1x6144, .f32⟩
  | .hbm, ⟨55, _⟩ => ⟨S16384x6144, .f32⟩
  | .hbm, ⟨56, _⟩ => ⟨S16384x6144, .f32⟩
  | .hbm, ⟨57, _⟩ => ⟨S16384x6144, .f32⟩
  | .hbm, ⟨58, _⟩ => ⟨S16384x6144, .f32⟩
  | .hbm, ⟨59, _⟩ => ⟨S1x6144, .f32⟩
  | .hbm, ⟨60, _⟩ => ⟨S6144, .f32⟩
  | .hbm, ⟨61, _⟩ => ⟨S1x6144, .f32⟩
  | .hbm, ⟨62, _⟩ => ⟨S16384x6144, .f32⟩
  | .hbm, ⟨63, _⟩ => ⟨S16384x6144, .f32⟩
  | .hbm, ⟨64, _⟩ => ⟨S16384x6144, .f32⟩
  | .hbm, ⟨65, _⟩ => ⟨S1x6144, .f32⟩
  | .hbm, ⟨66, _⟩ => ⟨S16384x6144, .f32⟩
  | .hbm, ⟨67, _⟩ => ⟨S16384x6144, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .bf16⟩
  | .hbm, ⟨72, _⟩ => ⟨S16384x2048, .f32⟩
  | .hbm, ⟨73, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== ProjIn.lean ====
abbrev S16384x2048 : Shape := ⟨2, ![16384, 2048]⟩
abbrev S9x2048 : Shape := ⟨2, ![9, 2048]⟩
abbrev S2048 : Shape := ⟨1, ![2048]⟩
abbrev S2048x3072 : Shape := ⟨2, ![2048, 3072]⟩
abbrev S3072 : Shape := ⟨1, ![3072]⟩
abbrev S1x2048 : Shape := ⟨2, ![1, 2048]⟩
abbrev S_ : Shape := ⟨0, ![]⟩
abbrev S8x2048 : Shape := ⟨2, ![8, 2048]⟩
abbrev S32 : Shape := ⟨1, ![32]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S64 : Shape := ⟨1, ![64]⟩
abbrev S64x1 : Shape := ⟨2, ![64, 1]⟩
abbrev S64x32 : Shape := ⟨2, ![64, 32]⟩
abbrev S256x1x32 : Shape := ⟨3, ![256, 1, 32]⟩
abbrev S256x64x32 : Shape := ⟨3, ![256, 64, 32]⟩
abbrev S16384x32 : Shape := ⟨2, ![16384, 32]⟩
abbrev S1x64x32 : Shape := ⟨3, ![1, 64, 32]⟩
abbrev S16384x128 : Shape := ⟨2, ![16384, 128]⟩
abbrev S1x3072 : Shape := ⟨2, ![1, 3072]⟩
abbrev S16384x3072 : Shape := ⟨2, ![16384, 3072]⟩
abbrev S1024x2048 : Shape := ⟨2, ![1024, 2048]⟩
abbrev S2048x512 : Shape := ⟨2, ![2048, 512]⟩
abbrev S1x512 : Shape := ⟨2, ![1, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 71
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x3072, .f32⟩
  | .hbm, ⟨5, _⟩ => ⟨S3072, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S8x2048, .f32⟩
  | .hbm, ⟨23, _⟩ => ⟨S2048x3072, .bf16⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S256, .i32⟩
  | .hbm, ⟨33, _⟩ => ⟨S256, .f32⟩
  | .hbm, ⟨34, _⟩ => ⟨S256x1, .f32⟩
  | .hbm, ⟨35, _⟩ => ⟨S1x32, .f32⟩
  | .hbm, ⟨36, _⟩ => ⟨S256x32, .f32⟩
  | .hbm, ⟨37, _⟩ => ⟨S256x32, .f32⟩
  | .hbm, ⟨38, _⟩ => ⟨S256x32, .f32⟩
  | .hbm, ⟨39, _⟩ => ⟨S64, .i32⟩
  | .hbm, ⟨40, _⟩ => ⟨S64, .f32⟩
  | .hbm, ⟨41, _⟩ => ⟨S64x1, .f32⟩
  | .hbm, ⟨42, _⟩ => ⟨S1x32, .f32⟩
  | .hbm, ⟨43, _⟩ => ⟨S64x32, .f32⟩
  | .hbm, ⟨44, _⟩ => ⟨S64x32, .f32⟩
  | .hbm, ⟨45, _⟩ => ⟨S64x32, .f32⟩
  | .hbm, ⟨46, _⟩ => ⟨S256x32, .f32⟩
  | .hbm, ⟨47, _⟩ => ⟨S64x32, .f32⟩
  | .hbm, ⟨48, _⟩ => ⟨S256x1x32, .f32⟩
  | .hbm, ⟨49, _⟩ => ⟨S256x64x32, .f32⟩
  | .hbm, ⟨50, _⟩ => ⟨S16384x32, .f32⟩
  | .hbm, ⟨51, _⟩ => ⟨S1x64x32, .f32⟩
  | .hbm, ⟨52, _⟩ => ⟨S256x64x32, .f32⟩
  | .hbm, ⟨53, _⟩ => ⟨S16384x32, .f32⟩
  | .hbm, ⟨54, _⟩ => ⟨S256x32, .f32⟩
  | .hbm, ⟨55, _⟩ => ⟨S64x32, .f32⟩
  | .hbm, ⟨56, _⟩ => ⟨S256x1x32, .f32⟩
  | .hbm, ⟨57, _⟩ => ⟨S256x64x32, .f32⟩
  | .hbm, ⟨58, _⟩ => ⟨S16384x32, .f32⟩
  | .hbm, ⟨59, _⟩ => ⟨S1x64x32, .f32⟩
  | .hbm, ⟨60, _⟩ => ⟨S256x64x32, .f32⟩
  | .hbm, ⟨61, _⟩ => ⟨S16384x32, .f32⟩
  | .hbm, ⟨62, _⟩ => ⟨S_, .f32⟩
  | .hbm, ⟨63, _⟩ => ⟨S16384x32, .f32⟩
  | .hbm, ⟨64, _⟩ => ⟨S16384x128, .f32⟩
  | .hbm, ⟨65, _⟩ => ⟨S16384x32, .f32⟩
  | .hbm, ⟨66, _⟩ => ⟨S16384x32, .f32⟩
  | .hbm, ⟨67, _⟩ => ⟨S16384x128, .f32⟩
  | .hbm, ⟨68, _⟩ => ⟨S16384x128, .f32⟩
  | .hbm, ⟨69, _⟩ => ⟨S1x3072, .f32⟩
  | .hbm, ⟨70, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjInIdeal.lean ====
variable {F : FTy → Type} [FloatOps F] [Named F]
def κ : String → Option EReal := fun
  | "q_scale" => some (((Real.log 2)⁻¹ * (Real.sqrt 128)⁻¹ : ℝ) : EReal)
  | _ => none
-- ==== ProjInRefIdeal.lean ====
abbrev S16384x2048 : Shape := ⟨2, ![16384, 2048]⟩
abbrev S9x2048 : Shape := ⟨2, ![9, 2048]⟩
abbrev S2048 : Shape := ⟨1, ![2048]⟩
abbrev S2048x3072 : Shape := ⟨2, ![2048, 3072]⟩
abbrev S3072 : Shape := ⟨1, ![3072]⟩
abbrev S256 : Shape := ⟨1, ![256]⟩
abbrev S256x1 : Shape := ⟨2, ![256, 1]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x2048 : Shape := ⟨2, ![1, 2048]⟩
abbrev S16384x3072 : Shape := ⟨2, ![16384, 3072]⟩
abbrev S1x3072 : Shape := ⟨2, ![1, 3072]⟩
abbrev S16384x16x128 : Shape := ⟨3, ![16384, 16, 128]⟩
abbrev S16384x16x64 : Shape := ⟨3, ![16384, 16, 64]⟩
abbrev S16384x1x32 : Shape := ⟨3, ![16384, 1, 32]⟩
abbrev S16384x16x32 : Shape := ⟨3, ![16384, 16, 32]⟩
abbrev S16384x512 : Shape := ⟨2, ![16384, 512]⟩
abbrev S16384x4x128 : Shape := ⟨3, ![16384, 4, 128]⟩
abbrev S16384x4x64 : Shape := ⟨3, ![16384, 4, 64]⟩
abbrev S16384x4x32 : Shape := ⟨3, ![16384, 4, 32]⟩

abbrev nBuf : Space → Nat
  | .hbm => 155
  | .vmem => 0
  | .smem => 0
  | _ => 0

abbrev hbmTy0_0 (i : Nat) : BufTy := match i % 128 with
  | 0 => ⟨S16384x2048, .f32⟩
  | 1 => ⟨S9x2048, .f32⟩
  | 2 => ⟨S2048, .f32⟩
  | 3 => ⟨S2048, .f32⟩
  | 4 => ⟨S2048x3072, .f32⟩
  | 5 => ⟨S3072, .f32⟩
  | 6 => ⟨S256, .i32⟩
  | 7 => ⟨S256x1, .i32⟩
  | 8 => ⟨S256x64, .i32⟩
  | 9 => ⟨S16384, .i32⟩
  | 10 => ⟨S16384, .f32⟩
  | 11 => ⟨S64, .i32⟩
  | 12 => ⟨S1x64, .i32⟩
  | 13 => ⟨S256x64, .i32⟩
  | 14 => ⟨S16384, .i32⟩
  | 15 => ⟨S16384, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S16384x1, .f32⟩
  | 25 => ⟨S1x32, .f32⟩
  | 26 => ⟨S16384x32, .f32⟩
  | 27 => ⟨S16384x32, .f32⟩
  | 28 => ⟨S16384x32, .f32⟩
  | 29 => ⟨S16384x1, .f32⟩
  | 30 => ⟨S1x32, .f32⟩
  | 31 => ⟨S16384x32, .f32⟩
  | 32 => ⟨S16384x32, .f32⟩
  | 33 => ⟨S16384x32, .f32⟩
  | 34 => ⟨S16384x2048, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1, .f32⟩
  | 45 => ⟨S16384x2048, .f32⟩
  | 46 => ⟨S16384x2048, .f32⟩
  | 47 => ⟨S1x2048, .f32⟩
  | 48 => ⟨S16384x2048, .f32⟩
  | 49 => ⟨S16384x2048, .f32⟩
  | 50 => ⟨S1x2048, .f32⟩
  | 51 => ⟨S2048, .f32⟩
  | 52 => ⟨S_, .f32⟩
  | 53 => ⟨S2048, .f32⟩
  | 54 => ⟨S2048, .f32⟩
  | 55 => ⟨S1x2048, .f32⟩
  | 56 => ⟨S16384x2048, .f32⟩
  | 57 => ⟨S16384x2048, .f32⟩
  | 58 => ⟨S1x2048, .f32⟩
  | 59 => ⟨S2048, .f32⟩
  | 60 => ⟨S1x2048, .f32⟩
  | 61 => ⟨S16384x2048, .f32⟩
  | 62 => ⟨S16384x2048, .f32⟩
  | 63 => ⟨S16384x3072, .f32⟩
  | 64 => ⟨S1x3072, .f32⟩
  | 65 => ⟨S16384x3072, .f32⟩
  | 66 => ⟨S16384x3072, .f32⟩
  | 67 => ⟨S16384x2048, .f32⟩
  | 68 => ⟨S16384x16x128, .f32⟩
  | 69 => ⟨S16384x16x64, .f32⟩
  | 70 => ⟨S16384x16x64, .f32⟩
  | 71 => ⟨S16384x1x32, .f32⟩
  | 72 => ⟨S16384x1x32, .f32⟩
  | 73 => ⟨S16384x1x32, .f32⟩
  | 74 => ⟨S16384x16x32, .f32⟩
  | 75 => ⟨S16384x16x32, .f32⟩
  | 76 => ⟨S16384x16x32, .f32⟩
  | 77 => ⟨S16384x16x32, .f32⟩
  | 78 => ⟨S16384x16x32, .f32⟩
  | 79 => ⟨S16384x16x32, .f32⟩
  | 80 => ⟨S16384x16x32, .f32⟩
  | 81 => ⟨S16384x16x32, .f32⟩
  | 82 => ⟨S16384x16x32, .f32⟩
  | 83 => ⟨S16384x16x32, .f32⟩
  | 84 => ⟨S16384x16x32, .f32⟩
  | 85 => ⟨S16384x16x32, .f32⟩
  | 86 => ⟨S16384x16x64, .f32⟩
  | 87 => ⟨S16384x1x32, .f32⟩
  | 88 => ⟨S16384x1x32, .f32⟩
  | 89 => ⟨S16384x1x32, .f32⟩
  | 90 => ⟨S16384x16x32, .f32⟩
  | 91 => ⟨S16384x16x32, .f32⟩
  | 92 => ⟨S16384x16x32, .f32⟩
  | 93 => ⟨S16384x16x32, .f32⟩
  | 94 => ⟨S16384x16x32, .f32⟩
  | 95 => ⟨S16384x16x32, .f32⟩
  | 96 => ⟨S16384x16x32, .f32⟩
  | 97 => ⟨S16384x16x32, .f32⟩
  | 98 => ⟨S16384x16x32, .f32⟩
  | 99 => ⟨S16384x16x32, .f32⟩
  | 100 => ⟨S16384x16x32, .f32⟩
  | 101 => ⟨S16384x16x32, .f32⟩
  | 102 => ⟨S16384x16x64, .f32⟩
  | 103 => ⟨S16384x16x128, .f32⟩
  | 104 => ⟨S16384x512, .f32⟩
  | 105 => ⟨S16384x4x128, .f32⟩
  | 106 => ⟨S16384x4x64, .f32⟩
  | 107 => ⟨S16384x4x64, .f32⟩
  | 108 => ⟨S16384x1x32, .f32⟩
  | 109 => ⟨S16384x1x32, .f32⟩
  | 110 => ⟨S16384x1x32, .f32⟩
  | 111 => ⟨S16384x4x32, .f32⟩
  | 112 => ⟨S16384x4x32, .f32⟩
  | 113 => ⟨S16384x4x32, .f32⟩
  | 114 => ⟨S16384x4x32, .f32⟩
  | 115 => ⟨S16384x4x32, .f32⟩
  | 116 => ⟨S16384x4x32, .f32⟩
  | 117 => ⟨S16384x4x32, .f32⟩
  | 118 => ⟨S16384x4x32, .f32⟩
  | 119 => ⟨S16384x4x32, .f32⟩
  | 120 => ⟨S16384x4x32, .f32⟩
  | 121 => ⟨S16384x4x32, .f32⟩
  | 122 => ⟨S16384x4x32, .f32⟩
  | 123 => ⟨S16384x4x64, .f32⟩
  | 124 => ⟨S16384x1x32, .f32⟩
  | 125 => ⟨S16384x1x32, .f32⟩
  | 126 => ⟨S16384x1x32, .f32⟩
  | 127 => ⟨S16384x4x32, .f32⟩
  | _ => ⟨S16384x2048, .f32⟩

abbrev hbmTy0_1 (i : Nat) : BufTy := match i % 128 with
  | 0 => ⟨S16384x4x32, .f32⟩
  | 1 => ⟨S16384x4x32, .f32⟩
  | 2 => ⟨S16384x4x32, .f32⟩
  | 3 => ⟨S16384x4x32, .f32⟩
  | 4 => ⟨S16384x4x32, .f32⟩
  | 5 => ⟨S16384x4x32, .f32⟩
  | 6 => ⟨S16384x4x32, .f32⟩
  | 7 => ⟨S16384x4x32, .f32⟩
  | 8 => ⟨S16384x4x32, .f32⟩
  | 9 => ⟨S16384x4x32, .f32⟩
  | 10 => ⟨S16384x4x32, .f32⟩
  | 11 => ⟨S16384x4x64, .f32⟩
  | 12 => ⟨S16384x4x128, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S16384x16x128, .f32⟩
  | 21 => ⟨S16384x16x128, .f32⟩
  | 22 => ⟨S16384x2048, .f32⟩
  | 23 => ⟨S16384x512, .f32⟩
  | 24 => ⟨S16384x512, .f32⟩
  | 25 => ⟨S16384x3072, .f32⟩
  | 26 => ⟨S16384x3072, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_cst_5 : Ref sig .tc := ⟨.hbm, 141, rfl⟩
abbrev main_v129 : Ref sig .tc := ⟨.hbm, 142, rfl⟩
abbrev main_cst_6 : Ref sig .tc := ⟨.hbm, 143, rfl⟩
abbrev main_v130 : Ref sig .tc := ⟨.hbm, 144, rfl⟩
abbrev main_v131 : Ref sig .tc := ⟨.hbm, 145, rfl⟩
abbrev main_cst_7 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩

abbrev nD : Nat := 1
abbrev τ : Topo := Topo.v7x

variable {F : FTy → Type} [FloatOps F]
-- ==== ProjOut.lean ====
abbrev S16384x2048 : Shape := ⟨2, ![16384, 2048]⟩
abbrev S2048x2048 : Shape := ⟨2, ![2048, 2048]⟩
abbrev S2048 : Shape := ⟨1, ![2048]⟩
abbrev S9x2048 : Shape := ⟨2, ![9, 2048]⟩
abbrev S4x2x2048x11264 : Shape := ⟨4, ![4, 2, 2048, 11264]⟩
abbrev S4x2x5632x2048 : Shape := ⟨4, ![4, 2, 5632, 2048]⟩
abbrev S1x2048 : Shape := ⟨2, ![1, 2048]⟩
abbrev S_ : Shape := ⟨0, ![]⟩
abbrev S8x2048 : Shape := ⟨2, ![8, 2048]⟩
abbrev S2048x11264 : Shape := ⟨2, ![2048, 11264]⟩
abbrev S5632x2048 : Shape := ⟨2, ![5632, 2048]⟩
abbrev S512x2048 : Shape := ⟨2, ![512, 2048]⟩
abbrev S1x1x64x11264 : Shape := ⟨4, ![1, 1, 64, 11264]⟩
abbrev S1x1x176x2048 : Shape := ⟨4, ![1, 1, 176, 2048]⟩
abbrev S64x11264 : Shape := ⟨2, ![64, 11264]⟩
abbrev S176x2048 : Shape := ⟨2, ![176, 2048]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S9x2048, .f32⟩
  | .hbm, ⟨5, _⟩ => ⟨S2048, .f32⟩
  | .hbm, ⟨6, _⟩ => ⟨S2048, .f32⟩
  | .hbm, ⟨7, _⟩ => ⟨S4x2x2048x11264, .f32⟩
  | .hbm, ⟨8, _⟩ => ⟨S4x2x5632x2048, .f32⟩
  | .hbm, ⟨9, _⟩ => ⟨S2048x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S8x2048, .f32⟩
  | .hbm, ⟨27, _⟩ => ⟨S1x2048, .f32⟩
  | .hbm, ⟨28, _⟩ => ⟨S16384x2048, .f32⟩
  | .hbm, ⟨29, _⟩ => ⟨S2048x11264, .bf16⟩
  | .hbm, ⟨30, _⟩ => ⟨S5632x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | .local _ .vmem, ⟨7, _⟩ => ⟨S1x1x64x11264, .f32⟩
  | .local _ .vmem, ⟨8, _⟩ => ⟨S1x1x64x11264, .f32⟩
  | .local _ .vmem, ⟨9, _⟩ => ⟨S1x1x176x2048, .f32⟩
  | .local _ .vmem, ⟨10, _⟩ => ⟨S1x1x176x2048, .f32⟩
  | .local _ .vmem, ⟨11, _⟩ => ⟨S512x2048, .f32⟩
  | .local _ .vmem, ⟨12, _⟩ => ⟨S512x2048, .f32⟩
  | .local _ .vmem, ⟨13, _⟩ => ⟨S64x11264, .bf16⟩
  | .local _ .vmem, ⟨14, _⟩ => ⟨S64x11264, .bf16⟩
  | .local _ .vmem, ⟨15, _⟩ => ⟨S176x2048, .bf16⟩
  | .local _ .vmem, ⟨16, _⟩ => ⟨S176x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64x11264 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x11264 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjOutRefIdeal.lean ====
abbrev S16384x2048 : Shape := ⟨2, ![16384, 2048]⟩
abbrev S2048x2048 : Shape := ⟨2, ![2048, 2048]⟩
abbrev S2048 : Shape := ⟨1, ![2048]⟩
abbrev S9x2048 : Shape := ⟨2, ![9, 2048]⟩
abbrev S4x2x2048x11264 : Shape := ⟨4, ![4, 2, 2048, 11264]⟩
abbrev S4x2x5632x2048 : Shape := ⟨4, ![4, 2, 5632, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x1x2048x11264 : Shape := ⟨4, ![1, 1, 2048, 11264]⟩
abbrev S2048x11264 : Shape := ⟨2, ![2048, 11264]⟩
abbrev S1x1x5632x2048 : Shape := ⟨4, ![1, 1, 5632, 2048]⟩
abbrev S5632x2048 : Shape := ⟨2, ![5632, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S9x2048, .f32⟩
  | .hbm, ⟨5, _⟩ => ⟨S2048, .f32⟩
  | .hbm, ⟨6, _⟩ => ⟨S2048, .f32⟩
  | .hbm, ⟨7, _⟩ => ⟨S4x2x2048x11264, .f32⟩
  | .hbm, ⟨8, _⟩ => ⟨S4x2x5632x2048, .f32⟩
  | .hbm, ⟨9, _⟩ => ⟨S1x2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S1x1x2048x11264, .f32⟩
  | .hbm, ⟨39, _⟩ => ⟨S2048x11264, .f32⟩
  | .hbm, ⟨40, _⟩ => ⟨S2048x11264, .bf16⟩
  | .hbm, ⟨41, _⟩ => ⟨S1x1x5632x2048, .f32⟩
  | .hbm, ⟨42, _⟩ => ⟨S5632x2048, .f32⟩
  | .hbm, ⟨43, _⟩ => ⟨S5632x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== FfnCtx.lean ====
abbrev S256x2048 : Shape := ⟨2, ![256, 2048]⟩
abbrev S9x2048 : Shape := ⟨2, ![9, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S_ : Shape := ⟨0, ![]⟩
abbrev S8x2048 : Shape := ⟨2, ![8, 2048]⟩
abbrev S2048x512 : Shape := ⟨2, ![2048, 512]⟩
abbrev S512x2048 : Shape := ⟨2, ![512, 2048]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩

abbrev nBuf : Space → Nat
  | .hbm => 26
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S8x2048, .f32⟩
  | .hbm, ⟨25, _⟩ => ⟨S256x2048, .f32⟩
  | .local _ .vmem, ⟨0, _⟩ => ⟨S256x2048, .f32⟩
  | .local _ .vmem, ⟨1, _⟩ => ⟨S8x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .bf16⟩
  | .local _ .vmem, ⟨10, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def k0_cond3 (i : grid0.Coords) : BitVec 1 :=
  let arg1 : BitVec 32 := BitVec.ofNat 32 (i 1).val
  let c10_i32 : BitVec 32 := 10#32
  let v45 : BitVec 1 := Scalar.cmpi .eq arg1 c10_i32
  let v46 : BitVec 32 := Scalar.extui v45
  let c0_i32_28 : BitVec 32 := 0#32
  let v47 : BitVec 1 := Scalar.cmpi .ne v46 c0_i32_28
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnCtxRefIdeal.lean ====
abbrev S256x2048 : Shape := ⟨2, ![256, 2048]⟩
abbrev S9x2048 : Shape := ⟨2, ![9, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x11264 : Shape := ⟨2, ![256, 11264]⟩
abbrev S256x5632 : Shape := ⟨2, ![256, 5632]⟩

abbrev nBuf : Space → Nat
  | .hbm => 74
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S1x2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S256x2048, .f32⟩
  | .hbm, ⟨34, _⟩ => ⟨S256x2048, .f32⟩
  | .hbm, ⟨35, _⟩ => ⟨S256x11264, .f32⟩
  | .hbm, ⟨36, _⟩ => ⟨S256x5632, .f32⟩
  | .hbm, ⟨37, _⟩ => ⟨S256x5632, .f32⟩
  | .hbm, ⟨38, _⟩ => ⟨S256x5632, .f32⟩
  | .hbm, ⟨39, _⟩ => ⟨S256x5632, .f32⟩
  | .hbm, ⟨40, _⟩ => ⟨S_, .f32⟩
  | .hbm, ⟨41, _⟩ => ⟨S256x5632, .f32⟩
  | .hbm, ⟨42, _⟩ => ⟨S256x5632, .f32⟩
  | .hbm, ⟨43, _⟩ => ⟨S_, .f32⟩
  | .hbm, ⟨44, _⟩ => ⟨S256x5632, .f32⟩
  | .hbm, ⟨45, _⟩ => ⟨S256x5632, .f32⟩
  | .hbm, ⟨46, _⟩ => ⟨S256x5632, .f32⟩
  | .hbm, ⟨47, _⟩ => ⟨S256x5632, .f32⟩
  | .hbm, ⟨48, _⟩ => ⟨S256x2048, .f32⟩
  | .hbm, ⟨49, _⟩ => ⟨S1x2048, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S256x2048, .f32⟩
  | .hbm, ⟨55, _⟩ => ⟨S_, .f32⟩
  | .hbm, ⟨56, _⟩ => ⟨S256, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S_, .f32⟩
  | .hbm, ⟨62, _⟩ => ⟨S256x1, .f32⟩
  | .hbm, ⟨63, _⟩ => ⟨S256x1, .f32⟩
  | .hbm, ⟨64, _⟩ => ⟨S256x1, .f32⟩
  | .hbm, ⟨65, _⟩ => ⟨S256x2048, .f32⟩
  | .hbm, ⟨66, _⟩ => ⟨S256x2048, .f32⟩
  | .hbm, ⟨67, _⟩ => ⟨S1x2048, .f32⟩
  | .hbm, ⟨68, _⟩ => ⟨S256x2048, .f32⟩
  | .hbm, ⟨69, _⟩ => ⟨S256x2048, .f32⟩
  | .hbm, ⟨70, _⟩ => ⟨S1x2048, .f32⟩
  | .hbm, ⟨71, _⟩ => ⟨S256x2048, .f32⟩
  | .hbm, ⟨72, _⟩ => ⟨S256x2048, .f32⟩
  | .hbm, ⟨73, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== KvIn.lean ====
abbrev S256x2048 : Shape := ⟨2, ![256, 2048]⟩
abbrev S9x2048 : Shape := ⟨2, ![9, 2048]⟩
abbrev S2048 : Shape := ⟨1, ![2048]⟩
abbrev S2048x3072 : Shape := ⟨2, ![2048, 3072]⟩
abbrev S3072 : Shape := ⟨1, ![3072]⟩
abbrev S1x2048 : Shape := ⟨2, ![1, 2048]⟩
abbrev S_ : Shape := ⟨0, ![]⟩
abbrev S8x2048 : Shape := ⟨2, ![8, 2048]⟩
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S2048x512 : Shape := ⟨2, ![2048, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 28
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x3072, .f32⟩
  | .hbm, ⟨5, _⟩ => ⟨S3072, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S8x2048, .f32⟩
  | .hbm, ⟨23, _⟩ => ⟨S2048x3072, .bf16⟩
  | .hbm, ⟨24, _⟩ => ⟨S2048x1024, .bf16⟩
  | .hbm, ⟨25, _⟩ => ⟨S1024, .f32⟩
  | .hbm, ⟨26, _⟩ => ⟨S1x1024, .f32⟩
  | .hbm, ⟨27, _⟩ => ⟨S256x1024, .bf16⟩
  | .local _ .vmem, ⟨0, _⟩ => ⟨S256x2048, .f32⟩
  | .local _ .vmem, ⟨1, _⟩ => ⟨S8x2048, .f32⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KvInRefIdeal.lean ====
abbrev S256x2048 : Shape := ⟨2, ![256, 2048]⟩
abbrev S9x2048 : Shape := ⟨2, ![9, 2048]⟩
abbrev S2048 : Shape := ⟨1, ![2048]⟩
abbrev S2048x3072 : Shape := ⟨2, ![2048, 3072]⟩
abbrev S3072 : Shape := ⟨1, ![3072]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x3072 : Shape := ⟨2, ![256, 3072]⟩
abbrev S1x3072 : Shape := ⟨2, ![1, 3072]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S2048x3072, .f32⟩
  | .hbm, ⟨5, _⟩ => ⟨S3072, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S1x2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S256x2048, .f32⟩
  | .hbm, ⟨34, _⟩ => ⟨S256x2048, .f32⟩
  | .hbm, ⟨35, _⟩ => ⟨S256x3072, .f32⟩
  | .hbm, ⟨36, _⟩ => ⟨S1x3072, .f32⟩
  | .hbm, ⟨37, _⟩ => ⟨S256x3072, .f32⟩
  | .hbm, ⟨38, _⟩ => ⟨S256x3072, .f32⟩
  | .hbm, ⟨39, _⟩ => ⟨S256x1024, .f32⟩
  | .hbm, ⟨40, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Pool.lean ====
abbrev S16384x2048 : Shape := ⟨2, ![16384, 2048]⟩
abbrev S9x2048 : Shape := ⟨2, ![9, 2048]⟩
abbrev S2048 : Shape := ⟨1, ![2048]⟩
abbrev S4x512x512 : Shape := ⟨3, ![4, 512, 512]⟩
abbrev S4x2x2048x11264 : Shape := ⟨4, ![4, 2, 2048, 11264]⟩
abbrev S4x2x5632x2048 : Shape := ⟨4, ![4, 2, 5632, 2048]⟩
abbrev S1x2048 : Shape := ⟨2, ![1, 2048]⟩
abbrev S_ : Shape := ⟨0, ![]⟩
abbrev S8x2048 : Shape := ⟨2, ![8, 2048]⟩
abbrev S2048x11264 : Shape := ⟨2, ![2048, 11264]⟩
abbrev S5632x2048 : Shape := ⟨2, ![5632, 2048]⟩
abbrev S512x2048 : Shape := ⟨2, ![512, 2048]⟩
abbrev S1x1x64x11264 : Shape := ⟨4, ![1, 1, 64, 11264]⟩
abbrev S1x1x176x2048 : Shape := ⟨4, ![1, 1, 176, 2048]⟩
abbrev S64x11264 : Shape := ⟨2, ![64, 11264]⟩
abbrev S176x2048 : Shape := ⟨2, ![176, 2048]⟩
abbrev S512 : Shape := ⟨1, ![512]⟩
abbrev S512x1 : Shape := ⟨2, ![512, 1]⟩
abbrev S8 : Shape := ⟨1, ![8]⟩
abbrev S8x1 : Shape := ⟨2, ![8, 1]⟩
abbrev S8x512 : Shape := ⟨2, ![8, 512]⟩
abbrev S512x512 : Shape := ⟨2, ![512, 512]⟩
abbrev S528x512 : Shape := ⟨2, ![528, 512]⟩
abbrev S1x512x512 : Shape := ⟨3, ![1, 512, 512]⟩
abbrev S1x512 : Shape := ⟨2, ![1, 512]⟩

abbrev nBuf : Space → Nat
  | .hbm => 32
  | .vmem => 21
  | .smem => 0
  | _ => 0

abbrev bufTy : (tb : Table) → Fin (tcTables nBuf tb) → BufTy
  | .hbm, ⟨0, _⟩ => ⟨S16384x2048, .f32⟩
  | .hbm, ⟨1, _⟩ => ⟨S9x2048, .f32⟩
  | .hbm, ⟨2, _⟩ => ⟨S2048, .f32⟩
  | .hbm, ⟨3, _⟩ => ⟨S2048, .f32⟩
  | .hbm, ⟨4, _⟩ => ⟨S4x512x512, .f32⟩
  | .hbm, ⟨5, _⟩ => ⟨S2048, .f32⟩
  | .hbm, ⟨6, _⟩ => ⟨S2048, .f32⟩
  | .hbm, ⟨7, _⟩ => ⟨S4x2x2048x11264, .f32⟩
  | .hbm, ⟨8, _⟩ => ⟨S4x2x5632x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S8x2048, .f32⟩
  | .hbm, ⟨26, _⟩ => ⟨S4x512x512, .bf16⟩
  | .hbm, ⟨27, _⟩ => ⟨S1x2048, .f32⟩
  | .hbm, ⟨28, _⟩ => ⟨S1x2048, .f32⟩
  | .hbm, ⟨29, _⟩ => ⟨S16384x2048, .f32⟩
  | .hbm, ⟨30, _⟩ => ⟨S2048x11264, .bf16⟩
  | .hbm, ⟨31, _⟩ => ⟨S5632x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S4x512x512, .bf16⟩
  | .local _ .vmem, ⟨8, _⟩ => ⟨S1x2048, .f32⟩
  | .local _ .vmem, ⟨9, _⟩ => ⟨S1x2048, .f32⟩
  | .local _ .vmem, ⟨10, _⟩ => ⟨S1x1x64x11264, .f32⟩
  | .local _ .vmem, ⟨11, _⟩ => ⟨S1x1x64x11264, .f32⟩
  | .local _ .vmem, ⟨12, _⟩ => ⟨S1x1x176x2048, .f32⟩
  | .local _ .vmem, ⟨13, _⟩ => ⟨S1x1x176x2048, .f32⟩
  | .local _ .vmem, ⟨14, _⟩ => ⟨S512x2048, .f32⟩
  | .local _ .vmem, ⟨15, _⟩ => ⟨S512x2048, .f32⟩
  | .local _ .vmem, ⟨16, _⟩ => ⟨S64x11264, .bf16⟩
  | .local _ .vmem, ⟨17, _⟩ => ⟨S64x11264, .bf16⟩
  | .local _ .vmem, ⟨18, _⟩ => ⟨S176x2048, .bf16⟩
  | .local _ .vmem, ⟨19, _⟩ => ⟨S176x2048, .bf16⟩
  | .local _ .vmem, ⟨20, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  ![c2_i32.toNat, c1_i32.toNat, arg0.toNat, c0_i32.toNat]

def cc0_transform_8 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  ![c2_i32.toNat, c1_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x64x11264 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x11264 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PoolRefIdeal.lean ====
abbrev S16384x2048 : Shape := ⟨2, ![16384, 2048]⟩
abbrev S9x2048 : Shape := ⟨2, ![9, 2048]⟩
abbrev S2048 : Shape := ⟨1, ![2048]⟩
abbrev S4x512x512 : Shape := ⟨3, ![4, 512, 512]⟩
abbrev S4x2x2048x11264 : Shape := ⟨4, ![4, 2, 2048, 11264]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x512 : Shape := ⟨2, ![16384, 512]⟩
abbrev S16385x512 : Shape := ⟨2, ![16385, 512]⟩
abbrev S16387x512 : Shape := ⟨2, ![16387, 512]⟩
abbrev S16391x512 : Shape := ⟨2, ![16391, 512]⟩
abbrev S16399x512 : Shape := ⟨2, ![16399, 512]⟩
abbrev S16384x1x512 : Shape := ⟨3, ![16384, 1, 512]⟩
abbrev S16384x4x512 : Shape := ⟨3, ![16384, 4, 512]⟩
abbrev S4x512x16384 : Shape := ⟨3, ![4, 512, 16384]⟩
abbrev S1x1x2048x11264 : Shape := ⟨4, ![1, 1, 2048, 11264]⟩
abbrev S2048x11264 : Shape := ⟨2, ![2048, 11264]⟩
abbrev S1x1x5632x2048 : Shape := ⟨4, ![1, 1, 5632, 2048]⟩
abbrev S5632x2048 : Shape := ⟨2, ![5632, 2048]⟩

abbrev nBuf : Space → Nat
  | .hbm => 280
  | .vmem => 0
  | .smem => 0
  | _ => 0

abbrev hbmTy0_0 (i : Nat) : BufTy := match i % 128 with
  | 0 => ⟨S16384x2048, .f32⟩
  | 1 => ⟨S9x2048, .f32⟩
  | 2 => ⟨S2048, .f32⟩
  | 3 => ⟨S2048, .f32⟩
  | 4 => ⟨S4x512x512, .f32⟩
  | 5 => ⟨S2048, .f32⟩
  | 6 => ⟨S2048, .f32⟩
  | 7 => ⟨S4x2x2048x11264, .f32⟩
  | 8 => ⟨S4x2x5632x2048, .f32⟩
  | 9 => ⟨S16384x2048, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x2048, .f32⟩
  | 21 => ⟨S16384x2048, .f32⟩
  | 22 => ⟨S1x2048, .f32⟩
  | 23 => ⟨S16384x2048, .f32⟩
  | 24 => ⟨S16384x2048, .f32⟩
  | 25 => ⟨S1x2048, .f32⟩
  | 26 => ⟨S2048, .f32⟩
  | 27 => ⟨S_, .f32⟩
  | 28 => ⟨S2048, .f32⟩
  | 29 => ⟨S2048, .f32⟩
  | 30 => ⟨S1x2048, .f32⟩
  | 31 => ⟨S16384x2048, .f32⟩
  | 32 => ⟨S16384x2048, .f32⟩
  | 33 => ⟨S1x2048, .f32⟩
  | 34 => ⟨S2048, .f32⟩
  | 35 => ⟨S1x2048, .f32⟩
  | 36 => ⟨S16384x2048, .f32⟩
  | 37 => ⟨S16384x2048, .f32⟩
  | 38 => ⟨S16384, .i32⟩
  | 39 => ⟨S_, .i32⟩
  | 40 => ⟨S16384, .i32⟩
  | 41 => ⟨S16384, .i32⟩
  | 42 => ⟨S_, .i32⟩
  | 43 => ⟨S_, .i32⟩
  | 44 => ⟨S_, .i32⟩
  | 45 => ⟨S16384, .i32⟩
  | 46 => ⟨S16384, .i32⟩
  | 47 => ⟨S_, .i32⟩
  | 48 => ⟨S16384, .i32⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S_, .i32⟩
  | 57 => ⟨S_, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S16384x512, .f32⟩
  | 65 => ⟨S_, .i32⟩
  | 66 => ⟨S_, .f32⟩
  | 67 => ⟨S16385x512, .f32⟩
  | 68 => ⟨S16384x512, .f32⟩
  | 69 => ⟨S16384x512, .f32⟩
  | 70 => ⟨S16384x512, .f32⟩
  | 71 => ⟨S16384, .i32⟩
  | 72 => ⟨S16384, .f32⟩
  | 73 => ⟨S16384x1, .f32⟩
  | 74 => ⟨S16384x512, .f32⟩
  | 75 => ⟨S16384x512, .f32⟩
  | 76 => ⟨S16384x512, .f32⟩
  | 77 => ⟨S_, .i32⟩
  | 78 => ⟨S16384, .i32⟩
  | 79 => ⟨S16384, .i32⟩
  | 80 => ⟨S_, .i32⟩
  | 81 => ⟨S_, .i32⟩
  | 82 => ⟨S_, .i32⟩
  | 83 => ⟨S16384, .i32⟩
  | 84 => ⟨S16384, .i32⟩
  | 85 => ⟨S_, .i32⟩
  | 86 => ⟨S16384, .i32⟩
  | 87 => ⟨S16384, .i32⟩
  | 88 => ⟨S_, .i32⟩
  | 89 => ⟨S16384, .i32⟩
  | 90 => ⟨S16384, .i32⟩
  | 91 => ⟨S_, .i32⟩
  | 92 => ⟨S16384, .i32⟩
  | 93 => ⟨S16384, .i32⟩
  | 94 => ⟨S_, .i32⟩
  | 95 => ⟨S_, .i32⟩
  | 96 => ⟨S_, .i32⟩
  | 97 => ⟨S16384, .i32⟩
  | 98 => ⟨S16384, .i32⟩
  | 99 => ⟨S_, .i32⟩
  | 100 => ⟨S16384, .i32⟩
  | 101 => ⟨S16384, .i32⟩
  | 102 => ⟨S16384x512, .f32⟩
  | 103 => ⟨S_, .i32⟩
  | 104 => ⟨S_, .f32⟩
  | 105 => ⟨S16387x512, .f32⟩
  | 106 => ⟨S16384x512, .f32⟩
  | 107 => ⟨S16384x512, .f32⟩
  | 108 => ⟨S16384x512, .f32⟩
  | 109 => ⟨S16384x512, .f32⟩
  | 110 => ⟨S16384x512, .f32⟩
  | 111 => ⟨S16384x512, .f32⟩
  | 112 => ⟨S16384x512, .f32⟩
  | 113 => ⟨S16384, .i32⟩
  | 114 => ⟨S16384, .f32⟩
  | 115 => ⟨S16384x1, .f32⟩
  | 116 => ⟨S16384x512, .f32⟩
  | 117 => ⟨S16384x512, .f32⟩
  | 118 => ⟨S16384x512, .f32⟩
  | 119 => ⟨S_, .i32⟩
  | 120 => ⟨S16384, .i32⟩
  | 121 => ⟨S16384, .i32⟩
  | 122 => ⟨S_, .i32⟩
  | 123 => ⟨S_, .i32⟩
  | 124 => ⟨S_, .i32⟩
  | 125 => ⟨S16384, .i32⟩
  | 126 => ⟨S16384, .i32⟩
  | 127 => ⟨S_, .i32⟩
  | _ => ⟨S16384x2048, .f32⟩

abbrev hbmTy0_1 (i : Nat) : BufTy := match i % 128 with
  | 0 => ⟨S16384, .i32⟩
  | 1 => ⟨S16384, .i32⟩
  | 2 => ⟨S_, .i32⟩
  | 3 => ⟨S16384, .i32⟩
  | 4 => ⟨S16384, .i32⟩
  | 5 => ⟨S_, .i32⟩
  | 6 => ⟨S16384, .i32⟩
  | 7 => ⟨S16384, .i32⟩
  | 8 => ⟨S_, .i32⟩
  | 9 => ⟨S_, .i32⟩
  | 10 => ⟨S_, .i32⟩
  | 11 => ⟨S16384, .i32⟩
  | 12 => ⟨S16384, .i32⟩
  | 13 => ⟨S_, .i32⟩
  | 14 => ⟨S16384, .i32⟩
  | 15 => ⟨S16384, .i32⟩
  | 16 => ⟨S16384x512, .f32⟩
  | 17 => ⟨S_, .i32⟩
  | 18 => ⟨S_, .f32⟩
  | 19 => ⟨S16391x512, .f32⟩
  | 20 => ⟨S16384x512, .f32⟩
  | 21 => ⟨S16384x512, .f32⟩
  | 22 => ⟨S16384x512, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S16384x512, .f32⟩
  | 33 => ⟨S16384x512, .f32⟩
  | 34 => ⟨S16384x512, .f32⟩
  | 35 => ⟨S16384, .i32⟩
  | 36 => ⟨S16384, .f32⟩
  | 37 => ⟨S16384x1, .f32⟩
  | 38 => ⟨S16384x512, .f32⟩
  | 39 => ⟨S16384x512, .f32⟩
  | 40 => ⟨S16384x512, .f32⟩
  | 41 => ⟨S_, .i32⟩
  | 42 => ⟨S16384, .i32⟩
  | 43 => ⟨S16384, .i32⟩
  | 44 => ⟨S_, .i32⟩
  | 45 => ⟨S_, .i32⟩
  | 46 => ⟨S_, .i32⟩
  | 47 => ⟨S16384, .i32⟩
  | 48 => ⟨S16384, .i32⟩
  | 49 => ⟨S_, .i32⟩
  | 50 => ⟨S16384, .i32⟩
  | 51 => ⟨S16384, .i32⟩
  | 52 => ⟨S_, .i32⟩
  | 53 => ⟨S16384, .i32⟩
  | 54 => ⟨S16384, .i32⟩
  | 55 => ⟨S_, .i32⟩
  | 56 => ⟨S16384, .i32⟩
  | 57 => ⟨S16384, .i32⟩
  | 58 => ⟨S_, .i32⟩
  | 59 => ⟨S_, .i32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S16384x512, .f32⟩
  | 67 => ⟨S_, .i32⟩
  | 68 => ⟨S_, .f32⟩
  | 69 => ⟨S16399x512, .f32⟩
  | 70 => ⟨S16384x512, .f32⟩
  | 71 => ⟨S16384x512, .f32⟩
  | 72 => ⟨S16384x512, .f32⟩
  | 73 => ⟨S16384x512, .f32⟩
  | 74 => ⟨S16384x512, .f32⟩
  | 75 => ⟨S16384x512, .f32⟩
  | 76 => ⟨S16384x512, .f32⟩
  | 77 => ⟨S16384x512, .f32⟩
  | 78 => ⟨S16384x512, .f32⟩
  | 79 => ⟨S16384x512, .f32⟩
  | 80 => ⟨S16384x512, .f32⟩
  | 81 => ⟨S16384x512, .f32⟩
  | 82 => ⟨S16384x512, .f32⟩
  | 83 => ⟨S16384x512, .f32⟩
  | 84 => ⟨S16384x512, .f32⟩
  | 85 => ⟨S16384x512, .f32⟩
  | 86 => ⟨S16384x512, .f32⟩
  | 87 => ⟨S16384x512, .f32⟩
  | 88 => ⟨S16384x512, .f32⟩
  | 89 => ⟨S16384x512, .f32⟩
  | 90 => ⟨S16384x512, .f32⟩
  | 91 => ⟨S16384x512, .f32⟩
  | 92 => ⟨S16384x512, .f32⟩
  | 93 => ⟨S16384x512, .f32⟩
  | 94 => ⟨S16384x512, .f32⟩
  | 95 => ⟨S16384x512, .f32⟩
  | 96 => ⟨S16384x512, .f32⟩
  | 97 => ⟨S16384x512, .f32⟩
  | 98 => ⟨S16384x512, .f32⟩
  | 99 => ⟨S16384x512, .f32⟩
  | 100 => ⟨S16384x512, .f32⟩
  | 101 => ⟨S16384, .i32⟩
  | 102 => ⟨S16384, .f32⟩
  | 103 => ⟨S16384x1, .f32⟩
  | 104 => ⟨S16384x512, .f32⟩
  | 105 => ⟨S16384x512, .f32⟩
  | 106 => ⟨S16384x512, .f32⟩
  | 107 => ⟨S16384x1x512, .f32⟩
  | 108 => ⟨S16384x1x512, .f32⟩
  | 109 => ⟨S16384x1x512, .f32⟩
  | 110 => ⟨S16384x1x512, .f32⟩
  | 111 => ⟨S16384x4x512, .f32⟩
  | 112 => ⟨S4x512x16384, .f32⟩
  | 113 => ⟨S16384x4x512, .f32⟩
  | 114 => ⟨S16384x2048, .f32⟩
  | 115 => ⟨S1x2048, .f32⟩
  | 116 => ⟨S16384x2048, .f32⟩
  | 117 => ⟨S16384x2048, .f32⟩
  | 118 => ⟨S1x2048, .f32⟩
  | 119 => ⟨S2048, .f32⟩
  | 120 => ⟨S_, .f32⟩
  | 121 => ⟨S2048, .f32⟩
  | 122 => ⟨S2048, .f32⟩
  | 123 => ⟨S1x2048, .f32⟩
  | 124 => ⟨S16384x2048, .f32⟩
  | 125 => ⟨S16384x2048, .f32⟩
  | 126 => ⟨S16384x2048, .f32⟩
  | 127 => ⟨S_, .f32⟩
  | _ => ⟨S16384x2048, .f32⟩

abbrev hbmTy0_2 (i : Nat) : BufTy := match i % 128 with
  | 0 => ⟨S16384, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384x1, .f32⟩
  | 7 => ⟨S16384x1, .f32⟩
  | 8 => ⟨S16384x1, .f32⟩
  | 9 => ⟨S16384x2048, .f32⟩
  | 10 => ⟨S16384x2048, .f32⟩
  | 11 => ⟨S1x2048, .f32⟩
  | 12 => ⟨S16384x2048, .f32⟩
  | 13 => ⟨S16384x2048, .f32⟩
  | 14 => ⟨S1x2048, .f32⟩
  | 15 => ⟨S16384x2048, .f32⟩
  | 16 => ⟨S16384x2048, .f32⟩
  | 17 => ⟨S16384x2048, .f32⟩
  | 18 => ⟨S1x1x2048x11264, .f32⟩
  | 19 => ⟨S2048x11264, .f32⟩
  | 20 => ⟨S2048x11264, .bf16⟩
  | 21 => ⟨S1x1x5632x2048, .f32⟩
  | 22 => ⟨S5632x2048, .f32⟩
  | 23 => ⟨S5632x2048, .bf16⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_c_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_c_8 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v33 : Ref sig .tc := ⟨.hbm, 63, rfl⟩
abbrev main_v34 : Ref sig .tc := ⟨.hbm, 64, rfl⟩
abbrev main_c_9 : Ref sig .tc := ⟨.hbm, 65, rfl⟩
abbrev main_call2_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_c_12 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v47 : Ref sig .tc := ⟨.hbm, 87, rfl⟩
abbrev main_c_13 : Ref sig .tc := ⟨.hbm, 88, rfl⟩
abbrev main_v48 : Ref sig .tc := ⟨.hbm, 89, rfl⟩
abbrev main_v49 : Ref sig .tc := ⟨.hbm, 90, rfl⟩
abbrev main_c_14 : Ref sig .tc := ⟨.hbm, 91, rfl⟩
abbrev main_v50 : Ref sig .tc := ⟨.hbm, 92, rfl⟩
abbrev main_v51 : Ref sig .tc := ⟨.hbm, 93, rfl⟩
abbrev main_c_15 : Ref sig .tc := ⟨.hbm, 94, rfl⟩
abbrev main_c_16 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v52 : Ref sig .tc := ⟨.hbm, 101, rfl⟩
abbrev main_v53 : Ref sig .tc := ⟨.hbm, 102, rfl⟩
abbrev main_c_17 : Ref sig .tc := ⟨.hbm, 103, rfl⟩
abbrev main_call5_v0 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_18 : Ref sig .tc := ⟨.hbm, 119, rfl⟩
abbrev main_v68 : Ref sig .tc := ⟨.hbm, 120, rfl⟩
abbrev main_v69 : Ref sig .tc := ⟨.hbm, 121, rfl⟩
abbrev main_c_19 : Ref sig .tc := ⟨.hbm, 122, rfl⟩
abbrev main_c_20 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_v70 : Ref sig .tc := ⟨.hbm, 129, rfl⟩
abbrev main_c_21 : Ref sig .tc := ⟨.hbm, 130, rfl⟩
abbrev main_v71 : Ref sig .tc := ⟨.hbm, 131, rfl⟩
abbrev main_v72 : Ref sig .tc := ⟨.hbm, 132, rfl⟩
abbrev main_c_22 : Ref sig .tc := ⟨.hbm, 133, rfl⟩
abbrev main_v73 : Ref sig .tc := ⟨.hbm, 134, rfl⟩
abbrev main_v74 : Ref sig .tc := ⟨.hbm, 135, rfl⟩
abbrev main_c_23 : Ref sig .tc := ⟨.hbm, 136, rfl⟩
abbrev main_c_24 : Ref sig .tc := ⟨.hbm, 137, rfl⟩
abbrev main_call7_v0 : Ref sig .tc := ⟨.hbm, 138, rfl⟩
abbrev main_call7_v1 : Ref sig .tc := ⟨.hbm, 139, rfl⟩
abbrev main_call7_v2 : Ref sig .tc := ⟨.hbm, 140, rfl⟩
abbrev main_call7_v3 : Ref sig .tc := ⟨.hbm, 141, rfl⟩
abbrev main_call7_v4 : Ref sig .tc := ⟨.hbm, 142, rfl⟩
abbrev main_v75 : Ref sig .tc := ⟨.hbm, 143, rfl⟩
abbrev main_v76 : Ref sig .tc := ⟨.hbm, 144, rfl⟩
abbrev main_c_25 : Ref sig .tc := ⟨.hbm, 145, rfl⟩
abbrev main_call8_v0 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_c_26 : Ref sig .tc := ⟨.hbm, 169, rfl⟩
abbrev main_v99 : Ref sig .tc := ⟨.hbm, 170, rfl⟩
abbrev main_v100 : Ref sig .tc := ⟨.hbm, 171, rfl⟩
abbrev main_c_27 : Ref sig .tc := ⟨.hbm, 172, rfl⟩
abbrev main_c_28 : Ref sig .tc := ⟨.hbm, 173, rfl⟩
abbrev main_call9_v0 : Ref sig .tc := ⟨.hbm, 174, rfl⟩
abbrev main_call9_v1 : Ref sig .tc := ⟨.hbm, 175, rfl⟩
abbrev main_call9_v2 : Ref sig .tc := ⟨.hbm, 176, rfl⟩
abbrev main_call9_v3 : Ref sig .tc := ⟨.hbm, 177, rfl⟩
abbrev main_call9_v4 : Ref sig .tc := ⟨.hbm, 178, rfl⟩
abbrev main_v101 : Ref sig .tc := ⟨.hbm, 179, rfl⟩
abbrev main_c_29 : Ref sig .tc := ⟨.hbm, 180, rfl⟩
abbrev main_v102 : Ref sig .tc := ⟨.hbm, 181, rfl⟩
abbrev main_v103 : Ref sig .tc := ⟨.hbm, 182, rfl⟩
abbrev main_c_30 : Ref sig .tc := ⟨.hbm, 183, rfl⟩
abbrev main_v104 : Ref sig .tc := ⟨.hbm, 184, rfl⟩
abbrev main_v105 : Ref sig .tc := ⟨.hbm, 185, rfl⟩
abbrev main_c_31 : Ref sig .tc := ⟨.hbm, 186, rfl⟩
abbrev main_c_32 : Ref sig .tc := ⟨.hbm, 187, rfl⟩
abbrev main_call10_v0 : Ref sig .tc := ⟨.hbm, 188, rfl⟩
abbrev main_call10_v1 : Ref sig .tc := ⟨.hbm, 189, rfl⟩
abbrev main_call10_v2 : Ref sig .tc := ⟨.hbm, 190, rfl⟩
abbrev main_call10_v3 : Ref sig .tc := ⟨.hbm, 191, rfl⟩
abbrev main_call10_v4 : Ref sig .tc := ⟨.hbm, 192, rfl⟩
abbrev main_v106 : Ref sig .tc := ⟨.hbm, 193, rfl⟩
abbrev main_v107 : Ref sig .tc := ⟨.hbm, 194, rfl⟩
abbrev main_c_33 : Ref sig .tc := ⟨.hbm, 195, rfl⟩
abbrev main_call11_v0 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_cst_34 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_cst_35 : Ref sig .tc := ⟨.hbm, 255, rfl⟩
abbrev main_v165 : Ref sig .tc := ⟨.hbm, 256, rfl⟩
abbrev main_v166 : Ref sig .tc := ⟨.hbm, 257, rfl⟩
abbrev main_cst_36 : Ref sig .tc := ⟨.hbm, 258, rfl⟩
abbrev main_v167 : Ref sig .tc := ⟨.hbm, 259, rfl⟩
abbrev main_v168 : Ref sig .tc := ⟨.hbm, 260, rfl⟩
abbrev main_cst_37 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩

abbrev nD : Nat := 1
abbrev τ : Topo := Topo.v7x

variable {F : FTy → Type} [FloatOps F]
-- ==== Proof.Frames.lean ====
/-
  The frames of the six programs, and the ledger of the one named constant.
-/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import Idealize.ShloMosaic.Adequacy
public import Idealize.ShloMosaic.Init

@[expose] public section

noncomputable section

namespace Cert.Frames

open Idealize.ShloMosaic Idealize.SL.Sem

theorem attn : Cert.quiescent_Attn := fun m g _ => Cert.Attn.Gen.frame m g

theorem attnIdeal : Cert.quiescent_AttnIdeal := fun m g _ => Cert.AttnIdeal.Gen.frame m g

theorem attnRef : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run (F := Ideal) m g)

theorem ffn : Cert.quiescent_Ffn := fun m g _ => Cert.Ffn.Gen.frame m g

theorem ffnIdeal : Cert.quiescent_FfnIdeal := fun m g _ => Cert.FfnIdeal.Gen.frame m g

theorem ffnRef : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- The one named constant: the printed word is the nearest to the inverse of the logarithm of two. -/
theorem attnPreserves : Cert.preserves_Attn_AttnIdeal :=
  IdealRules.named_const.statement Cert.AttnIdeal.κ "log2e" .f32 0x3FB8AA3B#32 (((Real.log 2)⁻¹ : ℝ) : EReal) rfl

theorem ffnPreserves : Cert.preserves_Ffn_FfnIdeal := trivial

end Cert.Frames

end
-- ==== Proof.FfnPoint.lean ====
/-
  What one grid point of the feed-forward call leaves in its two scratch arrays and in its output block, as the
  body's own arithmetic over whole blocks: the modulated rows (`uNew`), the accumulated down projection (`accNew`)
  and the residual output (`outNew`).
-/
module

public import proofs.«01_k».proof.Proof.Gen.FfnIdeal.Value

@[expose] public section

set_option maxRecDepth 16384

noncomputable section

namespace Cert.FfnIdeal.Work

open Cert.FfnIdeal Cert.FfnIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The modulated, normalised rows of a block `x0` under the packed vectors `x1`. -/
def uNew (x0 : Vec F S512x2048 .f32) (x1 : Vec F S8x2048 .f32) : Vec F S512x2048 .bf16 :=
  k0_pay4 (View.ld x1 (Rect.unit (s := S8x2048) ![3, 0] S1x2048.size inb_S8x2048_S1x2048_3_0))
    (View.ld x1 (Rect.unit (s := S8x2048) ![1, 0] S1x2048.size inb_S8x2048_S1x2048_1_0)) x0
    (View.ld x1 (Rect.unit (s := S8x2048) ![0, 0] S1x2048.size inb_S8x2048_S1x2048_0_0))

/-- The down projection's accumulator after step `j`, from the modulated rows `u`, the step's three weight blocks and
    the accumulator before. -/
def accNew (j : BitVec 32) (u : Vec F S512x2048 .bf16) (x2 x3 : Vec F S2048x512 .bf16) (x4 : Vec F S512x2048 .bf16)
    (acc : Vec F S512x2048 .f32) : Vec F S512x2048 .f32 :=
  k0_pay1 j
    (k0_pay5 u (View.ld x2 (Rect.unit (s := S2048x512) ![0, 0] S2048x256.size inb_S2048x512_S2048x256_0_0))
      (View.ld x3 (Rect.unit (s := S2048x512) ![0, 0] S2048x256.size inb_S2048x512_S2048x256_0_0))
      (View.ld x4 (Rect.unit (s := S512x2048) ![0, 0] S256x2048.size inb_S512x2048_S256x2048_0_0)))
    (k0_pay6 u (View.ld x2 (Rect.unit (s := S2048x512) ![0, 256] S2048x256.size inb_S2048x512_S2048x256_0_256))
      (View.ld x3 (Rect.unit (s := S2048x512) ![0, 256] S2048x256.size inb_S2048x512_S2048x256_0_256)))
    (View.ld x4 (Rect.unit (s := S512x2048) ![256, 0] S256x2048.size inb_S512x2048_S256x2048_256_0)) acc

/-- The output block: the residual rows plus the gated, normalised accumulator. -/
def outNew (x0 : Vec F S512x2048 .f32) (x1 : Vec F S8x2048 .f32) (acc : Vec F S512x2048 .f32) : Vec F S512x2048 .f32 :=
  k0_pay2 (View.ld x1 (Rect.unit (s := S8x2048) ![2, 0] S1x2048.size inb_S8x2048_S1x2048_2_0))
    (View.ld x1 (Rect.unit (s := S8x2048) ![4, 0] S1x2048.size inb_S8x2048_S1x2048_4_0)) x0 acc

section Cases

variable (c : Dev nD) (i : grid0.Coords) (arg2 : Memref sig .tc .vmem S512x2048 .f32) (harg2 : arg2.IsWhole)
  (arg3 : Memref sig .tc .vmem S8x2048 .f32) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x2048 .bf16) (harg6 : arg6.IsWhole)
  (arg7 : Memref sig .tc .vmem S512x2048 .f32) (harg7 : arg7.IsWhole) (arg8 : Memref sig .tc .vmem S512x2048 .bf16) (harg8 : arg8.IsWhole)
  (arg9 : Memref sig .tc .vmem S512x2048 .f32) (harg9 : arg9.IsWhole)
  (x0 : Vec F S512x2048 .f32) (x1 : Vec F S8x2048 .f32) (x2 : Vec F S2048x512 .bf16) (x3 : Vec F S2048x512 .bf16)
  (x4 : Vec F S512x2048 .bf16) (xs0 : Vec F S512x2048 .bf16) (xs1 : Vec F S512x2048 .f32)

/-- A middle step leaves the modulated rows as they were. -/
theorem sB0 (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 hc0 hc1 hc2 x0 x1 x2 x3 x4 xs0 xs1 = xs0 := rfl

/-- A middle step adds its chunk to the accumulator. -/
theorem sB1 (hc0 : ¬cond0_0 i) (hc1 : ¬cond0_1 i) (hc2 : ¬cond0_2 i) :
    sout0_B_1 c i arg2 harg2 arg3 harg3 arg4 harg4 arg5 harg5 arg6 harg6 arg7 harg7 arg8 harg8 arg9 harg9 hc0 hc1 hc2 x0 x1 x2 x3 x4 xs0 xs1
      = accNew (BitVec.ofNat 32 (i 1).val) xs0 x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 hc2 x0 x1 x2 x3 x4 xs0 xs1)]
  unfold kernelRun0_B
  dsimp only
  sl_unfold_words
  rw [View.canon_unit_zero (S := S512x2048) hz]
  simp only [View.readAt_eq_ld, harg2.read_unread, harg3.read_unread, harg4.read_unread, harg5.read_unread, harg6.read_unread, harg8.read_unread, harg9.read_unread, View.ld_unit_zero (S := S512x2048) hz]
  rfl

/-- The last step of a row block leaves the modulated rows as they were. -/
theorem sC0 (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 hc0 hc1 hc2 x0 x1 x2 x3 x4 xs0 xs1 = xs0 := rfl

/-- The last step of a row block adds its chunk to the accumulator. -/
theorem sC1 (hc0 : ¬cond0_0 i) (hc1 : ¬cond0_1 i) (hc2 : cond0_2 i) :
    sout0_C_1 c i arg2 harg2 arg3 harg3 arg4 harg4 arg5 harg5 arg6 harg6 arg7 harg7 arg8 harg8 arg9 harg9 hc0 hc1 hc2 x0 x1 x2 x3 x4 xs0 xs1
      = accNew (BitVec.ofNat 32 (i 1).val) xs0 x2 x3 x4 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 hc2 x0 x1 x2 x3 x4 xs0 xs1)]
  unfold kernelRun0_C
  dsimp only
  sl_unfold_words
  rw [View.canon_unit_zero (S := S512x2048) hz]
  simp only [View.readAt_eq_ld, harg2.read_unread, harg3.read_unread, harg4.read_unread, harg5.read_unread, harg6.read_unread, harg8.read_unread, harg9.read_unread, View.ld_unit_zero (S := S512x2048) hz]
  rfl

/-- The last step of a row block writes the output block from the accumulator it has just completed. -/
theorem oC5 (hc0 : ¬cond0_0 i) (hc1 : ¬cond0_1 i) (hc2 : cond0_2 i) :
    out0_C_5 c i arg2 harg2 arg3 harg3 arg4 harg4 arg5 harg5 arg6 harg6 arg7 harg7 arg8 harg8 arg9 harg9 hc0 hc1 hc2 x0 x1 x2 x3 x4 xs0 xs1
      = outNew x0 x1 (accNew (BitVec.ofNat 32 (i 1).val) xs0 x2 x3 x4 xs1) := by
  unfold out0_C_5
  rw [View.read_writes_eq_canon _ _ _ (cover0_C_5 c i arg2 harg2 arg3 harg3 arg4 harg4 arg5 harg5 arg6 harg6 arg7 harg7 arg8 harg8 arg9 harg9 hc0 hc1 hc2 x0 x1 x2 x3 x4 xs0 xs1)]
  unfold kernelRun0_C
  dsimp only
  sl_unfold_words
  rw [View.canon_unit_zero (S := S512x2048) hz]
  simp only [View.readAt_eq_ld, harg2.read_unread, harg3.read_unread, harg4.read_unread, harg5.read_unread, harg6.read_unread, harg8.read_unread, harg9.read_unread, View.ld_unit_zero (S := S512x2048) hz, View.readCov_unit_zero (S := S512x2048) _ hz]
  rfl

/-- The first step of a later row block stores the block's modulated rows. -/
theorem sD0 (hc0 : ¬cond0_0 i) (hc1 : cond0_1 i) (hc2 : ¬cond0_2 i) :
    sout0_D_0 c i arg2 harg2 arg3 harg3 arg4 harg4 arg5 harg5 arg6 harg6 arg7 harg7 arg8 harg8 arg9 harg9 hc0 hc1 hc2 x0 x1 x2 x3 x4 xs1
      = uNew x0 x1 := by
  unfold sout0_D_0
  rw [View.read_writes_eq_canon _ _ _ (scover0_D_0 c i arg2 harg2 arg3 harg3 arg4 harg4 arg5 harg5 arg6 harg6 arg7 harg7 arg8 harg8 arg9 harg9 hc0 hc1 hc2 x0 x1 x2 x3 x4 xs1)]
  unfold kernelRun0_D
  dsimp only
  sl_unfold_words
  rw [View.canon_unit_zero (S := S512x2048) hz]
  simp only [View.readAt_eq_ld, harg2.read_unread, harg3.read_unread, View.ld_unit_zero (S := S512x2048) hz]
  rfl

/-- The first step of a later row block: the accumulator from the rows it has just stored. -/
theorem sD1 (hc0 : ¬cond0_0 i) (hc1 : cond0_1 i) (hc2 : ¬cond0_2 i) :
    sout0_D_1 c i arg2 harg2 arg3 harg3 arg4 harg4 arg5 harg5 arg6 harg6 arg7 harg7 arg8 harg8 arg9 harg9 hc0 hc1 hc2 x0 x1 x2 x3 x4 xs1
      = accNew (BitVec.ofNat 32 (i 1).val) (uNew x0 x1) x2 x3 x4 xs1 := by
  unfold sout0_D_1
  rw [View.read_writes_eq_canon _ _ _ (scover0_D_1 c i arg2 harg2 arg3 harg3 arg4 harg4 arg5 harg5 arg6 harg6 arg7 harg7 arg8 harg8 arg9 harg9 hc0 hc1 hc2 x0 x1 x2 x3 x4 xs1)]
  unfold kernelRun0_D
  dsimp only
  sl_unfold_words
  rw [View.canon_unit_zero (S := S512x2048) hz]
  simp only [View.readAt_eq_ld, harg2.read_unread, harg3.read_unread, harg4.read_unread, harg5.read_unread, harg6.read_unread, harg8.read_unread, harg9.read_unread, View.ld_unit_zero (S := S512x2048) hz, View.readCov_unit_zero (S := S512x2048) _ hz]
  rfl

/-- The very first point stores the first row block's modulated rows. -/
theorem sA0 (hc0 : cond0_0 i) (hc1 : cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4
      = uNew x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero (S := S512x2048) hz]
  simp only [View.readAt_eq_ld, harg2.read_unread, harg3.read_unread, View.ld_unit_zero (S := S512x2048) hz]
  rfl

/-- The very first point: the accumulator from the zeros it has just stored. -/
theorem sA1 (hc0 : cond0_0 i) (hc1 : cond0_1 i) (hc2 : ¬cond0_2 i) :
    sout0_A_1 c i arg2 harg2 arg3 harg3 arg4 harg4 arg5 harg5 arg6 harg6 arg7 harg7 arg8 harg8 arg9 harg9 hc0 hc1 hc2 x0 x1 x2 x3 x4
      = accNew (BitVec.ofNat 32 (i 1).val) (uNew x0 x1) x2 x3 x4 k0_pay3 := by
  unfold sout0_A_1
  rw [View.read_writes_eq_canon _ _ _ (scover0_A_1 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S512x2048) hz]
  simp only [View.readAt_eq_ld, harg2.read_unread, harg3.read_unread, harg4.read_unread, harg5.read_unread, harg6.read_unread, harg8.read_unread, harg9.read_unread, View.ld_unit_zero (S := S512x2048) hz, View.readCov_unit_zero (S := S512x2048) _ hz]
  rfl

end Cases

end Cert.FfnIdeal.Work

end
-- ==== Proof.FfnBlocks.lean ====
/-
  What the feed-forward call's input windows hold at each grid point, as entries of the arguments: the row block of
  `h`, the packed modulation vectors, and the three weight blocks of the step.
-/
module

public import proofs.«01_k».proof.Proof.FfnPoint
public import Idealize.ShloMosaic.Lib.Pointwise
public import Idealize.ShloMosaic.Lib.StableHlo.ReadAt

@[expose] public section

set_option maxRecDepth 16384

noncomputable section

namespace Cert.FfnIdeal.Work

open Cert.FfnIdeal Cert.FfnIdeal.Gen Idealize.ShloMosaic Idealize.ShloMosaic.TcCoe Idealize.SL.Sem

variable (m : (ℓ : Loc nD τ sig) → Buf (Elt Ideal) ℓ)

theorem lt352 (t : Fin cfg0.N) : t.val < 352 := lt_of_lt_of_eq t.isLt N_0

/-- The index maps at every point: the row block is `t / 11`, the step `t % 11`. -/
theorem idx_facts : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11 + 11
    ∧ win0_4.index t (0 : Fin 2) = t.val % 11 ∧ win0_4.index t (1 : Fin 2) = 0
    ∧ (grid0.coords t 1).val = t.val % 11 :=
  (by decide +kernel : ∀ t : Fin grid0.N, _)

/-- The six arguments, as arrays over their literal shapes. -/
abbrev H (c : Dev nD) : Vec Ideal S16384x2048 .f32 := m ((c : Thread nD τ).loc main_arg0)
abbrev Mod (c : Dev nD) : Vec Ideal S9x2048 .f32 := m ((c : Thread nD τ).loc main_arg1)
abbrev Gpre (c : Dev nD) : Vec Ideal S2048 .f32 := m ((c : Thread nD τ).loc main_arg2)
abbrev Gpost (c : Dev nD) : Vec Ideal S2048 .f32 := m ((c : Thread nD τ).loc main_arg3)
abbrev Win (c : Dev nD) : Vec Ideal S2048x11264 .f32 := m ((c : Thread nD τ).loc main_arg4)
abbrev Wout (c : Dev nD) : Vec Ideal S5632x2048 .f32 := m ((c : Thread nD τ).loc main_arg5)

/-- The up projection's weights as the call reads them: the argument's, format changed. -/
theorem V_v0 (c : Dev nD) : V m c main_v0 = Win m c := by
  show StableHlo.after hostOps0 (fun b => m (c, b)) (Proc.devRef .tc main_v0) = _
  unfold hostOps0
  after_results
  rfl

/-- The down projection's weights as the call reads them: the argument's, format changed. -/
theorem V_v1 (c : Dev nD) : V m c main_v1 = Wout m c := by
  show StableHlo.after hostOps0 (fun b => m (c, b)) (Proc.devRef .tc main_v1) = _
  unfold hostOps0
  after_results
  rfl

/-- The packed vectors: shift, scale, gate, then the two norm gains. -/
theorem V_v17 (c : Dev nD) (d : Fin 2048) :
    (V m c main_v17 : Vec Ideal S8x2048 .f32) (ix2 0 d) = Mod m c (ix2 0 d)
    ∧ (V m c main_v17 : Vec Ideal S8x2048 .f32) (ix2 1 d) = Mod m c (ix2 1 d)
    ∧ (V m c main_v17 : Vec Ideal S8x2048 .f32) (ix2 2 d) = Mod m c (ix2 2 d)
    ∧ (V m c main_v17 : Vec Ideal S8x2048 .f32) (ix2 3 d) = Gpre m c (ix1 d)
    ∧ (V m c main_v17 : Vec Ideal S8x2048 .f32) (ix2 4 d) = Gpost m c (ix1 d) := by
  have e : V m c main_v17 = (StableHlo.after hostOps0 (fun b => m (c, b)) (Proc.devRef .tc main_v17)) := rfl
  rw [e]
  unfold hostOps0
  after_results
  refine ⟨?_, ?_, ?_, ?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

theorem iblk0_apply (c : Dev nD) (t : Fin cfg0.N) (r : Fin 512) (d : Fin 2048) :
    (iblk m c 0 t : Vec Ideal S512x2048 .f32) (ix2 r d)
      = H m c (ix2 ⟨512 * (t.val / 11) + r.val, by have := lt352 t; omega⟩ d) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * (t.val / 11) + r.val; rw [h0]; omega
  | ⟨1, _⟩ => show win0_0.index t 1 * 2048 + 1 * d.val = d.val; rw [h1]; omega

theorem iblk1_apply (c : Dev nD) (t : Fin cfg0.N) (k : Fin 8) (d : Fin 2048) :
    (iblk m c 1 t : Vec Ideal S8x2048 .f32) (ix2 k d) = (V m c main_v17 : Vec Ideal S8x2048 .f32) (ix2 k d) := by
  obtain ⟨-, -, h0, h1, -⟩ := idx_facts t
  unfold iblk
  rw [View.read_apply]
  show (V m c main_v17 : Vec Ideal S8x2048 .f32) _ = _
  refine congrArg (V m c main_v17 : Vec Ideal S8x2048 .f32) (funext fun a => Fin.ext ?_)
  match a with
  | ⟨0, _⟩ => show win0_1.index t 0 * 8 + 1 * k.val = k.val; rw [h0]; omega
  | ⟨1, _⟩ => show win0_1.index t 1 * 2048 + 1 * d.val = d.val; rw [h1]; omega

theorem iblk2_apply (c : Dev nD) (t : Fin cfg0.N) (k : Fin 2048) (f : Fin 512) :
    (iblk m c 2 t : Vec Ideal S2048x512 .bf16) (ix2 k f)
      = Win m c (ix2 k ⟨512 * (t.val % 11) + f.val, by have := lt352 t; omega⟩) := by
  obtain ⟨-, -, -, -, h0, h1, -⟩ := idx_facts t
  unfold iblk
  rw [View.read_apply]
  show V m c main_v0 _ = _
  rw [V_v0]
  refine congrArg (Win m c) (funext fun a => Fin.ext ?_)
  match a with
  | ⟨0, _⟩ => show win0_2.index t 0 * 2048 + 1 * k.val = k.val; rw [h0]; omega
  | ⟨1, _⟩ => show win0_2.index t 1 * 512 + 1 * f.val = 512 * (t.val % 11) + f.val; rw [h1]; omega

theorem iblk3_apply (c : Dev nD) (t : Fin cfg0.N) (k : Fin 2048) (f : Fin 512) :
    (iblk m c 3 t : Vec Ideal S2048x512 .bf16) (ix2 k f)
      = Win m c (ix2 k ⟨5632 + (512 * (t.val % 11) + f.val), by have := lt352 t; omega⟩) := by
  obtain ⟨-, -, -, -, -, -, h0, h1, -⟩ := idx_facts t
  unfold iblk
  rw [View.read_apply]
  show V m c main_v0 _ = _
  rw [V_v0]
  refine congrArg (Win m c) (funext fun a => Fin.ext ?_)
  match a with
  | ⟨0, _⟩ => show win0_3.index t 0 * 2048 + 1 * k.val = k.val; rw [h0]; omega
  | ⟨1, _⟩ => show win0_3.index t 1 * 512 + 1 * f.val = 5632 + (512 * (t.val % 11) + f.val); rw [h1]; omega

theorem iblk4_apply (c : Dev nD) (t : Fin cfg0.N) (f : Fin 512) (d : Fin 2048) :
    (iblk m c 4 t : Vec Ideal S512x2048 .bf16) (ix2 f d)
      = Wout m c (ix2 ⟨512 * (t.val % 11) + f.val, by have := lt352 t; omega⟩ d) := by
  obtain ⟨-, -, -, -, -, -, -, -, h0, h1, -⟩ := idx_facts t
  unfold iblk
  rw [View.read_apply]
  show V m c main_v1 _ = _
  rw [V_v1]
  refine congrArg (Wout m c) (funext fun a => Fin.ext ?_)
  match a with
  | ⟨0, _⟩ => show win0_4.index t 0 * 512 + 1 * f.val = 512 * (t.val % 11) + f.val; rw [h0]; omega
  | ⟨1, _⟩ => show win0_4.index t 1 * 2048 + 1 * d.val = d.val; rw [h1]; omega

end Cert.FfnIdeal.Work

end
-- ==== Proof.FfnIdx.lean ====
/-
  The feed-forward body's block terms read at an index, over the extended reals: a row's normalised and modulated
  entries, one step of the accumulated down projection, and an output entry.
-/
module

public import proofs.«01_k».proof.Proof.FfnPoint
public import Idealize.ShloMosaic.Lib.Pointwise

@[expose] public section

set_option maxRecDepth 16384

noncomputable section

namespace Cert.FfnIdeal.Work

open Cert.FfnIdeal Cert.FfnIdeal.Gen Idealize.ShloMosaic Idealize.ShloMosaic.TcCoe Idealize.SL.Sem

/-- An entry of the modulated rows: the row's entry over its root mean square, gained, scaled and shifted. -/
theorem uNew_apply (x0 : Vec Ideal S512x2048 .f32) (x1 : Vec Ideal S8x2048 .f32) (r : Fin 512) (d : Fin 2048) :
    uNew x0 x1 (ix2 r d)
      = x0 (ix2 r d) * Ideal.rsqrt (Ideal.div (∑ x, x0 (ix2 r x) * x0 (ix2 r x)) (Ideal.ofBits FTy.f32 1157627904#32)
          + Ideal.ofBits FTy.f32 897988541#32) * (x1 (ix2 3 d) * (1 + x1 (ix2 1 d))) + x1 (ix2 0 d) := by
  unfold uNew
  unfold_payloads
  simp only [shapeCast_self]
  pointwise

/-- An output entry: the residual entry plus the accumulator's over its row's root mean square, gated and gained. -/
theorem outNew_apply (x0 : Vec Ideal S512x2048 .f32) (x1 : Vec Ideal S8x2048 .f32) (acc : Vec Ideal S512x2048 .f32)
    (r : Fin 512) (d : Fin 2048) :
    outNew x0 x1 acc (ix2 r d)
      = x0 (ix2 r d) + acc (ix2 r d) * Ideal.rsqrt (Ideal.div (∑ x, acc (ix2 r x) * acc (ix2 r x))
          (Ideal.ofBits FTy.f32 1157627904#32) + Ideal.ofBits FTy.f32 897988541#32)
          * (Ideal.ofBits FTy.f32 1056964608#32 * x1 (ix2 2 d) * x1 (ix2 4 d)) := by
  unfold outNew
  unfold_payloads
  simp only [shapeCast_self]
  pointwise

/-- The gated activation of row `r` at the step's column `f`. -/
def gateUp (u : Vec Ideal S512x2048 .bf16) (x2 x3 : Vec Ideal S2048x512 .bf16) (r : Fin 512) (f : Fin 512) : EReal :=
  ((∑ k : Fin 2048, u (ix2 r k) * x2 (ix2 k f)) * Ideal.logistic (∑ k : Fin 2048, u (ix2 r k) * x2 (ix2 k f)))
    * ∑ k : Fin 2048, u (ix2 r k) * x3 (ix2 k f)

/-- An entry of the accumulator after a step: what was there (nothing at the first step) plus the step's two halves. -/
theorem accNew_apply (j : BitVec 32) (u : Vec Ideal S512x2048 .bf16) (x2 x3 : Vec Ideal S2048x512 .bf16)
    (x4 : Vec Ideal S512x2048 .bf16) (acc : Vec Ideal S512x2048 .f32) (r : Fin 512) (d : Fin 2048) :
    accNew j u x2 x3 x4 acc (ix2 r d)
      = Scalar.select (Scalar.cmpi CmpIPredicate.sgt j 0#32) (acc (ix2 r d)) 0
        + (∑ x : Fin 256, gateUp u x2 x3 r ⟨x.val, by omega⟩ * x4 (ix2 ⟨x.val, by omega⟩ d))
        + ∑ x : Fin 256, gateUp u x2 x3 r ⟨256 + x.val, by omega⟩ * x4 (ix2 ⟨256 + x.val, by omega⟩ d) := by
  unfold accNew
  unfold_payloads
  simp only [shapeCast_self]
  pointwise [dot_S512x2048_S2048x256_S512x256_1_0_0_1_n_n, dot_S512x256_S256x2048_S512x2048_1_0_0_1_n_n]
  exact (add_assoc _ _ _).symm

end Cert.FfnIdeal.Work

end
-- ==== Proof.FfnAcc.lean ====
/-
  What the feed-forward call's result array holds, entry by entry: the residual row plus the gated, normalised
  down projection of the whole hidden row. The accumulator's value after each step is proved by induction over the
  grid points, as the sum over the hidden columns seen so far.
-/
module

public import proofs.«01_k».proof.Proof.FfnBlocks
public import proofs.«01_k».proof.Proof.FfnIdx

@[expose] public section

set_option maxRecDepth 16384

noncomputable section

namespace Cert.FfnIdeal.Work

open Cert.FfnIdeal Cert.FfnIdeal.Gen Cert.FfnIdeal.Value Idealize.ShloMosaic Idealize.ShloMosaic.TcCoe Idealize.SL.Sem

variable (m : (ℓ : Loc nD τ sig) → Buf (Elt Ideal) ℓ)

/-- The modulated, normalised row of `h`. -/
def U (c : Dev nD) (ρ : Fin 16384) (k : Fin 2048) : EReal :=
  H m c (ix2 ρ k) * Ideal.rsqrt (Ideal.div (∑ x, H m c (ix2 ρ x) * H m c (ix2 ρ x)) (Ideal.ofBits FTy.f32 1157627904#32)
    + Ideal.ofBits FTy.f32 897988541#32) * (Gpre m c (ix1 k) * (1 + Mod m c (ix2 1 k))) + Mod m c (ix2 0 k)

/-- The gated hidden activation at column `f`. -/
def Act (c : Dev nD) (ρ : Fin 16384) (f : Fin 5632) : EReal :=
  ((∑ k : Fin 2048, U m c ρ k * Win m c (ix2 k ⟨f.val, by omega⟩))
    * Ideal.logistic (∑ k : Fin 2048, U m c ρ k * Win m c (ix2 k ⟨f.val, by omega⟩)))
    * ∑ k : Fin 2048, U m c ρ k * Win m c (ix2 k ⟨5632 + f.val, by omega⟩)

/-- The term of hidden column `n` in the down projection's entry. -/
def term (c : Dev nD) (ρ : Fin 16384) (d : Fin 2048) (n : ℕ) : EReal :=
  if h : n < 5632 then Act m c ρ ⟨n, h⟩ * Wout m c (ix2 ⟨n, h⟩ d) else 0

/-- The first `n` hidden columns' part of the down projection's entry. -/
def part (c : Dev nD) (ρ : Fin 16384) (d : Fin 2048) (n : ℕ) : EReal := ∑ f ∈ Finset.range n, term m c ρ d f

/-- The down projection. -/
def Y (c : Dev nD) (ρ : Fin 16384) (d : Fin 2048) : EReal := ∑ f : Fin 5632, Act m c ρ f * Wout m c (ix2 f d)

theorem part_all (c : Dev nD) (ρ : Fin 16384) (d : Fin 2048) : part m c ρ d 5632 = Y m c ρ d := by
  unfold part Y
  rw [Finset.sum_range]
  exact Finset.sum_congr rfl fun f _ => dif_pos f.isLt

/-- The row of `h` that a point's block row `r` is. -/
abbrev row (t : Fin cfg0.N) (r : Fin 512) : Fin 16384 := ⟨512 * (t.val / 11) + r.val, by have := lt352 t; omega⟩

/-- The rows a point modulates. -/
theorem uNew_blk (c : Dev nD) (t : Fin cfg0.N) (r : Fin 512) (k : Fin 2048) :
    uNew (iblk m c 0 t) (iblk m c 1 t) (ix2 r k) = U m c (row t r) k := by
  obtain ⟨e0, e1, e2, e3, e4⟩ := V_v17 m c k
  rw [uNew_apply]
  simp only [iblk0_apply, iblk1_apply, e0, e1, e3]
  rfl

/-- A select on "the step is not the first". -/
theorem select_step {α : Type} (j : ℕ) (hj : j < 11) (a b : α) :
    Scalar.select (Scalar.cmpi CmpIPredicate.sgt (BitVec.ofNat 32 j) 0#32) a b = if j = 0 then b else a := by
  interval_cases j <;> rfl

/-- One step carries the accumulator from the columns before it to the columns up to its end. -/
theorem accNew_blk (c : Dev nD) (t : Fin cfg0.N) (u : Vec Ideal S512x2048 .bf16) (acc : Vec Ideal S512x2048 .f32)
    (r : Fin 512) (d : Fin 2048) (hu : ∀ k, u (ix2 r k) = U m c (row t r) k)
    (hacc : t.val % 11 ≠ 0 → acc (ix2 r d) = part m c (row t r) d (512 * (t.val % 11))) :
    accNew (BitVec.ofNat 32 (grid0.coords t 1).val) u (iblk m c 2 t) (iblk m c 3 t) (iblk m c 4 t) acc (ix2 r d)
      = part m c (row t r) d (512 * (t.val % 11 + 1)) := by
  have ht := lt352 t
  have hg : ∀ (n : ℕ) (hn : n < 512), gateUp u (iblk m c 2 t) (iblk m c 3 t) r ⟨n, hn⟩ * (iblk m c 4 t : Vec Ideal S512x2048 .bf16) (ix2 ⟨n, hn⟩ d)
      = term m c (row t r) d (512 * (t.val % 11) + n) := by
    intro n hn
    unfold gateUp term
    rw [dif_pos (by omega)]
    simp only [iblk2_apply, iblk3_apply, iblk4_apply, hu]
    rfl
  obtain ⟨-, -, -, -, -, -, -, -, -, -, hj⟩ := idx_facts t
  rw [accNew_apply, hj, select_step _ (Nat.mod_lt _ (by omega))]
  simp only [hg]
  have e0 : (if t.val % 11 = 0 then (0 : EReal) else acc (ix2 r d)) = part m c (row t r) d (512 * (t.val % 11)) := by
    split
    · next h => rw [h]; rfl
    · next h => exact hacc h
  rw [e0]
  unfold part
  rw [show 512 * (t.val % 11 + 1) = 512 * (t.val % 11) + 256 + 256 by omega, Finset.sum_range_add, Finset.sum_range_add,
    Finset.sum_range (n := 256), Finset.sum_range (n := 256)]
  simp only [Nat.add_assoc]

/-- What a point's two scratch arrays hold after it. -/
def Inv (c : Dev nD) (t : Fin cfg0.N) (s : Vec Ideal S512x2048 .f32 × Vec Ideal S512x2048 .bf16 × Vec Ideal S512x2048 .f32) : Prop :=
  (∀ r k, s.2.1 (ix2 r k) = U m c (row t r) k)
  ∧ ∀ r d, s.2.2 (ix2 r d) = part m c (row t r) d (512 * (t.val % 11 + 1))

/-- The first point of a row block: whatever was there before. -/
theorem inv_first (c : Dev nD) (t : Fin cfg0.N) (acc) (h1 : t.val % 11 = 0) : Inv m c t (stAt0 m c t.val t.isLt acc) := by
  by_cases h0 : t.val % 352 = 0
  · rw [stAt0_A m c t acc h0 h1 (by omega)]
    unfold Inv
    dsimp only
    rw [sA0, sA1]
    exact ⟨fun r k => uNew_blk m c t r k, fun r d => accNew_blk m c t _ _ r d (fun k => uNew_blk m c t r k) (fun h => absurd h1 h)⟩
  · rw [stAt0_D m c t acc h0 h1 (by omega)]
    unfold Inv
    dsimp only
    rw [sD0, sD1]
    exact ⟨fun r k => uNew_blk m c t r k, fun r d => accNew_blk m c t _ _ r d (fun k => uNew_blk m c t r k) (fun h => absurd h1 h)⟩

/-- A later point of a row block, over the point before. -/
theorem inv_next (c : Dev nD) (t t' : Fin cfg0.N) (htt : t.val = t'.val + 1) (acc) (h1 : t.val % 11 ≠ 0) (ih : Inv m c t' acc) :
    Inv m c t (stAt0 m c t.val t.isLt acc) := by
  have ht := lt352 t
  have hr : ∀ r, row t r = row t' r := fun r => Fin.ext (by show 512 * (t.val / 11) + r.val = 512 * (t'.val / 11) + r.val; omega)
  have hm : 512 * (t'.val % 11 + 1) = 512 * (t.val % 11) := by omega
  have hu : ∀ r k, acc.2.1 (ix2 r k) = U m c (row t r) k := fun r k => by rw [hr]; exact ih.1 r k
  have ha : ∀ r d, acc.2.2 (ix2 r d) = part m c (row t r) d (512 * (t.val % 11)) := fun r d => by rw [hr, ← hm]; exact ih.2 r d
  by_cases h2 : t.val % 11 = 10
  · rw [stAt0_C m c t acc (by omega) h1 h2]
    unfold Inv
    dsimp only
    rw [sC0, sC1]
    exact ⟨hu, fun r d => accNew_blk m c t _ _ r d (hu r) (fun _ => ha r d)⟩
  · rw [stAt0_B m c t acc (by omega) h1 h2]
    unfold Inv
    dsimp only
    rw [sB0, sB1]
    exact ⟨hu, fun r d => accNew_blk m c t _ _ r d (hu r) (fun _ => ha r d)⟩

/-- The scratch arrays after every point. -/
theorem inv_all (c : Dev nD) : ∀ (n : ℕ) (hn : n < cfg0.N), Inv m c ⟨n, hn⟩ (outsAt0 m c n hn)
  | 0, hn => by
    rw [outsAt0_zero]
    exact inv_first m c ⟨0, hn⟩ _ (Nat.zero_mod _)
  | n + 1, hn => by
    rw [outsAt0_succ]
    by_cases h1 : (n + 1) % 11 = 0
    · exact inv_first m c ⟨n + 1, hn⟩ _ h1
    · exact inv_next m c ⟨n + 1, hn⟩ ⟨n, Nat.lt_of_succ_lt hn⟩ rfl _ h1 (inv_all c n _)

/-- An output entry as the call computes it. -/
def Out (c : Dev nD) (ρ : Fin 16384) (d : Fin 2048) : EReal :=
  H m c (ix2 ρ d) + Y m c ρ d * Ideal.rsqrt (Ideal.div (∑ x, Y m c ρ x * Y m c ρ x) (Ideal.ofBits FTy.f32 1157627904#32)
    + Ideal.ofBits FTy.f32 897988541#32) * (Ideal.ofBits FTy.f32 1056964608#32 * Mod m c (ix2 2 d) * Gpost m c (ix1 d))

/-- The output block that the last point of a row block leaves. -/
theorem out_last (c : Dev nD) (t : Fin cfg0.N) (h2 : t.val % 11 = 10) (r : Fin 512) (d : Fin 2048) :
    (outsAt0 m c t.val t.isLt).1 (ix2 r d) = Out m c (row t r) d := by
  have ht := lt352 t
  obtain ⟨n, hn⟩ : ∃ n, t.val = n + 1 := ⟨t.val - 1, by omega⟩
  have hinv := inv_all m c t.val t.isLt
  obtain ⟨e0, e1, e2, e3, e4⟩ := V_v17 m c d
  have hC := outsAt0_C m c t (by omega) (by omega) h2
  rw [hC] at hinv ⊢
  unfold Inv at hinv
  dsimp only at hinv ⊢
  rw [oC5, outNew_apply]
  rw [sC1] at hinv
  have hy : ∀ x, accNew _ _ _ _ _ _ (ix2 r x) = Y m c (row t r) x := fun x =>
    (hinv.2 r x).trans (by rw [← part_all]; show part m c (row t r) x (512 * (t.val % 11 + 1)) = _; rw [h2])
  simp only [iblk0_apply, iblk1_apply, e2, e4]
  simp only [hy]
  rfl

/-- The result array, entry by entry. -/
theorem G5_apply (c : Dev nD) (ρ : Fin 16384) (d : Fin 2048) :
    (G5 m c : Vec Ideal S16384x2048 .f32) (ix2 ρ d) = Out m c ρ d := by
  have hp : pt5Of (ix2 ρ d) = 11 * (ρ.val / 512) + 10 := by
    show 11 * (1 * (ρ.val / 512 - 0) + 1 * (d.val / 2048 - 0)) + 10 = _
    omega
  have hlt : pt5Of (ix2 ρ d) < cfg0.N := by rw [hp, show cfg0.N = 352 from N_0]; omega
  unfold G5
  rw [dif_pos hlt, ← outsAt0_sweep m c (pt5Of (ix2 ρ d)) hlt]
  have hl : loc5Of (ix2 ρ d) = ix2 (⟨ρ.val % 512, by omega⟩ : Fin 512) d := by
    funext a
    match a with
    | ⟨0, _⟩ => rfl
    | ⟨1, _⟩ => exact Fin.ext (show d.val % 2048 = d.val by omega)
  rw [hl]
  refine (out_last m c ⟨pt5Of (ix2 ρ d), hlt⟩ (by show pt5Of (ix2 ρ d) % 11 = 10; omega) _ d).trans ?_
  refine congrArg (fun x => Out m c x d) (Fin.ext ?_)
  show 512 * (pt5Of (ix2 ρ d) / 11) + ρ.val % 512 = ρ.val
  omega

end Cert.FfnIdeal.Work

end
-- ==== Proof.FfnRef.lean ====
/-
  What the feed-forward reference computes, entry by entry, over its six arguments.
-/
module

public import proofs.«01_k».proof.Proof.Gen.FfnRefIdeal.Run
public import proofs.«01_k».proof.Proof.Gen.FfnRefIdeal.Read
public import Idealize.ShloMosaic.Lib.Pointwise

@[expose] public section

set_option maxRecDepth 16384

noncomputable section

namespace Cert.FfnRefIdeal.Work

open Cert.FfnRefIdeal Cert.FfnRefIdeal.Gen Cert.FfnRefIdeal.Read Idealize.ShloMosaic Idealize.ShloMosaic.TcCoe Idealize.SL.Sem

variable (x0 : Vec Ideal S16384x2048 .f32) (x1 : Vec Ideal S9x2048 .f32) (x2 x3 : Vec Ideal S2048 .f32)
  (x4 : Vec Ideal S2048x11264 .f32) (x5 : Vec Ideal S5632x2048 .f32)

/-- The modulated rows. -/
theorem u_apply (ρ : Fin 16384) (k : Fin 2048) : val_main_v24 (F := Ideal) x0 x1 x2 (ix2 ρ k)
    = x0 (ix2 ρ k) * Ideal.rsqrt (Ideal.div (∑ x, x0 (ix2 ρ x) * x0 (ix2 ρ x)) (Ideal.ofBits FTy.f32 1157627904#32)
      + Ideal.ofBits FTy.f32 897988541#32) * x2 (ix1 k) * (1 + x1 (ix2 1 k)) + x1 (ix2 0 k) := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

/-- The up projection. -/
theorem up_apply (ρ : Fin 16384) (n : Fin 11264) : val_main_v25 (F := Ideal) x0 x1 x2 x4 (ix2 ρ n)
    = ∑ k, val_main_v24 (F := Ideal) x0 x1 x2 (ix2 ρ k) * x4 (ix2 k n) := by
  unfold val_main_v25
  generalize val_main_v24 (F := Ideal) x0 x1 x2 = y
  pointwise [dot_S16384x2048_S2048x11264_S16384x11264_1_0_0_1_n_n]

/-- The gated activation. -/
theorem act_apply (ρ : Fin 16384) (f : Fin 5632) : val_main_v29 (F := Ideal) x0 x1 x2 x4 (ix2 ρ f)
    = val_main_v25 (F := Ideal) x0 x1 x2 x4 (ix2 ρ ⟨f.val, by omega⟩)
        * Ideal.logistic (val_main_v25 (F := Ideal) x0 x1 x2 x4 (ix2 ρ ⟨f.val, by omega⟩))
      * val_main_v25 (F := Ideal) x0 x1 x2 x4 (ix2 ρ ⟨5632 + f.val, by omega⟩) := by
  unfold val_main_v29 val_main_v28 val_main_call0_v5 val_main_call0_v4 val_main_call0_v3 val_main_call0_v2 val_main_call0_v1 val_main_call0_v0 val_main_call0_cst val_main_call0_cst_0 val_main_v26 val_main_v27
  generalize val_main_v25 (F := Ideal) x0 x1 x2 x4 = y
  pointwise
  rfl

/-- The down projection. -/
theorem down_apply (ρ : Fin 16384) (d : Fin 2048) : val_main_v30 (F := Ideal) x0 x1 x2 x4 x5 (ix2 ρ d)
    = ∑ f, val_main_v29 (F := Ideal) x0 x1 x2 x4 (ix2 ρ f) * x5 (ix2 f d) := by
  unfold val_main_v30
  generalize val_main_v29 (F := Ideal) x0 x1 x2 x4 = y
  pointwise [dot_S16384x5632_S5632x2048_S16384x2048_1_0_0_1_n_n]

/-- The result. -/
theorem out_apply (ρ : Fin 16384) (d : Fin 2048) : val_main_v51 (F := Ideal) x0 x1 x2 x3 x4 x5 (ix2 ρ d)
    = x0 (ix2 ρ d) + Ideal.ofBits FTy.f32 1056964608#32 * x1 (ix2 2 d)
      * (val_main_v30 (F := Ideal) x0 x1 x2 x4 x5 (ix2 ρ d)
        * Ideal.rsqrt (Ideal.div (∑ x, val_main_v30 (F := Ideal) x0 x1 x2 x4 x5 (ix2 ρ x) * val_main_v30 (F := Ideal) x0 x1 x2 x4 x5 (ix2 ρ x))
          (Ideal.ofBits FTy.f32 1157627904#32) + Ideal.ofBits FTy.f32 897988541#32) * x3 (ix1 d)) := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_cst_3 val_main_cst_4 val_main_cst_5 val_main_cst_6
  generalize val_main_v30 (F := Ideal) x0 x1 x2 x4 x5 = y
  pointwise

end Cert.FfnRefIdeal.Work

end
-- ==== Proof.FfnEq.lean ====
/-
  The feed-forward call and its reference leave the same array, over the extended reals.
-/
module

public import proofs.«01_k».proof.Defs
public import proofs.«01_k».proof.Proof.FfnAcc
public import proofs.«01_k».proof.Proof.FfnRef
public import Idealize.ShloMosaic.Lib.Claim

@[expose] public section

set_option maxRecDepth 16384

noncomputable section

namespace Cert.FfnEq

open Idealize.ShloMosaic Idealize.ShloMosaic.TcCoe Idealize.SL.Sem
open Cert.FfnIdeal.Work

variable (m : (ℓ : Loc Cert.FfnIdeal.nD Cert.FfnIdeal.τ Cert.FfnIdeal.sig) → Buf (Elt Ideal) ℓ)

/-- The modulated rows of the two programs are the same: the gain and the scale are multiplied in either order. -/
theorem u_eq (c : Dev Cert.FfnIdeal.nD) (ρ : Fin 16384) (k : Fin 2048) :
    Cert.FfnRefIdeal.Read.val_main_v24 (F := Ideal) (H m c) (Mod m c) (Gpre m c) (ix2 ρ k) = U m c ρ k := by
  rw [Cert.FfnRefIdeal.Work.u_apply]
  unfold U
  rw [mul_assoc (_ * _)]

/-- So are the gated activations. -/
theorem act_eq (c : Dev Cert.FfnIdeal.nD) (ρ : Fin 16384) (f : Fin 5632) :
    Cert.FfnRefIdeal.Read.val_main_v29 (F := Ideal) (H m c) (Mod m c) (Gpre m c) (Win m c) (ix2 ρ f) = Act m c ρ f := by
  rw [Cert.FfnRefIdeal.Work.act_apply]
  simp only [Cert.FfnRefIdeal.Work.up_apply, u_eq]
  rfl

/-- So are the down projections. -/
theorem down_eq (c : Dev Cert.FfnIdeal.nD) (ρ : Fin 16384) (d : Fin 2048) :
    Cert.FfnRefIdeal.Read.val_main_v30 (F := Ideal) (H m c) (Mod m c) (Gpre m c) (Win m c) (Wout m c) (ix2 ρ d) = Y m c ρ d := by
  rw [Cert.FfnRefIdeal.Work.down_apply]
  simp only [act_eq]
  rfl

/-- So are the results. -/
theorem out_eq (c : Dev Cert.FfnIdeal.nD) (ρ : Fin 16384) (d : Fin 2048) :
    Cert.FfnRefIdeal.Read.val_main_v51 (F := Ideal) (H m c) (Mod m c) (Gpre m c) (Gpost m c) (Win m c) (Wout m c) (ix2 ρ d) = Out m c ρ d := by
  rw [Cert.FfnRefIdeal.Work.out_apply]
  simp only [down_eq]
  unfold Out
  refine congrArg (_ + ·) ?_
  exact mul_left_comm _ _ _

/-- The kernel's array is the reference's. -/
theorem array_eq (c : Dev Cert.FfnIdeal.nD) :
    Cert.FfnRefIdeal.Read.val_main_v51 (F := Ideal) (H m c) (Mod m c) (Gpre m c) (Gpost m c) (Win m c) (Wout m c)
      = Cert.FfnIdeal.Value.G5 m c := by
  refine funext fun i => ?_
  obtain ⟨ρ, d, rfl⟩ : ∃ (ρ : Fin 16384) (d : Fin 2048), i = ix2 ρ d := ⟨i 0, i 1, eq_ix2 i⟩
  exact (out_eq m c ρ d).trans (G5_apply m c ρ d).symm

/-- The claim: from agreeing arguments the kernel and the reference leave one result. -/
theorem algebraic : Cert.algebraic_FfnIdeal_FfnRefIdeal := by
  intro m g m' g' _ hagree
  refine ⟨fun c => Cert.FfnIdeal.Value.G5 m c, Cert.FfnIdeal.Value.run m g, ?_⟩
  refine θ_run_mono (Cert.FfnRefIdeal.Value.run m' g') fun r hr c => ?_
  obtain ⟨hres, hargs⟩ := hr c
  refine ⟨hres.trans ?_, hargs⟩
  obtain ⟨a0, a1, a2, a3, a4, a5⟩ := hagree c
  refine Eq.trans ?_ (array_eq m c)
  rw [Cert.FfnRefIdeal.Read.val_main_v51_eq m' c, a0, a1, a2, a3, a4, a5]

end Cert.FfnEq

end
-- ==== Proof.AttnPoint.lean ====
/-
  What one grid point of the window-attention call leaves in its output block: for each of the four groups of four
  heads, one 512 × 128 array (`grp`: the heads' query rows stacked, against the group's keys and values), whose four
  row quarters are the four heads' column tiles of the block.
-/
module

public import proofs.«01_k».proof.Proof.Gen.AttnIdeal.Value
public import Idealize.ShloMosaic.Lib.Pointwise

@[expose] public section

set_option maxRecDepth 16384

noncomputable section

namespace Cert.AttnIdeal.Work

open Cert.AttnIdeal Cert.AttnIdeal.Gen Idealize.ShloMosaic Idealize.ShloMosaic.TcCoe Idealize.SL.Sem

variable {F : FTy → Type} [FloatOps F] [Named F]

theorem inb2 {R C n o : Nat} {S : Shape} (h : o + C ≤ n) (hS : S = ⟨2, ![R, n]⟩) :
    ∀ a, (![0, o] : Fin 2 → Nat) a + (![R, C] : Fin 2 → Nat) a ≤ (![R, n] : Fin 2 → Nat) a := by
  intro a
  match a with
  | ⟨0, _⟩ => simp
  | ⟨1, _⟩ => simpa using h

theorem inb1 (h : Fin 16) : ∀ a, (![h.val] : Fin 1 → Nat) a + (![1] : Fin 1 → Nat) a ≤ (![16] : Fin 1 → Nat) a := by
  intro a
  match a with
  | ⟨0, _⟩ => exact h.isLt

/-- One head's query tile. -/
def qt (x : Vec F S128x2048 .bf16) (h : Fin 16) : Vec F S128x128 .bf16 :=
  View.ld x (Rect.unit (s := S128x2048) ![0, 128 * h.val] S128x128.size (inb2 (S := S128x2048) (by omega) rfl))

/-- One group's tile of a block of keys or values. -/
def kt (x : Vec F S128x512 .bf16) (g : Fin 4) : Vec F S128x128 .bf16 :=
  View.ld x (Rect.unit (s := S128x512) ![0, 128 * g.val] S128x128.size (inb2 (S := S128x512) (by omega) rfl))

/-- One group's tile of the context's keys or values. -/
def ct (x : Vec F S256x512 .bf16) (g : Fin 4) : Vec F S256x128 .bf16 :=
  View.ld x (Rect.unit (s := S256x512) ![0, 128 * g.val] S256x128.size (inb2 (S := S256x512) (by omega) rfl))

/-- One head's sink. -/
def st (x : Vec F S16 .f32) (h : Fin 16) : Elt F .f32 :=
  View.ld x (Rect.unit (s := S16) ![h.val] S1.size (inb1 h)) (Shape.Idx.first (numel1_S1 ▸ Nat.one_pos))

def hd (g : Fin 4) (j : Fin 4) : Fin 16 := ⟨4 * g.val + j.val, by omega⟩

section Group

variable (x0 : Vec F S16 .f32) (x1 : Vec F S128x2048 .bf16) (x2 x3 x4 x5 x6 x7 : Vec F S128x512 .bf16)
  (x8 x9 : Vec F S256x512 .bf16) (x10 : Vec F S1x512x256 .f32)

/-- The bias columns of the first block of keys. -/
def b0 : Vec F S1x512x128 .f32 :=
  View.ld x10 (Rect.unit (s := S1x512x256) ![0, 0, 0] S1x512x128.size inb_S1x512x256_S1x512x128_0_0_0)

/-- The bias columns of the third block of keys. -/
def b1 : Vec F S1x512x128 .f32 :=
  View.ld x10 (Rect.unit (s := S1x512x256) ![0, 0, 128] S1x512x128.size inb_S1x512x256_S1x512x128_0_0_128)

/-- The five pieces of a group's scores, by 128 key columns. -/
def sc0 (g : Fin 4) : FVec F S512x128 .f32 :=
  k0_pay4 (qt x1 (hd g 0)) (qt x1 (hd g 1)) (qt x1 (hd g 2)) (qt x1 (hd g 3)) (kt x2 g) (kt x3 g) (kt x4 g) (ct x8 g) (b0 x10)
def sc1 (g : Fin 4) : FVec F S512x128 .f32 :=
  k0_pay5 (qt x1 (hd g 0)) (qt x1 (hd g 1)) (qt x1 (hd g 2)) (qt x1 (hd g 3)) (kt x2 g) (kt x3 g) (kt x4 g) (ct x8 g)
def sc2 (g : Fin 4) : FVec F S512x128 .f32 :=
  k0_pay6 (qt x1 (hd g 0)) (qt x1 (hd g 1)) (qt x1 (hd g 2)) (qt x1 (hd g 3)) (kt x2 g) (kt x3 g) (kt x4 g) (ct x8 g) (b1 x10)
def sc3 (g : Fin 4) : FVec F S512x128 .f32 :=
  k0_pay7 (qt x1 (hd g 0)) (qt x1 (hd g 1)) (qt x1 (hd g 2)) (qt x1 (hd g 3)) (kt x2 g) (kt x3 g) (kt x4 g) (ct x8 g)
def sc4 (g : Fin 4) : FVec F S512x128 .f32 :=
  k0_pay8 (qt x1 (hd g 0)) (qt x1 (hd g 1)) (qt x1 (hd g 2)) (qt x1 (hd g 3)) (kt x2 g) (kt x3 g) (kt x4 g) (ct x8 g)

/-- The sink of each stacked row, in base two. -/
def snk (g : Fin 4) : FVec F S512x1 .f32 :=
  k0_pay9 (iota .tc S512x1 32 [0] iota_S512x1_d0_w32) (st x0 (hd g 0)) (st x0 (hd g 1)) (st x0 (hd g 2)) (st x0 (hd g 3))

/-- One group's stacked output rows. -/
def grp (g : Fin 4) : FVec F S512x128 .f32 :=
  k0_pay11 (k0_pay2 (kt x5 g) (kt x6 g) (kt x7 g) (ct x9 g)) (sc0 x1 x2 x3 x4 x8 x10 g) (sc1 x1 x2 x3 x4 x8 g)
    (sc2 x1 x2 x3 x4 x8 x10 g) (sc3 x1 x2 x3 x4 x8 g) (sc4 x1 x2 x3 x4 x8 g) (snk x0 g)
    (k0_pay10 (sc0 x1 x2 x3 x4 x8 x10 g) (sc1 x1 x2 x3 x4 x8 g) (sc2 x1 x2 x3 x4 x8 x10 g) (sc3 x1 x2 x3 x4 x8 g) (sc4 x1 x2 x3 x4 x8 g))

/-- The output block: column `c` belongs to head `c / 128`, whose rows are quarter `(c / 128) % 4` of its group's. -/
def blk : Vec F S128x2048 .bf16 := fun y =>
  FloatOps.truncf .bf16 bitsLt_bf16_f32 (grp x0 x1 x2 x3 x4 x5 x6 x7 x8 x9 x10 ⟨(y 1).val / 512, by have := (y 1).isLt; change _ < 2048 at this; omega⟩
    (ix2 ⟨128 * ((y 1).val / 128 % 4) + (y 0).val, by have := (y 0).isLt; change _ < 128 at this; omega⟩ ⟨(y 1).val % 128, by omega⟩))

variable (c : Dev nD) (i : grid0.Coords) (arg1 : Memref sig .tc .smem S16 .f32) (harg1 : arg1.IsWhole) (arg2 : Memref sig .tc .vmem S128x2048 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S1x512x256 .f32) (harg11 : arg11.IsWhole) (arg12 : Memref sig .tc .vmem S128x2048 .bf16) (harg12 : arg12.IsWhole)

/-- A store of quarter `j` of a group's rows at that head's columns is the block's own tile. -/
theorem tile_eq (g j : Fin 4) (off : Nat) (hoff : off = 512 * g.val + 128 * j.val) (inb) (sl)
    (x : (Rect.unit (s := S128x2048) ![0, off] S128x128.size inb).shape.Idx) :
    truncf .bf16 (extractStridedSlice S128x128 ![128 * j.val, 0] (grp x0 x1 x2 x3 x4 x5 x6 x7 x8 x9 x10 g) sl) bitsLt_bf16_f32 x
      = blk x0 x1 x2 x3 x4 x5 x6 x7 x8 x9 x10 ((Rect.unit (s := S128x2048) ![0, off] S128x128.size inb).emb x) := by
  subst hoff
  have h0 : (x 0).val < 128 := (x 0).isLt
  have h1 : (x 1).val < 128 := (x 1).isLt
  have e0 : (((Rect.unit (s := S128x2048) ![0, 512 * g.val + 128 * j.val] S128x128.size inb).emb x) 0).val = 0 + 1 * (x 0).val := rfl
  have e1 : (((Rect.unit (s := S128x2048) ![0, 512 * g.val + 128 * j.val] S128x128.size inb).emb x) 1).val
      = 512 * g.val + 128 * j.val + 1 * (x 1).val := rfl
  have hg : (⟨(((Rect.unit (s := S128x2048) ![0, 512 * g.val + 128 * j.val] S128x128.size inb).emb x) 1).val / 512, by rw [e1]; omega⟩ : Fin 4) = g :=
    Fin.ext (by show _ / 512 = _; rw [e1]; omega)
  unfold blk
  show FloatOps.truncf .bf16 bitsLt_bf16_f32 (grp x0 x1 x2 x3 x4 x5 x6 x7 x8 x9 x10 g _) = FloatOps.truncf .bf16 bitsLt_bf16_f32 _
  refine congrArg (FloatOps.truncf .bf16 bitsLt_bf16_f32) ?_
  refine congr (congrArg (grp x0 x1 x2 x3 x4 x5 x6 x7 x8 x9 x10) hg.symm) (funext fun a => Fin.ext ?_)
  match a with
  | ⟨0, _⟩ =>
    show 128 * j.val + _ = 128 * (_ / 128 % 4) + _
    rw [e0, e1]
    show 128 * j.val + (x 0).val = _
    omega
  | ⟨1, _⟩ =>
    show 0 + (x 1).val = _ % 128
    rw [e1]
    omega

set_option maxHeartbeats 4000000 in
/-- What a grid point leaves in its output block is `blk` of the blocks it was given. -/
theorem out_eq : out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
      = blk x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  funext y
  refine View.canon_apply_of_pieces _ _ ?_ y (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y)
  have h1 := harg1.read_unread x0
  have h2 := harg2.read_unread x1
  have h3 := harg3.read_unread x2
  have h4 := harg4.read_unread x3
  have h5 := harg5.read_unread x4
  have h6 := harg6.read_unread x5
  have h7 := harg7.read_unread x6
  have h8 := harg8.read_unread x7
  have h9 := harg9.read_unread x8
  have h10 := harg10.read_unread x9
  have h11 := harg11.read_unread x10
  unfold kernelRun0_A
  dsimp only
  sl_unfold_run_names
  simp only [View.readAt_eq_ld, smemLoad]
  generalize View.read (Elt F) arg1.view (harg1.unread x0) = z0 at *
  generalize View.read (Elt F) arg2.view (harg2.unread x1) = z1 at *
  generalize View.read (Elt F) arg3.view (harg3.unread x2) = z2 at *
  generalize View.read (Elt F) arg4.view (harg4.unread x3) = z3 at *
  generalize View.read (Elt F) arg5.view (harg5.unread x4) = z4 at *
  generalize View.read (Elt F) arg6.view (harg6.unread x5) = z5 at *
  generalize View.read (Elt F) arg7.view (harg7.unread x6) = z6 at *
  generalize View.read (Elt F) arg8.view (harg8.unread x7) = z7 at *
  generalize View.read (Elt F) arg9.view (harg9.unread x8) = z8 at *
  generalize View.read (Elt F) arg10.view (harg10.unread x9) = z9 at *
  generalize View.read (Elt F) arg11.view (harg11.unread x10) = z10 at *
  subst h1 h2 h3 h4 h5 h6 h7 h8 h9 h10 h11
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp (List.not_mem_nil)⟩
  · exact tile_eq z0 z1 z2 z3 z4 z5 z6 z7 z8 z9 z10 3 3 1920 rfl inb_S128x2048_S128x128_0_1920 slices_S512x128_o384_0_S128x128 x
  · exact tile_eq z0 z1 z2 z3 z4 z5 z6 z7 z8 z9 z10 3 2 1792 rfl inb_S128x2048_S128x128_0_1792 slices_S512x128_o256_0_S128x128 x
  · exact tile_eq z0 z1 z2 z3 z4 z5 z6 z7 z8 z9 z10 3 1 1664 rfl inb_S128x2048_S128x128_0_1664 slices_S512x128_o128_0_S128x128 x
  · exact tile_eq z0 z1 z2 z3 z4 z5 z6 z7 z8 z9 z10 3 0 1536 rfl inb_S128x2048_S128x128_0_1536 slices_S512x128_o0_0_S128x128 x
  · exact tile_eq z0 z1 z2 z3 z4 z5 z6 z7 z8 z9 z10 2 3 1408 rfl inb_S128x2048_S128x128_0_1408 slices_S512x128_o384_0_S128x128 x
  · exact tile_eq z0 z1 z2 z3 z4 z5 z6 z7 z8 z9 z10 2 2 1280 rfl inb_S128x2048_S128x128_0_1280 slices_S512x128_o256_0_S128x128 x
  · exact tile_eq z0 z1 z2 z3 z4 z5 z6 z7 z8 z9 z10 2 1 1152 rfl inb_S128x2048_S128x128_0_1152 slices_S512x128_o128_0_S128x128 x
  · exact tile_eq z0 z1 z2 z3 z4 z5 z6 z7 z8 z9 z10 2 0 1024 rfl inb_S128x2048_S128x128_0_1024 slices_S512x128_o0_0_S128x128 x
  · exact tile_eq z0 z1 z2 z3 z4 z5 z6 z7 z8 z9 z10 1 3 896 rfl inb_S128x2048_S128x128_0_896 slices_S512x128_o384_0_S128x128 x
  · exact tile_eq z0 z1 z2 z3 z4 z5 z6 z7 z8 z9 z10 1 2 768 rfl inb_S128x2048_S128x128_0_768 slices_S512x128_o256_0_S128x128 x
  · exact tile_eq z0 z1 z2 z3 z4 z5 z6 z7 z8 z9 z10 1 1 640 rfl inb_S128x2048_S128x128_0_640 slices_S512x128_o128_0_S128x128 x
  · exact tile_eq z0 z1 z2 z3 z4 z5 z6 z7 z8 z9 z10 1 0 512 rfl inb_S128x2048_S128x128_0_512 slices_S512x128_o0_0_S128x128 x
  · exact tile_eq z0 z1 z2 z3 z4 z5 z6 z7 z8 z9 z10 0 3 384 rfl inb_S128x2048_S128x128_0_384 slices_S512x128_o384_0_S128x128 x
  · exact tile_eq z0 z1 z2 z3 z4 z5 z6 z7 z8 z9 z10 0 2 256 rfl inb_S128x2048_S128x128_0_256 slices_S512x128_o256_0_S128x128 x
  · exact tile_eq z0 z1 z2 z3 z4 z5 z6 z7 z8 z9 z10 0 1 128 rfl inb_S128x2048_S128x128_0_128 slices_S512x128_o128_0_S128x128 x
  · exact tile_eq z0 z1 z2 z3 z4 z5 z6 z7 z8 z9 z10 0 0 0 rfl inb_S128x2048_S128x128_0_0 slices_S512x128_o0_0_S128x128 x

end Group
end Cert.AttnIdeal.Work
end
-- ==== Proof.AttnSoftmax.lean ====
/-
  The softmax identity, about extended reals only: a softmax over 384 masked scores, 256 unmasked ones and a sink,
  taken to base two and divided by its denominator after the values are summed, is the softmax to base `e` of the scores
  times `log 2`, whose probabilities are divided before. A masked score is `⊥`; an unmasked score and the sink are real.
-/
module

public import Idealize.ShloMosaic.PureOps.Ideal
public import Idealize.ShloMosaic.PureOps.Ideal.Laws

@[expose] public section

noncomputable section

namespace Cert.AttnSoftmax

open Idealize.ShloMosaic

/-- The natural logarithm of two. -/
def L : ℝ := Real.log 2

theorem L_pos : 0 < L := Real.log_pos (by norm_num)

/-- A score is masked or real. -/
def Score (x : EReal) : Prop := x = ⊥ ∨ ∃ r : ℝ, x = (r : EReal)

/-- Scaling by `log 2` keeps the order. -/
theorem scale_mono : Monotone fun x : EReal => x * (L : EReal) := fun a b h =>
  mul_le_mul_of_nonneg_right h (by exact_mod_cast L_pos.le)

theorem scale_bot : (⊥ : EReal) * (L : EReal) = ⊥ := EReal.bot_mul_coe_of_pos L_pos

/-- Scaling commutes with a finite supremum. -/
theorem scale_sup {n : Nat} (S : Fin n → EReal) :
    (Finset.univ.sup fun s => S s * (L : EReal)) = Finset.univ.sup S * (L : EReal) :=
  (Finset.comp_sup_eq_sup_comp_of_is_total (fun x : EReal => x * (L : EReal)) scale_mono scale_bot).symm

/-- Scaling commutes with a maximum. -/
theorem scale_max (a b : EReal) : max (a * (L : EReal)) (b * (L : EReal)) = max a b * (L : EReal) :=
  (scale_mono.map_max (a := a) (b := b)).symm

/-- The exponential of a scaled difference is the power of two of the difference. -/
theorem exp_scale {x : EReal} (hx : Score x) (m : ℝ) :
    Ideal.exp (x * (L : EReal) - (m : EReal) * (L : EReal)) = Ideal.exp2 (x - (m : EReal)) := by
  rcases hx with rfl | ⟨r, rfl⟩
  · rw [scale_bot, EReal.bot_sub, EReal.bot_sub]; rfl
  · rw [← EReal.coe_mul, ← EReal.coe_mul, ← EReal.coe_sub, ← EReal.coe_sub, Ideal.exp_coe, Ideal.exp2_coe]
    congr 1
    show Real.exp (r * L - m * L) = (2 : ℝ) ^ (r - m)
    rw [Real.rpow_def_of_pos (by norm_num : (0 : ℝ) < 2), ← sub_mul, mul_comm]; rfl

/-- A power of two of a score less a real is a real that is not negative. -/
theorem exp2_real {x : EReal} (hx : Score x) (m : ℝ) : ∃ p : ℝ, 0 ≤ p ∧ Ideal.exp2 (x - (m : EReal)) = (p : EReal) := by
  rcases hx with rfl | ⟨r, rfl⟩
  · exact ⟨0, le_refl _, by rw [EReal.bot_sub]; rfl⟩
  · exact ⟨(2 : ℝ) ^ (r - m), by positivity, by rw [← EReal.coe_sub]; rfl⟩

/-- A finite supremum of scores is a score. -/
theorem sup_score {n : Nat} (S : Fin n → EReal) (h : ∀ s, Score (S s)) : Score (Finset.univ.sup S) := by
  refine Finset.sup_induction (p := Score) (Or.inl rfl) (fun a ha b hb => ?_) (fun s _ => h s)
  rcases max_choice a b with e | e
  · rw [show a ⊔ b = a from e]; exact ha
  · rw [show a ⊔ b = b from e]; exact hb

/-- The maximum of a score and a real is real. -/
theorem max_real {a : EReal} (ha : Score a) (r : ℝ) : ∃ q : ℝ, max a (r : EReal) = (q : EReal) := by
  rcases ha with rfl | ⟨t, rfl⟩
  · exact ⟨r, max_eq_right bot_le⟩
  · exact ⟨max t r, (EReal.coe_strictMono.monotone.map_max (a := t) (b := r)).symm⟩

theorem max_score {a b : EReal} (ha : Score a) (hb : Score b) : Score (max a b) := by
  rcases max_choice a b with e | e <;> rw [e] <;> assumption

theorem coe_sum {n : Nat} (P : Fin n → ℝ) : (∑ s, (P s : EReal)) = ((∑ s, P s : ℝ) : EReal) := by
  induction n with
  | zero => simp
  | succ n ih => rw [Fin.sum_univ_castSucc, Fin.sum_univ_castSucc, ih, EReal.coe_add]

/-- A real factor that is not negative goes into a finite sum. -/
theorem sum_mul_real {n : Nat} (f : Fin n → EReal) {r : ℝ} (hr : 0 ≤ r) :
    (∑ s, f s) * (r : EReal) = ∑ s, f s * (r : EReal) := by
  induction n with
  | zero => simp
  | succ n ih =>
    rw [Fin.sum_univ_castSucc, Fin.sum_univ_castSucc, ← ih,
      EReal.right_distrib_of_nonneg_of_ne_top (by exact_mod_cast hr) (EReal.coe_ne_top r)]

/-- The maximum, the denominator and the weighted sum of the two forms. -/
def top2 (S : Fin 384 → EReal) (B : Fin 256 → EReal) (u : EReal) : EReal :=
  max (max (Finset.univ.sup S) (Finset.univ.sup B)) u

def den2 (S : Fin 384 → EReal) (B : Fin 256 → EReal) (u : EReal) : EReal :=
  ∑ s, Ideal.exp2 (S s - top2 S B u) + ∑ c, Ideal.exp2 (B c - top2 S B u) + Ideal.exp2 (u - top2 S B u)

def denE (S : Fin 384 → EReal) (B : Fin 256 → EReal) (u : EReal) : EReal :=
  ∑ s, Ideal.exp (S s - top2 S B u) + ∑ c, Ideal.exp (B c - top2 S B u) + Ideal.exp (u - top2 S B u)

/-- The base-two form, divided last. -/
def out2 (S : Fin 384 → EReal) (B : Fin 256 → EReal) (u : EReal) (W : Fin 384 → EReal) (C : Fin 256 → EReal) : EReal :=
  Ideal.div (∑ s, Ideal.exp2 (S s - top2 S B u) * W s + ∑ c, Ideal.exp2 (B c - top2 S B u) * C c) (den2 S B u)

/-- The base-`e` form, its probabilities divided first. -/
def outE (S : Fin 384 → EReal) (B : Fin 256 → EReal) (u : EReal) (V : Fin 384 → EReal) (C : Fin 256 → EReal) : EReal :=
  ∑ s, V s * Ideal.div (Ideal.exp (S s - top2 S B u)) (denE S B u)
    + ∑ c, C c * Ideal.div (Ideal.exp (B c - top2 S B u)) (denE S B u)

/-- The two forms agree: on scores that are masked or real, context scores and a sink that are real, and values that
    agree wherever a score is not masked. -/
theorem out_eq (S : Fin 384 → EReal) (B : Fin 256 → EReal) (u : ℝ) (V W : Fin 384 → EReal) (C : Fin 256 → EReal)
    (hS : ∀ s, Score (S s)) (hB : ∀ c, Score (B c)) (hVW : ∀ s, S s = ⊥ ∨ W s = V s) :
    out2 S B (u : EReal) W C
      = outE (fun s => S s * (L : EReal)) (fun c => B c * (L : EReal)) ((u : EReal) * (L : EReal)) V C := by
  obtain ⟨m, hm⟩ : ∃ m : ℝ, top2 S B (u : EReal) = (m : EReal) :=
    max_real (max_score (sup_score S hS) (sup_score B hB)) u
  have hm' : top2 (fun s => S s * (L : EReal)) (fun c => B c * (L : EReal)) ((u : EReal) * (L : EReal)) = (m : EReal) * (L : EReal) := by
    rw [← hm]; unfold top2; rw [scale_sup, scale_sup, scale_max, scale_max]
  choose P hP0 hP using fun s => exp2_real (hS s) m
  choose Q hQ0 hQ using fun c => exp2_real (hB c) m
  have hu : Ideal.exp2 ((u : EReal) - (m : EReal)) = (((2 : ℝ) ^ (u - m) : ℝ) : EReal) := by rw [← EReal.coe_sub]; rfl
  have hd : den2 S B (u : EReal) = ((∑ s, P s + ∑ c, Q c + (2 : ℝ) ^ (u - m) : ℝ) : EReal) := by
    unfold den2; rw [hm, hu]; simp only [hP, hQ]; rw [coe_sum, coe_sum, EReal.coe_add, EReal.coe_add]
  have hd' : denE (fun s => S s * (L : EReal)) (fun c => B c * (L : EReal)) ((u : EReal) * (L : EReal))
      = ((∑ s, P s + ∑ c, Q c + (2 : ℝ) ^ (u - m) : ℝ) : EReal) := by
    rw [← hd]; unfold denE den2; rw [hm, hm']
    simp only [exp_scale (hS _), exp_scale (hB _), exp_scale (Or.inr ⟨u, rfl⟩)]
  have hpos : 0 < ∑ s, P s + ∑ c, Q c + (2 : ℝ) ^ (u - m) :=
    add_pos_of_nonneg_of_pos (add_nonneg (Finset.sum_nonneg fun s _ => hP0 s) (Finset.sum_nonneg fun c _ => hQ0 c)) (by positivity)
  unfold out2 outE
  rw [hd, hd', hm, hm']
  simp only [exp_scale (hS _), exp_scale (hB _), hP, hQ]
  generalize ∑ s, P s + ∑ c, Q c + (2 : ℝ) ^ (u - m) = D at hpos
  have hinv : (0 : ℝ) ≤ 1 / D := by positivity
  simp only [Ideal.div_coe hpos.ne']
  rw [EReal.right_distrib_of_nonneg_of_ne_top (by exact_mod_cast hinv) (EReal.coe_ne_top _), sum_mul_real _ hinv, sum_mul_real _ hinv]
  congr 1
  · refine Finset.sum_congr rfl fun s _ => ?_
    rcases hVW s with h | h
    · have : (P s : EReal) = 0 := by rw [← hP s, h, EReal.bot_sub]; rfl
      rw [this, zero_mul, zero_mul, mul_zero]
    · rw [h, mul_assoc, mul_left_comm]
  · refine Finset.sum_congr rfl fun c _ => ?_
    rw [mul_assoc, mul_left_comm]

/-- The pattern of minus infinity denotes `⊥`. -/
theorem negInf : Ideal.ofBits .f32 0xFF800000#32 = ⊥ := by
  simp [Ideal.ofBits, Ideal.ieee]

/-! ### Five pieces of 128 columns -/

section Pieces

variable (s0 s1 s2 s3 s4 : Fin 128 → EReal)

/-- The windowed columns: the first three pieces end to end. -/
def win (s : Fin 384) : EReal :=
  if h : s.val < 128 then s0 ⟨s.val, h⟩ else if h : s.val < 256 then s1 ⟨s.val - 128, by omega⟩ else s2 ⟨s.val - 256, by omega⟩

/-- The context's columns: the last two pieces end to end. -/
def ctx (c : Fin 256) : EReal :=
  if h : c.val < 128 then s3 ⟨c.val, h⟩ else s4 ⟨c.val - 128, by omega⟩

theorem sum_win (f : Fin 384 → EReal) :
    ∑ s, f s = ∑ x : Fin 128, f ⟨x.val, by omega⟩ + ∑ x : Fin 128, f ⟨128 + x.val, by omega⟩ + ∑ x : Fin 128, f ⟨256 + x.val, by omega⟩ := by
  have e := Fin.sum_univ_add (a := 256) (b := 128) f
  have e' := Fin.sum_univ_add (a := 128) (b := 128) fun i : Fin 256 => f (Fin.castAdd 128 i)
  exact e.trans (congrArg (· + _) e')

theorem sum_ctx (f : Fin 256 → EReal) :
    ∑ c, f c = ∑ x : Fin 128, f ⟨x.val, by omega⟩ + ∑ x : Fin 128, f ⟨128 + x.val, by omega⟩ :=
  Fin.sum_univ_add (a := 128) (b := 128) f

theorem sum_keys (f : Fin 640 → EReal) :
    ∑ k, f k = ∑ s : Fin 384, f ⟨s.val, by omega⟩ + ∑ c : Fin 256, f ⟨384 + c.val, by omega⟩ :=
  Fin.sum_univ_add (a := 384) (b := 256) f

theorem win0 (x : Fin 128) : win s0 s1 s2 ⟨x.val, by omega⟩ = s0 x := dif_pos x.isLt
theorem win1 (x : Fin 128) : win s0 s1 s2 ⟨128 + x.val, by omega⟩ = s1 x := by
  unfold win; rw [dif_neg (by simp), dif_pos (by show 128 + x.val < 256; omega)]; congr 1; exact Fin.ext (by simp)
theorem win2 (x : Fin 128) : win s0 s1 s2 ⟨256 + x.val, by omega⟩ = s2 x := by
  unfold win
  rw [dif_neg (by show ¬ (256 + x.val < 128); omega), dif_neg (by show ¬ (256 + x.val < 256); omega)]; congr 1; exact Fin.ext (by simp)
theorem ctx0 (x : Fin 128) : ctx s3 s4 ⟨x.val, by omega⟩ = s3 x := dif_pos x.isLt
theorem ctx1 (x : Fin 128) : ctx s3 s4 ⟨128 + x.val, by omega⟩ = s4 x := by
  unfold ctx; rw [dif_neg (by simp)]; congr 1; exact Fin.ext (by simp)

/-- A property of every window column, from the three pieces. -/
theorem win_cases {p : Fin 384 → Prop} (h0 : ∀ x : Fin 128, p ⟨x.val, by omega⟩) (h1 : ∀ x : Fin 128, p ⟨128 + x.val, by omega⟩)
    (h2 : ∀ x : Fin 128, p ⟨256 + x.val, by omega⟩) (s : Fin 384) : p s := by
  have hs := s.isLt
  by_cases a : s.val < 128
  · exact h0 ⟨s.val, a⟩
  · by_cases b : s.val < 256
    · have := h1 ⟨s.val - 128, by omega⟩
      rwa [show (⟨128 + (⟨s.val - 128, by omega⟩ : Fin 128).val, by dsimp only; omega⟩ : Fin 384) = s from Fin.ext (by show 128 + (s.val - 128) = _; omega)] at this
    · have := h2 ⟨s.val - 256, by omega⟩
      rwa [show (⟨256 + (⟨s.val - 256, by omega⟩ : Fin 128).val, by dsimp only; omega⟩ : Fin 384) = s from Fin.ext (by show 256 + (s.val - 256) = _; omega)] at this

/-- A property of every context column, from the two pieces. -/
theorem ctx_cases {p : Fin 256 → Prop} (h0 : ∀ x : Fin 128, p ⟨x.val, by omega⟩) (h1 : ∀ x : Fin 128, p ⟨128 + x.val, by omega⟩)
    (c : Fin 256) : p c := by
  have hc := c.isLt
  by_cases a : c.val < 128
  · exact h0 ⟨c.val, a⟩
  · have := h1 ⟨c.val - 128, by omega⟩
    rwa [show (⟨128 + (⟨c.val - 128, by omega⟩ : Fin 128).val, by dsimp only; omega⟩ : Fin 256) = c from Fin.ext (by show 128 + (c.val - 128) = _; omega)] at this

/-- Five pieces end to end, as a concatenation spells them. -/
def lad (p0 p1 p2 p3 p4 : Fin 128 → EReal) (x : Fin 640) : EReal :=
  if h : x.val < 128 then p0 ⟨x.val, h⟩ else if h : x.val - 128 < 128 then p1 ⟨x.val - 128, h⟩
  else if h : x.val - 128 - 128 < 128 then p2 ⟨x.val - 128 - 128, h⟩
  else if h : x.val - 128 - 128 - 128 < 128 then p3 ⟨x.val - 128 - 128 - 128, h⟩
  else p4 ⟨x.val - 128 - 128 - 128 - 128, by omega⟩

theorem lad0 (p0 p1 p2 p3 p4 : Fin 128 → EReal) (x : Fin 128) : lad p0 p1 p2 p3 p4 ⟨x.val, by omega⟩ = p0 x := dif_pos x.isLt
theorem lad1 (p0 p1 p2 p3 p4 : Fin 128 → EReal) (x : Fin 128) : lad p0 p1 p2 p3 p4 ⟨128 + x.val, by omega⟩ = p1 x := by
  unfold lad
  rw [dif_neg (by show ¬ (128 + x.val < 128); omega), dif_pos (by show 128 + x.val - 128 < 128; omega)]
  congr 1; exact Fin.ext (by show 128 + x.val - 128 = _; omega)
theorem lad2 (p0 p1 p2 p3 p4 : Fin 128 → EReal) (x : Fin 128) : lad p0 p1 p2 p3 p4 ⟨256 + x.val, by omega⟩ = p2 x := by
  unfold lad
  rw [dif_neg (by show ¬ (256 + x.val < 128); omega), dif_neg (by show ¬ (256 + x.val - 128 < 128); omega),
    dif_pos (by show 256 + x.val - 128 - 128 < 128; omega)]
  congr 1; exact Fin.ext (by show 256 + x.val - 128 - 128 = _; omega)
theorem lad3 (p0 p1 p2 p3 p4 : Fin 128 → EReal) (x : Fin 128) : lad p0 p1 p2 p3 p4 ⟨384 + x.val, by omega⟩ = p3 x := by
  unfold lad
  rw [dif_neg (by show ¬ (384 + x.val < 128); omega), dif_neg (by show ¬ (384 + x.val - 128 < 128); omega),
    dif_neg (by show ¬ (384 + x.val - 128 - 128 < 128); omega), dif_pos (by show 384 + x.val - 128 - 128 - 128 < 128; omega)]
  congr 1; exact Fin.ext (by show 384 + x.val - 128 - 128 - 128 = _; omega)
theorem lad4 (p0 p1 p2 p3 p4 : Fin 128 → EReal) (x : Fin 128) : lad p0 p1 p2 p3 p4 ⟨384 + (128 + x.val), by omega⟩ = p4 x := by
  unfold lad
  rw [dif_neg (by show ¬ (384 + (128 + x.val) < 128); omega), dif_neg (by show ¬ (384 + (128 + x.val) - 128 < 128); omega),
    dif_neg (by show ¬ (384 + (128 + x.val) - 128 - 128 < 128); omega),
    dif_neg (by show ¬ (384 + (128 + x.val) - 128 - 128 - 128 < 128); omega)]
  congr 1; exact Fin.ext (by show 384 + (128 + x.val) - 128 - 128 - 128 - 128 = _; omega)

/-- The maximum lane by lane is the maximum over all columns. -/
theorem sup_pieces :
    (Finset.univ.sup fun x => max (max (max (max (s0 x) (s1 x)) (s2 x)) (s3 x)) (s4 x))
      = max (Finset.univ.sup (win s0 s1 s2)) (Finset.univ.sup (ctx s3 s4)) := by
  apply le_antisymm
  · refine Finset.sup_le fun x _ => ?_
    have a0 := Finset.le_sup (f := win s0 s1 s2) (Finset.mem_univ ⟨x.val, by omega⟩)
    have a1 := Finset.le_sup (f := win s0 s1 s2) (Finset.mem_univ ⟨128 + x.val, by omega⟩)
    have a2 := Finset.le_sup (f := win s0 s1 s2) (Finset.mem_univ ⟨256 + x.val, by omega⟩)
    have a3 := Finset.le_sup (f := ctx s3 s4) (Finset.mem_univ ⟨x.val, by omega⟩)
    have a4 := Finset.le_sup (f := ctx s3 s4) (Finset.mem_univ ⟨128 + x.val, by omega⟩)
    rw [win0] at a0; rw [win1] at a1; rw [win2] at a2; rw [ctx0] at a3; rw [ctx1] at a4
    exact max_le (max_le (max_le (max_le (a0.trans (le_max_left _ _)) (a1.trans (le_max_left _ _))) (a2.trans (le_max_left _ _)))
      (a3.trans (le_max_right _ _))) (a4.trans (le_max_right _ _))
  · have key : ∀ x : Fin 128, max (max (max (max (s0 x) (s1 x)) (s2 x)) (s3 x)) (s4 x)
        ≤ Finset.univ.sup fun x => max (max (max (max (s0 x) (s1 x)) (s2 x)) (s3 x)) (s4 x) :=
      fun x => Finset.le_sup (f := fun x => max (max (max (max (s0 x) (s1 x)) (s2 x)) (s3 x)) (s4 x)) (Finset.mem_univ x)
    refine max_le (Finset.sup_le fun s _ => ?_) (Finset.sup_le fun c _ => ?_)
    · unfold win
      split_ifs
      · exact ((le_max_left _ _).trans ((le_max_left _ _).trans ((le_max_left _ _).trans (le_max_left _ _)))).trans (key _)
      · exact ((le_max_right _ _).trans ((le_max_left _ _).trans ((le_max_left _ _).trans (le_max_left _ _)))).trans (key _)
      · exact ((le_max_right _ _).trans ((le_max_left _ _).trans (le_max_left _ _))).trans (key _)
    · unfold ctx
      split_ifs
      · exact ((le_max_right _ _).trans (le_max_left _ _)).trans (key _)
      · exact (le_max_right _ _).trans (key _)

/-- The sum lane by lane is the sum over all columns. -/
theorem sum_pieces (g : EReal → EReal) :
    (∑ x, (g (s0 x) + g (s1 x) + g (s2 x) + g (s3 x) + g (s4 x)))
      = ∑ s, g (win s0 s1 s2 s) + ∑ c, g (ctx s3 s4 c) := by
  rw [sum_win, sum_ctx]
  simp only [win0, win1, win2, ctx0, ctx1]
  rw [Finset.sum_add_distrib, Finset.sum_add_distrib, Finset.sum_add_distrib, Finset.sum_add_distrib, add_assoc]

/-- The kernel's quotient, over five pieces and 640 keys, is the base-two form. -/
theorem quotient_eq (u : EReal) (w0 w1 w2 : Fin 128 → EReal) (C : Fin 256 → EReal) (m : EReal) (v : Fin 640 → EReal)
    (hm : m = max (Finset.univ.sup fun x => max (max (max (max (s0 x) (s1 x)) (s2 x)) (s3 x)) (s4 x)) u)
    (hv0 : ∀ x : Fin 128, v ⟨x.val, by omega⟩ = w0 x) (hv1 : ∀ x : Fin 128, v ⟨128 + x.val, by omega⟩ = w1 x)
    (hv2 : ∀ x : Fin 128, v ⟨256 + x.val, by omega⟩ = w2 x) (hvc : ∀ c : Fin 256, v ⟨384 + c.val, by omega⟩ = C c) :
    Ideal.div (∑ k, lad (fun x => Ideal.exp2 (s0 x - m)) (fun x => Ideal.exp2 (s1 x - m)) (fun x => Ideal.exp2 (s2 x - m))
        (fun x => Ideal.exp2 (s3 x - m)) (fun x => Ideal.exp2 (s4 x - m)) k * v k)
      (∑ x, (Ideal.exp2 (s0 x - m) + Ideal.exp2 (s1 x - m) + Ideal.exp2 (s2 x - m) + Ideal.exp2 (s3 x - m) + Ideal.exp2 (s4 x - m))
        + Ideal.exp2 (u - m))
      = out2 (win s0 s1 s2) (ctx s3 s4) u (win w0 w1 w2) C := by
  have e : m = top2 (win s0 s1 s2) (ctx s3 s4) u := by rw [hm, sup_pieces]; rfl
  rw [sum_keys, sum_pieces s0 s1 s2 s3 s4 (fun x => Ideal.exp2 (x - m))]
  unfold out2 den2
  rw [← e]
  refine congrArg (fun z => Ideal.div z _) (congr (congrArg _ (Finset.sum_congr rfl fun s _ => ?_)) (Finset.sum_congr rfl fun c _ => ?_))
  · refine win_cases (p := fun s => lad _ _ _ _ _ ⟨s.val, by omega⟩ * v ⟨s.val, by omega⟩ = Ideal.exp2 (win s0 s1 s2 s - m) * win w0 w1 w2 s)
      (fun x => ?_) (fun x => ?_) (fun x => ?_) s
    · rw [lad0, win0, win0, hv0]
    · rw [lad1, win1, win1, hv1]
    · rw [lad2, win2, win2, hv2]
  · refine ctx_cases (p := fun c => lad _ _ _ _ _ ⟨384 + c.val, by omega⟩ * v ⟨384 + c.val, by omega⟩ = Ideal.exp2 (ctx s3 s4 c - m) * C c)
      (fun x => ?_) (fun x => ?_) c
    · rw [lad3, ctx0]; exact congrArg _ (hvc ⟨x.val, by omega⟩)
    · rw [lad4, ctx1]; exact congrArg _ (hvc ⟨128 + x.val, by omega⟩)

end Pieces

end Cert.AttnSoftmax

end
-- ==== Proof.AttnRow.lean ====
/-
  One row of one head, at a grid point of the window-attention call: the entry of a group's stacked output is the
  base-two softmax form of that head's scores, sink and values.
-/
module

public import proofs.«01_k».proof.Proof.AttnPoint
public import proofs.«01_k».proof.Proof.AttnSoftmax

@[expose] public section

set_option maxRecDepth 16384

noncomputable section

namespace Cert.AttnIdeal.Work

open Cert.AttnIdeal Cert.AttnIdeal.Gen Idealize.ShloMosaic Idealize.ShloMosaic.TcCoe Idealize.SL.Sem

/-- The stacked row of head `j` of a group, row `i`. -/
def sr (j : Fin 4) (i : Fin 128) : Fin 512 := ⟨128 * j.val + i.val, by omega⟩

/-- Four query tiles, stacked. -/
def catq (q0 q1 q2 q3 : Vec Ideal S128x128 .bf16) : FVec Ideal S512x128 .bf16 :=
  concatenate S512x128 0 [⟨S128x128, q0⟩, ⟨S128x128, q1⟩, ⟨S128x128, q2⟩, ⟨S128x128, q3⟩] concatenates_S128x128_S128x128_S128x128_S128x128_S512x128_d0

/-- A row of the stacked queries. -/
theorem catq_apply (q : Fin 4 → Vec Ideal S128x128 .bf16) (j : Fin 4) (i k : Fin 128) :
    catq (q 0) (q 1) (q 2) (q 3) (ix2 (sr j i) k) = q j (ix2 i k) := by
  unfold catq
  pointwise
  have hi := i.isLt
  unfold sr
  dsimp only
  match j with
  | 0 => rw [dif_pos (by show 128 * 0 + i.val < 128; omega)]; congr 2; exact Fin.ext (by show 128 * 0 + i.val = _; omega)
  | 1 =>
    rw [dif_neg (by show ¬ (128 * 1 + i.val < 128); omega), dif_pos (by show 128 * 1 + i.val - 128 < 128; omega)]
    congr 2; exact Fin.ext (by show 128 * 1 + i.val - 128 = _; omega)
  | 2 =>
    rw [dif_neg (by show ¬ (128 * 2 + i.val < 128); omega), dif_neg (by show ¬ (128 * 2 + i.val - 128 < 128); omega),
      dif_pos (by show 128 * 2 + i.val - 128 - 128 < 128; omega)]
    congr 2; exact Fin.ext (by show 128 * 2 + i.val - 128 - 128 = _; omega)
  | 3 =>
    rw [dif_neg (by show ¬ (128 * 3 + i.val < 128); omega), dif_neg (by show ¬ (128 * 3 + i.val - 128 < 128); omega),
      dif_neg (by show ¬ (128 * 3 + i.val - 128 - 128 < 128); omega)]
    congr 2; exact Fin.ext (by show 128 * 3 + i.val - 128 - 128 - 128 = _; omega)

/-- The keys (or values) end to end: three blocks and the context. -/
theorem cat_0 (k0 k1 k2 : Vec Ideal S128x128 .bf16) (kc : Vec Ideal S256x128 .bf16) (x d : Fin 128) :
    k0_pay2 k0 k1 k2 kc (ix2 (⟨x.val, by omega⟩ : Fin 640) d) = k0 (ix2 x d) := by
  unfold k0_pay2
  pointwise

theorem cat_1 (k0 k1 k2 : Vec Ideal S128x128 .bf16) (kc : Vec Ideal S256x128 .bf16) (x d : Fin 128) :
    k0_pay2 k0 k1 k2 kc (ix2 (⟨128 + x.val, by omega⟩ : Fin 640) d) = k1 (ix2 x d) := by
  unfold k0_pay2
  pointwise

theorem cat_2 (k0 k1 k2 : Vec Ideal S128x128 .bf16) (kc : Vec Ideal S256x128 .bf16) (x d : Fin 128) :
    k0_pay2 k0 k1 k2 kc (ix2 (⟨256 + x.val, by omega⟩ : Fin 640) d) = k2 (ix2 x d) := by
  unfold k0_pay2
  pointwise
  have hx := x.isLt
  rw [dif_neg (by omega), dif_neg (by omega), dif_pos (by omega)]
  congr 2; exact Fin.ext (by show 256 + x.val - 128 - 128 = _; omega)

theorem cat_c (k0 k1 k2 : Vec Ideal S128x128 .bf16) (kc : Vec Ideal S256x128 .bf16) (x : Fin 256) (d : Fin 128) :
    k0_pay2 k0 k1 k2 kc (ix2 (⟨384 + x.val, by omega⟩ : Fin 640) d) = kc (ix2 x d) := by
  unfold k0_pay2
  pointwise
  have hx := x.isLt
  rw [dif_neg (by omega), dif_neg (by omega), dif_neg (by omega)]
  congr 2; exact Fin.ext (by show 384 + x.val - 128 - 128 - 128 = _; omega)

theorem cat_3 (k0 k1 k2 : Vec Ideal S128x128 .bf16) (kc : Vec Ideal S256x128 .bf16) (x d : Fin 128) :
    k0_pay2 k0 k1 k2 kc (ix2 (⟨384 + x.val, by omega⟩ : Fin 640) d) = kc (ix2 ⟨x.val, by omega⟩ d) :=
  cat_c k0 k1 k2 kc ⟨x.val, by omega⟩ d

theorem cat_4 (k0 k1 k2 : Vec Ideal S128x128 .bf16) (kc : Vec Ideal S256x128 .bf16) (x d : Fin 128) :
    k0_pay2 k0 k1 k2 kc (ix2 (⟨512 + x.val, by omega⟩ : Fin 640) d) = kc (ix2 ⟨128 + x.val, by omega⟩ d) :=
  (congrArg (fun z : Fin 640 => k0_pay2 k0 k1 k2 kc (ix2 z d)) (Fin.ext (by show 512 + x.val = 384 + (128 + x.val); omega))).trans
    (cat_c k0 k1 k2 kc ⟨128 + x.val, by omega⟩ d)

/-- A score: the stacked query row against the key. -/
theorem score_apply (q : Fin 4 → Vec Ideal S128x128 .bf16) (k0 k1 k2 : Vec Ideal S128x128 .bf16) (kc : Vec Ideal S256x128 .bf16)
    (j : Fin 4) (i : Fin 128) (c : Fin 640) :
    k0_pay3 (q 0) (q 1) (q 2) (q 3) k0 k1 k2 kc (ix2 (sr j i) c) = ∑ k : Fin 128, q j (ix2 i k) * k0_pay2 k0 k1 k2 kc (ix2 c k) := by
  have e : k0_pay3 (q 0) (q 1) (q 2) (q 3) k0 k1 k2 kc
      = matmul dot_S512x128_S640x128_S512x640_1_1_0_0_n_n none (catq (q 0) (q 1) (q 2) (q 3)) (k0_pay2 k0 k1 k2 kc)
          (constant S512x640 .f32 0x00000000#32) := rfl
  rw [e]
  simp only [← catq_apply q j]
  generalize catq (q 0) (q 1) (q 2) (q 3) = A
  generalize k0_pay2 k0 k1 k2 kc = B
  pointwise [dot_S512x128_S640x128_S512x640_1_1_0_0_n_n]

/-- A head's sink in base two. -/
theorem sink_apply (s : Fin 4 → Elt Ideal .f32) (j : Fin 4) (i : Fin 128) :
    k0_pay9 (F := Ideal) (iota .tc S512x1 32 [0] iota_S512x1_d0_w32) (s 0) (s 1) (s 2) (s 3) (ix2 (sr j i) 0)
      = s j * (((Real.log 2)⁻¹ : ℝ) : EReal) := by
  have hk : (Named.named (F := Ideal) κ "log2e" 0x3FB8AA3B#32 : Ideal .f32) = (((Real.log 2)⁻¹ : ℝ) : EReal) := rfl
  unfold_payloads
  pointwise
  rw [hk]
  have c3 : ∀ r : Fin 512, IntOp.andi (IntOp.cmpi .sge (BitVec.ofNat 32 r.val) 384#32) (IntOp.cmpi .slt (BitVec.ofNat 32 r.val) 512#32)
      = if 384 ≤ r.val then 1#1 else 0#1 := by decide +kernel
  have c2 : ∀ r : Fin 512, IntOp.andi (IntOp.cmpi .sge (BitVec.ofNat 32 r.val) 256#32) (IntOp.cmpi .slt (BitVec.ofNat 32 r.val) 384#32)
      = if 256 ≤ r.val ∧ r.val < 384 then 1#1 else 0#1 := by decide +kernel
  have c1 : ∀ r : Fin 512, IntOp.andi (IntOp.cmpi .sge (BitVec.ofNat 32 r.val) 128#32) (IntOp.cmpi .slt (BitVec.ofNat 32 r.val) 256#32)
      = if 128 ≤ r.val ∧ r.val < 256 then 1#1 else 0#1 := by decide +kernel
  have c0 : ∀ r : Fin 512, IntOp.andi (IntOp.cmpi .sge (BitVec.ofNat 32 r.val) 0#32) (IntOp.cmpi .slt (BitVec.ofNat 32 r.val) 128#32)
      = if r.val < 128 then 1#1 else 0#1 := by decide +kernel
  rw [c3, c2, c1, c0]
  have hi := i.isLt
  unfold sr
  dsimp only
  match j with
  | 0 =>
    rw [if_neg (by show ¬ (384 ≤ 128 * 0 + i.val); omega), if_neg (by show ¬ (256 ≤ 128 * 0 + i.val ∧ 128 * 0 + i.val < 384); omega),
      if_neg (by show ¬ (128 ≤ 128 * 0 + i.val ∧ 128 * 0 + i.val < 256); omega), if_pos (by show 128 * 0 + i.val < 128; omega)]
    rfl
  | 1 =>
    rw [if_neg (by show ¬ (384 ≤ 128 * 1 + i.val); omega), if_neg (by show ¬ (256 ≤ 128 * 1 + i.val ∧ 128 * 1 + i.val < 384); omega),
      if_pos (by show 128 ≤ 128 * 1 + i.val ∧ 128 * 1 + i.val < 256; omega)]
    rfl
  | 2 =>
    rw [if_neg (by show ¬ (384 ≤ 128 * 2 + i.val); omega), if_pos (by show 256 ≤ 128 * 2 + i.val ∧ 128 * 2 + i.val < 384; omega)]
    rfl
  | 3 =>
    rw [if_pos (by show 384 ≤ 128 * 3 + i.val; omega)]
    rfl

/-! The five pieces of the scores at a stacked row, lane by lane. -/

section Pieces

variable (x0 : Vec Ideal S16 .f32) (x1 : Vec Ideal S128x2048 .bf16) (x2 x3 x4 x5 x6 x7 : Vec Ideal S128x512 .bf16)
  (x8 x9 : Vec Ideal S256x512 .bf16) (x10 : Vec Ideal S1x512x256 .f32) (g j : Fin 4) (i : Fin 128)

/-- A query row against a key row. -/
def dotq (k : Fin 128 → EReal) : EReal := ∑ x : Fin 128, qt x1 (hd g j) (ix2 i x) * k x

theorem sc0_apply (c : Fin 128) : sc0 x1 x2 x3 x4 x8 x10 g (ix2 (sr j i) c)
    = dotq x1 g j i (fun x => kt x2 g (ix2 c x)) + b0 x10 (ix3 0 (sr j i) c) := by
  unfold sc0 k0_pay4
  have e := score_apply (fun j => qt x1 (hd g j)) (kt x2 g) (kt x3 g) (kt x4 g) (ct x8 g) j i ⟨c.val, by omega⟩
  generalize k0_pay3 (qt x1 (hd g 0)) (qt x1 (hd g 1)) (qt x1 (hd g 2)) (qt x1 (hd g 3)) (kt x2 g) (kt x3 g) (kt x4 g) (ct x8 g) = S at e
  pointwise
  rw [e]
  simp only [cat_0]
  rfl

theorem sc1_apply (c : Fin 128) : sc1 x1 x2 x3 x4 x8 g (ix2 (sr j i) c)
    = dotq x1 g j i (fun x => kt x3 g (ix2 c x)) := by
  unfold sc1 k0_pay5
  have e := score_apply (fun j => qt x1 (hd g j)) (kt x2 g) (kt x3 g) (kt x4 g) (ct x8 g) j i ⟨128 + c.val, by omega⟩
  generalize k0_pay3 (qt x1 (hd g 0)) (qt x1 (hd g 1)) (qt x1 (hd g 2)) (qt x1 (hd g 3)) (kt x2 g) (kt x3 g) (kt x4 g) (ct x8 g) = S at e
  pointwise
  rw [e]
  simp only [cat_1]
  rfl

theorem sc2_apply (c : Fin 128) : sc2 x1 x2 x3 x4 x8 x10 g (ix2 (sr j i) c)
    = dotq x1 g j i (fun x => kt x4 g (ix2 c x)) + b1 x10 (ix3 0 (sr j i) c) := by
  unfold sc2 k0_pay6
  have e := score_apply (fun j => qt x1 (hd g j)) (kt x2 g) (kt x3 g) (kt x4 g) (ct x8 g) j i ⟨256 + c.val, by omega⟩
  generalize k0_pay3 (qt x1 (hd g 0)) (qt x1 (hd g 1)) (qt x1 (hd g 2)) (qt x1 (hd g 3)) (kt x2 g) (kt x3 g) (kt x4 g) (ct x8 g) = S at e
  pointwise
  rw [e]
  simp only [cat_2]
  rfl

theorem sc3_apply (c : Fin 128) : sc3 x1 x2 x3 x4 x8 g (ix2 (sr j i) c)
    = dotq x1 g j i (fun x => ct x8 g (ix2 ⟨c.val, by omega⟩ x)) := by
  unfold sc3 k0_pay7
  have e := score_apply (fun j => qt x1 (hd g j)) (kt x2 g) (kt x3 g) (kt x4 g) (ct x8 g) j i ⟨384 + c.val, by omega⟩
  generalize k0_pay3 (qt x1 (hd g 0)) (qt x1 (hd g 1)) (qt x1 (hd g 2)) (qt x1 (hd g 3)) (kt x2 g) (kt x3 g) (kt x4 g) (ct x8 g) = S at e
  pointwise
  rw [e]
  simp only [cat_3]
  rfl

theorem sc4_apply (c : Fin 128) : sc4 x1 x2 x3 x4 x8 g (ix2 (sr j i) c)
    = dotq x1 g j i (fun x => ct x8 g (ix2 ⟨128 + c.val, by omega⟩ x)) := by
  unfold sc4 k0_pay8
  have e := score_apply (fun j => qt x1 (hd g j)) (kt x2 g) (kt x3 g) (kt x4 g) (ct x8 g) j i ⟨512 + c.val, by omega⟩
  generalize k0_pay3 (qt x1 (hd g 0)) (qt x1 (hd g 1)) (qt x1 (hd g 2)) (qt x1 (hd g 3)) (kt x2 g) (kt x3 g) (kt x4 g) (ct x8 g) = S at e
  pointwise
  rw [e]
  simp only [cat_4]
  rfl

/-- The windowed scores and values of a row, by window column, and the context's. -/
def rowS : Fin 384 → EReal :=
  AttnSoftmax.win (fun c => dotq x1 g j i (fun x => kt x2 g (ix2 c x)) + b0 x10 (ix3 0 (sr j i) c))
    (fun c => dotq x1 g j i (fun x => kt x3 g (ix2 c x)))
    (fun c => dotq x1 g j i (fun x => kt x4 g (ix2 c x)) + b1 x10 (ix3 0 (sr j i) c))

def rowB : Fin 256 → EReal := fun c => dotq x1 g j i (fun x => ct x8 g (ix2 c x))

def rowW (d : Fin 128) : Fin 384 → EReal :=
  AttnSoftmax.win (fun c => kt x5 g (ix2 c d)) (fun c => kt x6 g (ix2 c d)) (fun c => kt x7 g (ix2 c d))

/-- One entry of a group's stacked output: the base-two softmax form of the row. -/
theorem grp_apply (d : Fin 128) : grp x0 x1 x2 x3 x4 x5 x6 x7 x8 x9 x10 g (ix2 (sr j i) d)
    = AttnSoftmax.out2 (rowS x1 x2 x3 x4 x10 g j i) (rowB x1 x8 g j i) (st x0 (hd g j) * (((Real.log 2)⁻¹ : ℝ) : EReal))
        (rowW x5 x6 x7 g d) (fun c => ct x9 g (ix2 c d)) := by
  unfold grp
  have hs := sink_apply (fun j => st x0 (hd g j)) j i
  have h0 := sc0_apply x1 x2 x3 x4 x8 x10 g j i
  have h1 := sc1_apply x1 x2 x3 x4 x8 g j i
  have h2 := sc2_apply x1 x2 x3 x4 x8 x10 g j i
  have h3 := sc3_apply x1 x2 x3 x4 x8 g j i
  have h4 := sc4_apply x1 x2 x3 x4 x8 g j i
  have hv0 := fun x => cat_0 (kt x5 g) (kt x6 g) (kt x7 g) (ct x9 g) x d
  have hv1 := fun x => cat_1 (kt x5 g) (kt x6 g) (kt x7 g) (ct x9 g) x d
  have hv2 := fun x => cat_2 (kt x5 g) (kt x6 g) (kt x7 g) (ct x9 g) x d
  have hvc := fun x => cat_c (kt x5 g) (kt x6 g) (kt x7 g) (ct x9 g) x d
  change snk x0 g (ix2 (sr j i) 0) = _ at hs
  generalize snk x0 g = sk at hs
  generalize sc0 x1 x2 x3 x4 x8 x10 g = s0 at h0
  generalize sc1 x1 x2 x3 x4 x8 g = s1 at h1
  generalize sc2 x1 x2 x3 x4 x8 x10 g = s2 at h2
  generalize sc3 x1 x2 x3 x4 x8 g = s3 at h3
  generalize sc4 x1 x2 x3 x4 x8 g = s4 at h4
  generalize k0_pay2 (kt x5 g) (kt x6 g) (kt x7 g) (ct x9 g) = V at hv0 hv1 hv2 hvc
  have hM : k0_pay10 s0 s1 s2 s3 s4 (ix1 (sr j i))
      = Finset.univ.sup fun x => max (max (max (max (s0 (ix2 (sr j i) x)) (s1 (ix2 (sr j i) x))) (s2 (ix2 (sr j i) x)))
          (s3 (ix2 (sr j i) x))) (s4 (ix2 (sr j i) x)) := by
    unfold k0_pay10
    pointwise
    rw [AttnSoftmax.negInf]
    rfl
  generalize k0_pay10 s0 s1 s2 s3 s4 = M at hM
  unfold k0_pay11
  pointwise [dot_S512x640_S640x128_S512x128_1_0_0_1_n_n]
  rw [← hs]
  have hw : rowS x1 x2 x3 x4 x10 g j i
      = AttnSoftmax.win (fun x => s0 (ix2 (sr j i) x)) (fun x => s1 (ix2 (sr j i) x)) (fun x => s2 (ix2 (sr j i) x)) := by
    unfold rowS; simp only [h0, h1, h2]
  have hc : rowB x1 x8 g j i = AttnSoftmax.ctx (fun x => s3 (ix2 (sr j i) x)) (fun x => s4 (ix2 (sr j i) x)) := by
    funext c
    have hlt := c.isLt
    unfold rowB AttnSoftmax.ctx
    split_ifs with h
    · exact (h3 ⟨c.val, h⟩).symm
    · refine Eq.trans ?_ (h4 ⟨c.val - 128, by omega⟩).symm
      exact congrArg (dotq x1 g j i) (funext fun x => congrArg (fun z => ct x8 g (ix2 z x)) (Fin.ext (by show c.val = 128 + (c.val - 128); omega)))
  rw [hw, hc]
  have q := AttnSoftmax.quotient_eq (fun x => s0 (ix2 (sr j i) x)) (fun x => s1 (ix2 (sr j i) x)) (fun x => s2 (ix2 (sr j i) x))
    (fun x => s3 (ix2 (sr j i) x)) (fun x => s4 (ix2 (sr j i) x)) (sk (ix2 (sr j i) 0)) (fun c => kt x5 g (ix2 c d))
    (fun c => kt x6 g (ix2 c d)) (fun c => kt x7 g (ix2 c d)) (fun c => ct x9 g (ix2 c d))
    (max (M (ix1 (sr j i))) (sk (ix2 (sr j i) 0))) (fun x => V (ix2 x d)) (by rw [hM]) hv0 hv1 hv2 hvc
  unfold AttnSoftmax.lad at q
  exact q

end Pieces

end Cert.AttnIdeal.Work
end
-- ==== Proof.AttnBias.lean ====
/-
  The attention call's additive masks, which the host operations before it compute: three variants of a 512 by 256 array,
  zero where the row's query may see the key, and the bottom element where it may not.
-/
module

public import proofs.«01_k».proof.Proof.AttnRow
public import proofs.«01_k».proof.Proof.AttnSoftmax
public import Idealize.ShloMosaic.Lib.Pointwise
public import Idealize.ShloMosaic.Lib.StableHlo.ReadAt

@[expose] public section

set_option maxRecDepth 16384

noncomputable section

namespace Cert.AttnIdeal.Work

open Cert.AttnIdeal Cert.AttnIdeal.Gen Idealize.ShloMosaic Idealize.ShloMosaic.TcCoe Idealize.SL.Sem

/-- The line run in two parts. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

variable (W : Valuation τ sig (Elt Ideal)) (r : Fin 512) (k : Fin 256) (q : Fin 128)

/-- The four stretches of the line: the query's row, the tests, the three masks, the three stacked. -/
abbrev A1 : Valuation τ sig (Elt Ideal) := StableHlo.after (List.flatten [hostOps0, hostOps0_1]) W
abbrev A2 : Valuation τ sig (Elt Ideal) := StableHlo.after hostOps0_2 W
abbrev A3 : Valuation τ sig (Elt Ideal) := StableHlo.after (List.flatten [hostOps0_3, hostOps0_4, hostOps0_5, hostOps0_6, hostOps0_7]) W
abbrev A4 : Valuation τ sig (Elt Ideal) := StableHlo.after hostOps0_8 W

theorem stack0 : (A4 W (Proc.devRef .tc main_v24) : Vec Ideal S3x512x256 .f32) (ix3 0 r k)
    = (W (Proc.devRef .tc main_v14) : Vec Ideal S512x256 .f32) (ix2 r k) := by
  unfold A4 hostOps0_8
  after_results
  pointwise
  repeat first
    | (rw [StableHlo.unary_result_ne]; rotate_left; decide)
    | rw [StableHlo.unary_result]
  pointwise

theorem stack1 : (A4 W (Proc.devRef .tc main_v24) : Vec Ideal S3x512x256 .f32) (ix3 1 r k)
    = (W (Proc.devRef .tc main_v17) : Vec Ideal S512x256 .f32) (ix2 r k) := by
  unfold A4 hostOps0_8
  after_results
  pointwise
  repeat first
    | (rw [StableHlo.unary_result_ne]; rotate_left; decide)
    | rw [StableHlo.unary_result]
  pointwise

theorem stack2 : (A4 W (Proc.devRef .tc main_v24) : Vec Ideal S3x512x256 .f32) (ix3 2 r k)
    = (W (Proc.devRef .tc main_v19) : Vec Ideal S512x256 .f32) (ix2 r k) := by
  unfold A4 hostOps0_8
  after_results
  pointwise
  repeat first
    | (rw [StableHlo.unary_result_ne]; rotate_left; decide)
    | rw [StableHlo.unary_result]
  pointwise
  rfl

theorem mask0 : (A3 W (Proc.devRef .tc main_v14) : Vec Ideal S512x256 .f32) (ix2 r k)
    = Scalar.select ((W (Proc.devRef .tc main_v12) : IVec S512x256 1) (ix2 r k))
        ((W (Proc.devRef .tc main_cst) : Vec Ideal S_ .f32) ix0) ((W (Proc.devRef .tc main_cst_1) : Vec Ideal S_ .f32) ix0) := by
  after_reads_at
  rw [id_eq]
  pointwise

theorem mask1 : (A3 W (Proc.devRef .tc main_v17) : Vec Ideal S512x256 .f32) (ix2 r k)
    = Scalar.select (if h : k.val < 128 then (W (Proc.devRef .tc main_v7) : IVec S512x128 1) (ix2 r ⟨k.val, h⟩)
        else (W (Proc.devRef .tc main_v10) : IVec S512x128 1) (ix2 r ⟨k.val - 128, by omega⟩))
        (Ideal.ofBits .f32 0#32) (Ideal.ofBits .f32 4286578688#32) := by
  after_reads_at
  rw [id_eq]
  pointwise
  after_reads_at

theorem mask2 : (A3 W (Proc.devRef .tc main_v19) : Vec Ideal S512x256 .f32) (ix2 r k)
    = Scalar.select (if h : k.val < 128 then (W (Proc.devRef .tc main_v7) : IVec S512x128 1) (ix2 r ⟨k.val, h⟩)
        else (W (Proc.devRef .tc main_v11) : IVec S512x128 1) (ix2 r ⟨k.val - 128, by omega⟩))
        (Ideal.ofBits .f32 0#32) (Ideal.ofBits .f32 4286578688#32) := by
  after_reads_at
  after_reads_at

theorem test12 : (A2 W (Proc.devRef .tc main_v12) : IVec S512x256 1) (ix2 r k)
    = if h : k.val < 128 then 0#1 else IntOp.cmpi CmpIPredicate.sle (BitVec.ofNat 32 (k.val - 128))
        ((W (Proc.devRef .tc main_v2) : IVec S512x1 32) (ix2 r 0)) := by
  after_reads_at

theorem test7 : (A2 W (Proc.devRef .tc main_v7) : IVec S512x128 1) (ix2 r q)
    = IntOp.cmpi CmpIPredicate.sge (BitVec.ofNat 32 q.val) ((W (Proc.devRef .tc main_v2) : IVec S512x1 32) (ix2 r 0)) := by
  after_reads_at

theorem test10 : (A2 W (Proc.devRef .tc main_v10) : IVec S512x128 1) (ix2 r q)
    = IntOp.cmpi CmpIPredicate.sle (BitVec.ofNat 32 q.val) ((W (Proc.devRef .tc main_v2) : IVec S512x1 32) (ix2 r 0)) := by
  after_reads_at

theorem test11 : (A2 W (Proc.devRef .tc main_v11) : IVec S512x128 1) (ix2 r q) = 0#1 := by
  after_reads_at

theorem zero : (A2 W (Proc.devRef .tc main_cst) : Vec Ideal S_ .f32) ix0 = Ideal.ofBits .f32 0#32 := by
  after_reads_at

theorem ninf : (A2 W (Proc.devRef .tc main_cst_1) : Vec Ideal S_ .f32) ix0 = Ideal.ofBits .f32 4286578688#32 := by
  after_reads_at

/-- The host's remainder of the row by 128. -/
theorem rem_bit : ∀ r : Fin 512, Scalar.select
      (IntOp.andi
        (IntOp.cmpi CmpIPredicate.ne
          (IntOp.cmpi CmpIPredicate.slt
            (IntOp.remsi ArithUnit.host (BitVec.ofNat 32 r.val)
              (Scalar.select (IntOp.cmpi CmpIPredicate.eq 128#32 0#32) (1#32) 128#32))
            0#32)
          (IntOp.cmpi CmpIPredicate.slt
            (Scalar.select (IntOp.cmpi CmpIPredicate.eq 128#32 0#32) (1#32) 128#32)
            0#32))
        (IntOp.cmpi CmpIPredicate.ne
          (IntOp.remsi ArithUnit.host (BitVec.ofNat 32 r.val)
            (Scalar.select (IntOp.cmpi CmpIPredicate.eq 128#32 0#32) (1#32) 128#32))
          0#32))
      (IntOp.addi
        (IntOp.remsi ArithUnit.host (BitVec.ofNat 32 r.val)
          (Scalar.select (IntOp.cmpi CmpIPredicate.eq 128#32 0#32) (1#32) 128#32))
        (Scalar.select (IntOp.cmpi CmpIPredicate.eq 128#32 0#32) (1#32) 128#32))
      (IntOp.remsi ArithUnit.host (BitVec.ofNat 32 r.val)
        (Scalar.select (IntOp.cmpi CmpIPredicate.eq 128#32 0#32) (1#32) 128#32)) = BitVec.ofNat 32 (r.val % 128) := by
  decide +kernel

theorem row_apply : (A1 W (Proc.devRef .tc main_v2) : IVec S512x1 32) (ix2 r 0) = BitVec.ofNat 32 (r.val % 128) := by
  after_reads_at
  exact rem_bit r

theorem ge_bit : ∀ (i q : Fin 128), IntOp.cmpi CmpIPredicate.sge (BitVec.ofNat 32 q.val) (BitVec.ofNat 32 i.val)
    = if i.val ≤ q.val then 1#1 else 0#1 := by
  decide +kernel

theorem le_bit : ∀ (i q : Fin 128), IntOp.cmpi CmpIPredicate.sle (BitVec.ofNat 32 q.val) (BitVec.ofNat 32 i.val)
    = if q.val ≤ i.val then 1#1 else 0#1 := by
  decide +kernel

/-- A mask's entry: zero where the test holds. -/
theorem select_bit (p : Prop) [Decidable p] :
    (Scalar.select (if p then 1#1 else 0#1) (Ideal.ofBits .f32 0#32) (Ideal.ofBits .f32 4286578688#32) : EReal)
      = if p then 0 else ⊥ := by
  have e0 : Ideal.ofBits .f32 0#32 = (0 : EReal) := by simp [Ideal.ofBits, Ideal.ieee]
  rw [e0, AttnSoftmax.negInf]
  split <;> rfl

/-- The three masks: the previous block's half is open where the key is not before the query's row, the next block's where
    it is not after; the first block has no previous one, the last no next one. -/
def bias (v : Fin 3) (i : Fin 128) (k : Fin 256) : EReal :=
  if (k.val < 128 ∧ v.val ≠ 0 ∧ i.val ≤ k.val) ∨ (128 ≤ k.val ∧ v.val ≠ 2 ∧ k.val - 128 ≤ i.val) then 0 else ⊥

variable (m : (ℓ : Loc nD τ sig) → Buf (Elt Ideal) ℓ)

theorem V_split (c : Dev nD) : V m c main_v24 = A4 (A3 (A2 (A1 fun b => m (c, b)))) (Proc.devRef .tc main_v24) := by
  unfold A4 A3 A2 A1
  rw [← after_append, ← after_append, ← after_append]
  rfl

theorem V_bias (c : Dev nD) (v : Fin 3) : (V m c main_v24 : Vec Ideal S3x512x256 .f32) (ix3 v r k)
    = bias v ⟨r.val % 128, Nat.mod_lt _ (by omega)⟩ k := by
  rw [V_split]
  generalize hw : (fun b => m (c, b)) = w
  have hr : ∀ r, (A1 w (Proc.devRef .tc main_v2) : IVec S512x1 32) (ix2 r 0) = BitVec.ofNat 32 (r.val % 128) := row_apply w
  unfold bias
  have ge := fun q => ge_bit ⟨r.val % 128, Nat.mod_lt _ (by omega)⟩ q
  have le := fun q => le_bit ⟨r.val % 128, Nat.mod_lt _ (by omega)⟩ q
  dsimp only at ge le
  match v with
  | 0 =>
    refine (stack0 _ r k).trans ?_
    rw [mask0, test12, zero, ninf, hr]
    by_cases h : k.val < 128
    · rw [dif_pos h, if_neg (by simp; omega), AttnSoftmax.negInf]; rfl
    · rw [dif_neg h, le ⟨k.val - 128, by omega⟩, select_bit]
      refine if_congr ?_ rfl rfl
      simp
      omega
  | 1 =>
    refine (stack1 _ r k).trans ?_
    rw [mask1]
    by_cases h : k.val < 128
    · rw [dif_pos h, test7, hr, ge ⟨k.val, h⟩, select_bit]
      refine if_congr ?_ rfl rfl
      simp
      omega
    · rw [dif_neg h, test10, hr, le ⟨k.val - 128, by omega⟩, select_bit]
      refine if_congr ?_ rfl rfl
      simp
      omega
  | 2 =>
    refine (stack2 _ r k).trans ?_
    rw [mask2]
    by_cases h : k.val < 128
    · rw [dif_pos h, test7, hr, ge ⟨k.val, h⟩, select_bit]
      refine if_congr ?_ rfl rfl
      simp
      omega
    · rw [dif_neg h, test11, if_neg (by simp; omega), AttnSoftmax.negInf]; rfl

end Cert.AttnIdeal.Work

end
-- ==== Proof.AttnBlocks.lean ====
/-
  What the attention call's input windows hold at grid point `t`, as entries of the arguments: the query rows of block `t`,
  the three neighbouring blocks of keys and of values (held at the ends), the context, the sinks and the mask variant.
-/
module

public import proofs.«01_k».proof.Proof.AttnBias

@[expose] public section

set_option maxRecDepth 16384

noncomputable section

namespace Cert.AttnIdeal.Work

open Cert.AttnIdeal Cert.AttnIdeal.Gen Idealize.ShloMosaic Idealize.ShloMosaic.TcCoe Idealize.SL.Sem

variable (m : (ℓ : Loc nD τ sig) → Buf (Elt Ideal) ℓ)

theorem lt128 (t : Fin cfg0.N) : t.val < 128 := lt_of_lt_of_eq t.isLt N_0

/-- The previous and the next block of keys, held at the ends. -/
def prev (t : Nat) : Nat := t - 1
def next (t : Nat) : Nat := min (t + 1) 127
/-- Which mask a block takes: the first, the last, or one between. -/
def var (t : Nat) : Nat := if t = 0 then 0 else if t = 127 then 2 else 1

theorem idx_a : ∀ t : Fin cfg0.N,
    win0_0.index t (0 : Fin 1) = 0
    ∧ win0_1.index t (0 : Fin 2) = t.val ∧ win0_1.index t (1 : Fin 2) = 0
    ∧ win0_2.index t (0 : Fin 2) = prev t.val ∧ win0_2.index t (1 : Fin 2) = 4
    ∧ win0_3.index t (0 : Fin 2) = t.val ∧ win0_3.index t (1 : Fin 2) = 4
    ∧ win0_4.index t (0 : Fin 2) = next t.val ∧ win0_4.index t (1 : Fin 2) = 4 :=
  (by decide +kernel : ∀ t : Fin grid0.N, _)

theorem idx_b : ∀ t : Fin cfg0.N,
    win0_5.index t (0 : Fin 2) = prev t.val ∧ win0_5.index t (1 : Fin 2) = 5
    ∧ win0_6.index t (0 : Fin 2) = t.val ∧ win0_6.index t (1 : Fin 2) = 5
    ∧ win0_7.index t (0 : Fin 2) = next t.val ∧ win0_7.index t (1 : Fin 2) = 5
    ∧ win0_8.index t (0 : Fin 2) = 0 ∧ win0_8.index t (1 : Fin 2) = 0
    ∧ win0_9.index t (0 : Fin 2) = 0 ∧ win0_9.index t (1 : Fin 2) = 1 :=
  (by decide +kernel : ∀ t : Fin grid0.N, _)

theorem idx_c : ∀ t : Fin cfg0.N,
    win0_10.index t (0 : Fin 3) = var t.val ∧ win0_10.index t (1 : Fin 3) = 0 ∧ win0_10.index t (2 : Fin 3) = 0
    ∧ win0_11.index t (0 : Fin 2) = t.val ∧ win0_11.index t (1 : Fin 2) = 0 ∧ (cfg0.win 11).flush t = true :=
  (by decide +kernel : ∀ t : Fin grid0.N, _)

/-- The three arguments, as arrays over their literal shapes. -/
abbrev Sink (c : Dev nD) : Vec Ideal S16 .f32 := m ((c : Thread nD τ).loc main_arg0)
abbrev Qkv (c : Dev nD) : Vec Ideal S16384x3072 .bf16 := m ((c : Thread nD τ).loc main_arg1)
abbrev Kvc (c : Dev nD) : Vec Ideal S256x1024 .bf16 := m ((c : Thread nD τ).loc main_arg2)

theorem prev_le (t : Fin cfg0.N) : prev t.val < 128 := by have := lt128 t; unfold prev; omega
theorem next_le (t : Fin cfg0.N) : next t.val < 128 := by unfold next; omega
theorem var_le (t : Fin cfg0.N) : var t.val < 3 := by unfold var; split_ifs <;> omega

variable (c : Dev nD) (t : Fin cfg0.N) (g j : Fin 4) (i x d : Fin 128)

theorem sink_blk (h : Fin 16) : st (iblk m c 0 t) h = Sink m c (ix1 h) := by
  obtain ⟨h0, -⟩ := idx_a t
  unfold st
  unfold View.ld
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 16 + 1 * (h.val + 1 * 0) = h.val; rw [h0]; omega

theorem q_blk (h : Fin 16) : qt (X0_1 m c t) h (ix2 i x)
    = Qkv m c (ix2 ⟨t.val * 128 + i.val, by have := lt128 t; omega⟩ ⟨128 * h.val + x.val, by omega⟩) := by
  obtain ⟨-, h0, h1, -⟩ := idx_a t
  unfold qt
  unfold View.ld
  unfold X0_1 Pipeline.Window.fill
  rw [dif_pos (moved0_1 t _)]
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 128 + 1 * (0 + 1 * i.val) = t.val * 128 + i.val; rw [h0]; omega
  | ⟨1, _⟩ => show win0_1.index t 1 * 2048 + 1 * (128 * h.val + 1 * x.val) = 128 * h.val + x.val; rw [h1]; omega

theorem k2_blk : kt (iblk m c 2 t) g (ix2 i x)
    = Qkv m c (ix2 ⟨prev t.val * 128 + i.val, by have := prev_le t; omega⟩ ⟨2048 + (g.val * 128 + x.val), by omega⟩) := by
  obtain ⟨-, -, -, h0, h1, -⟩ := idx_a t
  unfold kt
  unfold View.ld
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 128 + 1 * (0 + 1 * i.val) = prev t.val * 128 + i.val; rw [h0]; omega
  | ⟨1, _⟩ => show win0_2.index t 1 * 512 + 1 * (128 * g.val + 1 * x.val) = 2048 + (g.val * 128 + x.val); rw [h1]; omega

theorem k3_blk : kt (iblk m c 3 t) g (ix2 i x)
    = Qkv m c (ix2 ⟨t.val * 128 + i.val, by have := lt128 t; omega⟩ ⟨2048 + (g.val * 128 + x.val), by omega⟩) := by
  obtain ⟨-, -, -, -, -, h0, h1, -⟩ := idx_a t
  unfold kt
  unfold View.ld
  unfold iblk
  rw [View.read_apply]
  show V m c main_arg1 _ = _
  rw [V_main_arg1]
  refine congrArg (m ((c : Thread nD τ).loc main_arg1)) (funext fun a => Fin.ext ?_)
  match a with
  | ⟨0, _⟩ => show win0_3.index t 0 * 128 + 1 * (0 + 1 * i.val) = t.val * 128 + i.val; rw [h0]; omega
  | ⟨1, _⟩ => show win0_3.index t 1 * 512 + 1 * (128 * g.val + 1 * x.val) = 2048 + (g.val * 128 + x.val); rw [h1]; omega

theorem k4_blk : kt (iblk m c 4 t) g (ix2 i x)
    = Qkv m c (ix2 ⟨next t.val * 128 + i.val, by have := next_le t; omega⟩ ⟨2048 + (g.val * 128 + x.val), by omega⟩) := by
  obtain ⟨-, -, -, -, -, -, -, h0, h1⟩ := idx_a t
  unfold kt
  unfold View.ld
  unfold iblk
  rw [View.read_apply]
  show V m c main_arg1 _ = _
  rw [V_main_arg1]
  refine congrArg (m ((c : Thread nD τ).loc main_arg1)) (funext fun a => Fin.ext ?_)
  match a with
  | ⟨0, _⟩ => show win0_4.index t 0 * 128 + 1 * (0 + 1 * i.val) = next t.val * 128 + i.val; rw [h0]; omega
  | ⟨1, _⟩ => show win0_4.index t 1 * 512 + 1 * (128 * g.val + 1 * x.val) = 2048 + (g.val * 128 + x.val); rw [h1]; omega

theorem v5_blk : kt (iblk m c 5 t) g (ix2 i x)
    = Qkv m c (ix2 ⟨prev t.val * 128 + i.val, by have := prev_le t; omega⟩ ⟨2560 + (g.val * 128 + x.val), by omega⟩) := by
  obtain ⟨h0, h1, -⟩ := idx_b t
  unfold kt
  unfold View.ld
  unfold iblk
  rw [View.read_apply]
  show V m c main_arg1 _ = _
  rw [V_main_arg1]
  refine congrArg (m ((c : Thread nD τ).loc main_arg1)) (funext fun a => Fin.ext ?_)
  match a with
  | ⟨0, _⟩ => show win0_5.index t 0 * 128 + 1 * (0 + 1 * i.val) = prev t.val * 128 + i.val; rw [h0]; omega
  | ⟨1, _⟩ => show win0_5.index t 1 * 512 + 1 * (128 * g.val + 1 * x.val) = 2560 + (g.val * 128 + x.val); rw [h1]; omega

theorem v6_blk : kt (iblk m c 6 t) g (ix2 i x)
    = Qkv m c (ix2 ⟨t.val * 128 + i.val, by have := lt128 t; omega⟩ ⟨2560 + (g.val * 128 + x.val), by omega⟩) := by
  obtain ⟨-, -, h0, h1, -⟩ := idx_b t
  unfold kt
  unfold View.ld
  unfold iblk
  rw [View.read_apply]
  show V m c main_arg1 _ = _
  rw [V_main_arg1]
  refine congrArg (m ((c : Thread nD τ).loc main_arg1)) (funext fun a => Fin.ext ?_)
  match a with
  | ⟨0, _⟩ => show win0_6.index t 0 * 128 + 1 * (0 + 1 * i.val) = t.val * 128 + i.val; rw [h0]; omega
  | ⟨1, _⟩ => show win0_6.index t 1 * 512 + 1 * (128 * g.val + 1 * x.val) = 2560 + (g.val * 128 + x.val); rw [h1]; omega

theorem v7_blk : kt (iblk m c 7 t) g (ix2 i x)
    = Qkv m c (ix2 ⟨next t.val * 128 + i.val, by have := next_le t; omega⟩ ⟨2560 + (g.val * 128 + x.val), by omega⟩) := by
  obtain ⟨-, -, -, -, h0, h1, -⟩ := idx_b t
  unfold kt
  unfold View.ld
  unfold iblk
  rw [View.read_apply]
  show V m c main_arg1 _ = _
  rw [V_main_arg1]
  refine congrArg (m ((c : Thread nD τ).loc main_arg1)) (funext fun a => Fin.ext ?_)
  match a with
  | ⟨0, _⟩ => show win0_7.index t 0 * 128 + 1 * (0 + 1 * i.val) = next t.val * 128 + i.val; rw [h0]; omega
  | ⟨1, _⟩ => show win0_7.index t 1 * 512 + 1 * (128 * g.val + 1 * x.val) = 2560 + (g.val * 128 + x.val); rw [h1]; omega

theorem kc_blk (y : Fin 256) : ct (iblk m c 8 t) g (ix2 y x) = Kvc m c (ix2 y ⟨g.val * 128 + x.val, by omega⟩) := by
  obtain ⟨-, -, -, -, -, -, h0, h1, -⟩ := idx_b t
  unfold ct
  unfold View.ld
  unfold iblk
  rw [View.read_apply]
  show V m c main_arg2 _ = _
  rw [V_main_arg2]
  refine congrArg (m ((c : Thread nD τ).loc main_arg2)) (funext fun a => Fin.ext ?_)
  match a with
  | ⟨0, _⟩ => show win0_8.index t 0 * 256 + 1 * (0 + 1 * y.val) = y.val; rw [h0]; omega
  | ⟨1, _⟩ => show win0_8.index t 1 * 512 + 1 * (128 * g.val + 1 * x.val) = g.val * 128 + x.val; rw [h1]; omega

theorem vc_blk (y : Fin 256) : ct (iblk m c 9 t) g (ix2 y x) = Kvc m c (ix2 y ⟨512 + (g.val * 128 + x.val), by omega⟩) := by
  obtain ⟨-, -, -, -, -, -, -, -, h0, h1⟩ := idx_b t
  unfold ct
  unfold View.ld
  unfold iblk
  rw [View.read_apply]
  show V m c main_arg2 _ = _
  rw [V_main_arg2]
  refine congrArg (m ((c : Thread nD τ).loc main_arg2)) (funext fun a => Fin.ext ?_)
  match a with
  | ⟨0, _⟩ => show win0_9.index t 0 * 256 + 1 * (0 + 1 * y.val) = y.val; rw [h0]; omega
  | ⟨1, _⟩ => show win0_9.index t 1 * 512 + 1 * (128 * g.val + 1 * x.val) = 512 + (g.val * 128 + x.val); rw [h1]; omega

theorem mask_blk (r : Fin 512) (k : Fin 256) : (iblk m c 10 t : Vec Ideal S1x512x256 .f32) (ix3 0 r k)
    = bias ⟨var t.val, var_le t⟩ ⟨r.val % 128, Nat.mod_lt _ (by omega)⟩ k := by
  obtain ⟨h0, h1, h2, -⟩ := idx_c t
  rw [← V_bias r k m c]
  unfold iblk
  rw [View.read_apply]
  show (V m c main_v24 : Vec Ideal S3x512x256 .f32) _ = _
  refine congrArg (V m c main_v24 : Vec Ideal S3x512x256 .f32) (funext fun a => Fin.ext ?_)
  match a with
  | ⟨0, _⟩ => show win0_10.index t 0 * 1 + 1 * 0 = var t.val; rw [h0]; omega
  | ⟨1, _⟩ => show win0_10.index t 1 * 512 + 1 * r.val = r.val; rw [h1]; omega
  | ⟨2, _⟩ => show win0_10.index t 2 * 256 + 1 * k.val = k.val; rw [h2]; omega

theorem mod_sr : (⟨(sr j i).val % 128, Nat.mod_lt _ (by omega)⟩ : Fin 128) = i :=
  Fin.ext (by show (128 * j.val + i.val) % 128 = i.val; omega)

theorem b0_blk : b0 (iblk m c 10 t) (ix3 0 (sr j i) x) = bias ⟨var t.val, var_le t⟩ i ⟨x.val, by omega⟩ := by
  unfold b0
  unfold View.ld
  refine Eq.trans ?_ ((mask_blk m c t (sr j i) ⟨x.val, by omega⟩).trans (by rw [mod_sr]))
  refine congrArg (iblk m c 10 t : Vec Ideal S1x512x256 .f32) (funext fun a => Fin.ext ?_)
  match a with
  | ⟨0, _⟩ => rfl
  | ⟨1, _⟩ => show 0 + 1 * (sr j i).val = (sr j i).val; omega
  | ⟨2, _⟩ => show 0 + 1 * x.val = x.val; omega

theorem b1_blk : b1 (iblk m c 10 t) (ix3 0 (sr j i) x) = bias ⟨var t.val, var_le t⟩ i ⟨128 + x.val, by omega⟩ := by
  unfold b1
  unfold View.ld
  refine Eq.trans ?_ ((mask_blk m c t (sr j i) ⟨128 + x.val, by omega⟩).trans (by rw [mod_sr]))
  refine congrArg (iblk m c 10 t : Vec Ideal S1x512x256 .f32) (funext fun a => Fin.ext ?_)
  match a with
  | ⟨0, _⟩ => rfl
  | ⟨1, _⟩ => show 0 + 1 * (sr j i).val = (sr j i).val; omega
  | ⟨2, _⟩ => show 128 + 1 * x.val = 128 + x.val; omega

end Cert.AttnIdeal.Work

end
-- ==== Proof.AttnArr.lean ====
/-
  What the attention call's result array holds after the last grid point, entry by entry, over the input windows of the
  entry's own block.
-/
module

public import proofs.«01_k».proof.Proof.Gen.AttnIdeal.Value
public import proofs.«01_k».proof.Proof.AttnBlocks

@[expose] public section

set_option maxRecDepth 16384

noncomputable section

namespace Cert.AttnIdeal.Work

open Cert.AttnIdeal Cert.AttnIdeal.Gen Idealize.ShloMosaic Idealize.ShloMosaic.TcCoe Idealize.SL.Sem

variable (m : (ℓ : Loc nD τ sig) → Buf (Elt Ideal) ℓ) (c : Dev nD) (t : Fin cfg0.N) (g j : Fin 4) (i d : Fin 128)

/-- The result array. -/
def Res : Vec Ideal S16384x2048 .bf16 := (dats m 0 c).arrAt 11 cfg0.N

theorem flush_eq (y : S128x2048.Idx) : Res m c (ix2 ⟨t.val * 128 + (y 0).val, by have := lt128 t; have : (y 0).val < 128 := (y 0).isLt; omega⟩ (y 1))
    = blk (iblk m c 0 t) (X0_1 m c t) (iblk m c 2 t) (iblk m c 3 t) (iblk m c 4 t) (iblk m c 5 t) (iblk m c 6 t) (iblk m c 7 t)
        (iblk m c 8 t) (iblk m c 9 t) (iblk m c 10 t) y := by
  obtain ⟨-, -, -, h0, h1, hf⟩ := idx_c t
  have e := congrFun (Cert.AttnIdeal.Value.blocks11 m c t hf) y
  rw [View.read_apply, Cert.AttnIdeal.Value.flushed11_A, out_eq] at e
  refine Eq.trans ?_ e
  unfold Res
  refine congrArg ((dats m 0 c).arrAt 11 cfg0.N) (funext fun a => Fin.ext ?_)
  match a with
  | ⟨0, _⟩ => show t.val * 128 + (y 0).val = win0_11.index t 0 * 128 + 1 * (y 0).val; rw [h0]; omega
  | ⟨1, _⟩ => show (y 1).val = win0_11.index t 1 * 2048 + 1 * (y 1).val; rw [h1]; omega

/-- An entry of the result: head `j` of group `g`, entry `d`, of row `i` of block `t`. -/
theorem res_apply : Res m c (ix2 ⟨t.val * 128 + i.val, by have := lt128 t; omega⟩ ⟨512 * g.val + 128 * j.val + d.val, by omega⟩)
    = AttnSoftmax.out2 (rowS (X0_1 m c t) (iblk m c 2 t) (iblk m c 3 t) (iblk m c 4 t) (iblk m c 10 t) g j i)
        (rowB (X0_1 m c t) (iblk m c 8 t) g j i) (st (iblk m c 0 t) (hd g j) * (((Real.log 2)⁻¹ : ℝ) : EReal))
        (rowW (iblk m c 5 t) (iblk m c 6 t) (iblk m c 7 t) g d) (fun y => ct (iblk m c 9 t) g (ix2 y d)) := by
  refine (flush_eq m c t (ix2 i ⟨512 * g.val + 128 * j.val + d.val, by omega⟩)).trans ?_
  rw [← grp_apply]
  unfold blk
  refine congrArg₂ (fun a b => grp (iblk m c 0 t) (X0_1 m c t) (iblk m c 2 t) (iblk m c 3 t) (iblk m c 4 t) (iblk m c 5 t) (iblk m c 6 t) (iblk m c 7 t)
        (iblk m c 8 t) (iblk m c 9 t) (iblk m c 10 t) a b) (Fin.ext ?_) (funext fun a => Fin.ext ?_)
  · show (512 * g.val + 128 * j.val + d.val) / 512 = g.val; omega
  · match a with
    | ⟨0, _⟩ => show 128 * ((512 * g.val + 128 * j.val + d.val) / 128 % 4) + i.val = 128 * j.val + i.val; omega
    | ⟨1, _⟩ => show (512 * g.val + 128 * j.val + d.val) % 128 = d.val; omega

end Cert.AttnIdeal.Work

end
-- ==== Proof.AttnRef.lean ====
/-
  What the attention reference computes, entry by entry, over its three arguments.
-/
module

public import proofs.«01_k».proof.Proof.Gen.AttnRefIdeal.Run
public import proofs.«01_k».proof.Proof.Gen.AttnRefIdeal.Read
public import proofs.«01_k».proof.Proof.AttnSoftmax
public import Idealize.ShloMosaic.Lib.Pointwise

@[expose] public section

set_option maxRecDepth 16384

noncomputable section

namespace Cert.AttnRefIdeal.Work

open Cert.AttnRefIdeal Cert.AttnRefIdeal.Gen Cert.AttnRefIdeal.Read Idealize.ShloMosaic Idealize.ShloMosaic.TcCoe Idealize.SL.Sem

variable (x0 : Vec Ideal S16 .f32) (x1 : Vec Ideal S16384x3072 .bf16) (x2 : Vec Ideal S256x1024 .bf16)
  (n i : Fin 128) (g j : Fin 4) (d : Fin 128) (s : Fin 384) (c : Fin 256)

/-- Query entry `d` of row `i` of block `n`, for head `j` of group `g`. -/
theorem q_apply : val_main_v3 (F := Ideal) x1 (ix5 n i g j d)
    = x1 (ix2 ⟨n.val * 128 + i.val, by omega⟩ ⟨g.val * 512 + j.val * 128 + d.val, by omega⟩) := by
  unfold val_main_v3 val_main_v2 val_main_v0
  pointwise

/-- Row `s` of the three blocks around block `n`, at column `e` of the fused projection: the padding's integer
zero beyond the ends. -/
def nbr (e : Fin 3072) : EReal :=
  if h : 128 ≤ n.val * 128 + s.val ∧ n.val * 128 + s.val - 128 < 16384 then
    x1 (ix2 ⟨n.val * 128 + s.val - 128, h.2⟩ e) else FloatOps.sitofp (F := Ideal) FTy.f32 0#32

theorem k_apply : val_main_v20 (F := Ideal) x1 (ix4 n s g d)
    = nbr x1 n s ⟨2048 + (g.val * 128 + d.val), by omega⟩ := by
  unfold val_main_v20 val_main_v19 val_main_v18 val_main_v17 val_main_v16 val_main_v15 val_main_v5 val_main_v4 val_main_v0
    val_main_call0_v0 val_main_c nbr
  pointwise
  have e1 : ¬ s.val < 128 → (1 + n.val) * 128 + (s.val - 128) = n.val * 128 + s.val := by omega
  have e2 : ¬ s.val < 128 → ¬ s.val - 128 < 128 → (2 + n.val) * 128 + (s.val - 128 - 128) = n.val * 128 + s.val := by omega
  by_cases h1 : s.val < 128
  · rw [dif_pos h1]
  · rw [dif_neg h1]
    by_cases h2 : s.val - 128 < 128
    · rw [dif_pos h2]
      simp only [e1 h1]
    · rw [dif_neg h2]
      simp only [e2 h1 h2]

theorem v_apply : val_main_v26 (F := Ideal) x1 (ix4 n s g d)
    = nbr x1 n s ⟨2560 + (g.val * 128 + d.val), by omega⟩ := by
  unfold val_main_v26 val_main_v25 val_main_v24 val_main_v23 val_main_v22 val_main_v21 val_main_v7 val_main_v6 val_main_v0
    val_main_call1_v0 val_main_c_0 nbr
  pointwise
  have e1 : ¬ s.val < 128 → (1 + n.val) * 128 + (s.val - 128) = n.val * 128 + s.val := by omega
  have e2 : ¬ s.val < 128 → ¬ s.val - 128 < 128 → (2 + n.val) * 128 + (s.val - 128 - 128) = n.val * 128 + s.val := by omega
  by_cases h1 : s.val < 128
  · rw [dif_pos h1]
  · rw [dif_neg h1]
    by_cases h2 : s.val - 128 < 128
    · rw [dif_pos h2]
      simp only [e1 h1]
    · rw [dif_neg h2]
      simp only [e2 h1 h2]

/-- The constant of the reference is the natural logarithm of two. -/
theorem ln2 : Ideal.log (Ideal.ofBits FTy.f32 1073741824#32) = (AttnSoftmax.L : EReal) := by
  have e : Ideal.ofBits FTy.f32 1073741824#32 = ((2 : ℝ) : EReal) := by
    simp [Ideal.ofBits, Ideal.ieee]
    rw [← EReal.coe_mul]
    norm_num
  rw [e]
  show (if (2 : ℝ) ≤ 0 then ⊥ else ((Real.log 2 : ℝ) : EReal)) = _
  rw [if_neg (by norm_num)]
  rfl

/-- The window's test: at most 128 apart, and inside the sequence. -/
def ok : Prop := i.val ≤ s.val ∧ s.val ≤ i.val + 256 ∧ 128 ≤ n.val * 128 + s.val ∧ n.val * 128 + s.val < 16512

instance : Decidable (ok n i s) := by unfold ok; infer_instance

theorem near_bit : ∀ (i : Fin 128) (s : Fin 384),
    IntOp.cmpi CmpIPredicate.sle (IntOp.absi (IntOp.subi (IntOp.subi (BitVec.ofNat 32 s.val) 128#32) (BitVec.ofNat 32 i.val)))
      128#32 = if i.val ≤ s.val ∧ s.val ≤ i.val + 256 then 1#1 else 0#1 := by
  decide +kernel

theorem low_bit : ∀ (n : Fin 128) (s : Fin 384),
    IntOp.cmpi CmpIPredicate.sge (IntOp.addi (IntOp.muli (IntOp.subi (BitVec.ofNat 32 n.val) 1#32) 128#32)
      (BitVec.ofNat 32 s.val)) 0#32 = if 128 ≤ n.val * 128 + s.val then 1#1 else 0#1 := by
  decide +kernel

theorem high_bit : ∀ (n : Fin 128) (s : Fin 384),
    IntOp.cmpi CmpIPredicate.slt (IntOp.addi (IntOp.muli (IntOp.subi (BitVec.ofNat 32 n.val) 1#32) 128#32)
      (BitVec.ofNat 32 s.val)) 16384#32 = if n.val * 128 + s.val < 16512 then 1#1 else 0#1 := by
  decide +kernel

theorem mask_apply : val_main_v58 (F := Ideal) (ix3 n i s) = if ok n i s then 1#1 else 0#1 := by
  unfold val_main_v58 val_main_v57 val_main_v56 val_main_v55 val_main_c_6 val_main_v54 val_main_v53 val_main_v52 val_main_v51
    val_main_v50 val_main_c_5 val_main_v49 val_main_v48 val_main_v47 val_main_c_4 val_main_v46 val_main_v45 val_main_v44
    val_main_v43 val_main_v42 val_main_v41 val_main_v40 val_main_c_3 val_main_v39 val_main_v38 val_main_c_2 val_main_v37
    val_main_v36 val_main_v35 val_main_v34 val_main_v33 val_main_v32 val_main_v31 val_main_c_1 val_main_v30 val_main_v29
    val_main_v28 val_main_v27
  pointwise
  rw [near_bit, low_bit, high_bit]
  by_cases h1 : i.val ≤ s.val ∧ s.val ≤ i.val + 256 <;> by_cases h2 : 128 ≤ n.val * 128 + s.val
    <;> by_cases h3 : n.val * 128 + s.val < 16512
  · rw [if_pos h1, if_pos h2, if_pos h3, if_pos (show ok n i s from ⟨h1.1, h1.2, h2, h3⟩)]; rfl
  · rw [if_pos h1, if_pos h2, if_neg h3, if_neg (show ¬ ok n i s from fun h => h3 h.2.2.2)]; rfl
  · rw [if_pos h1, if_neg h2, if_pos h3, if_neg (show ¬ ok n i s from fun h => h2 h.2.2.1)]; rfl
  · rw [if_pos h1, if_neg h2, if_neg h3, if_neg (show ¬ ok n i s from fun h => h2 h.2.2.1)]; rfl
  all_goals
    rw [if_neg h1, if_neg (show ¬ ok n i s from fun h => h1 ⟨h.1, h.2.1⟩)]
    split_ifs <;> rfl

theorem local_apply : val_main_v63 (F := Ideal) x1 (ix5 g j n i s)
    = (if ok n i s then ∑ x : Fin 128, val_main_v20 (F := Ideal) x1 (ix4 n s g x) * val_main_v3 (F := Ideal) x1 (ix5 n i g j x)
        else ⊥) * (AttnSoftmax.L : EReal) := by
  have m := mask_apply n i s
  unfold val_main_v63 val_main_call2_v2 val_main_call2_v1 val_main_call2_v0 val_main_cst_7 val_main_v62 val_main_v61
    val_main_v60 val_main_v59 val_main_v12 val_main_cst
  generalize val_main_v20 (F := Ideal) x1 = kb at *
  generalize val_main_v3 (F := Ideal) x1 = q at *
  generalize val_main_v58 (F := Ideal) = v at *
  pointwise
  rw [m, ln2]
  split
  · rfl
  · rw [AttnSoftmax.scale_bot]
    exact AttnSoftmax.negInf

theorem ctx_apply : val_main_v67 (F := Ideal) x1 x2 (ix5 g j n i c)
    = (∑ x : Fin 128, x2 (ix2 c ⟨g.val * 128 + x.val, by omega⟩) * val_main_v3 (F := Ideal) x1 (ix5 n i g j x))
        * (AttnSoftmax.L : EReal) := by
  unfold val_main_v67 val_main_v66 val_main_v65 val_main_v64 val_main_v12 val_main_cst val_main_v9 val_main_v8 val_main_v1
  generalize val_main_v3 (F := Ideal) x1 = q
  pointwise
  rw [ln2]

/-- The sink's logit of head `j` of group `g`. -/
def snk : EReal := x0 (ix1 ⟨g.val * 4 + j.val, by omega⟩)

theorem sink_apply : val_main_v73 (F := Ideal) x0 (ix5 g j n i 0) = snk x0 g j := by
  unfold val_main_v73 val_main_v14 val_main_v13 snk
  pointwise

theorem top_local : val_main_v68 (F := Ideal) x1 (ix4 g j n i)
    = Finset.univ.sup fun s => val_main_v63 (F := Ideal) x1 (ix5 g j n i s) := by
  unfold val_main_v68 val_main_cst_8
  generalize val_main_v63 (F := Ideal) x1 = q
  pointwise
  rw [AttnSoftmax.negInf]
  rfl

theorem top_ctx : val_main_v70 (F := Ideal) x1 x2 (ix4 g j n i)
    = Finset.univ.sup fun s => val_main_v67 (F := Ideal) x1 x2 (ix5 g j n i s) := by
  unfold val_main_v70 val_main_cst_9
  generalize val_main_v67 (F := Ideal) x1 x2 = q
  pointwise
  rw [AttnSoftmax.negInf]
  rfl

/-- The row's scores over the window, over the context, as the reference holds them. -/
def rS : Fin 384 → EReal := fun s => val_main_v63 (F := Ideal) x1 (ix5 g j n i s)
def rB : Fin 256 → EReal := fun c => val_main_v67 (F := Ideal) x1 x2 (ix5 g j n i c)

theorem top_local' : val_main_v69 (F := Ideal) x1 (ix5 g j n i 0)
    = Finset.univ.sup fun s => val_main_v63 (F := Ideal) x1 (ix5 g j n i s) := by
  rw [← top_local]
  unfold val_main_v69
  generalize val_main_v68 (F := Ideal) x1 = q
  pointwise

theorem top_ctx' : val_main_v71 (F := Ideal) x1 x2 (ix5 g j n i 0)
    = Finset.univ.sup fun s => val_main_v67 (F := Ideal) x1 x2 (ix5 g j n i s) := by
  rw [← top_ctx]
  unfold val_main_v71
  generalize val_main_v70 (F := Ideal) x1 x2 = q
  pointwise

/-- The row's largest logit. -/
theorem top_apply : val_main_v74 (F := Ideal) x0 x1 x2 (ix5 g j n i 0)
    = AttnSoftmax.top2 (rS x1 n i g j) (rB x1 x2 n i g j) (snk x0 g j) := by
  unfold AttnSoftmax.top2 rS rB
  rw [val_main_v74_apply, val_main_v72_apply, top_local', top_ctx', sink_apply]
  rfl

/-- The weight of window entry `s`, and of context entry `c`, before the division. -/
theorem pl_apply : val_main_v77 (F := Ideal) x0 x1 x2 (ix5 g j n i s)
    = Ideal.exp (rS x1 n i g j s - AttnSoftmax.top2 (rS x1 n i g j) (rB x1 x2 n i g j) (snk x0 g j)) := by
  rw [← top_apply]
  unfold val_main_v77 val_main_v76 val_main_v75 rS
  generalize val_main_v63 (F := Ideal) x1 = q
  generalize val_main_v74 (F := Ideal) x0 x1 x2 = b
  pointwise

theorem pc_apply : val_main_v80 (F := Ideal) x0 x1 x2 (ix5 g j n i c)
    = Ideal.exp (rB x1 x2 n i g j c - AttnSoftmax.top2 (rS x1 n i g j) (rB x1 x2 n i g j) (snk x0 g j)) := by
  rw [← top_apply]
  unfold val_main_v80 val_main_v79 val_main_v78 rB
  generalize val_main_v67 (F := Ideal) x1 x2 = q
  generalize val_main_v74 (F := Ideal) x0 x1 x2 = b
  pointwise

theorem suml_apply : val_main_v81 (F := Ideal) x0 x1 x2 (ix4 g j n i)
    = ∑ s, val_main_v77 (F := Ideal) x0 x1 x2 (ix5 g j n i s) := by
  unfold val_main_v81 val_main_cst_10
  generalize val_main_v77 (F := Ideal) x0 x1 x2 = b
  pointwise

theorem sumc_apply : val_main_v83 (F := Ideal) x0 x1 x2 (ix4 g j n i)
    = ∑ c, val_main_v80 (F := Ideal) x0 x1 x2 (ix5 g j n i c) := by
  unfold val_main_v83 val_main_cst_11
  generalize val_main_v80 (F := Ideal) x0 x1 x2 = b
  pointwise

/-- The row's denominator. -/
theorem den_apply : val_main_v89 (F := Ideal) x0 x1 x2 (ix5 g j n i 0)
    = AttnSoftmax.denE (rS x1 n i g j) (rB x1 x2 n i g j) (snk x0 g j) := by
  have e : val_main_v89 (F := Ideal) x0 x1 x2 (ix5 g j n i 0)
      = val_main_v81 (F := Ideal) x0 x1 x2 (ix4 g j n i) + val_main_v83 (F := Ideal) x0 x1 x2 (ix4 g j n i)
        + Ideal.exp (snk x0 g j - val_main_v74 (F := Ideal) x0 x1 x2 (ix5 g j n i 0)) := by
    unfold val_main_v89 val_main_v88 val_main_v87 val_main_v86 val_main_v85 val_main_v84 val_main_v82 val_main_v14 val_main_v13 snk
    generalize val_main_v81 (F := Ideal) x0 x1 x2 = q
    generalize val_main_v83 (F := Ideal) x0 x1 x2 = r
    generalize val_main_v74 (F := Ideal) x0 x1 x2 = b
    pointwise
  rw [e, suml_apply, sumc_apply, top_apply]
  unfold AttnSoftmax.denE
  simp only [pl_apply, pc_apply]

theorem ol_apply : val_main_v93 (F := Ideal) x0 x1 x2 (ix5 n i g j d)
    = ∑ s, val_main_v26 (F := Ideal) x1 (ix4 n s g d)
        * Ideal.div (val_main_v77 (F := Ideal) x0 x1 x2 (ix5 g j n i s)) (val_main_v89 (F := Ideal) x0 x1 x2 (ix5 g j n i 0)) := by
  unfold val_main_v93 val_main_v92 val_main_v91 val_main_v90
  generalize val_main_v77 (F := Ideal) x0 x1 x2 = q
  generalize val_main_v89 (F := Ideal) x0 x1 x2 = r
  generalize val_main_v26 (F := Ideal) x1 = b
  pointwise

theorem oc_apply : val_main_v97 (F := Ideal) x0 x1 x2 (ix5 n i g j d)
    = ∑ c, x2 (ix2 c ⟨512 + (g.val * 128 + d.val), by omega⟩)
        * Ideal.div (val_main_v80 (F := Ideal) x0 x1 x2 (ix5 g j n i c)) (val_main_v89 (F := Ideal) x0 x1 x2 (ix5 g j n i 0)) := by
  unfold val_main_v97 val_main_v96 val_main_v95 val_main_v94 val_main_v11 val_main_v10 val_main_v1
  generalize val_main_v80 (F := Ideal) x0 x1 x2 = q
  generalize val_main_v89 (F := Ideal) x0 x1 x2 = r
  pointwise

/-- An entry of the reference's result: the softmax-weighted values of the window and of the context. -/
theorem o_apply (ρ : Fin 16384) (e : Fin 2048) (hρ : ρ.val = 128 * n.val + i.val)
    (he : e.val = 512 * g.val + 128 * j.val + d.val) :
    val_main_v100 (F := Ideal) x0 x1 x2 (ix2 ρ e)
      = AttnSoftmax.outE (rS x1 n i g j) (rB x1 x2 n i g j) (snk x0 g j)
          (fun s => nbr x1 n s ⟨2560 + (g.val * 128 + d.val), by omega⟩)
          (fun c => x2 (ix2 c ⟨512 + (g.val * 128 + d.val), by omega⟩)) := by
  have e0 : val_main_v100 (F := Ideal) x0 x1 x2 (ix2 ρ e)
      = val_main_v93 (F := Ideal) x0 x1 x2 (ix5 n i g j d) + val_main_v97 (F := Ideal) x0 x1 x2 (ix5 n i g j d) := by
    have e1 : (⟨ρ.val / 128, by omega⟩ : Fin 128) = n := Fin.ext (by show ρ.val / 128 = n.val; omega)
    have e2 : (⟨ρ.val % 128, by omega⟩ : Fin 128) = i := Fin.ext (by show ρ.val % 128 = i.val; omega)
    have e3 : (⟨e.val / 512, by omega⟩ : Fin 4) = g := Fin.ext (by show e.val / 512 = g.val; omega)
    have e4 : (⟨e.val / 128 % 4, by omega⟩ : Fin 4) = j := Fin.ext (by show e.val / 128 % 4 = j.val; omega)
    have e5 : (⟨e.val % 128, by omega⟩ : Fin 128) = d := Fin.ext (by show e.val % 128 = d.val; omega)
    unfold val_main_v100 val_main_v99 val_main_v98
    generalize val_main_v93 (F := Ideal) x0 x1 x2 = q
    generalize val_main_v97 (F := Ideal) x0 x1 x2 = r
    pointwise
    rw [e1, e2, e3, e4, e5]
  rw [e0, ol_apply, oc_apply, den_apply]
  unfold AttnSoftmax.outE
  simp only [pl_apply, pc_apply, v_apply]

end Cert.AttnRefIdeal.Work

end
-- ==== Proof.AttnFinite.lean ====
/-
  What the precondition of the attention claim says: the sinks, the queries, the keys and the context's keys are real.
-/
module

public import proofs.«01_k».proof.Defs
public import Idealize.ShloMosaic.Lib.Pointwise

@[expose] public section

set_option maxRecDepth 16384

noncomputable section

namespace Cert.AttnFinite

open Cert.Pre_scores_finite Cert.Pre_scores_finite.Facts Idealize.ShloMosaic Idealize.ShloMosaic.TcCoe Idealize.SL.Sem

variable [hP : Cert.Pre_scores_finite.Facts]
variable (x0 : FVec Ideal S16 .f32) (x1 : FVec Ideal S16384x3072 .bf16) (x2 : FVec Ideal S256x1024 .bf16)

/-- A value whose absolute value is below infinity is a real number. -/
theorem real_of_abs {x : EReal} (h : BitVec.ofBool (decide (max x (-x) < (⊤ : EReal))) = 1#1) : ∃ r : ℝ, x = (r : EReal) := by
  have h' : max x (-x) < ⊤ := by
    by_contra hn
    rw [decide_eq_false hn] at h
    exact absurd h (by decide)
  induction x with
  | bot => exact absurd h' (by simp)
  | top => exact absurd h' (by simp)
  | coe r => exact ⟨r, rfl⟩

/-- The single precision word of infinity denotes infinity. -/
theorem inf_f32 : Ideal.ofBits FTy.f32 0x7F800000#32 = (⊤ : EReal) := by
  simp [Ideal.ofBits, Ideal.ieee]

/-- The half precision word of infinity denotes infinity. -/
theorem inf_bf16 : Ideal.ofBits FTy.bf16 0x7F80#16 = (⊤ : EReal) := by
  simp [Ideal.ofBits, Ideal.ieee]

/-- The sinks are real. -/
theorem sink_real (h : (fn (F := Ideal) x0 x1 x2).1 = fun _ => 1#1) (k : Fin 16) : ∃ r : ℝ, x0 (ix1 k) = (r : EReal) := by
  have e := congrFun h (ix1 k)
  unfold fn at e
  dsimp only at e
  revert e
  pointwise
  rw [inf_f32]
  exact fun e => real_of_abs e

/-- The queries, the keys and whatever else lies in the first 2560 columns are real. -/
theorem qkv_real (h : (fn (F := Ideal) x0 x1 x2).2.1 = fun _ => 1#1) (ρ : Fin 16384) (e : Fin 3072) (he : e.val < 2560) :
    ∃ r : ℝ, x1 (ix2 ρ e) = (r : EReal) := by
  have e' := congrFun h (ix2 ρ (⟨e.val, he⟩ : Fin 2560))
  unfold fn at e'
  dsimp only at e'
  revert e'
  pointwise
  rw [inf_bf16]
  exact fun e => real_of_abs e

/-- The context's keys are real. -/
theorem kvc_real (h : (fn (F := Ideal) x0 x1 x2).2.2 = fun _ => 1#1) (c : Fin 256) (e : Fin 1024) (he : e.val < 512) :
    ∃ r : ℝ, x2 (ix2 c e) = (r : EReal) := by
  have e' := congrFun h (ix2 c (⟨e.val, he⟩ : Fin 512))
  unfold fn at e'
  dsimp only at e'
  revert e'
  pointwise
  rw [inf_bf16]
  exact fun e => real_of_abs e

end Cert.AttnFinite

end
-- ==== Proof.AttnEq.lean ====
/-
  The attention call and its reference leave the same array, over the extended reals, where the sinks, the queries and the
  keys are finite.
-/
module

public import proofs.«01_k».proof.Defs
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnArr
public import proofs.«01_k».proof.Proof.AttnRef
public import proofs.«01_k».proof.Proof.AttnFinite
public import Idealize.ShloMosaic.Lib.Claim

@[expose] public section

set_option maxRecDepth 16384

noncomputable section

namespace Cert.AttnEq

open Idealize.ShloMosaic Idealize.ShloMosaic.TcCoe Idealize.SL.Sem
open Cert.AttnIdeal Cert.AttnIdeal.Gen Cert.AttnIdeal.Work
open Cert.AttnRefIdeal.Work (nbr ok snk rS rB)

variable (m : (ℓ : Loc nD τ sig) → Buf (Elt Ideal) ℓ) (c : Dev nD) (t : Fin cfg0.N) (g j : Fin 4) (i d : Fin 128)

/-- The grid point as the reference's block of queries. -/
def blk : Fin 128 := ⟨t.val, lt128 t⟩

/-- An entry of the queries the row takes. -/
def qe (x : Fin 128) : EReal :=
  Qkv m c (ix2 ⟨t.val * 128 + i.val, by have := lt128 t; omega⟩ ⟨g.val * 512 + j.val * 128 + x.val, by omega⟩)

theorem q_eq (x : Fin 128) : qt (X0_1 m c t) (hd g j) (ix2 i x) = qe m c t g j i x := by
  rw [q_blk]
  unfold qe
  refine congrArg (fun e => Qkv m c (ix2 _ e)) (Fin.ext ?_)
  show 128 * (4 * g.val + j.val) + x.val = g.val * 512 + j.val * 128 + x.val
  omega

/-- The score of a window key, before the change of base: the product where the key is open, minus infinity elsewhere. -/
def sc (s : Fin 384) : EReal :=
  if ok (blk t) i s then
    ∑ x : Fin 128, nbr (Qkv m c) (blk t) s ⟨2048 + (g.val * 128 + x.val), by omega⟩ * qe m c t g j i x
  else ⊥

/-- The score of a context key, before the change of base. -/
def sb (y : Fin 256) : EReal :=
  ∑ x : Fin 128, Kvc m c (ix2 y ⟨g.val * 128 + x.val, by omega⟩) * qe m c t g j i x

/-- A row of the three blocks that is not padding. -/
theorem nbr_row (s : Fin 384) (e : Fin 3072) (r : Fin 16384) (h1 : 128 ≤ t.val * 128 + s.val)
    (h2 : r.val = t.val * 128 + s.val - 128) : nbr (Qkv m c) (blk t) s e = Qkv m c (ix2 r e) := by
  unfold nbr
  rw [dif_pos (show 128 ≤ (blk t).val * 128 + s.val ∧ (blk t).val * 128 + s.val - 128 < 16384 from
    ⟨h1, by show t.val * 128 + s.val - 128 < 16384; have := r.isLt; omega⟩)]
  exact congrArg (fun r => Qkv m c (ix2 r e)) (Fin.ext h2.symm)

/-- The reference's row of window scores. -/
theorem ref_window : rS (Qkv m c) (blk t) i g j = fun s => sc m c t g j i s * (AttnSoftmax.L : EReal) := by
  funext s
  unfold rS
  rw [Cert.AttnRefIdeal.Work.local_apply]
  refine congrArg (· * _) ?_
  unfold sc
  simp only [Cert.AttnRefIdeal.Work.k_apply, Cert.AttnRefIdeal.Work.q_apply]
  rfl

/-- The reference's row of context scores. -/
theorem ref_context : rB (Qkv m c) (Kvc m c) (blk t) i g j = fun y => sb m c t g j i y * (AttnSoftmax.L : EReal) := by
  funext y
  unfold rB
  rw [Cert.AttnRefIdeal.Work.ctx_apply]
  refine congrArg (· * _) ?_
  simp only [Cert.AttnRefIdeal.Work.q_apply]
  rfl

/-- A product of a query with a key, in the reference's order. -/
theorem dot_eq (k k' : Fin 128 → EReal) (hk : ∀ x, k x = k' x) :
    dotq (X0_1 m c t) g j i k = ∑ x : Fin 128, k' x * qe m c t g j i x := by
  unfold dotq
  refine Finset.sum_congr rfl fun x _ => ?_
  rw [q_eq, hk, mul_comm]

/-- The kernel's row of context scores. -/
theorem ker_context : rowB (X0_1 m c t) (iblk m c 8 t) g j i = sb m c t g j i := by
  funext y
  exact dot_eq m c t g j i _ _ fun x => kc_blk m c t g x y

/-- The kernel's row of window scores. -/
theorem ker_window : rowS (X0_1 m c t) (iblk m c 2 t) (iblk m c 3 t) (iblk m c 4 t) (iblk m c 10 t) g j i = sc m c t g j i := by
  have ht := lt128 t
  funext s
  unfold rowS
  refine AttnSoftmax.win_cases (p := fun s => AttnSoftmax.win _ _ _ s = sc m c t g j i s) (fun x => ?_) (fun x => ?_) (fun x => ?_) s
  · rw [AttnSoftmax.win0, b0_blk]
    unfold sc bias
    dsimp only
    by_cases h : t.val ≠ 0 ∧ i.val ≤ x.val
    · rw [if_pos (show ok (blk t) i _ from ⟨h.2, by show x.val ≤ _; omega, by show 128 ≤ t.val * 128 + x.val; omega, by show t.val * 128 + x.val < _; omega⟩),
        if_pos (Or.inl ⟨x.isLt, by unfold var; split_ifs <;> omega, h.2⟩), add_zero]
      refine dot_eq m c t g j i _ _ fun y => ?_
      rw [k2_blk, nbr_row m c t _ _ ⟨prev t.val * 128 + x.val, by have := prev_le t; omega⟩]
      · show 128 ≤ t.val * 128 + x.val
        omega
      · show (t.val - 1) * 128 + x.val = t.val * 128 + x.val - 128
        omega
    · rw [if_neg (show ¬ ok (blk t) i _ from fun hk => h ⟨by have : 128 ≤ t.val * 128 + x.val := hk.2.2.1; omega, hk.1⟩),
        if_neg, EReal.add_bot]
      rintro (⟨_, hv, hi⟩ | ⟨hx, _⟩)
      · refine h ⟨fun h0 => hv ?_, hi⟩
        unfold var
        rw [if_pos h0]
      · omega
  · rw [AttnSoftmax.win1]
    unfold sc
    rw [if_pos (show ok (blk t) i _ from ⟨by show i.val ≤ 128 + x.val; omega, by show 128 + x.val ≤ _; omega, by show 128 ≤ t.val * 128 + (128 + x.val); omega, by show t.val * 128 + (128 + x.val) < _; omega⟩)]
    refine dot_eq m c t g j i _ _ fun y => ?_
    rw [k3_blk, nbr_row m c t _ _ ⟨t.val * 128 + x.val, by omega⟩]
    · show 128 ≤ t.val * 128 + (128 + x.val)
      omega
    · show t.val * 128 + x.val = t.val * 128 + (128 + x.val) - 128
      omega
  · rw [AttnSoftmax.win2, b1_blk]
    unfold sc bias
    dsimp only
    by_cases h : t.val ≠ 127 ∧ x.val ≤ i.val
    · rw [if_pos (show ok (blk t) i _ from ⟨by show i.val ≤ 256 + x.val; omega, by show 256 + x.val ≤ _; omega, by show 128 ≤ t.val * 128 + (256 + x.val); omega, by show t.val * 128 + (256 + x.val) < _; omega⟩),
        if_pos (Or.inr ⟨by omega, by unfold var; split_ifs <;> omega, by omega⟩), add_zero]
      refine dot_eq m c t g j i _ _ fun y => ?_
      rw [k4_blk, nbr_row m c t _ _ ⟨next t.val * 128 + x.val, by have := next_le t; omega⟩]
      · show 128 ≤ t.val * 128 + (256 + x.val)
        omega
      · show (min (t.val + 1) 127) * 128 + x.val = t.val * 128 + (256 + x.val) - 128
        omega
    · rw [if_neg (show ¬ ok (blk t) i _ from fun hk => h ⟨by have : t.val * 128 + (256 + x.val) < 16512 := hk.2.2.2; omega, by have : 256 + x.val ≤ i.val + 256 := hk.2.1; omega⟩),
        if_neg, EReal.add_bot]
      rintro (⟨hx, _⟩ | ⟨_, hv, hi⟩)
      · omega
      · refine h ⟨fun h0 => hv ?_, by omega⟩
        unfold var
        rw [if_neg (by omega), if_pos h0]

/-- Where a window key is open the kernel's value is the reference's. -/
theorem value_eq (s : Fin 384) : sc m c t g j i s = ⊥
    ∨ rowW (iblk m c 5 t) (iblk m c 6 t) (iblk m c 7 t) g d s = nbr (Qkv m c) (blk t) s ⟨2560 + (g.val * 128 + d.val), by omega⟩ := by
  have ht := lt128 t
  by_cases hk : ok (blk t) i s
  · right
    revert hk
    unfold rowW
    refine AttnSoftmax.win_cases (p := fun s => ok (blk t) i s → AttnSoftmax.win _ _ _ s = nbr (Qkv m c) (blk t) s _)
      (fun x hk => ?_) (fun x hk => ?_) (fun x hk => ?_) s
    · have h : 128 ≤ t.val * 128 + x.val := hk.2.2.1
      rw [AttnSoftmax.win0, v5_blk, nbr_row m c t _ _ ⟨prev t.val * 128 + x.val, by have := prev_le t; omega⟩ h]
      show (t.val - 1) * 128 + x.val = t.val * 128 + x.val - 128
      omega
    · rw [AttnSoftmax.win1, v6_blk, nbr_row m c t _ _ ⟨t.val * 128 + x.val, by omega⟩]
      · show 128 ≤ t.val * 128 + (128 + x.val)
        omega
      · show t.val * 128 + x.val = t.val * 128 + (128 + x.val) - 128
        omega
    · have h : t.val * 128 + (256 + x.val) < 16512 := hk.2.2.2
      rw [AttnSoftmax.win2, v7_blk, nbr_row m c t _ _ ⟨next t.val * 128 + x.val, by have := next_le t; omega⟩]
      · show 128 ≤ t.val * 128 + (256 + x.val)
        omega
      · show (min (t.val + 1) 127) * 128 + x.val = t.val * 128 + (256 + x.val) - 128
        omega
  · left
    unfold sc
    rw [if_neg hk]

/-- A sum of products of reals is real. -/
theorem dot_real (a b : Fin 128 → EReal) (ha : ∀ x, ∃ r : ℝ, a x = (r : EReal)) (hb : ∀ x, ∃ r : ℝ, b x = (r : EReal)) :
    ∃ r : ℝ, ∑ x, a x * b x = (r : EReal) := by
  choose p hp using ha
  choose q hq using hb
  refine ⟨∑ x, p x * q x, ?_⟩
  rw [← AttnSoftmax.coe_sum]
  exact Finset.sum_congr rfl fun x _ => by rw [hp, hq, EReal.coe_mul]

variable (h0 : ∀ k : Fin 16, ∃ r : ℝ, Sink m c (ix1 k) = (r : EReal))
  (h1 : ∀ (ρ : Fin 16384) (e : Fin 3072), e.val < 2560 → ∃ r : ℝ, Qkv m c (ix2 ρ e) = (r : EReal))
  (h2 : ∀ (y : Fin 256) (e : Fin 1024), e.val < 512 → ∃ r : ℝ, Kvc m c (ix2 y e) = (r : EReal))

include h1 in
theorem sc_score (s : Fin 384) : AttnSoftmax.Score (sc m c t g j i s) := by
  have ht := lt128 t
  unfold sc
  by_cases hk : ok (blk t) i s
  · rw [if_pos hk]
    have ha : 128 ≤ t.val * 128 + s.val := hk.2.2.1
    have hb : t.val * 128 + s.val < 16512 := hk.2.2.2
    refine Or.inr (dot_real _ _ (fun x => ?_) fun x => h1 _ _ (by show g.val * 512 + j.val * 128 + x.val < 2560; omega))
    rw [nbr_row m c t s _ ⟨t.val * 128 + s.val - 128, by omega⟩ ha rfl]
    exact h1 _ _ (by show 2048 + (g.val * 128 + x.val) < 2560; omega)
  · rw [if_neg hk]
    exact Or.inl rfl

include h1 h2 in
theorem sb_score (y : Fin 256) : AttnSoftmax.Score (sb m c t g j i y) :=
  Or.inr (dot_real _ _ (fun x => h2 _ _ (by show g.val * 128 + x.val < 512; omega))
    fun x => h1 _ _ (by show g.val * 512 + j.val * 128 + x.val < 2560; omega))

include h0 h1 h2 in
/-- One entry of the result: the kernel's is the reference's. -/
theorem entry_eq : Res m c (ix2 ⟨t.val * 128 + i.val, by have := lt128 t; omega⟩ ⟨512 * g.val + 128 * j.val + d.val, by omega⟩)
    = Cert.AttnRefIdeal.Read.val_main_v100 (F := Ideal) (Sink m c) (Qkv m c) (Kvc m c)
      (ix2 ⟨t.val * 128 + i.val, by have := lt128 t; omega⟩ ⟨512 * g.val + 128 * j.val + d.val, by omega⟩) := by
  rw [Cert.AttnRefIdeal.Work.o_apply (Sink m c) (Qkv m c) (Kvc m c) (blk t) i g j d _ _
    (by show t.val * 128 + i.val = 128 * t.val + i.val; omega) rfl,
    res_apply, ref_window, ref_context, ker_window, ker_context, sink_blk]
  obtain ⟨u0, hu⟩ := h0 (hd g j)
  have hs : Cert.AttnRefIdeal.Work.snk (Sink m c) g j = Sink m c (ix1 (hd g j)) := by
    unfold Cert.AttnRefIdeal.Work.snk
    refine congrArg (fun k => Sink m c (ix1 k)) (Fin.ext ?_)
    show g.val * 4 + j.val = 4 * g.val + j.val
    omega
  have hu1 : (u0 : EReal) * (((Real.log 2)⁻¹ : ℝ) : EReal) = ((u0 * (Real.log 2)⁻¹ : ℝ) : EReal) := (EReal.coe_mul _ _).symm
  have hu2 : ((u0 * (Real.log 2)⁻¹ : ℝ) : EReal) * (AttnSoftmax.L : EReal) = (u0 : EReal) := by
    rw [← EReal.coe_mul]
    refine congrArg Real.toEReal ?_
    show u0 * (Real.log 2)⁻¹ * Real.log 2 = u0
    have : Real.log 2 ≠ 0 := AttnSoftmax.L_pos.ne'
    field_simp
  have hc : (fun y => ct (iblk m c 9 t) g (ix2 y d)) = fun y => Kvc m c (ix2 y ⟨512 + (g.val * 128 + d.val), by omega⟩) :=
    funext fun y => vc_blk m c t g d y
  rw [hs, hu, hu1, hc, AttnSoftmax.out_eq _ _ _ _ _ _ (sc_score m c t g j i h1) (sb_score m c t g j i h1 h2) (value_eq m c t g j i d), hu2]

include h0 h1 h2 in
/-- The kernel's array is the reference's. -/
theorem array_eq : Cert.AttnRefIdeal.Read.val_main_v100 (F := Ideal) (Sink m c) (Qkv m c) (Kvc m c) = Res m c := by
  refine funext fun y => ?_
  obtain ⟨ρ, e, rfl⟩ : ∃ (ρ : Fin 16384) (e : Fin 2048), y = ix2 ρ e := ⟨y 0, y 1, eq_ix2 y⟩
  have h := entry_eq m c ⟨ρ.val / 128, lt_of_lt_of_eq (by omega : ρ.val / 128 < 128) N_0.symm⟩ ⟨e.val / 512, by omega⟩ ⟨e.val / 128 % 4, by omega⟩
    ⟨ρ.val % 128, by omega⟩ ⟨e.val % 128, by omega⟩ h0 h1 h2
  have e1 : (⟨ρ.val / 128 * 128 + ρ.val % 128, by omega⟩ : Fin 16384) = ρ := Fin.ext (by show ρ.val / 128 * 128 + ρ.val % 128 = ρ.val; omega)
  have e2 : (⟨512 * (e.val / 512) + 128 * (e.val / 128 % 4) + e.val % 128, by omega⟩ : Fin 2048) = e :=
    Fin.ext (by show 512 * (e.val / 512) + 128 * (e.val / 128 % 4) + e.val % 128 = e.val; omega)
  dsimp only at h
  rw [e1, e2] at h
  exact h.symm

/-- The side conditions of the precondition. -/
theorem facts : Cert.Pre_scores_finite.Facts where
  bcast_S_S16 := by decide
  slices_S16384x3072_S16384x2560_0_0 := by decide
  bcast_S_S16384x2560 := by decide
  slices_S256x1024_S256x512_0_0 := by decide
  bcast_S_S256x512 := by decide

/-- The claim: from agreeing arguments with finite sinks, queries and keys the kernel and the reference leave one result. -/
theorem algebraic : Cert.algebraic_AttnIdeal_AttnRefIdeal_pre_scores_finite (hPre_scores_finite := facts) := by
  letI := facts
  intro m g m' g' hpre hagree
  refine ⟨fun c => Res m c, Cert.AttnIdeal.Value.run_blocks m g, ?_⟩
  refine θ_run_mono (Cert.AttnRefIdeal.Value.run m' g') fun r hr c => ?_
  obtain ⟨hres, hargs⟩ := hr c
  refine ⟨hres.trans ?_, hargs⟩
  obtain ⟨a0, a1, a2⟩ := hagree c
  obtain ⟨p0, p1, p2⟩ := hpre c
  refine Eq.trans ?_ (array_eq m c (AttnFinite.sink_real _ _ _ p0) (AttnFinite.qkv_real _ _ _ p1) (AttnFinite.kvc_real _ _ _ p2))
  rw [Cert.AttnRefIdeal.Read.val_main_v100_eq m' c, a0, a1, a2]

end Cert.AttnEq

end
-- ==== Proof.FfnNextFrames.lean ====
/-
  The frames of the three programs of one call.
-/
module

public import proofs.«01_k».proof.Defs
public import proofs.«01_k».proof.Proof.Gen.FfnNext
public import proofs.«01_k».proof.Proof.Gen.FfnNext.Frame
public import proofs.«01_k».proof.Proof.Gen.FfnNextIdeal
public import proofs.«01_k».proof.Proof.Gen.FfnNextIdeal.Frame
public import proofs.«01_k».proof.Proof.Gen.FfnNextRefIdeal
public import proofs.«01_k».proof.Proof.Gen.FfnNextRefIdeal.Run
public import Idealize.ShloMosaic.Adequacy
public import Idealize.ShloMosaic.Init

@[expose] public section

noncomputable section

namespace Cert.FramesFfnNext

open Idealize.ShloMosaic Idealize.SL.Sem

theorem printed : Cert.quiescent_FfnNext := fun m g _ => Cert.FfnNext.Gen.frame m g

theorem ideal : Cert.quiescent_FfnNextIdeal := fun m g _ => Cert.FfnNextIdeal.Gen.frame m g

theorem ref : Cert.quiescent_FfnNextRefIdeal := fun m g _ =>
  (θ_run Cert.FfnNextRefIdeal.defs _ _).mono (fun r h => ⟨fun c => (h c).2.2.2, sem_eq_zero_of_no_sems (by decide) r.2⟩)
    (Cert.FfnNextRefIdeal.Value.run (F := Ideal) m g)

end Cert.FramesFfnNext

end
-- ==== Proof.FfnNextPoint.lean ====
/-
  What one grid point of the second form of the feed-forward call leaves in its two scratch arrays and in its output blocks, as the
  body's own arithmetic over whole blocks: the modulated rows (`uNew`), the accumulated down projection (`accNew`),
  the residual output (`outNew`) and the cast blocks of the next layer's weights.
-/
module

public import proofs.«01_k».proof.Proof.Gen.FfnNextIdeal.Value

@[expose] public section

set_option maxRecDepth 16384

noncomputable section

namespace Cert.FfnNextIdeal.Work

open Cert.FfnNextIdeal Cert.FfnNextIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

theorem hz4 : (![0, 0, 0, 0] : Fin 4 → Nat) = fun _ => 0 := funext fun a => by fin_cases a <;> rfl

/-- The modulated, normalised rows of a block `x0` under the packed vectors `x1`. -/
def uNew (x0 : Vec F S512x2048 .f32) (x1 : Vec F S8x2048 .f32) : Vec F S512x2048 .bf16 :=
  k0_pay6 (View.ld x1 (Rect.unit (s := S8x2048) ![3, 0] S1x2048.size inb_S8x2048_S1x2048_3_0))
    (View.ld x1 (Rect.unit (s := S8x2048) ![1, 0] S1x2048.size inb_S8x2048_S1x2048_1_0)) x0
    (View.ld x1 (Rect.unit (s := S8x2048) ![0, 0] S1x2048.size inb_S8x2048_S1x2048_0_0))

/-- The down projection's accumulator after step `j`, from the modulated rows `u`, the step's three weight blocks and
    the accumulator before. -/
def accNew (j : BitVec 32) (u : Vec F S512x2048 .bf16) (x2 x3 : Vec F S2048x512 .bf16) (x4 : Vec F S512x2048 .bf16)
    (acc : Vec F S512x2048 .f32) : Vec F S512x2048 .f32 :=
  k0_pay1 j
    (k0_pay7 u (View.ld x2 (Rect.unit (s := S2048x512) ![0, 0] S2048x256.size inb_S2048x512_S2048x256_0_0))
      (View.ld x3 (Rect.unit (s := S2048x512) ![0, 0] S2048x256.size inb_S2048x512_S2048x256_0_0))
      (View.ld x4 (Rect.unit (s := S512x2048) ![0, 0] S256x2048.size inb_S512x2048_S256x2048_0_0))
      (View.ld x2 (Rect.unit (s := S2048x512) ![0, 256] S2048x256.size inb_S2048x512_S2048x256_0_256))
      (View.ld x3 (Rect.unit (s := S2048x512) ![0, 256] S2048x256.size inb_S2048x512_S2048x256_0_256))
      (View.ld x4 (Rect.unit (s := S512x2048) ![256, 0] S256x2048.size inb_S512x2048_S256x2048_256_0))) 0#32 acc

/-- The output block: the residual rows plus the gated, normalised accumulator. -/
def outNew (x0 : Vec F S512x2048 .f32) (x1 : Vec F S8x2048 .f32) (acc : Vec F S512x2048 .f32) : Vec F S512x2048 .f32 :=
  k0_pay4 (View.ld x1 (Rect.unit (s := S8x2048) ![2, 0] S1x2048.size inb_S8x2048_S1x2048_2_0))
    (View.ld x1 (Rect.unit (s := S8x2048) ![4, 0] S1x2048.size inb_S8x2048_S1x2048_4_0)) x0 acc

section Cases

variable (c : Dev nD) (i : grid0.Coords) (arg2 : Memref sig .tc .vmem S512x2048 .f32) (harg2 : arg2.IsWhole)
  (arg3 : Memref sig .tc .vmem S8x2048 .f32) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x2048 .bf16) (harg6 : arg6.IsWhole)
  (arg7 : Memref sig .tc .vmem S1x1x64x1024 .f32) (harg7 : arg7.IsWhole) (arg8 : Memref sig .tc .vmem S1x1x16x2048 .f32) (harg8 : arg8.IsWhole)
  (arg9 : Memref sig .tc .vmem S512x2048 .f32) (harg9 : arg9.IsWhole) (arg10 : Memref sig .tc .vmem S64x1024 .bf16) (harg10 : arg10.IsWhole)
  (arg11 : Memref sig .tc .vmem S16x2048 .bf16) (harg11 : arg11.IsWhole) (arg12 : Memref sig .tc .vmem S512x2048 .bf16) (harg12 : arg12.IsWhole)
  (arg13 : Memref sig .tc .vmem S512x2048 .f32) (harg13 : arg13.IsWhole)
  (x0 : Vec F S512x2048 .f32) (x1 : Vec F S8x2048 .f32) (x2 : Vec F S2048x512 .bf16) (x3 : Vec F S2048x512 .bf16)
  (x4 : Vec F S512x2048 .bf16) (x5 : Vec F S1x1x64x1024 .f32) (x6 : Vec F S1x1x16x2048 .f32) (xs0 : Vec F S512x2048 .bf16) (xs1 : Vec F S512x2048 .f32)

/-- A middle step leaves the modulated rows as they were. -/
theorem sB0 (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1 = xs0 := rfl

/-- A middle step adds its chunk to the accumulator. -/
theorem sB1 (hc0 : ¬cond0_0 i) (hc1 : ¬cond0_1 i) (hc2 : ¬cond0_2 i) :
    sout0_B_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1
      = accNew (BitVec.ofNat 32 (i 1).val) xs0 x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1)]
  unfold kernelRun0_B
  dsimp only
  sl_unfold_words
  rw [View.canon_unit_zero (S := S512x2048) hz]
  simp only [View.readAt_eq_ld, harg2.read_unread, harg3.read_unread, harg4.read_unread, harg5.read_unread, harg6.read_unread, harg12.read_unread, harg13.read_unread, View.ld_unit_zero (S := S512x2048) hz]
  rfl

/-- The last step of a row block leaves the modulated rows as they were. -/
theorem sC0 (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1 = xs0 := rfl

/-- The last step of a row block adds its chunk to the accumulator. -/
theorem sC1 (hc0 : ¬cond0_0 i) (hc1 : ¬cond0_1 i) (hc2 : cond0_2 i) :
    sout0_C_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1
      = accNew (BitVec.ofNat 32 (i 1).val) xs0 x2 x3 x4 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1)]
  unfold kernelRun0_C
  dsimp only
  sl_unfold_words
  rw [View.canon_unit_zero (S := S512x2048) hz]
  simp only [View.readAt_eq_ld, harg2.read_unread, harg3.read_unread, harg4.read_unread, harg5.read_unread, harg6.read_unread, harg12.read_unread, harg13.read_unread, View.ld_unit_zero (S := S512x2048) hz]
  rfl

/-- The last step of a row block writes the output block from the accumulator it has just completed. -/
theorem oC7 (hc0 : ¬cond0_0 i) (hc1 : ¬cond0_1 i) (hc2 : cond0_2 i) :
    out0_C_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1
      = outNew x0 x1 (accNew (BitVec.ofNat 32 (i 1).val) xs0 x2 x3 x4 xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1)]
  unfold kernelRun0_C
  dsimp only
  sl_unfold_words
  rw [View.canon_unit_zero (S := S512x2048) hz]
  simp only [View.readAt_eq_ld, harg2.read_unread, harg3.read_unread, harg4.read_unread, harg5.read_unread, harg6.read_unread, harg12.read_unread, harg13.read_unread, View.ld_unit_zero (S := S512x2048) hz, View.readCov_unit_zero (S := S512x2048) _ hz]
  rfl

/-- The first step of a later row block stores the block's modulated rows. -/
theorem sD0 (hc0 : ¬cond0_0 i) (hc1 : cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1
      = uNew x0 x1 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1)]
  unfold kernelRun0_D
  dsimp only
  sl_unfold_words
  rw [View.canon_unit_zero (S := S512x2048) hz]
  simp only [View.readAt_eq_ld, harg2.read_unread, harg3.read_unread, View.ld_unit_zero (S := S512x2048) hz]
  rfl

/-- The first step of a later row block: the accumulator from the rows it has just stored. -/
theorem sD1 (hc0 : ¬cond0_0 i) (hc1 : cond0_1 i) (hc2 : ¬cond0_2 i) :
    sout0_D_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1
      = accNew (BitVec.ofNat 32 (i 1).val) (uNew x0 x1) x2 x3 x4 xs1 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1)]
  unfold kernelRun0_D
  dsimp only
  sl_unfold_words
  rw [View.canon_unit_zero (S := S512x2048) hz]
  simp only [View.readAt_eq_ld, harg2.read_unread, harg3.read_unread, harg4.read_unread, harg5.read_unread, harg6.read_unread, harg12.read_unread, harg13.read_unread, View.ld_unit_zero (S := S512x2048) hz, View.readCov_unit_zero (S := S512x2048) _ hz]
  rfl

/-- The very first point stores the first row block's modulated rows. -/
theorem sA0 (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6
      = uNew x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  rw [View.canon_unit_zero (S := S512x2048) hz]
  simp only [View.readAt_eq_ld, harg2.read_unread, harg3.read_unread, View.ld_unit_zero (S := S512x2048) hz]
  rfl

/-- The very first point: the accumulator from the zeros it has just stored. -/
theorem sA1 (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6
      = accNew (BitVec.ofNat 32 (i 1).val) (uNew x0 x1) x2 x3 x4 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  rw [View.canon_cons_unit_zero (S := S512x2048) hz]
  simp only [View.readAt_eq_ld, harg2.read_unread, harg3.read_unread, harg4.read_unread, harg5.read_unread, harg6.read_unread, harg12.read_unread, harg13.read_unread, View.ld_unit_zero (S := S512x2048) hz, View.readCov_unit_zero (S := S512x2048) _ hz]
  rfl

/-- A point of case A casts its block of the next layer's up projection. -/
theorem oA8 (hc0 : cond0_0 i) (hc1 : cond0_1 i) (hc2 : ¬cond0_2 i) :
    out0_A_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6
      = k0_pay2 x5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  rw [View.canon_unit_zero (S := S64x1024) hz]
  simp only [View.readAt_eq_ld, harg7.read_unread, View.ld_unit_zero (S := S1x1x64x1024) hz4]

/-- A point of case A casts its block of the next layer's down projection. -/
theorem oA9 (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6
      = k0_pay3 x6 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  rw [View.canon_unit_zero (S := S16x2048) hz]
  simp only [View.readAt_eq_ld, harg8.read_unread, View.ld_unit_zero (S := S1x1x16x2048) hz4]

/-- A point of case B casts its block of the next layer's up projection. -/
theorem oB8 (hc0 : ¬cond0_0 i) (hc1 : ¬cond0_1 i) (hc2 : ¬cond0_2 i) :
    out0_B_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1
      = k0_pay2 x5 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1)]
  unfold kernelRun0_B
  dsimp only
  sl_unfold_words
  rw [View.canon_unit_zero (S := S64x1024) hz]
  simp only [View.readAt_eq_ld, harg7.read_unread, View.ld_unit_zero (S := S1x1x64x1024) hz4]

/-- A point of case B casts its block of the next layer's down projection. -/
theorem oB9 (hc0 : ¬cond0_0 i) (hc1 : ¬cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1
      = k0_pay3 x6 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1)]
  unfold kernelRun0_B
  dsimp only
  sl_unfold_words
  rw [View.canon_unit_zero (S := S16x2048) hz]
  simp only [View.readAt_eq_ld, harg8.read_unread, View.ld_unit_zero (S := S1x1x16x2048) hz4]

/-- A point of case C casts its block of the next layer's up projection. -/
theorem oC8 (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1
      = k0_pay2 x5 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1)]
  unfold kernelRun0_C
  dsimp only
  sl_unfold_words
  rw [View.canon_unit_zero (S := S64x1024) hz]
  simp only [View.readAt_eq_ld, harg7.read_unread, View.ld_unit_zero (S := S1x1x64x1024) hz4]

/-- A point of case C casts its block of the next layer's down projection. -/
theorem oC9 (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1
      = k0_pay3 x6 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 xs1)]
  unfold kernelRun0_C
  dsimp only
  sl_unfold_words
  rw [View.canon_unit_zero (S := S16x2048) hz]
  simp only [View.readAt_eq_ld, harg8.read_unread, View.ld_unit_zero (S := S1x1x16x2048) hz4]

/-- A point of case D casts its block of the next layer's up projection. -/
theorem oD8 (hc0 : ¬cond0_0 i) (hc1 : cond0_1 i) (hc2 : ¬cond0_2 i) :
    out0_D_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1
      = k0_pay2 x5 := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1)]
  unfold kernelRun0_D
  dsimp only
  sl_unfold_words
  rw [View.canon_unit_zero (S := S64x1024) hz]
  simp only [View.readAt_eq_ld, harg7.read_unread, View.ld_unit_zero (S := S1x1x64x1024) hz4]

/-- A point of case D casts its block of the next layer's down projection. -/
theorem oD9 (hc0 : ¬cond0_0 i) (hc1 : cond0_1 i) (hc2 : ¬cond0_2 i) :
    out0_D_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1
      = k0_pay3 x6 := by
  unfold out0_D_9
  rw [View.read_writes_eq_canon _ _ _ (cover0_D_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1)]
  unfold kernelRun0_D
  dsimp only
  sl_unfold_words
  rw [View.canon_unit_zero (S := S16x2048) hz]
  simp only [View.readAt_eq_ld, harg8.read_unread, View.ld_unit_zero (S := S1x1x16x2048) hz4]

end Cases

end Cert.FfnNextIdeal.Work

end
-- ==== Proof.FfnNextBlocks.lean ====
/-
  What the second form of the feed-forward call's input windows hold at each grid point, as entries of the arguments: the row block of
  `h`, the packed modulation vectors, the three weight blocks
  of the step, and the blocks of the next layer's weights that the point casts.
-/
module

public import proofs.«01_k».proof.Proof.FfnNextPoint
public import Idealize.ShloMosaic.Lib.Pointwise
public import Idealize.ShloMosaic.Lib.StableHlo.ReadAt

@[expose] public section

set_option maxRecDepth 16384

noncomputable section

namespace Cert.FfnNextIdeal.Work

open Cert.FfnNextIdeal Cert.FfnNextIdeal.Gen Idealize.ShloMosaic Idealize.ShloMosaic.TcCoe Idealize.SL.Sem

variable (m : (ℓ : Loc nD τ sig) → Buf (Elt Ideal) ℓ)

theorem lt352 (t : Fin cfg0.N) : t.val < 352 := lt_of_lt_of_eq t.isLt N_0

/-- The index maps at every point: the row block is `t / 11`, the step `t % 11`. -/
theorem idx_facts : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11 + 11
    ∧ win0_4.index t (0 : Fin 2) = t.val % 11 ∧ win0_4.index t (1 : Fin 2) = 0
    ∧ win0_5.index t (0 : Fin 4) = 1 ∧ win0_5.index t (1 : Fin 4) = 0
    ∧ win0_5.index t (2 : Fin 4) = t.val / 11 ∧ win0_5.index t (3 : Fin 4) = t.val % 11
    ∧ win0_6.index t (0 : Fin 4) = 1 ∧ win0_6.index t (1 : Fin 4) = 0
    ∧ win0_6.index t (2 : Fin 4) = t.val ∧ win0_6.index t (3 : Fin 4) = 0
    ∧ (grid0.coords t 1).val = t.val % 11 :=
  (by decide +kernel : ∀ t : Fin grid0.N, _)

/-- The eight arguments, as arrays over their literal shapes. -/
abbrev H (c : Dev nD) : Vec Ideal S16384x2048 .f32 := m ((c : Thread nD τ).loc main_arg0)
abbrev Mod (c : Dev nD) : Vec Ideal S9x2048 .f32 := m ((c : Thread nD τ).loc main_arg1)
abbrev Gpre (c : Dev nD) : Vec Ideal S2048 .f32 := m ((c : Thread nD τ).loc main_arg2)
abbrev Gpost (c : Dev nD) : Vec Ideal S2048 .f32 := m ((c : Thread nD τ).loc main_arg3)
abbrev Win (c : Dev nD) : Vec Ideal S2048x11264 .bf16 := m ((c : Thread nD τ).loc main_arg4)
abbrev Wout (c : Dev nD) : Vec Ideal S5632x2048 .bf16 := m ((c : Thread nD τ).loc main_arg5)
abbrev NextIn (c : Dev nD) : Vec Ideal S4x2x2048x11264 .f32 := m ((c : Thread nD τ).loc main_arg6)
abbrev NextOut (c : Dev nD) : Vec Ideal S4x2x5632x2048 .f32 := m ((c : Thread nD τ).loc main_arg7)

/-- The packed vectors: shift, scale, gate, then the two norm gains. -/
theorem V_v15 (c : Dev nD) (d : Fin 2048) :
    (V m c main_v15 : Vec Ideal S8x2048 .f32) (ix2 0 d) = Mod m c (ix2 6 d)
    ∧ (V m c main_v15 : Vec Ideal S8x2048 .f32) (ix2 1 d) = Mod m c (ix2 7 d)
    ∧ (V m c main_v15 : Vec Ideal S8x2048 .f32) (ix2 2 d) = Mod m c (ix2 8 d)
    ∧ (V m c main_v15 : Vec Ideal S8x2048 .f32) (ix2 3 d) = Gpre m c (ix1 d)
    ∧ (V m c main_v15 : Vec Ideal S8x2048 .f32) (ix2 4 d) = Gpost m c (ix1 d) := by
  have e : V m c main_v15 = (StableHlo.after hostOps0 (fun b => m (c, b)) (Proc.devRef .tc main_v15)) := rfl
  rw [e]
  unfold hostOps0
  after_results
  refine ⟨?_, ?_, ?_, ?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

theorem iblk0_apply (c : Dev nD) (t : Fin cfg0.N) (r : Fin 512) (d : Fin 2048) :
    (iblk m c 0 t : Vec Ideal S512x2048 .f32) (ix2 r d)
      = H m c (ix2 ⟨512 * (t.val / 11) + r.val, by have := lt352 t; omega⟩ d) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * (t.val / 11) + r.val; rw [h0]; omega
  | ⟨1, _⟩ => show win0_0.index t 1 * 2048 + 1 * d.val = d.val; rw [h1]; omega

theorem iblk1_apply (c : Dev nD) (t : Fin cfg0.N) (k : Fin 8) (d : Fin 2048) :
    (iblk m c 1 t : Vec Ideal S8x2048 .f32) (ix2 k d) = (V m c main_v15 : Vec Ideal S8x2048 .f32) (ix2 k d) := by
  obtain ⟨-, -, h0, h1, -⟩ := idx_facts t
  unfold iblk
  rw [View.read_apply]
  show (V m c main_v15 : Vec Ideal S8x2048 .f32) _ = _
  refine congrArg (V m c main_v15 : Vec Ideal S8x2048 .f32) (funext fun a => Fin.ext ?_)
  match a with
  | ⟨0, _⟩ => show win0_1.index t 0 * 8 + 1 * k.val = k.val; rw [h0]; omega
  | ⟨1, _⟩ => show win0_1.index t 1 * 2048 + 1 * d.val = d.val; rw [h1]; omega

theorem iblk2_apply (c : Dev nD) (t : Fin cfg0.N) (k : Fin 2048) (f : Fin 512) :
    (iblk m c 2 t : Vec Ideal S2048x512 .bf16) (ix2 k f)
      = Win m c (ix2 k ⟨512 * (t.val % 11) + f.val, by have := lt352 t; omega⟩) := by
  obtain ⟨-, -, -, -, h0, h1, -⟩ := idx_facts t
  unfold iblk
  rw [View.read_apply]
  show V m c main_arg4 _ = _
  rw [V_main_arg4]
  refine congrArg (m ((c : Thread nD τ).loc main_arg4)) (funext fun a => Fin.ext ?_)
  match a with
  | ⟨0, _⟩ => show win0_2.index t 0 * 2048 + 1 * k.val = k.val; rw [h0]; omega
  | ⟨1, _⟩ => show win0_2.index t 1 * 512 + 1 * f.val = 512 * (t.val % 11) + f.val; rw [h1]; omega

theorem iblk3_apply (c : Dev nD) (t : Fin cfg0.N) (k : Fin 2048) (f : Fin 512) :
    (iblk m c 3 t : Vec Ideal S2048x512 .bf16) (ix2 k f)
      = Win m c (ix2 k ⟨5632 + (512 * (t.val % 11) + f.val), by have := lt352 t; omega⟩) := by
  obtain ⟨-, -, -, -, -, -, h0, h1, -⟩ := idx_facts t
  unfold iblk
  rw [View.read_apply]
  show V m c main_arg4 _ = _
  rw [V_main_arg4]
  refine congrArg (m ((c : Thread nD τ).loc main_arg4)) (funext fun a => Fin.ext ?_)
  match a with
  | ⟨0, _⟩ => show win0_3.index t 0 * 2048 + 1 * k.val = k.val; rw [h0]; omega
  | ⟨1, _⟩ => show win0_3.index t 1 * 512 + 1 * f.val = 5632 + (512 * (t.val % 11) + f.val); rw [h1]; omega

theorem iblk4_apply (c : Dev nD) (t : Fin cfg0.N) (f : Fin 512) (d : Fin 2048) :
    (iblk m c 4 t : Vec Ideal S512x2048 .bf16) (ix2 f d)
      = Wout m c (ix2 ⟨512 * (t.val % 11) + f.val, by have := lt352 t; omega⟩ d) := by
  obtain ⟨-, -, -, -, -, -, -, -, h0, h1, -⟩ := idx_facts t
  unfold iblk
  rw [View.read_apply]
  show V m c main_arg5 _ = _
  rw [V_main_arg5]
  refine congrArg (m ((c : Thread nD τ).loc main_arg5)) (funext fun a => Fin.ext ?_)
  match a with
  | ⟨0, _⟩ => show win0_4.index t 0 * 512 + 1 * f.val = 512 * (t.val % 11) + f.val; rw [h0]; omega
  | ⟨1, _⟩ => show win0_4.index t 1 * 2048 + 1 * d.val = d.val; rw [h1]; omega

theorem iblk5_apply (c : Dev nD) (t : Fin cfg0.N) (r : Fin 64) (f : Fin 1024) :
    (iblk m c 5 t : Vec Ideal S1x1x64x1024 .f32) (ix4 0 0 r f)
      = NextIn m c (ix4 1 0 ⟨64 * (t.val / 11) + r.val, by have := lt352 t; omega⟩ ⟨1024 * (t.val % 11) + f.val, by omega⟩) := by
  obtain ⟨-, -, -, -, -, -, -, -, -, -, h0, h1, h2, h3, -⟩ := idx_facts t
  unfold iblk
  rw [View.read_apply]
  show V m c main_arg6 _ = _
  rw [V_main_arg6]
  refine congrArg (m ((c : Thread nD τ).loc main_arg6)) (funext fun a => Fin.ext ?_)
  match a with
  | ⟨0, _⟩ => show win0_5.index t 0 * 1 + 1 * 0 = 1; rw [h0]
  | ⟨1, _⟩ => show win0_5.index t 1 * 1 + 1 * 0 = 0; rw [h1]
  | ⟨2, _⟩ => show win0_5.index t 2 * 64 + 1 * r.val = 64 * (t.val / 11) + r.val; rw [h2]; omega
  | ⟨3, _⟩ => show win0_5.index t 3 * 1024 + 1 * f.val = 1024 * (t.val % 11) + f.val; rw [h3]; omega

theorem iblk6_apply (c : Dev nD) (t : Fin cfg0.N) (r : Fin 16) (d : Fin 2048) :
    (iblk m c 6 t : Vec Ideal S1x1x16x2048 .f32) (ix4 0 0 r d)
      = NextOut m c (ix4 1 0 ⟨16 * t.val + r.val, by have := lt352 t; omega⟩ d) := by
  obtain ⟨-, -, -, -, -, -, -, -, -, -, -, -, -, -, h0, h1, h2, h3, -⟩ := idx_facts t
  unfold iblk
  rw [View.read_apply]
  show V m c main_arg7 _ = _
  rw [V_main_arg7]
  refine congrArg (m ((c : Thread nD τ).loc main_arg7)) (funext fun a => Fin.ext ?_)
  match a with
  | ⟨0, _⟩ => show win0_6.index t 0 * 1 + 1 * 0 = 1; rw [h0]
  | ⟨1, _⟩ => show win0_6.index t 1 * 1 + 1 * 0 = 0; rw [h1]
  | ⟨2, _⟩ => show win0_6.index t 2 * 16 + 1 * r.val = 16 * t.val + r.val; rw [h2]; omega
  | ⟨3, _⟩ => show win0_6.index t 3 * 2048 + 1 * d.val = d.val; rw [h3]; omega

end Cert.FfnNextIdeal.Work

end
-- ==== Proof.FfnNextIdx.lean ====
/-
  The second feed-forward body's block terms read at an index, over the extended reals: a row's normalised and modulated
  entries, one step of the accumulated down projection, and an output entry.
-/
module

public import proofs.«01_k».proof.Proof.FfnNextPoint
public import Idealize.ShloMosaic.Lib.Pointwise

@[expose] public section

set_option maxRecDepth 16384

noncomputable section

namespace Cert.FfnNextIdeal.Work

open Cert.FfnNextIdeal Cert.FfnNextIdeal.Gen Idealize.ShloMosaic Idealize.ShloMosaic.TcCoe Idealize.SL.Sem

/-- An entry of the modulated rows: the row's entry over its root mean square, gained, scaled and shifted. -/
theorem uNew_apply (x0 : Vec Ideal S512x2048 .f32) (x1 : Vec Ideal S8x2048 .f32) (r : Fin 512) (d : Fin 2048) :
    uNew x0 x1 (ix2 r d)
      = x0 (ix2 r d) * Ideal.rsqrt (Ideal.div (∑ x, x0 (ix2 r x) * x0 (ix2 r x)) (Ideal.ofBits FTy.f32 1157627904#32)
          + Ideal.ofBits FTy.f32 897988541#32) * (x1 (ix2 3 d) * (1 + x1 (ix2 1 d))) + x1 (ix2 0 d) := by
  unfold uNew
  unfold_payloads
  simp only [shapeCast_self]
  pointwise

/-- An output entry: the residual entry plus the accumulator's over its row's root mean square, gated and gained. -/
theorem outNew_apply (x0 : Vec Ideal S512x2048 .f32) (x1 : Vec Ideal S8x2048 .f32) (acc : Vec Ideal S512x2048 .f32)
    (r : Fin 512) (d : Fin 2048) :
    outNew x0 x1 acc (ix2 r d)
      = x0 (ix2 r d) + acc (ix2 r d) * Ideal.rsqrt (Ideal.div (∑ x, acc (ix2 r x) * acc (ix2 r x))
          (Ideal.ofBits FTy.f32 1157627904#32) + Ideal.ofBits FTy.f32 897988541#32)
          * (Ideal.ofBits FTy.f32 1056964608#32 * x1 (ix2 2 d) * x1 (ix2 4 d)) := by
  unfold outNew
  unfold_payloads
  simp only [shapeCast_self]
  pointwise

/-- The gated activation of row `r` at the step's column `f`. -/
def gateUp (u : Vec Ideal S512x2048 .bf16) (x2 x3 : Vec Ideal S2048x512 .bf16) (r : Fin 512) (f : Fin 512) : EReal :=
  ((∑ k : Fin 2048, u (ix2 r k) * x2 (ix2 k f)) * Ideal.logistic (∑ k : Fin 2048, u (ix2 r k) * x2 (ix2 k f)))
    * ∑ k : Fin 2048, u (ix2 r k) * x3 (ix2 k f)

/-- An entry of the accumulator after a step: what was there (nothing at the first step) plus the step's two halves. -/
theorem accNew_apply (j : BitVec 32) (u : Vec Ideal S512x2048 .bf16) (x2 x3 : Vec Ideal S2048x512 .bf16)
    (x4 : Vec Ideal S512x2048 .bf16) (acc : Vec Ideal S512x2048 .f32) (r : Fin 512) (d : Fin 2048) :
    accNew j u x2 x3 x4 acc (ix2 r d)
      = Scalar.select (Scalar.cmpi CmpIPredicate.sgt j 0#32) (acc (ix2 r d)) 0
        + (∑ x : Fin 256, gateUp u x2 x3 r ⟨x.val, by omega⟩ * x4 (ix2 ⟨x.val, by omega⟩ d))
        + ∑ x : Fin 256, gateUp u x2 x3 r ⟨256 + x.val, by omega⟩ * x4 (ix2 ⟨256 + x.val, by omega⟩ d) := by
  unfold accNew
  unfold_payloads
  simp only [shapeCast_self]
  pointwise [dot_S512x2048_S2048x256_S512x256_1_0_0_1_n_n, dot_S512x256_S256x2048_S512x2048_1_0_0_1_n_n]
  exact (add_assoc _ _ _).symm

/-- An entry of a cast block of the next up projection: the block's own entry. -/
theorem cast8_apply (x : Vec Ideal S1x1x64x1024 .f32) (r : Fin 64) (f : Fin 1024) :
    (k0_pay2 x : Vec Ideal S64x1024 .bf16) (ix2 r f) = x (ix4 0 0 r f) := by
  unfold_payloads
  pointwise

/-- An entry of a cast block of the next down projection: the block's own entry. -/
theorem cast9_apply (x : Vec Ideal S1x1x16x2048 .f32) (r : Fin 16) (d : Fin 2048) :
    (k0_pay3 x : Vec Ideal S16x2048 .bf16) (ix2 r d) = x (ix4 0 0 r d) := by
  unfold_payloads
  pointwise

end Cert.FfnNextIdeal.Work

end
-- ==== Proof.FfnNextAcc.lean ====
/-
  What the second form of the feed-forward call's result array holds, entry by entry: the residual row plus the gated, normalised
  down projection of the whole hidden row. The accumulator's value after each step is proved by induction over the
  grid points, as the sum over the hidden columns seen so far.
-/
module

public import proofs.«01_k».proof.Proof.FfnNextBlocks
public import proofs.«01_k».proof.Proof.FfnNextIdx

@[expose] public section

set_option maxRecDepth 16384

noncomputable section

namespace Cert.FfnNextIdeal.Work

open Cert.FfnNextIdeal Cert.FfnNextIdeal.Gen Cert.FfnNextIdeal.Value Idealize.ShloMosaic Idealize.ShloMosaic.TcCoe Idealize.SL.Sem

variable (m : (ℓ : Loc nD τ sig) → Buf (Elt Ideal) ℓ)

/-- The modulated, normalised row of `h`. -/
def U (c : Dev nD) (ρ : Fin 16384) (k : Fin 2048) : EReal :=
  H m c (ix2 ρ k) * Ideal.rsqrt (Ideal.div (∑ x, H m c (ix2 ρ x) * H m c (ix2 ρ x)) (Ideal.ofBits FTy.f32 1157627904#32)
    + Ideal.ofBits FTy.f32 897988541#32) * (Gpre m c (ix1 k) * (1 + Mod m c (ix2 7 k))) + Mod m c (ix2 6 k)

/-- The gated hidden activation at column `f`. -/
def Act (c : Dev nD) (ρ : Fin 16384) (f : Fin 5632) : EReal :=
  ((∑ k : Fin 2048, U m c ρ k * Win m c (ix2 k ⟨f.val, by omega⟩))
    * Ideal.logistic (∑ k : Fin 2048, U m c ρ k * Win m c (ix2 k ⟨f.val, by omega⟩)))
    * ∑ k : Fin 2048, U m c ρ k * Win m c (ix2 k ⟨5632 + f.val, by omega⟩)

/-- The term of hidden column `n` in the down projection's entry. -/
def term (c : Dev nD) (ρ : Fin 16384) (d : Fin 2048) (n : ℕ) : EReal :=
  if h : n < 5632 then Act m c ρ ⟨n, h⟩ * Wout m c (ix2 ⟨n, h⟩ d) else 0

/-- The first `n` hidden columns' part of the down projection's entry. -/
def part (c : Dev nD) (ρ : Fin 16384) (d : Fin 2048) (n : ℕ) : EReal := ∑ f ∈ Finset.range n, term m c ρ d f

/-- The down projection. -/
def Y (c : Dev nD) (ρ : Fin 16384) (d : Fin 2048) : EReal := ∑ f : Fin 5632, Act m c ρ f * Wout m c (ix2 f d)

theorem part_all (c : Dev nD) (ρ : Fin 16384) (d : Fin 2048) : part m c ρ d 5632 = Y m c ρ d := by
  unfold part Y
  rw [Finset.sum_range]
  exact Finset.sum_congr rfl fun f _ => dif_pos f.isLt

/-- The row of `h` that a point's block row `r` is. -/
abbrev row (t : Fin cfg0.N) (r : Fin 512) : Fin 16384 := ⟨512 * (t.val / 11) + r.val, by have := lt352 t; omega⟩

/-- The rows a point modulates. -/
theorem uNew_blk (c : Dev nD) (t : Fin cfg0.N) (r : Fin 512) (k : Fin 2048) :
    uNew (iblk m c 0 t) (iblk m c 1 t) (ix2 r k) = U m c (row t r) k := by
  obtain ⟨e0, e1, e2, e3, e4⟩ := V_v15 m c k
  rw [uNew_apply]
  simp only [iblk0_apply, iblk1_apply, e0, e1, e3]
  rfl

/-- A select on "the step is not the first". -/
theorem select_step {α : Type} (j : ℕ) (hj : j < 11) (a b : α) :
    Scalar.select (Scalar.cmpi CmpIPredicate.sgt (BitVec.ofNat 32 j) 0#32) a b = if j = 0 then b else a := by
  interval_cases j <;> rfl

/-- One step carries the accumulator from the columns before it to the columns up to its end. -/
theorem accNew_blk (c : Dev nD) (t : Fin cfg0.N) (u : Vec Ideal S512x2048 .bf16) (acc : Vec Ideal S512x2048 .f32)
    (r : Fin 512) (d : Fin 2048) (hu : ∀ k, u (ix2 r k) = U m c (row t r) k)
    (hacc : t.val % 11 ≠ 0 → acc (ix2 r d) = part m c (row t r) d (512 * (t.val % 11))) :
    accNew (BitVec.ofNat 32 (grid0.coords t 1).val) u (iblk m c 2 t) (iblk m c 3 t) (iblk m c 4 t) acc (ix2 r d)
      = part m c (row t r) d (512 * (t.val % 11 + 1)) := by
  have ht := lt352 t
  have hg : ∀ (n : ℕ) (hn : n < 512), gateUp u (iblk m c 2 t) (iblk m c 3 t) r ⟨n, hn⟩ * (iblk m c 4 t : Vec Ideal S512x2048 .bf16) (ix2 ⟨n, hn⟩ d)
      = term m c (row t r) d (512 * (t.val % 11) + n) := by
    intro n hn
    unfold gateUp term
    rw [dif_pos (by omega)]
    simp only [iblk2_apply, iblk3_apply, iblk4_apply, hu]
    rfl
  obtain ⟨-, -, -, -, -, -, -, -, -, -, -, -, -, -, -, -, -, -, hj⟩ := idx_facts t
  rw [accNew_apply, hj, select_step _ (Nat.mod_lt _ (by omega))]
  simp only [hg]
  have e0 : (if t.val % 11 = 0 then (0 : EReal) else acc (ix2 r d)) = part m c (row t r) d (512 * (t.val % 11)) := by
    split
    · next h => rw [h]; rfl
    · next h => exact hacc h
  rw [e0]
  unfold part
  rw [show 512 * (t.val % 11 + 1) = 512 * (t.val % 11) + 256 + 256 by omega, Finset.sum_range_add, Finset.sum_range_add,
    Finset.sum_range (n := 256), Finset.sum_range (n := 256)]
  simp only [Nat.add_assoc]

/-- What a point's two scratch arrays hold after it. -/
def Inv (c : Dev nD) (t : Fin cfg0.N) (s : Vec Ideal S512x2048 .f32 × Vec Ideal S64x1024 .bf16 × Vec Ideal S16x2048 .bf16
    × Vec Ideal S512x2048 .bf16 × Vec Ideal S512x2048 .f32) : Prop :=
  (∀ r k, s.2.2.2.1 (ix2 r k) = U m c (row t r) k)
  ∧ ∀ r d, s.2.2.2.2 (ix2 r d) = part m c (row t r) d (512 * (t.val % 11 + 1))

/-- The first point of a row block: whatever was there before. -/
theorem inv_first (c : Dev nD) (t : Fin cfg0.N) (acc) (h1 : t.val % 11 = 0) : Inv m c t (stAt0 m c t.val t.isLt acc) := by
  by_cases h0 : t.val % 352 = 0
  · rw [stAt0_A m c t acc h0 h1 (by omega)]
    unfold Inv
    dsimp only
    rw [sA0, sA1]
    exact ⟨fun r k => uNew_blk m c t r k, fun r d => accNew_blk m c t _ _ r d (fun k => uNew_blk m c t r k) (fun h => absurd h1 h)⟩
  · rw [stAt0_D m c t acc h0 h1 (by omega)]
    unfold Inv
    dsimp only
    rw [sD0, sD1]
    exact ⟨fun r k => uNew_blk m c t r k, fun r d => accNew_blk m c t _ _ r d (fun k => uNew_blk m c t r k) (fun h => absurd h1 h)⟩

/-- A later point of a row block, over the point before. -/
theorem inv_next (c : Dev nD) (t t' : Fin cfg0.N) (htt : t.val = t'.val + 1) (acc) (h1 : t.val % 11 ≠ 0) (ih : Inv m c t' acc) :
    Inv m c t (stAt0 m c t.val t.isLt acc) := by
  have ht := lt352 t
  have hr : ∀ r, row t r = row t' r := fun r => Fin.ext (by show 512 * (t.val / 11) + r.val = 512 * (t'.val / 11) + r.val; omega)
  have hm : 512 * (t'.val % 11 + 1) = 512 * (t.val % 11) := by omega
  have hu : ∀ r k, acc.2.2.2.1 (ix2 r k) = U m c (row t r) k := fun r k => by rw [hr]; exact ih.1 r k
  have ha : ∀ r d, acc.2.2.2.2 (ix2 r d) = part m c (row t r) d (512 * (t.val % 11)) := fun r d => by rw [hr, ← hm]; exact ih.2 r d
  by_cases h2 : t.val % 11 = 10
  · rw [stAt0_C m c t acc (by omega) h1 h2]
    unfold Inv
    dsimp only
    rw [sC0, sC1]
    exact ⟨hu, fun r d => accNew_blk m c t _ _ r d (hu r) (fun _ => ha r d)⟩
  · rw [stAt0_B m c t acc (by omega) h1 h2]
    unfold Inv
    dsimp only
    rw [sB0, sB1]
    exact ⟨hu, fun r d => accNew_blk m c t _ _ r d (hu r) (fun _ => ha r d)⟩

/-- The scratch arrays after every point. -/
theorem inv_all (c : Dev nD) : ∀ (n : ℕ) (hn : n < cfg0.N), Inv m c ⟨n, hn⟩ (outsAt0 m c n hn)
  | 0, hn => by
    rw [outsAt0_zero]
    exact inv_first m c ⟨0, hn⟩ _ (Nat.zero_mod _)
  | n + 1, hn => by
    rw [outsAt0_succ]
    by_cases h1 : (n + 1) % 11 = 0
    · exact inv_first m c ⟨n + 1, hn⟩ _ h1
    · exact inv_next m c ⟨n + 1, hn⟩ ⟨n, Nat.lt_of_succ_lt hn⟩ rfl _ h1 (inv_all c n _)

/-- An output entry as the call computes it. -/
def Out (c : Dev nD) (ρ : Fin 16384) (d : Fin 2048) : EReal :=
  H m c (ix2 ρ d) + Y m c ρ d * Ideal.rsqrt (Ideal.div (∑ x, Y m c ρ x * Y m c ρ x) (Ideal.ofBits FTy.f32 1157627904#32)
    + Ideal.ofBits FTy.f32 897988541#32) * (Ideal.ofBits FTy.f32 1056964608#32 * Mod m c (ix2 8 d) * Gpost m c (ix1 d))

/-- The output block that the last point of a row block leaves. -/
theorem out_last (c : Dev nD) (t : Fin cfg0.N) (h2 : t.val % 11 = 10) (r : Fin 512) (d : Fin 2048) :
    (outsAt0 m c t.val t.isLt).1 (ix2 r d) = Out m c (row t r) d := by
  have ht := lt352 t
  obtain ⟨n, hn⟩ : ∃ n, t.val = n + 1 := ⟨t.val - 1, by omega⟩
  have hinv := inv_all m c t.val t.isLt
  obtain ⟨e0, e1, e2, e3, e4⟩ := V_v15 m c d
  have hC := outsAt0_C m c t (by omega) (by omega) h2
  rw [hC] at hinv ⊢
  unfold Inv at hinv
  dsimp only at hinv ⊢
  rw [oC7, outNew_apply]
  rw [sC1] at hinv
  have hy : ∀ x, accNew _ _ _ _ _ _ (ix2 r x) = Y m c (row t r) x := fun x =>
    (hinv.2 r x).trans (by rw [← part_all]; show part m c (row t r) x (512 * (t.val % 11 + 1)) = _; rw [h2])
  simp only [iblk0_apply, iblk1_apply, e2, e4]
  simp only [hy]
  rfl

/-- The result array, entry by entry. -/
theorem G7_apply (c : Dev nD) (ρ : Fin 16384) (d : Fin 2048) :
    (G7 m c : Vec Ideal S16384x2048 .f32) (ix2 ρ d) = Out m c ρ d := by
  have hp : pt7Of (ix2 ρ d) = 11 * (ρ.val / 512) + 10 := by
    show 11 * (1 * (ρ.val / 512 - 0) + 1 * (d.val / 2048 - 0)) + 10 = _
    omega
  have hlt : pt7Of (ix2 ρ d) < cfg0.N := by rw [hp, show cfg0.N = 352 from N_0]; omega
  unfold G7
  rw [dif_pos hlt, ← outsAt0_sweep m c (pt7Of (ix2 ρ d)) hlt]
  have hl : loc7Of (ix2 ρ d) = ix2 (⟨ρ.val % 512, by omega⟩ : Fin 512) d := by
    funext a
    match a with
    | ⟨0, _⟩ => rfl
    | ⟨1, _⟩ => exact Fin.ext (show d.val % 2048 = d.val by omega)
  rw [hl]
  refine (out_last m c ⟨pt7Of (ix2 ρ d), hlt⟩ (by show pt7Of (ix2 ρ d) % 11 = 10; omega) _ d).trans ?_
  refine congrArg (fun x => Out m c x d) (Fin.ext ?_)
  show 512 * (pt7Of (ix2 ρ d) / 11) + ρ.val % 512 = ρ.val
  omega

/-- The next layer's weight blocks that a point leaves cast. -/
theorem casts (c : Dev nD) (t : Fin cfg0.N) :
    (outsAt0 m c t.val t.isLt).2.1 = k0_pay2 (iblk m c 5 t) ∧ (outsAt0 m c t.val t.isLt).2.2.1 = k0_pay3 (iblk m c 6 t) := by
  have ht := lt352 t
  by_cases h0 : t.val % 352 = 0
  · rw [outsAt0_A m c t h0 (by omega) (by omega)]
    exact ⟨by dsimp only; rw [oA8], by dsimp only; rw [oA9]⟩
  · by_cases h1 : t.val % 11 = 0
    · rw [outsAt0_D m c t h0 h1 (by omega)]
      exact ⟨by dsimp only; rw [oD8], by dsimp only; rw [oD9]⟩
    · by_cases h2 : t.val % 11 = 10
      · rw [outsAt0_C m c t h0 h1 h2]
        exact ⟨by dsimp only; rw [oC8], by dsimp only; rw [oC9]⟩
      · rw [outsAt0_B m c t h0 h1 h2]
        exact ⟨by dsimp only; rw [oB8], by dsimp only; rw [oB9]⟩

/-- The cast up projection of the next layer, entry by entry. -/
theorem G8_apply (c : Dev nD) (k : Fin 2048) (f : Fin 11264) :
    (G8 m c : Vec Ideal S2048x11264 .bf16) (ix2 k f) = NextIn m c (ix4 1 0 k f) := by
  have hp : pt8Of (ix2 k f) = 11 * (k.val / 64) + f.val / 1024 := by
    show 11 * (k.val / 64 - 0) + 1 * (f.val / 1024 - 0) = _
    omega
  have hlt : pt8Of (ix2 k f) < cfg0.N := by rw [hp, show cfg0.N = 352 from N_0]; omega
  unfold G8
  rw [dif_pos hlt, ← outsAt0_sweep m c (pt8Of (ix2 k f)) hlt]
  have hl : loc8Of (ix2 k f) = ix2 (⟨k.val % 64, by omega⟩ : Fin 64) (⟨f.val % 1024, by omega⟩ : Fin 1024) := by
    funext a
    match a with
    | ⟨0, _⟩ => rfl
    | ⟨1, _⟩ => rfl
  rw [hl, (casts m c ⟨pt8Of (ix2 k f), hlt⟩).1, cast8_apply, iblk5_apply]
  have e1 : 64 * (pt8Of (ix2 k f) / 11) + k.val % 64 = k.val := by omega
  have e2 : 1024 * (pt8Of (ix2 k f) % 11) + f.val % 1024 = f.val := by omega
  exact congrArg₂ (fun a b => NextIn m c (ix4 1 0 a b)) (Fin.ext e1) (Fin.ext e2)

/-- The cast down projection of the next layer, entry by entry. -/
theorem G9_apply (c : Dev nD) (f : Fin 5632) (d : Fin 2048) :
    (G9 m c : Vec Ideal S5632x2048 .bf16) (ix2 f d) = NextOut m c (ix4 1 0 f d) := by
  have hp : pt9Of (ix2 f d) = f.val / 16 := by
    show 1 * (f.val / 16 - 0) + 1 * (d.val / 2048 - 0) = _
    omega
  have hlt : pt9Of (ix2 f d) < cfg0.N := by rw [hp, show cfg0.N = 352 from N_0]; omega
  unfold G9
  rw [dif_pos hlt, ← outsAt0_sweep m c (pt9Of (ix2 f d)) hlt]
  have hl : loc9Of (ix2 f d) = ix2 (⟨f.val % 16, by omega⟩ : Fin 16) d := by
    funext a
    match a with
    | ⟨0, _⟩ => rfl
    | ⟨1, _⟩ => exact Fin.ext (show d.val % 2048 = d.val by omega)
  rw [hl, (casts m c ⟨pt9Of (ix2 f d), hlt⟩).2, cast9_apply, iblk6_apply]
  have e1 : 16 * pt9Of (ix2 f d) + f.val % 16 = f.val := by omega
  exact congrArg (fun a => NextOut m c (ix4 1 0 a d)) (Fin.ext e1)

end Cert.FfnNextIdeal.Work

end
-- ==== Proof.FfnNextRef.lean ====
/-
  What the second feed-forward reference computes, entry by entry, over its eight arguments.
-/
module

public import proofs.«01_k».proof.Proof.Gen.FfnNextRefIdeal.Run
public import proofs.«01_k».proof.Proof.Gen.FfnNextRefIdeal.Read
public import Idealize.ShloMosaic.Lib.Pointwise

@[expose] public section

set_option maxRecDepth 16384

noncomputable section

namespace Cert.FfnNextRefIdeal.Work

open Cert.FfnNextRefIdeal Cert.FfnNextRefIdeal.Gen Cert.FfnNextRefIdeal.Read Idealize.ShloMosaic Idealize.ShloMosaic.TcCoe Idealize.SL.Sem

variable (x0 : Vec Ideal S16384x2048 .f32) (x1 : Vec Ideal S9x2048 .f32) (x2 x3 : Vec Ideal S2048 .f32)
  (x4 : Vec Ideal S2048x11264 .bf16) (x5 : Vec Ideal S5632x2048 .bf16)
  (x6 : Vec Ideal S4x2x2048x11264 .f32) (x7 : Vec Ideal S4x2x5632x2048 .f32)

/-- The modulated rows. -/
theorem u_apply (ρ : Fin 16384) (k : Fin 2048) : val_main_v24 (F := Ideal) x0 x1 x2 (ix2 ρ k)
    = x0 (ix2 ρ k) * Ideal.rsqrt (Ideal.div (∑ x, x0 (ix2 ρ x) * x0 (ix2 ρ x)) (Ideal.ofBits FTy.f32 1157627904#32)
      + Ideal.ofBits FTy.f32 897988541#32) * x2 (ix1 k) * (1 + x1 (ix2 7 k)) + x1 (ix2 6 k) := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

/-- The up projection. -/
theorem up_apply (ρ : Fin 16384) (n : Fin 11264) : val_main_v25 (F := Ideal) x0 x1 x2 x4 (ix2 ρ n)
    = ∑ k, val_main_v24 (F := Ideal) x0 x1 x2 (ix2 ρ k) * x4 (ix2 k n) := by
  unfold val_main_v25
  generalize val_main_v24 (F := Ideal) x0 x1 x2 = y
  pointwise [dot_S16384x2048_S2048x11264_S16384x11264_1_0_0_1_n_n]

/-- The gated activation. -/
theorem act_apply (ρ : Fin 16384) (f : Fin 5632) : val_main_v29 (F := Ideal) x0 x1 x2 x4 (ix2 ρ f)
    = val_main_v25 (F := Ideal) x0 x1 x2 x4 (ix2 ρ ⟨f.val, by omega⟩)
        * Ideal.logistic (val_main_v25 (F := Ideal) x0 x1 x2 x4 (ix2 ρ ⟨f.val, by omega⟩))
      * val_main_v25 (F := Ideal) x0 x1 x2 x4 (ix2 ρ ⟨5632 + f.val, by omega⟩) := by
  unfold val_main_v29 val_main_v28 val_main_call0_v5 val_main_call0_v4 val_main_call0_v3 val_main_call0_v2 val_main_call0_v1 val_main_call0_v0 val_main_call0_cst val_main_call0_cst_0 val_main_v26 val_main_v27
  generalize val_main_v25 (F := Ideal) x0 x1 x2 x4 = y
  pointwise
  rfl

/-- The down projection. -/
theorem down_apply (ρ : Fin 16384) (d : Fin 2048) : val_main_v30 (F := Ideal) x0 x1 x2 x4 x5 (ix2 ρ d)
    = ∑ f, val_main_v29 (F := Ideal) x0 x1 x2 x4 (ix2 ρ f) * x5 (ix2 f d) := by
  unfold val_main_v30
  generalize val_main_v29 (F := Ideal) x0 x1 x2 x4 = y
  pointwise [dot_S16384x5632_S5632x2048_S16384x2048_1_0_0_1_n_n]

/-- The result. -/
theorem out_apply (ρ : Fin 16384) (d : Fin 2048) : val_main_v51 (F := Ideal) x0 x1 x2 x3 x4 x5 (ix2 ρ d)
    = x0 (ix2 ρ d) + Ideal.ofBits FTy.f32 1056964608#32 * x1 (ix2 8 d)
      * (val_main_v30 (F := Ideal) x0 x1 x2 x4 x5 (ix2 ρ d)
        * Ideal.rsqrt (Ideal.div (∑ x, val_main_v30 (F := Ideal) x0 x1 x2 x4 x5 (ix2 ρ x) * val_main_v30 (F := Ideal) x0 x1 x2 x4 x5 (ix2 ρ x))
          (Ideal.ofBits FTy.f32 1157627904#32) + Ideal.ofBits FTy.f32 897988541#32) * x3 (ix1 d)) := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_cst_3 val_main_cst_4 val_main_cst_5 val_main_cst_6
  generalize val_main_v30 (F := Ideal) x0 x1 x2 x4 x5 = y
  pointwise

/-- The cast up projection of the next layer. -/
theorem nextIn_apply (k : Fin 2048) (f : Fin 11264) : val_main_v54 (F := Ideal) x6 (ix2 k f) = x6 (ix4 1 0 k f) := by
  unfold val_main_v54 val_main_v53 val_main_v52
  pointwise

/-- The cast down projection of the next layer. -/
theorem nextOut_apply (f : Fin 5632) (d : Fin 2048) : val_main_v57 (F := Ideal) x7 (ix2 f d) = x7 (ix4 1 0 f d) := by
  unfold val_main_v57 val_main_v56 val_main_v55
  pointwise

end Cert.FfnNextRefIdeal.Work

end
-- ==== Proof.FfnNextEq.lean ====
/-
  The second form of the feed-forward call and its reference leave the same arrays, over the extended reals.
-/
module

public import proofs.«01_k».proof.Defs
public import proofs.«01_k».proof.Proof.FfnNextAcc
public import proofs.«01_k».proof.Proof.FfnNextRef
public import Idealize.ShloMosaic.Lib.Claim

@[expose] public section

set_option maxRecDepth 16384

noncomputable section

namespace Cert.FfnNextEq

open Idealize.ShloMosaic Idealize.ShloMosaic.TcCoe Idealize.SL.Sem
open Cert.FfnNextIdeal.Work

variable (m : (ℓ : Loc Cert.FfnNextIdeal.nD Cert.FfnNextIdeal.τ Cert.FfnNextIdeal.sig) → Buf (Elt Ideal) ℓ)

/-- The modulated rows of the two programs are the same: the gain and the scale are multiplied in either order. -/
theorem u_eq (c : Dev Cert.FfnNextIdeal.nD) (ρ : Fin 16384) (k : Fin 2048) :
    Cert.FfnNextRefIdeal.Read.val_main_v24 (F := Ideal) (H m c) (Mod m c) (Gpre m c) (ix2 ρ k) = U m c ρ k := by
  rw [Cert.FfnNextRefIdeal.Work.u_apply]
  unfold U
  rw [mul_assoc (_ * _)]

/-- So are the gated activations. -/
theorem act_eq (c : Dev Cert.FfnNextIdeal.nD) (ρ : Fin 16384) (f : Fin 5632) :
    Cert.FfnNextRefIdeal.Read.val_main_v29 (F := Ideal) (H m c) (Mod m c) (Gpre m c) (Win m c) (ix2 ρ f) = Act m c ρ f := by
  rw [Cert.FfnNextRefIdeal.Work.act_apply]
  simp only [Cert.FfnNextRefIdeal.Work.up_apply, u_eq]
  rfl

/-- So are the down projections. -/
theorem down_eq (c : Dev Cert.FfnNextIdeal.nD) (ρ : Fin 16384) (d : Fin 2048) :
    Cert.FfnNextRefIdeal.Read.val_main_v30 (F := Ideal) (H m c) (Mod m c) (Gpre m c) (Win m c) (Wout m c) (ix2 ρ d) = Y m c ρ d := by
  rw [Cert.FfnNextRefIdeal.Work.down_apply]
  simp only [act_eq]
  rfl

/-- So are the results. -/
theorem out_eq (c : Dev Cert.FfnNextIdeal.nD) (ρ : Fin 16384) (d : Fin 2048) :
    Cert.FfnNextRefIdeal.Read.val_main_v51 (F := Ideal) (H m c) (Mod m c) (Gpre m c) (Gpost m c) (Win m c) (Wout m c) (ix2 ρ d) = Out m c ρ d := by
  rw [Cert.FfnNextRefIdeal.Work.out_apply]
  simp only [down_eq]
  unfold Out
  refine congrArg (_ + ·) ?_
  exact mul_left_comm _ _ _

/-- The kernel's array is the reference's. -/
theorem array_eq (c : Dev Cert.FfnNextIdeal.nD) :
    Cert.FfnNextRefIdeal.Read.val_main_v51 (F := Ideal) (H m c) (Mod m c) (Gpre m c) (Gpost m c) (Win m c) (Wout m c)
      = Cert.FfnNextIdeal.Value.G7 m c := by
  refine funext fun i => ?_
  obtain ⟨ρ, d, rfl⟩ : ∃ (ρ : Fin 16384) (d : Fin 2048), i = ix2 ρ d := ⟨i 0, i 1, eq_ix2 i⟩
  exact (out_eq m c ρ d).trans (G7_apply m c ρ d).symm

/-- The cast up projection is the reference's. -/
theorem nextIn_eq (c : Dev Cert.FfnNextIdeal.nD) :
    Cert.FfnNextRefIdeal.Read.val_main_v54 (F := Ideal) (NextIn m c) = Cert.FfnNextIdeal.Value.G8 m c := by
  refine funext fun i => ?_
  obtain ⟨k, f, rfl⟩ : ∃ (k : Fin 2048) (f : Fin 11264), i = ix2 k f := ⟨i 0, i 1, eq_ix2 i⟩
  exact (Cert.FfnNextRefIdeal.Work.nextIn_apply _ k f).trans (G8_apply m c k f).symm

/-- The cast down projection is the reference's. -/
theorem nextOut_eq (c : Dev Cert.FfnNextIdeal.nD) :
    Cert.FfnNextRefIdeal.Read.val_main_v57 (F := Ideal) (NextOut m c) = Cert.FfnNextIdeal.Value.G9 m c := by
  refine funext fun i => ?_
  obtain ⟨f, d, rfl⟩ : ∃ (f : Fin 5632) (d : Fin 2048), i = ix2 f d := ⟨i 0, i 1, eq_ix2 i⟩
  exact (Cert.FfnNextRefIdeal.Work.nextOut_apply _ f d).trans (G9_apply m c f d).symm

/-- The claim: from agreeing arguments the kernel and the reference leave the same three results. -/
theorem algebraic : Cert.algebraic_FfnNextIdeal_FfnNextRefIdeal := by
  intro m g m' g' _ hagree
  refine ⟨fun c => Cert.FfnNextIdeal.Value.G7 m c, fun c => Cert.FfnNextIdeal.Value.G8 m c, fun c => Cert.FfnNextIdeal.Value.G9 m c,
    Cert.FfnNextIdeal.Value.run m g, ?_⟩
  refine θ_run_mono (Cert.FfnNextRefIdeal.Value.run m' g') fun r hr c => ?_
  obtain ⟨hres, hin, hout, hargs⟩ := hr c
  obtain ⟨a0, a1, a2, a3, a4, a5, a6, a7⟩ := hagree c
  refine ⟨hres.trans ?_, hin.trans ?_, hout.trans ?_, hargs⟩
  · refine Eq.trans ?_ (array_eq m c)
    rw [Cert.FfnNextRefIdeal.Read.val_main_v51_eq m' c, a0, a1, a2, a3, a4, a5]
  · refine Eq.trans ?_ (nextIn_eq m c)
    rw [Cert.FfnNextRefIdeal.Read.val_main_v54_eq, a6]
  · refine Eq.trans ?_ (nextOut_eq m c)
    rw [Cert.FfnNextRefIdeal.Read.val_main_v57_eq, a7]

end Cert.FfnNextEq

end
-- ==== Proof.HyInFrames.lean ====
/-
  The frames of the three programs of one call.
-/
module

public import proofs.«01_k».proof.Defs
public import proofs.«01_k».proof.Proof.Gen.HyIn
public import proofs.«01_k».proof.Proof.Gen.HyIn.Frame
public import proofs.«01_k».proof.Proof.Gen.HyInIdeal
public import proofs.«01_k».proof.Proof.Gen.HyInIdeal.Frame
public import proofs.«01_k».proof.Proof.Gen.HyInRefIdeal
public import proofs.«01_k».proof.Proof.Gen.HyInRefIdeal.Run
public import Idealize.ShloMosaic.Adequacy
public import Idealize.ShloMosaic.Init

@[expose] public section

noncomputable section

namespace Cert.FramesHyIn

open Idealize.ShloMosaic Idealize.SL.Sem

theorem printed : Cert.quiescent_HyIn := fun m g _ => Cert.HyIn.Gen.frame m g

theorem ideal : Cert.quiescent_HyInIdeal := fun m g _ => Cert.HyInIdeal.Gen.frame m g

theorem ref : Cert.quiescent_HyInRefIdeal := fun m g _ =>
  (θ_run Cert.HyInRefIdeal.defs _ _).mono (fun r h => ⟨fun c => (h c).2.2, sem_eq_zero_of_no_sems (by decide) r.2⟩)
    (Cert.HyInRefIdeal.Value.run (F := Ideal) m g)

end Cert.FramesHyIn

end
-- ==== Proof.HyInPoint.lean ====
/-
  What one grid point of the Hyena input projection leaves in its two scratch arrays and in its two output blocks, as the
  body's own arithmetic over whole blocks: the modulated rows of the block (`uNew`), those of the sixteen rows around it
  (`uhNew` of `halo`), the first third after the convolution (`o0`) and the product of the other two (`o1`).
-/
module

public import proofs.«01_k».proof.Proof.Gen.HyInIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.HyInIdeal.Work

open Cert.HyInIdeal Cert.HyInIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

theorem z0 : ∀ a, (![0, 0] : Fin 2 → Nat) a = 0 := fun a => by fin_cases a <;> rfl

theorem hz3 : (![0, 0, 0] : Fin 3 → Nat) = fun _ => 0 := funext fun a => by fin_cases a <;> rfl

/-- The modulated, normalised rows of a block `x0` under the packed vectors `x3`. -/
def uNew (x0 : Vec F S1024x2048 .f32) (x3 : Vec F S8x2048 .f32) : Vec F S1024x2048 .bf16 :=
  k0_pay2 (View.ld x3 (Rect.unit (s := S8x2048) ![3, 0] S1x2048.size inb_S8x2048_S1x2048_3_0))
    (View.ld x3 (Rect.unit (s := S8x2048) ![1, 0] S1x2048.size inb_S8x2048_S1x2048_1_0)) x0
    (View.ld x3 (Rect.unit (s := S8x2048) ![0, 0] S1x2048.size inb_S8x2048_S1x2048_0_0))

/-- The sixteen rows around a block: the eight before it, then the eight after it. -/
def halo (x1 x2 : Vec F S8x2048 .f32) : Vec F S16x2048 .f32 := fun y =>
  if h : (y 0).val < 8 then x1 (ix2 ⟨(y 0).val, h⟩ (y 1))
  else x2 (ix2 ⟨(y 0).val - 8, by have := (y 0).isLt; change (y 0).val < 16 at this; omega⟩ (y 1))

/-- The modulated, normalised rows of the sixteen rows `hv` around a block. -/
def uhNew (hv : Vec F S16x2048 .f32) (x3 : Vec F S8x2048 .f32) : Vec F S16x2048 .f32 :=
  k0_pay5 (View.ld x3 (Rect.unit (s := S8x2048) ![3, 0] S1x2048.size inb_S8x2048_S1x2048_3_0))
    (View.ld x3 (Rect.unit (s := S8x2048) ![1, 0] S1x2048.size inb_S8x2048_S1x2048_1_0)) hv
    (View.ld x3 (Rect.unit (s := S8x2048) ![0, 0] S1x2048.size inb_S8x2048_S1x2048_0_0))

/-- The first third after the convolution, from the modulated rows `u`, those around the block `uh`, and the third's
    weights. -/
def o0 (j : BitVec 32) (u : Vec F S1024x2048 .bf16) (uh : Vec F S16x2048 .f32) (w : Vec F S1x2048x256 .bf16) (b : Vec F S1x256 .f32)
    (s : Vec F S3x3x256 .f32) (sb : Vec F S3x256 .f32) : Vec F S1024x256 .bf16 :=
  k0_pay18 (k0_pay7 u w b) (k0_pay14 j (k0_pay6 uh) (k0_pay7 u w b) (k0_pay10 w) (constant S16x256 .f32 0x00000000#32) b) k0_pay15
    (k0_pay16 (k0_pay7 u w b)) (k0_pay17 j (k0_pay6 uh) (k0_pay10 w) (constant S16x256 .f32 0x00000000#32) b)
    (View.ld s (Rect.unit (s := S3x3x256) ![0, 0, 0] S1x1x256.size inb_S3x3x256_S1x1x256_0_0_0))
    (View.ld s (Rect.unit (s := S3x3x256) ![1, 0, 0] S1x1x256.size inb_S3x3x256_S1x1x256_1_0_0))
    (View.ld s (Rect.unit (s := S3x3x256) ![2, 0, 0] S1x1x256.size inb_S3x3x256_S1x1x256_2_0_0))
    (View.ld sb (Rect.unit (s := S3x256) ![0, 0] S1x256.size inb_S3x256_S1x256_0_0))

/-- The last third after the convolution. -/
def c2 (j : BitVec 32) (u : Vec F S1024x2048 .bf16) (uh : Vec F S16x2048 .f32) (w : Vec F S1x2048x256 .bf16) (b : Vec F S1x256 .f32)
    (s : Vec F S3x3x256 .f32) (sb : Vec F S3x256 .f32) : Vec F S1024x256 .f32 :=
  k0_pay22 (k0_pay9 u w b) (k0_pay19 j (k0_pay13 (k0_pay6 uh) w b)) (k0_pay20 j (k0_pay9 u w b) (k0_pay13 (k0_pay6 uh) w b)) k0_pay21
    (View.ld s (Rect.unit (s := S3x3x256) ![0, 2, 0] S1x1x256.size inb_S3x3x256_S1x1x256_0_2_0))
    (View.ld s (Rect.unit (s := S3x3x256) ![1, 2, 0] S1x1x256.size inb_S3x3x256_S1x1x256_1_2_0))
    (View.ld s (Rect.unit (s := S3x3x256) ![2, 2, 0] S1x1x256.size inb_S3x3x256_S1x1x256_2_2_0))
    (View.ld sb (Rect.unit (s := S3x256) ![2, 0] S1x256.size inb_S3x256_S1x256_2_0))

/-- The product of the last third `v` after the convolution with the middle third after the convolution. -/
def o1 (j : BitVec 32) (u : Vec F S1024x2048 .bf16) (uh : Vec F S16x2048 .f32) (w : Vec F S1x2048x256 .bf16) (b : Vec F S1x256 .f32)
    (s : Vec F S3x3x256 .f32) (sb : Vec F S3x256 .f32) (v : Vec F S1024x256 .f32) : Vec F S1024x256 .bf16 :=
  k0_pay1 (k0_pay8 u w b) v (k0_pay23 j (k0_pay12 (k0_pay6 uh) w b)) (k0_pay24 j (k0_pay8 u w b) (k0_pay12 (k0_pay6 uh) w b)) k0_pay25
    (k0_pay26 (k0_pay8 u w b))
    (View.ld s (Rect.unit (s := S3x3x256) ![0, 1, 0] S1x1x256.size inb_S3x3x256_S1x1x256_0_1_0))
    (View.ld s (Rect.unit (s := S3x3x256) ![1, 1, 0] S1x1x256.size inb_S3x3x256_S1x1x256_1_1_0))
    (View.ld s (Rect.unit (s := S3x3x256) ![2, 1, 0] S1x1x256.size inb_S3x3x256_S1x1x256_2_1_0))
    (View.ld sb (Rect.unit (s := S3x256) ![1, 0] S1x256.size inb_S3x256_S1x256_1_0))

/-- Two stores of eight rows each, read back whole, are the sixteen rows. -/
theorem read_halo (v : View sig .tc .vmem S16x2048 .f32) (x1 x2 : Vec F S8x2048 .f32) :
    v.readCov (Val := Elt F) [(⟨Rect.unit (s := S16x2048) ![8, 0] S8x2048.size inb_S16x2048_S8x2048_8_0, x2⟩ : View.Piece (Elt F) S16x2048 .f32),
        ⟨Rect.unit (s := S16x2048) ![0, 0] S8x2048.size inb_S16x2048_S8x2048_0_0, x1⟩]
      (Rect.unit (s := S16x2048) ![0, 0] S16x2048.size inb_S16x2048_S16x2048_0_0).toLoadRect = halo x1 x2 := by
  have hcov : ∀ y : S16x2048.Idx, ∃ p ∈ [(⟨Rect.unit (s := S16x2048) ![8, 0] S8x2048.size inb_S16x2048_S8x2048_8_0, x2⟩ : View.Piece (Elt F) S16x2048 .f32),
        ⟨Rect.unit (s := S16x2048) ![0, 0] S8x2048.size inb_S16x2048_S8x2048_0_0, x1⟩], y ∈ p.1.set := by
    intro y
    have h0 : (y 0).val < 16 := (y 0).isLt
    have h1 : (y 1).val < 2048 := (y 1).isLt
    by_cases h : (y 0).val < 8
    · refine ⟨_, List.mem_cons_of_mem _ List.mem_cons_self, ?_⟩
      rw [Rect.mem_set_unit]
      intro a
      match a with
      | ⟨0, _⟩ => exact ⟨Nat.zero_le _, by show (y 0).val < 0 + 8; omega⟩
      | ⟨1, _⟩ => exact ⟨Nat.zero_le _, by show (y 1).val < 0 + 2048; omega⟩
    · refine ⟨_, List.mem_cons_self, ?_⟩
      rw [Rect.mem_set_unit]
      intro a
      match a with
      | ⟨0, _⟩ => exact ⟨by show 8 ≤ (y 0).val; omega, by show (y 0).val < 8 + 8; omega⟩
      | ⟨1, _⟩ => exact ⟨Nat.zero_le _, by show (y 1).val < 0 + 2048; omega⟩
  rw [View.readCov_eq_canon_ld _ _ _ hcov, View.ld_unit_zero (S := S16x2048) hz]
  funext y
  refine View.canon_apply_of_pieces (halo x1 x2) _ ?_ y (hcov y)
  intro pc hpc
  rcases List.mem_cons.mp hpc with rfl | hpc
  · intro x
    obtain ⟨r, d, rfl⟩ : ∃ (r : Fin 8) (d : Fin 2048), x = ix2 r d := ⟨x 0, x 1, eq_ix2 x⟩
    have e : (Rect.unit (s := S16x2048) ![8, 0] S8x2048.size inb_S16x2048_S8x2048_8_0).idx (ix2 r d) = ix2 (⟨8 + r.val, by omega⟩ : Fin 16) d :=
      funext fun a => Fin.ext (by
        match a with
        | ⟨0, _⟩ => show 8 + 1 * r.val = 8 + r.val; omega
        | ⟨1, _⟩ => show 0 + 1 * d.val = d.val; omega)
    show x2 (ix2 r d) = halo x1 x2 ((Rect.unit (s := S16x2048) ![8, 0] S8x2048.size inb_S16x2048_S8x2048_8_0).idx (ix2 r d))
    rw [e]
    unfold halo
    rw [dif_neg (by show ¬(8 + r.val < 8); omega)]
    exact congrArg x2 (congrArg₂ ix2 (Fin.ext (by show r.val = 8 + r.val - 8; omega)) rfl)
  · rcases List.mem_cons.mp hpc with rfl | hpc
    · intro x
      obtain ⟨r, d, rfl⟩ : ∃ (r : Fin 8) (d : Fin 2048), x = ix2 r d := ⟨x 0, x 1, eq_ix2 x⟩
      have e : (Rect.unit (s := S16x2048) ![0, 0] S8x2048.size inb_S16x2048_S8x2048_0_0).idx (ix2 r d) = ix2 (⟨r.val, by omega⟩ : Fin 16) d :=
        funext fun a => Fin.ext (by
          match a with
          | ⟨0, _⟩ => show 0 + 1 * r.val = r.val; omega
          | ⟨1, _⟩ => show 0 + 1 * d.val = d.val; omega)
      show x1 (ix2 r d) = halo x1 x2 ((Rect.unit (s := S16x2048) ![0, 0] S8x2048.size inb_S16x2048_S8x2048_0_0).idx (ix2 r d))
      rw [e]
      unfold halo
      rw [dif_pos (by show r.val < 8; exact r.isLt)]
      exact congrArg x1 (congrArg₂ ix2 (Fin.ext rfl) rfl)
    · nomatch hpc

/-- The casts of the eight rows before and after a block are the rows. -/
theorem pay3_eq (x : Vec F S8x2048 .f32) : k0_pay3 x = x := by unfold k0_pay3; exact shapeCast_self _ _

theorem pay4_eq (x : Vec F S8x2048 .f32) : k0_pay4 x = x := by unfold k0_pay4; exact shapeCast_self _ _

section Cases

variable (c : Dev nD) (i : grid0.Coords)
  (arg2 : Memref sig .tc .vmem S1024x2048 .f32) (harg2 : arg2.IsWhole)
  (arg3 : Memref sig .tc .vmem S8x2048 .f32) (harg3 : arg3.IsWhole)
  (arg4 : Memref sig .tc .vmem S8x2048 .f32) (harg4 : arg4.IsWhole)
  (arg5 : Memref sig .tc .vmem S8x2048 .f32) (harg5 : arg5.IsWhole)
  (arg6 : Memref sig .tc .vmem S1x2048x256 .bf16) (harg6 : arg6.IsWhole)
  (arg7 : Memref sig .tc .vmem S1x2048x256 .bf16) (harg7 : arg7.IsWhole)
  (arg8 : Memref sig .tc .vmem S1x2048x256 .bf16) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S3x3x256 .f32) (harg12 : arg12.IsWhole)
  (arg13 : Memref sig .tc .vmem S3x256 .f32) (harg13 : arg13.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x2048 .bf16) (harg16 : arg16.IsWhole)
  (arg17 : Memref sig .tc .vmem S16x2048 .f32) (harg17 : arg17.IsWhole)
  (x0 : Vec F S1024x2048 .f32)  (x1 : Vec F S8x2048 .f32)  (x2 : Vec F S8x2048 .f32)  (x3 : Vec F S8x2048 .f32)  (x4 : Vec F S1x2048x256 .bf16)  (x5 : Vec F S1x2048x256 .bf16)  (x6 : Vec F S1x2048x256 .bf16)  (x7 : Vec F S1x256 .f32)  (x8 : Vec F S1x256 .f32)  (x9 : Vec F S1x256 .f32)  (x10 : Vec F S3x3x256 .f32)  (x11 : Vec F S3x256 .f32)
  (xs0 : Vec F S1024x2048 .bf16) (xs1 : Vec F S16x2048 .f32)

/-- A later point of a row block leaves the modulated rows, and those around the block, as they were. -/
theorem sB (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 = xs0
    ∧ sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 = xs1 := ⟨rfl, rfl⟩

/-- A later point writes the first third from the rows kept. -/
theorem oB12 (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = o0 (BitVec.ofNat 32 (i 0).val) xs0 xs1 x4 x7 x10 x11 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  rw [View.canon_unit_zero (S := S1024x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S1024x2048) hz, View.ld_unit_zero (S := S16x2048) hz, View.ld_unit_zero (S := S8x2048) hz, View.ld_unit_zero (S := S1x256) hz, View.ld_unit_zero (S := S1x2048x256) hz3]
  rfl

/-- A later point writes the product from the rows kept. -/
theorem oB13 (hc0 : ¬cond0_0 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = o1 (BitVec.ofNat 32 (i 0).val) xs0 xs1 x5 x8 x10 x11 (c2 (BitVec.ofNat 32 (i 0).val) xs0 xs1 x6 x9 x10 x11) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  rw [View.canon_unit_zero (S := S1024x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S1024x2048) hz, View.ld_unit_zero (S := S16x2048) hz, View.ld_unit_zero (S := S8x2048) hz, View.ld_unit_zero (S := S1x256) hz, View.ld_unit_zero (S := S1x2048x256) hz3]
  rfl

/-- The first point of a row block stores the block's modulated rows. -/
theorem sA0 (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = uNew x0 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero (S := S1024x2048) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S1024x2048) hz, View.ld_unit_zero (S := S16x2048) hz, View.ld_unit_zero (S := S8x2048) hz, View.ld_unit_zero (S := S1x256) hz, View.ld_unit_zero (S := S1x2048x256) hz3, View.readCov_unit_zero (S := S1024x2048) _ hz, View.readCov_unit_zero (S := S16x2048) _ hz]
  rfl

/-- The first point of a row block stores the modulated rows around the block. -/
theorem sA1 (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = uhNew (halo x1 x2) x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_cons_unit_zero (S := S16x2048) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S1024x2048) hz, View.ld_unit_zero (S := S16x2048) hz, View.ld_unit_zero (S := S8x2048) hz, View.ld_unit_zero (S := S1x256) hz, View.ld_unit_zero (S := S1x2048x256) hz3, View.readCov_unit_zero (S := S1024x2048) _ hz, View.readCov_unit_zero (S := S16x2048) _ hz, pay3_eq, pay4_eq]
  exact congrArg (fun hv => uhNew hv x3) (read_halo arg17.view x1 x2)

set_option maxHeartbeats 4000000 in
/-- The first point of a row block writes the first third from the rows it has just stored. -/
theorem oA12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = o0 (BitVec.ofNat 32 (i 0).val) (uNew x0 x3) (uhNew (halo x1 x2) x3) x4 x7 x10 x11 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero (S := S1024x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S1024x2048) hz, View.ld_unit_zero (S := S16x2048) hz, View.ld_unit_zero (S := S8x2048) hz, View.ld_unit_zero (S := S1x256) hz, View.ld_unit_zero (S := S1x2048x256) hz3, View.readCov_unit_zero (S := S1024x2048) _ hz, View.readCov_cons_unit_lit' (S := S16x2048) _ _ _ _ _ z0 z0, pay3_eq, pay4_eq]
  exact congrArg (fun hv => o0 (BitVec.ofNat 32 (i 0).val) (uNew x0 x3) (uhNew hv x3) x4 x7 x10 x11) (read_halo arg17.view x1 x2)

set_option maxHeartbeats 4000000 in
/-- The first point of a row block writes the product from the rows it has just stored. -/
theorem oA13 (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = o1 (BitVec.ofNat 32 (i 0).val) (uNew x0 x3) (uhNew (halo x1 x2) x3) x5 x8 x10 x11 (c2 (BitVec.ofNat 32 (i 0).val) (uNew x0 x3) (uhNew (halo x1 x2) x3) x6 x9 x10 x11) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero (S := S1024x256) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S1024x2048) hz, View.ld_unit_zero (S := S16x2048) hz, View.ld_unit_zero (S := S8x2048) hz, View.ld_unit_zero (S := S1x256) hz, View.ld_unit_zero (S := S1x2048x256) hz3, View.readCov_unit_zero (S := S1024x2048) _ hz, View.readCov_cons_unit_lit' (S := S16x2048) _ _ _ _ _ z0 z0, pay3_eq, pay4_eq]
  exact congrArg (fun hv => o1 (BitVec.ofNat 32 (i 0).val) (uNew x0 x3) (uhNew hv x3) x5 x8 x10 x11 (c2 (BitVec.ofNat 32 (i 0).val) (uNew x0 x3) (uhNew hv x3) x6 x9 x10 x11)) (read_halo arg17.view x1 x2)

end Cases

end Cert.HyInIdeal.Work

end
-- ==== Proof.HyInIdx.lean ====
/-
  The body's block terms read at an index, over the extended reals: a modulated row's entries, a third's projected entries,
  and a third's entries after the convolution along the rows.
-/
module

public import proofs.«01_k».proof.Proof.HyInPoint
public import Idealize.ShloMosaic.Lib.Pointwise

@[expose] public section

set_option maxRecDepth 16384

noncomputable section

namespace Cert.HyInIdeal.Work

open Cert.HyInIdeal Cert.HyInIdeal.Gen Idealize.ShloMosaic Idealize.ShloMosaic.TcCoe Idealize.SL.Sem

/-- A row over its root mean square, gained, scaled and shifted by the packed vectors `x3`. -/
def modrow (x3 : Vec Ideal S8x2048 .f32) (h : Fin 2048 → EReal) (d : Fin 2048) : EReal :=
  h d * Ideal.rsqrt (Ideal.div (∑ x, h x * h x) (Ideal.ofBits FTy.f32 1157627904#32)
    + Ideal.ofBits FTy.f32 897988541#32) * (x3 (ix2 3 d) * (1 + x3 (ix2 1 d))) + x3 (ix2 0 d)

/-- An entry of the block's modulated rows. -/
theorem uNew_apply (x0 : Vec Ideal S1024x2048 .f32) (x3 : Vec Ideal S8x2048 .f32) (r : Fin 1024) (d : Fin 2048) :
    uNew x0 x3 (ix2 r d) = modrow x3 (fun k => x0 (ix2 r k)) d := by
  unfold modrow uNew
  unfold_payloads
  simp only [shapeCast_self]
  pointwise

/-- An entry of the modulated rows around the block. -/
theorem uhNew_apply (hv : Vec Ideal S16x2048 .f32) (x3 : Vec Ideal S8x2048 .f32) (r : Fin 16) (d : Fin 2048) :
    uhNew hv x3 (ix2 r d) = modrow x3 (fun k => hv (ix2 r k)) d := by
  unfold modrow uhNew
  unfold_payloads
  simp only [shapeCast_self]
  pointwise

/-- The product of a row with a third's weights, with its bias. -/
def proj (w : Vec Ideal S1x2048x256 .bf16) (b : Vec Ideal S1x256 .f32) (u : Fin 2048 → EReal) (d : Fin 256) : EReal :=
  (∑ k : Fin 2048, u k * w (ix3 0 k d)) + b (ix2 0 d)

section Proj

variable (u : Vec Ideal S1024x2048 .bf16) (uh : Vec Ideal S16x2048 .f32) (w : Vec Ideal S1x2048x256 .bf16) (b : Vec Ideal S1x256 .f32)
  (d : Fin 256)

theorem pay7_apply (r : Fin 1024) : k0_pay7 u w b (ix2 r d) = proj w b (fun k => u (ix2 r k)) d := by
  unfold proj
  unfold_payloads
  simp only [shapeCast_self]
  pointwise [dot_S1024x2048_S2048x256_S1024x256_1_0_0_1_n_n]

theorem pay8_eq : k0_pay8 u w b = k0_pay7 u w b := rfl

theorem pay9_eq : k0_pay9 u w b = k0_pay7 u w b := rfl

theorem pay12_apply (r : Fin 16) : k0_pay12 (k0_pay6 uh) w b (ix2 r d) = proj w b (fun k => uh (ix2 r k)) d := by
  unfold proj
  unfold_payloads
  simp only [shapeCast_self]
  pointwise [dot_S16x2048_S2048x256_S16x256_1_0_0_1_n_n]

theorem pay13_eq (v : FVec Ideal S16x2048 .bf16) : k0_pay13 v w b = k0_pay12 v w b := rfl

theorem pay11_eq (v : FVec Ideal S16x2048 .bf16) : k0_pay11 v (k0_pay10 w) (constant S16x256 .f32 0x00000000#32) b = k0_pay12 v w b := rfl

end Proj

/-- The comparison of a row's number with a literal row, as a choice between the two. -/
theorem select_row (r : Fin 1024) (n : ℕ) (hn : n < 1024) (a b : EReal) :
    Scalar.select (IntOp.cmpi CmpIPredicate.eq (BitVec.ofNat 32 r.val) (BitVec.ofNat 32 n)) a b = if r.val = n then a else b := by
  have e : (BitVec.ofNat 32 r.val = BitVec.ofNat 32 n) ↔ r.val = n := by
    rw [← BitVec.toNat_inj, BitVec.toNat_ofNat, BitVec.toNat_ofNat, Nat.mod_eq_of_lt (by omega), Nat.mod_eq_of_lt (by omega)]
  unfold Scalar.select IntOp.cmpi
  by_cases h : r.val = n
  · simp [h]
  · have h' : ¬BitVec.ofNat 32 r.val = BitVec.ofNat 32 n := fun x => h (e.mp x)
    rw [beq_eq_false_iff_ne.mpr h']
    simp [h]

/-- Whether a row block comes after the first. -/
theorem select_first (i : ℕ) (hi : i < 16) (a b : EReal) :
    Scalar.select (Scalar.cmpi CmpIPredicate.sgt (BitVec.ofNat 32 i) 0#32) a b = if 0 < i then a else b := by
  interval_cases i <;> rfl

/-- Whether a row block comes before the last. -/
theorem select_last (i : ℕ) (hi : i < 16) (a b : EReal) :
    Scalar.select (Scalar.cmpi CmpIPredicate.slt (BitVec.ofNat 32 i) 15#32) a b = if i < 15 then a else b := by
  interval_cases i <;> rfl

/-- Three rows weighted and summed, with a bias. -/
def conv3 (s0 s1 s2 b up z dn : EReal) : EReal := up * s0 + z * s1 + dn * s2 + b

theorem conv3_congr {s0 s1 s2 b s0' s1' s2' b' : EReal} (h0 : s0 = s0') (h1 : s1 = s1') (h2 : s2 = s2') (h3 : b = b') (up z dn : EReal) :
    conv3 s0 s1 s2 b up z dn = conv3 s0' s1' s2' b' up z dn := by rw [h0, h1, h2, h3]

/-- The row before row `r` of block `i`: within the block, the one before it (`p`), or none. -/
def upB (i : ℕ) (Z : Fin 1024 → EReal) (p : EReal) (r : Fin 1024) : EReal :=
  if r.val = 0 then (if 0 < i then p else 0) else Z ⟨r.val - 1, by omega⟩

/-- The row after row `r` of block `i`: within the block, the one after it (`n`), or none. -/
def dnB (i : ℕ) (Z : Fin 1024 → EReal) (n : EReal) (r : Fin 1024) : EReal :=
  if r.val = 1023 then (if i < 15 then n else 0) else Z ⟨(r.val + 1) % 1024, Nat.mod_lt _ (by omega)⟩

section Shared

variable (z : FVec Ideal S1024x256 .f32) (r : Fin 1024) (d : Fin 256)

/-- The row after each row, given what follows the block (`n`). -/
theorem dn_apply (n : EReal) :
    Scalar.select (IntOp.cmpi CmpIPredicate.eq (BitVec.ofNat 32 r.val) 1023#32) n
      (z (ix2 ⟨(r.val + 1024 - 1023) % 1024, Nat.mod_lt _ (by omega)⟩ d))
      = if r.val = 1023 then n else z (ix2 ⟨(r.val + 1) % 1024, Nat.mod_lt _ (by omega)⟩ d) := by
  rw [select_row r 1023 (by omega)]
  by_cases h : r.val = 1023
  · rw [if_pos h, if_pos h]
  · rw [if_neg h, if_neg h]
    exact congrArg z (congrArg₂ ix2 (Fin.ext (by show (r.val + 1024 - 1023) % 1024 = (r.val + 1) % 1024; omega)) rfl)

theorem pay22_apply (n : FVec Ideal S1x256 .f32) (up : FVec Ideal S1024x256 .f32) (a0 a1 a2 : Vec Ideal S1x1x256 .f32)
    (a3 : Vec Ideal S1x256 .f32) :
    k0_pay22 z n up k0_pay21 a0 a1 a2 a3 (ix2 r d)
      = conv3 (a0 (ix3 0 0 d)) (a1 (ix3 0 0 d)) (a2 (ix3 0 0 d)) (a3 (ix2 0 d)) (up (ix2 r d)) (z (ix2 r d))
        (if r.val = 1023 then n (ix2 0 d) else z (ix2 ⟨(r.val + 1) % 1024, Nat.mod_lt _ (by omega)⟩ d)) := by
  rw [← dn_apply]
  unfold conv3
  unfold_payloads
  simp only [shapeCast_self]
  pointwise

theorem pay18_eq (n : FVec Ideal S1x256 .f32) (up : FVec Ideal S1024x256 .f32) (a0 a1 a2 : Vec Ideal S1x1x256 .f32)
    (a3 : Vec Ideal S1x256 .f32) :
    k0_pay18 z up k0_pay15 (k0_pay16 z) n a0 a1 a2 a3 (ix2 r d) = k0_pay22 z n up k0_pay21 a0 a1 a2 a3 (ix2 r d) := by
  unfold_payloads
  simp only [shapeCast_self]
  pointwise

theorem pay1_eq (v : FVec Ideal S1024x256 .f32) (n : FVec Ideal S1x256 .f32) (up : FVec Ideal S1024x256 .f32) (a0 a1 a2 : Vec Ideal S1x1x256 .f32)
    (a3 : Vec Ideal S1x256 .f32) :
    k0_pay1 z v n up k0_pay25 (k0_pay26 z) a0 a1 a2 a3 (ix2 r d) = v (ix2 r d) * k0_pay22 z n up k0_pay21 a0 a1 a2 a3 (ix2 r d) := by
  unfold_payloads
  simp only [shapeCast_self]
  pointwise

theorem pay17_eq (j : BitVec 32) (v : FVec Ideal S16x2048 .bf16) (w : FVec Ideal S2048x256 .bf16) (b : Vec Ideal S1x256 .f32) (c : FVec Ideal S16x256 .f32) :
    k0_pay17 j v w c b = k0_pay19 j (k0_pay11 v w c b) := by
  unfold k0_pay17 k0_pay19
  exact shapeCast_self _ _

theorem pay14_eq (j : BitVec 32) (v : FVec Ideal S16x2048 .bf16) (w : FVec Ideal S2048x256 .bf16) (b : Vec Ideal S1x256 .f32) (c : FVec Ideal S16x256 .f32) :
    k0_pay14 j v z w c b = k0_pay20 j z (k0_pay11 v w c b) := rfl

end Shared

section Rows

variable (i : ℕ) (hi : i < 16) (z : FVec Ideal S1024x256 .f32) (zh : FVec Ideal S16x256 .f32) (r : Fin 1024) (d : Fin 256)
include hi

theorem pay20_apply : k0_pay20 (BitVec.ofNat 32 i) z zh (ix2 r d) = upB i (fun r => z (ix2 r d)) (zh (ix2 7 d)) r := by
  have e : k0_pay20 (BitVec.ofNat 32 i) z zh (ix2 r d)
      = Scalar.select (IntOp.cmpi CmpIPredicate.eq (BitVec.ofNat 32 r.val) 0#32)
        (Scalar.select (Scalar.cmpi CmpIPredicate.sgt (BitVec.ofNat 32 i) 0#32) (zh (ix2 7 d)) 0)
        (z (ix2 ⟨(r.val + 1024 - 1) % 1024, Nat.mod_lt _ (by omega)⟩ d)) := by
    unfold_payloads
    simp only [shapeCast_self]
    pointwise
  rw [e, select_row r 0 (by omega), select_first i hi]
  unfold upB
  by_cases h : r.val = 0
  · rw [if_pos h, if_pos h]
  · rw [if_neg h, if_neg h]
    exact congrArg z (congrArg₂ ix2 (Fin.ext (by show (r.val + 1024 - 1) % 1024 = r.val - 1; omega)) rfl)

theorem pay19_apply : k0_pay19 (BitVec.ofNat 32 i) zh (ix2 0 d) = if i < 15 then zh (ix2 8 d) else 0 := by
  rw [← select_last i hi]
  unfold_payloads
  pointwise

end Rows

/-- A row of the convolution's weights, of three rows of three. -/
theorem ld_s (s : Vec Ideal S3x3x256 .f32) (d : Fin 256) (a p : Fin 3)
    (inb : ∀ k, (![a.val, p.val, 0] : Fin 3 → Nat) k + S1x1x256.size k ≤ S3x3x256.size k) :
    (View.ld s (Rect.unit (s := S3x3x256) ![a.val, p.val, 0] S1x1x256.size inb) : Vec Ideal S1x1x256 .f32) (ix3 0 0 d) = s (ix3 a p d) := by
  unfold View.ld
  refine congrArg s (funext fun k => Fin.ext ?_)
  match k with
  | ⟨0, _⟩ => show a.val + 1 * 0 = a.val; omega
  | ⟨1, _⟩ => show p.val + 1 * 0 = p.val; omega
  | ⟨2, _⟩ => show 0 + 1 * d.val = d.val; omega

/-- A row of the convolution's biases. -/
theorem ld_sb (s : Vec Ideal S3x256 .f32) (d : Fin 256) (p : Fin 3)
    (inb : ∀ k, (![p.val, 0] : Fin 2 → Nat) k + S1x256.size k ≤ S3x256.size k) :
    (View.ld s (Rect.unit (s := S3x256) ![p.val, 0] S1x256.size inb) : Vec Ideal S1x256 .f32) (ix2 0 d) = s (ix2 p d) := by
  unfold View.ld
  refine congrArg s (funext fun k => Fin.ext ?_)
  match k with
  | ⟨0, _⟩ => show p.val + 1 * 0 = p.val; omega
  | ⟨1, _⟩ => show 0 + 1 * d.val = d.val; omega

/-- A third `p` after the convolution, at row `r` of block `i`, from the modulated rows of the block and around it. -/
def third (i : ℕ) (p : Fin 3) (u : Vec Ideal S1024x2048 .bf16) (uh : Vec Ideal S16x2048 .f32) (w : Vec Ideal S1x2048x256 .bf16)
    (b : Vec Ideal S1x256 .f32) (s : Vec Ideal S3x3x256 .f32) (sb : Vec Ideal S3x256 .f32) (r : Fin 1024) (d : Fin 256) : EReal :=
  conv3 (s (ix3 0 p d)) (s (ix3 1 p d)) (s (ix3 2 p d)) (sb (ix2 p d))
    (upB i (fun r => proj w b (fun k => u (ix2 r k)) d) (proj w b (fun k => uh (ix2 7 k)) d) r)
    (proj w b (fun k => u (ix2 r k)) d)
    (dnB i (fun r => proj w b (fun k => u (ix2 r k)) d) (proj w b (fun k => uh (ix2 8 k)) d) r)

section Outputs

variable (i : ℕ) (hi : i < 16) (u : Vec Ideal S1024x2048 .bf16) (uh : Vec Ideal S16x2048 .f32) (w : Vec Ideal S1x2048x256 .bf16)
  (b : Vec Ideal S1x256 .f32) (s : Vec Ideal S3x3x256 .f32) (sb : Vec Ideal S3x256 .f32) (r : Fin 1024) (d : Fin 256)
include hi

theorem o0_apply : o0 (BitVec.ofNat 32 i) u uh w b s sb (ix2 r d) = third i 0 u uh w b s sb r d := by
  unfold o0
  rw [pay18_eq, pay22_apply, pay14_eq, pay17_eq, pay11_eq, pay20_apply i hi, pay19_apply i hi]
  simp only [pay7_apply, pay12_apply]
  unfold third dnB
  exact conv3_congr (ld_s s d 0 0 _) (ld_s s d 1 0 _) (ld_s s d 2 0 _) (ld_sb sb d 0 _) _ _ _

theorem c2_apply : c2 (BitVec.ofNat 32 i) u uh w b s sb (ix2 r d) = third i 2 u uh w b s sb r d := by
  unfold c2
  rw [pay22_apply, pay9_eq, pay13_eq, pay20_apply i hi, pay19_apply i hi]
  simp only [pay7_apply, pay12_apply]
  unfold third dnB
  exact conv3_congr (ld_s s d 0 2 _) (ld_s s d 1 2 _) (ld_s s d 2 2 _) (ld_sb sb d 2 _) _ _ _

theorem o1_apply (v : Vec Ideal S1024x256 .f32) :
    o1 (BitVec.ofNat 32 i) u uh w b s sb v (ix2 r d) = v (ix2 r d) * third i 1 u uh w b s sb r d := by
  unfold o1
  rw [pay8_eq, pay1_eq, pay22_apply]
  rw [show ∀ j z zh, k0_pay24 (F := Ideal) j z zh = k0_pay20 j z zh from fun _ _ _ => rfl,
    show ∀ j zh, k0_pay23 (F := Ideal) j zh = k0_pay19 j zh from fun _ _ => rfl, pay20_apply i hi, pay19_apply i hi]
  simp only [pay7_apply, pay12_apply]
  unfold third dnB
  exact congrArg (v (ix2 r d) * ·) (conv3_congr (ld_s s d 0 1 _) (ld_s s d 1 1 _) (ld_s s d 2 1 _) (ld_sb sb d 1 _) _ _ _)

end Outputs

end Cert.HyInIdeal.Work

end
-- ==== Proof.HyInBlocks.lean ====
/-
  What the Hyena input call's input windows hold at each grid point, as entries of the arguments: the row block of `h` and the eight
  rows before and after it, the packed modulation vectors, the weights and biases of the three thirds, and the convolution's.
-/
module

public import proofs.«01_k».proof.Proof.HyInPoint
public import proofs.«01_k».proof.Proof.Gen.HyInIdeal.Frame
public import Idealize.ShloMosaic.Lib.Pointwise
public import Idealize.ShloMosaic.Lib.StableHlo.ReadAt

@[expose] public section

set_option maxRecDepth 16384

noncomputable section

namespace Cert.HyInIdeal.Work

open Cert.HyInIdeal Cert.HyInIdeal.Gen Idealize.ShloMosaic Idealize.ShloMosaic.TcCoe Idealize.SL.Sem

variable (m : (ℓ : Loc nD τ sig) → Buf (Elt Ideal) ℓ)

theorem lt128 (t : Fin cfg0.N) : t.val < 128 := lt_of_lt_of_eq t.isLt N_0

/-- The index maps of the row windows at every point: the row block is `t / 8`, the column block `t % 8`. -/
theorem idx_rows : ∀ t : Fin cfg0.N,
    win0_0.index t (0 : Fin 2) = t.val / 8 ∧ win0_0.index t (1 : Fin 2) = 0
    ∧ win0_1.index t (0 : Fin 2) = t.val / 8 * 128 - 1 ∧ win0_1.index t (1 : Fin 2) = 0
    ∧ win0_2.index t (0 : Fin 2) = min (t.val / 8 * 128 + 128) 2047 ∧ win0_2.index t (1 : Fin 2) = 0
    ∧ win0_3.index t (0 : Fin 2) = 0 ∧ win0_3.index t (1 : Fin 2) = 0
    ∧ win0_12.index t (0 : Fin 2) = t.val / 8 ∧ win0_12.index t (1 : Fin 2) = t.val % 8
    ∧ win0_13.index t (0 : Fin 2) = t.val / 8 ∧ win0_13.index t (1 : Fin 2) = t.val % 8
    ∧ (grid0.coords t 0).val = t.val / 8 :=
  (by decide +kernel : ∀ t : Fin grid0.N, _)

/-- The index maps of the weight windows. -/
theorem idx_weights : ∀ t : Fin cfg0.N,
    win0_4.index t (0 : Fin 3) = 0 ∧ win0_4.index t (1 : Fin 3) = 0 ∧ win0_4.index t (2 : Fin 3) = t.val % 8
    ∧ win0_5.index t (0 : Fin 3) = 0 ∧ win0_5.index t (1 : Fin 3) = 0 ∧ win0_5.index t (2 : Fin 3) = 8 + t.val % 8
    ∧ win0_6.index t (0 : Fin 3) = 0 ∧ win0_6.index t (1 : Fin 3) = 0 ∧ win0_6.index t (2 : Fin 3) = 16 + t.val % 8
    ∧ win0_7.index t (0 : Fin 2) = 0 ∧ win0_7.index t (1 : Fin 2) = t.val % 8
    ∧ win0_8.index t (0 : Fin 2) = 0 ∧ win0_8.index t (1 : Fin 2) = 8 + t.val % 8
    ∧ win0_9.index t (0 : Fin 2) = 0 ∧ win0_9.index t (1 : Fin 2) = 16 + t.val % 8
    ∧ win0_10.index t (0 : Fin 3) = 0 ∧ win0_10.index t (1 : Fin 3) = 0 ∧ win0_10.index t (2 : Fin 3) = t.val % 8
    ∧ win0_11.index t (0 : Fin 2) = 0 ∧ win0_11.index t (1 : Fin 2) = t.val % 8 :=
  (by decide +kernel : ∀ t : Fin grid0.N, _)

/-- Every point writes its two output blocks back. -/
theorem flush_facts : ∀ t : Fin cfg0.N, (cfg0.win 12).flush t = true ∧ (cfg0.win 13).flush t = true :=
  (by decide +kernel : ∀ t : Fin grid0.N, _)

/-- The eight arguments, as arrays over their literal shapes. -/
abbrev H (c : Dev nD) : Vec Ideal S16384x2048 .f32 := m ((c : Thread nD τ).loc main_arg0)
abbrev Mod (c : Dev nD) : Vec Ideal S9x2048 .f32 := m ((c : Thread nD τ).loc main_arg1)
abbrev Gpre (c : Dev nD) : Vec Ideal S2048 .f32 := m ((c : Thread nD τ).loc main_arg2)
abbrev Gpost (c : Dev nD) : Vec Ideal S2048 .f32 := m ((c : Thread nD τ).loc main_arg3)
abbrev Win (c : Dev nD) : Vec Ideal S2x2048x6144 .f32 := m ((c : Thread nD τ).loc main_arg4)
abbrev Bin (c : Dev nD) : Vec Ideal S6144 .f32 := m ((c : Thread nD τ).loc main_arg5)
abbrev Wsc (c : Dev nD) : Vec Ideal S3x6144 .f32 := m ((c : Thread nD τ).loc main_arg6)
abbrev Bsc (c : Dev nD) : Vec Ideal S6144 .f32 := m ((c : Thread nD τ).loc main_arg7)

/-- Column `d` of column block `j` of third `p`, among all the columns. -/
def col (j : ℕ) (hj : j < 8) (p : Fin 3) (d : Fin 256) : Fin 6144 := ⟨p.val * 2048 + (256 * j + d.val), by omega⟩

theorem mod8 (t : Fin cfg0.N) : t.val % 8 < 8 := Nat.mod_lt _ (by omega)

/-- The packed vectors: shift, scale, and the norm gain. -/
theorem V_v15 (c : Dev nD) (d : Fin 2048) :
    (V m c main_v15 : Vec Ideal S8x2048 .f32) (ix2 0 d) = Mod m c (ix2 3 d)
    ∧ (V m c main_v15 : Vec Ideal S8x2048 .f32) (ix2 1 d) = Mod m c (ix2 4 d)
    ∧ (V m c main_v15 : Vec Ideal S8x2048 .f32) (ix2 3 d) = Gpre m c (ix1 d) := by
  have e : V m c main_v15 = (StableHlo.after hostOps0 (fun b => m (c, b)) (Proc.devRef .tc main_v15)) := rfl
  rw [e]
  unfold hostOps0
  after_results
  refine ⟨?_, ?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

/-- The projection's weights as the call reads them: the argument's, format changed. -/
theorem V_v16 (c : Dev nD) : V m c main_v16 = Win m c := by
  show StableHlo.after hostOps0 (fun b => m (c, b)) (Proc.devRef .tc main_v16) = _
  unfold hostOps0
  after_results
  rfl

/-- The bias as the call reads it: one row. -/
theorem V_v17 (c : Dev nD) (n : Fin 6144) : (V m c main_v17 : Vec Ideal S1x6144 .f32) (ix2 0 n) = Bin m c (ix1 n) := by
  have e : V m c main_v17 = (StableHlo.after hostOps0 (fun b => m (c, b)) (Proc.devRef .tc main_v17)) := rfl
  rw [e]
  unfold hostOps0
  after_results
  pointwise
  all_goals rfl

/-- The convolution's weights as the call reads them: each row cut in thirds. -/
theorem V_v18 (c : Dev nD) (a p : Fin 3) (j : ℕ) (hj : j < 8) (d : Fin 256) :
    (V m c main_v18 : Vec Ideal S3x3x2048 .f32) (ix3 a p ⟨256 * j + d.val, by omega⟩) = Wsc m c (ix2 a (col j hj p d)) := by
  have e : V m c main_v18 = (StableHlo.after hostOps0 (fun b => m (c, b)) (Proc.devRef .tc main_v18)) := rfl
  rw [e]
  unfold hostOps0
  after_results
  pointwise
  all_goals rfl

/-- The convolution's biases as the call reads them: cut in thirds. -/
theorem V_v19 (c : Dev nD) (p : Fin 3) (j : ℕ) (hj : j < 8) (d : Fin 256) :
    (V m c main_v19 : Vec Ideal S3x2048 .f32) (ix2 p ⟨256 * j + d.val, by omega⟩) = Bsc m c (ix1 (col j hj p d)) := by
  have e : V m c main_v19 = (StableHlo.after hostOps0 (fun b => m (c, b)) (Proc.devRef .tc main_v19)) := rfl
  rw [e]
  unfold hostOps0
  after_results
  pointwise
  all_goals rfl

theorem iblk0_apply (c : Dev nD) (t : Fin cfg0.N) (r : Fin 1024) (d : Fin 2048) :
    (iblk m c 0 t : Vec Ideal S1024x2048 .f32) (ix2 r d)
      = H m c (ix2 ⟨1024 * (t.val / 8) + r.val, by have := lt128 t; omega⟩ d) := by
  obtain ⟨h0, h1, -⟩ := idx_rows t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = 1024 * (t.val / 8) + r.val; rw [h0]; omega
  | ⟨1, _⟩ => show win0_0.index t 1 * 2048 + 1 * d.val = d.val; rw [h1]; omega

/-- The last of the eight rows before a block that is not the first. -/
theorem iblk1_apply (c : Dev nD) (t : Fin cfg0.N) (hp : 0 < t.val / 8) (d : Fin 2048) :
    (iblk m c 1 t : Vec Ideal S8x2048 .f32) (ix2 7 d)
      = H m c (ix2 ⟨1024 * (t.val / 8) - 1, by have := lt128 t; omega⟩ d) := by
  obtain ⟨-, -, h0, h1, -⟩ := idx_rows t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 8 + 1 * 7 = 1024 * (t.val / 8) - 1; rw [h0]; omega
  | ⟨1, _⟩ => show win0_1.index t 1 * 2048 + 1 * d.val = d.val; rw [h1]; omega

/-- The first of the eight rows after a block that is not the last. -/
theorem iblk2_apply (c : Dev nD) (t : Fin cfg0.N) (hn : t.val / 8 < 15) (d : Fin 2048) :
    (iblk m c 2 t : Vec Ideal S8x2048 .f32) (ix2 0 d)
      = H m c (ix2 ⟨1024 * (t.val / 8) + 1024, by omega⟩ d) := by
  obtain ⟨-, -, -, -, h0, h1, -⟩ := idx_rows t
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 8 + 1 * 0 = 1024 * (t.val / 8) + 1024; rw [h0]; omega
  | ⟨1, _⟩ => show win0_2.index t 1 * 2048 + 1 * d.val = d.val; rw [h1]; omega

theorem iblk3_apply (c : Dev nD) (t : Fin cfg0.N) (k : Fin 8) (d : Fin 2048) :
    (iblk m c 3 t : Vec Ideal S8x2048 .f32) (ix2 k d) = (V m c main_v15 : Vec Ideal S8x2048 .f32) (ix2 k d) := by
  obtain ⟨-, -, -, -, -, -, h0, h1, -⟩ := idx_rows t
  unfold iblk
  rw [View.read_apply]
  show (V m c main_v15 : Vec Ideal S8x2048 .f32) _ = _
  refine congrArg (V m c main_v15 : Vec Ideal S8x2048 .f32) (funext fun a => Fin.ext ?_)
  match a with
  | ⟨0, _⟩ => show win0_3.index t 0 * 8 + 1 * k.val = k.val; rw [h0]; omega
  | ⟨1, _⟩ => show win0_3.index t 1 * 2048 + 1 * d.val = d.val; rw [h1]; omega

theorem iblk4_apply (c : Dev nD) (t : Fin cfg0.N) (k : Fin 2048) (d : Fin 256) :
    (iblk m c 4 t : Vec Ideal S1x2048x256 .bf16) (ix3 0 k d) = Win m c (ix3 0 k (col (t.val % 8) (mod8 t) 0 d)) := by
  obtain ⟨h0, h1, h2, -⟩ := idx_weights t
  unfold iblk
  rw [View.read_apply]
  show (V m c main_v16 : Vec Ideal S2x2048x6144 .bf16) _ = _
  rw [V_v16]
  refine congrArg (Win m c) (funext fun a => Fin.ext ?_)
  match a with
  | ⟨0, _⟩ => show win0_4.index t 0 * 1 + 1 * 0 = 0; rw [h0]
  | ⟨1, _⟩ => show win0_4.index t 1 * 2048 + 1 * k.val = k.val; rw [h1]; omega
  | ⟨2, _⟩ => show win0_4.index t 2 * 256 + 1 * d.val = 0 * 2048 + (256 * (t.val % 8) + d.val); rw [h2]; omega

theorem iblk5_apply (c : Dev nD) (t : Fin cfg0.N) (k : Fin 2048) (d : Fin 256) :
    (iblk m c 5 t : Vec Ideal S1x2048x256 .bf16) (ix3 0 k d) = Win m c (ix3 0 k (col (t.val % 8) (mod8 t) 1 d)) := by
  obtain ⟨-, -, -, h0, h1, h2, -⟩ := idx_weights t
  unfold iblk
  rw [View.read_apply]
  show (V m c main_v16 : Vec Ideal S2x2048x6144 .bf16) _ = _
  rw [V_v16]
  refine congrArg (Win m c) (funext fun a => Fin.ext ?_)
  match a with
  | ⟨0, _⟩ => show win0_5.index t 0 * 1 + 1 * 0 = 0; rw [h0]
  | ⟨1, _⟩ => show win0_5.index t 1 * 2048 + 1 * k.val = k.val; rw [h1]; omega
  | ⟨2, _⟩ => show win0_5.index t 2 * 256 + 1 * d.val = 1 * 2048 + (256 * (t.val % 8) + d.val); rw [h2]; omega

theorem iblk6_apply (c : Dev nD) (t : Fin cfg0.N) (k : Fin 2048) (d : Fin 256) :
    (iblk m c 6 t : Vec Ideal S1x2048x256 .bf16) (ix3 0 k d) = Win m c (ix3 0 k (col (t.val % 8) (mod8 t) 2 d)) := by
  obtain ⟨-, -, -, -, -, -, h0, h1, h2, -⟩ := idx_weights t
  unfold iblk
  rw [View.read_apply]
  show (V m c main_v16 : Vec Ideal S2x2048x6144 .bf16) _ = _
  rw [V_v16]
  refine congrArg (Win m c) (funext fun a => Fin.ext ?_)
  match a with
  | ⟨0, _⟩ => show win0_6.index t 0 * 1 + 1 * 0 = 0; rw [h0]
  | ⟨1, _⟩ => show win0_6.index t 1 * 2048 + 1 * k.val = k.val; rw [h1]; omega
  | ⟨2, _⟩ => show win0_6.index t 2 * 256 + 1 * d.val = 2 * 2048 + (256 * (t.val % 8) + d.val); rw [h2]; omega

theorem iblk7_apply (c : Dev nD) (t : Fin cfg0.N) (d : Fin 256) :
    (iblk m c 7 t : Vec Ideal S1x256 .f32) (ix2 0 d) = Bin m c (ix1 (col (t.val % 8) (mod8 t) 0 d)) := by
  obtain ⟨-, -, -, -, -, -, -, -, -, h0, h1, -⟩ := idx_weights t
  rw [← V_v17]
  unfold iblk
  rw [View.read_apply]
  show (V m c main_v17 : Vec Ideal S1x6144 .f32) _ = _
  refine congrArg (V m c main_v17 : Vec Ideal S1x6144 .f32) (funext fun a => Fin.ext ?_)
  match a with
  | ⟨0, _⟩ => show win0_7.index t 0 * 1 + 1 * 0 = 0; rw [h0]
  | ⟨1, _⟩ => show win0_7.index t 1 * 256 + 1 * d.val = 0 * 2048 + (256 * (t.val % 8) + d.val); rw [h1]; omega

theorem iblk8_apply (c : Dev nD) (t : Fin cfg0.N) (d : Fin 256) :
    (iblk m c 8 t : Vec Ideal S1x256 .f32) (ix2 0 d) = Bin m c (ix1 (col (t.val % 8) (mod8 t) 1 d)) := by
  obtain ⟨-, -, -, -, -, -, -, -, -, -, -, h0, h1, -⟩ := idx_weights t
  rw [← V_v17]
  unfold iblk
  rw [View.read_apply]
  show (V m c main_v17 : Vec Ideal S1x6144 .f32) _ = _
  refine congrArg (V m c main_v17 : Vec Ideal S1x6144 .f32) (funext fun a => Fin.ext ?_)
  match a with
  | ⟨0, _⟩ => show win0_8.index t 0 * 1 + 1 * 0 = 0; rw [h0]
  | ⟨1, _⟩ => show win0_8.index t 1 * 256 + 1 * d.val = 1 * 2048 + (256 * (t.val % 8) + d.val); rw [h1]; omega

theorem iblk9_apply (c : Dev nD) (t : Fin cfg0.N) (d : Fin 256) :
    (iblk m c 9 t : Vec Ideal S1x256 .f32) (ix2 0 d) = Bin m c (ix1 (col (t.val % 8) (mod8 t) 2 d)) := by
  obtain ⟨-, -, -, -, -, -, -, -, -, -, -, -, -, h0, h1, -⟩ := idx_weights t
  rw [← V_v17]
  unfold iblk
  rw [View.read_apply]
  show (V m c main_v17 : Vec Ideal S1x6144 .f32) _ = _
  refine congrArg (V m c main_v17 : Vec Ideal S1x6144 .f32) (funext fun a => Fin.ext ?_)
  match a with
  | ⟨0, _⟩ => show win0_9.index t 0 * 1 + 1 * 0 = 0; rw [h0]
  | ⟨1, _⟩ => show win0_9.index t 1 * 256 + 1 * d.val = 2 * 2048 + (256 * (t.val % 8) + d.val); rw [h1]; omega

theorem iblk10_apply (c : Dev nD) (t : Fin cfg0.N) (a p : Fin 3) (d : Fin 256) :
    (iblk m c 10 t : Vec Ideal S3x3x256 .f32) (ix3 a p d) = Wsc m c (ix2 a (col (t.val % 8) (mod8 t) p d)) := by
  obtain ⟨-, -, -, -, -, -, -, -, -, -, -, -, -, -, -, h0, h1, h2, -⟩ := idx_weights t
  rw [← V_v18]
  unfold iblk
  rw [View.read_apply]
  show (V m c main_v18 : Vec Ideal S3x3x2048 .f32) _ = _
  refine congrArg (V m c main_v18 : Vec Ideal S3x3x2048 .f32) (funext fun k => Fin.ext ?_)
  match k with
  | ⟨0, _⟩ => show win0_10.index t 0 * 3 + 1 * a.val = a.val; rw [h0]; omega
  | ⟨1, _⟩ => show win0_10.index t 1 * 3 + 1 * p.val = p.val; rw [h1]; omega
  | ⟨2, _⟩ => show win0_10.index t 2 * 256 + 1 * d.val = 256 * (t.val % 8) + d.val; rw [h2]; omega

theorem iblk11_apply (c : Dev nD) (t : Fin cfg0.N) (p : Fin 3) (d : Fin 256) :
    (iblk m c 11 t : Vec Ideal S3x256 .f32) (ix2 p d) = Bsc m c (ix1 (col (t.val % 8) (mod8 t) p d)) := by
  obtain ⟨-, -, -, -, -, -, -, -, -, -, -, -, -, -, -, -, -, -, h0, h1⟩ := idx_weights t
  rw [← V_v19]
  unfold iblk
  rw [View.read_apply]
  show (V m c main_v19 : Vec Ideal S3x2048 .f32) _ = _
  refine congrArg (V m c main_v19 : Vec Ideal S3x2048 .f32) (funext fun k => Fin.ext ?_)
  match k with
  | ⟨0, _⟩ => show win0_11.index t 0 * 3 + 1 * p.val = p.val; rw [h0]; omega
  | ⟨1, _⟩ => show win0_11.index t 1 * 256 + 1 * d.val = 256 * (t.val % 8) + d.val; rw [h1]; omega

end Cert.HyInIdeal.Work

end
-- ==== Proof.HyInRun.lean ====
/-
  The Hyena input call's run: what each point writes back of its two results, the final arrays block by block, and the arguments kept.
-/
module

public import proofs.«01_k».proof.Proof.Gen.HyInIdeal.Frame
public import Idealize.ShloMosaic.Lib.Pipeline.Value

@[expose] public section

noncomputable section

namespace Cert.HyInIdeal.Work

open Cert.HyInIdeal Cert.HyInIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- No two points have the same block of output 12. -/
theorem index_inj12 : ∀ t t' : Fin cfg0.N, win0_12.index t = win0_12.index t' → t = t' :=
  (by decide +kernel : ∀ t t' : Fin grid0.N, win0_12.index t = win0_12.index t' → t = t')

/-- So the block of the final array at a point is what the point left there. -/
theorem block12 (c : Dev nD) (t : Fin cfg0.N) (hf : (cfg0.win 12).flush t = true) :
    ((cfg0.win 12).blk t).view.read (Elt F) ((dats m 0 c).arrAt 12 cfg0.N)
      = (cfg0.win 12).cut (grid0.coords t) (outsAt0 m c t.val t.isLt).1 := by
  refine ((dats m 0 c).read_blk_arrAt_eq_flushed 12
    (fun s s' _ _ hne => (cfg0.win 12).disjoint_blk fun h => hne (index_inj12 s s' h)) cfg0.N t t.isLt hf).trans ?_
  show (cfg0.win 12).cut (grid0.coords t) ((dats m 0 c).after 12 t) = _
  rw [after0_12]

/-- No two points have the same block of output 13. -/
theorem index_inj13 : ∀ t t' : Fin cfg0.N, win0_13.index t = win0_13.index t' → t = t' :=
  (by decide +kernel : ∀ t t' : Fin grid0.N, win0_13.index t = win0_13.index t' → t = t')

/-- So the block of the final array at a point is what the point left there. -/
theorem block13 (c : Dev nD) (t : Fin cfg0.N) (hf : (cfg0.win 13).flush t = true) :
    ((cfg0.win 13).blk t).view.read (Elt F) ((dats m 0 c).arrAt 13 cfg0.N)
      = (cfg0.win 13).cut (grid0.coords t) (outsAt0 m c t.val t.isLt).2.1 := by
  refine ((dats m 0 c).read_blk_arrAt_eq_flushed 13
    (fun s s' _ _ hne => (cfg0.win 13).disjoint_blk fun h => hne (index_inj13 s s' h)) cfg0.N t t.isLt hf).trans ?_
  show (cfg0.win 13).cut (grid0.coords t) ((dats m 0 c).after 13 t) = _
  rw [after0_13]

/-- The run leaves the two arrays and keeps the arguments. -/
theorem run_arrays : θ_run defs (onTc (τ := τ) (main (F := F))) ⟨m, fun _ => 0, ρ⟩ fun r => ∀ c : Dev nD,
      r.2.mem ((c : Thread nD τ).loc main_v20_0) = (dats m 0 c).arrAt 12 cfg0.N
      ∧ r.2.mem ((c : Thread nD τ).loc main_v20_1) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 12, (h c).1 13,
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.HyInIdeal.Work

end
-- ==== Proof.HyInArr.lean ====
/-
  What the Hyena input call's two result arrays hold, entry by entry: the rows kept between points, the convolution of the
  projected rows across the blocks, and the arrays.
-/
module

public import proofs.«01_k».proof.Proof.HyInIdx
public import proofs.«01_k».proof.Proof.HyInBlocks
public import proofs.«01_k».proof.Proof.HyInRun

@[expose] public section

set_option maxRecDepth 16384

noncomputable section

namespace Cert.HyInIdeal.Work

open Cert.HyInIdeal Cert.HyInIdeal.Gen Idealize.ShloMosaic Idealize.ShloMosaic.TcCoe Idealize.SL.Sem

variable (m : (ℓ : Loc nD τ sig) → Buf (Elt Ideal) ℓ)

/-- A row over its root mean square, gained, scaled and shifted. -/
def U (c : Dev nD) (ρ : Fin 16384) (d : Fin 2048) : EReal :=
  H m c (ix2 ρ d) * Ideal.rsqrt (Ideal.div (∑ x, H m c (ix2 ρ x) * H m c (ix2 ρ x)) (Ideal.ofBits FTy.f32 1157627904#32)
    + Ideal.ofBits FTy.f32 897988541#32) * (Gpre m c (ix1 d) * (1 + Mod m c (ix2 4 d))) + Mod m c (ix2 3 d)

/-- Its projection, with the bias. -/
def Z (c : Dev nD) (n : Fin 6144) (ρ : Fin 16384) : EReal := (∑ k, U m c ρ k * Win m c (ix3 0 k n)) + Bin m c (ix1 n)

/-- The row before, zero before the first. -/
def before (z : Fin 16384 → EReal) (ρ : Fin 16384) : EReal := if ρ.val = 0 then 0 else z ⟨ρ.val - 1, by omega⟩

/-- The row after, zero after the last. -/
def after' (z : Fin 16384 → EReal) (ρ : Fin 16384) : EReal := if h : ρ.val = 16383 then 0 else z ⟨ρ.val + 1, by omega⟩

/-- The convolution over the rows. -/
def Conv (c : Dev nD) (n : Fin 6144) (ρ : Fin 16384) : EReal :=
  conv3 (Wsc m c (ix2 0 n)) (Wsc m c (ix2 1 n)) (Wsc m c (ix2 2 n)) (Bsc m c (ix1 n))
    (before (Z m c n) ρ) (Z m c n ρ) (after' (Z m c n) ρ)

/-- A row modulated by the point's packed vectors is the row `U` of the same row of `h`. -/
theorem modrow_blk (c : Dev nD) (t : Fin cfg0.N) (h : Fin 2048 → EReal) (ρ : Fin 16384) (e : ∀ k, h k = H m c (ix2 ρ k)) (d : Fin 2048) :
    modrow (iblk m c 3 t : Vec Ideal S8x2048 .f32) h d = U m c ρ d := by
  obtain ⟨e0, e1, e3⟩ := V_v15 m c d
  unfold modrow U
  rw [iblk3_apply, iblk3_apply, iblk3_apply, e0, e1, e3]
  simp only [e]

/-- What the first point of a row block leaves: the two blocks and the rows to keep. -/
theorem stateA (c : Dev nD) (t : Fin cfg0.N) (h0 : t.val % 8 = 0) : outsAt0 m c t.val t.isLt
    = (o0 (BitVec.ofNat 32 (grid0.coords t 0).val) (uNew (iblk m c 0 t) (iblk m c 3 t)) (uhNew (halo (iblk m c 1 t) (iblk m c 2 t)) (iblk m c 3 t))
        (iblk m c 4 t) (iblk m c 7 t) (iblk m c 10 t) (iblk m c 11 t),
      o1 (BitVec.ofNat 32 (grid0.coords t 0).val) (uNew (iblk m c 0 t) (iblk m c 3 t)) (uhNew (halo (iblk m c 1 t) (iblk m c 2 t)) (iblk m c 3 t))
        (iblk m c 5 t) (iblk m c 8 t) (iblk m c 10 t) (iblk m c 11 t)
        (c2 (BitVec.ofNat 32 (grid0.coords t 0).val) (uNew (iblk m c 0 t) (iblk m c 3 t)) (uhNew (halo (iblk m c 1 t) (iblk m c 2 t)) (iblk m c 3 t))
          (iblk m c 6 t) (iblk m c 9 t) (iblk m c 10 t) (iblk m c 11 t)),
      uNew (iblk m c 0 t) (iblk m c 3 t), uhNew (halo (iblk m c 1 t) (iblk m c 2 t)) (iblk m c 3 t)) := by
  rw [outsAt0_A m c t h0, oA12, oA13, sA0, sA1]

/-- What a later point leaves, over the rows `s` the point before kept. -/
theorem stateB (c : Dev nD) (t : Fin cfg0.N) (h0 : ¬t.val % 8 = 0) (s : Vec Ideal S1024x2048 .bf16 × Vec Ideal S16x2048 .f32)
    (hs : s = (outsAt0 m c (t.val - 1) (Nat.lt_of_le_of_lt (Nat.sub_le _ _) t.isLt)).2.2) : outsAt0 m c t.val t.isLt
    = (o0 (BitVec.ofNat 32 (grid0.coords t 0).val) s.1 s.2 (iblk m c 4 t) (iblk m c 7 t) (iblk m c 10 t) (iblk m c 11 t),
      o1 (BitVec.ofNat 32 (grid0.coords t 0).val) s.1 s.2 (iblk m c 5 t) (iblk m c 8 t) (iblk m c 10 t) (iblk m c 11 t)
        (c2 (BitVec.ofNat 32 (grid0.coords t 0).val) s.1 s.2 (iblk m c 6 t) (iblk m c 9 t) (iblk m c 10 t) (iblk m c 11 t)), s.1, s.2) := by
  rw [outsAt0_B m c t h0, oB12, oB13, hs]
  rfl

/-- The rows kept after a point: the block's, and the rows just before and just after it where there are some. -/
theorem kept (c : Dev nD) (n : ℕ) (hn : n < cfg0.N) :
    (∀ (r : Fin 1024) (d : Fin 2048), (outsAt0 m c n hn).2.2.1 (ix2 r d)
      = U m c ⟨1024 * (n / 8) + r.val, by have := lt128 ⟨n, hn⟩; dsimp only at this; omega⟩ d)
    ∧ (∀ (hp : 0 < n / 8) (d : Fin 2048), (outsAt0 m c n hn).2.2.2 (ix2 7 d)
      = U m c ⟨1024 * (n / 8) - 1, by have := lt128 ⟨n, hn⟩; dsimp only at this; omega⟩ d)
    ∧ (∀ (hp : n / 8 < 15) (d : Fin 2048), (outsAt0 m c n hn).2.2.2 (ix2 8 d) = U m c ⟨1024 * (n / 8) + 1024, by omega⟩ d) := by
  induction n with
  | zero =>
    have h0 : (⟨0, hn⟩ : Fin cfg0.N).val % 8 = 0 := rfl
    have e0 : (outsAt0 m c 0 hn).2.2.1 = uNew (iblk m c 0 ⟨0, hn⟩) (iblk m c 3 ⟨0, hn⟩) :=
      congrArg (fun x => x.2.2.1) (stateA m c ⟨0, hn⟩ h0)
    have e1 : (outsAt0 m c 0 hn).2.2.2 = uhNew (halo (iblk m c 1 ⟨0, hn⟩) (iblk m c 2 ⟨0, hn⟩)) (iblk m c 3 ⟨0, hn⟩) :=
      congrArg (fun x => x.2.2.2) (stateA m c ⟨0, hn⟩ h0)
    refine ⟨fun r d => ?_, fun hp d => ?_, fun hp d => ?_⟩
    · rw [e0, uNew_apply]
      exact modrow_blk m c _ _ _ (fun k => iblk0_apply m c ⟨0, hn⟩ r k) d
    · omega
    · rw [e1, uhNew_apply]
      exact modrow_blk m c _ _ _ (fun k => iblk2_apply m c ⟨0, hn⟩ hp k) d
  | succ n ih =>
    by_cases h0 : (n + 1) % 8 = 0
    · have e0 : (outsAt0 m c (n + 1) hn).2.2.1 = uNew (iblk m c 0 ⟨n + 1, hn⟩) (iblk m c 3 ⟨n + 1, hn⟩) :=
        congrArg (fun x => x.2.2.1) (stateA m c ⟨n + 1, hn⟩ h0)
      have e1 : (outsAt0 m c (n + 1) hn).2.2.2 = uhNew (halo (iblk m c 1 ⟨n + 1, hn⟩) (iblk m c 2 ⟨n + 1, hn⟩)) (iblk m c 3 ⟨n + 1, hn⟩) :=
        congrArg (fun x => x.2.2.2) (stateA m c ⟨n + 1, hn⟩ h0)
      refine ⟨fun r d => ?_, fun hp d => ?_, fun hp d => ?_⟩
      · rw [e0, uNew_apply]
        exact modrow_blk m c _ _ _ (fun k => iblk0_apply m c ⟨n + 1, hn⟩ r k) d
      · rw [e1, uhNew_apply]
        exact modrow_blk m c _ _ _ (fun k => iblk1_apply m c ⟨n + 1, hn⟩ hp k) d
      · rw [e1, uhNew_apply]
        exact modrow_blk m c _ _ _ (fun k => iblk2_apply m c ⟨n + 1, hn⟩ hp k) d
    · obtain ⟨i0, i1, i2⟩ := ih (Nat.lt_of_succ_lt hn)
      have e0 : (outsAt0 m c (n + 1) hn).2.2.1 = (outsAt0 m c n (Nat.lt_of_succ_lt hn)).2.2.1 :=
        congrArg (fun x => x.2.2.1) (stateB m c ⟨n + 1, hn⟩ h0 _ rfl)
      have e1 : (outsAt0 m c (n + 1) hn).2.2.2 = (outsAt0 m c n (Nat.lt_of_succ_lt hn)).2.2.2 :=
        congrArg (fun x => x.2.2.2) (stateB m c ⟨n + 1, hn⟩ h0 _ rfl)
      have q : (n + 1) / 8 = n / 8 := by omega
      rw [e0, e1]
      simp only [q]
      exact ⟨i0, i1, i2⟩

/-- The two blocks a point leaves, over the rows it keeps. -/
theorem outs (c : Dev nD) (t : Fin cfg0.N) :
    (outsAt0 m c t.val t.isLt).1 = o0 (BitVec.ofNat 32 (t.val / 8)) (outsAt0 m c t.val t.isLt).2.2.1 (outsAt0 m c t.val t.isLt).2.2.2
        (iblk m c 4 t) (iblk m c 7 t) (iblk m c 10 t) (iblk m c 11 t)
    ∧ (outsAt0 m c t.val t.isLt).2.1 = o1 (BitVec.ofNat 32 (t.val / 8)) (outsAt0 m c t.val t.isLt).2.2.1 (outsAt0 m c t.val t.isLt).2.2.2
        (iblk m c 5 t) (iblk m c 8 t) (iblk m c 10 t) (iblk m c 11 t)
        (c2 (BitVec.ofNat 32 (t.val / 8)) (outsAt0 m c t.val t.isLt).2.2.1 (outsAt0 m c t.val t.isLt).2.2.2
          (iblk m c 6 t) (iblk m c 9 t) (iblk m c 10 t) (iblk m c 11 t)) := by
  obtain ⟨-, -, -, -, -, -, -, -, -, -, -, -, hi⟩ := idx_rows t
  rw [← hi]
  by_cases h0 : t.val % 8 = 0
  · rw [stateA m c t h0]
    exact ⟨rfl, rfl⟩
  · rw [stateB m c t h0 _ rfl]
    exact ⟨rfl, rfl⟩

/-- A third at a point, over the rows it keeps, is the convolution at the row's place among all rows. -/
theorem third_eq (c : Dev nD) (t : Fin cfg0.N) (p : Fin 3) (w : Vec Ideal S1x2048x256 .bf16) (b : Vec Ideal S1x256 .f32)
    (hw : ∀ (k : Fin 2048) (d : Fin 256), w (ix3 0 k d) = Win m c (ix3 0 k (col (t.val % 8) (mod8 t) p d)))
    (hb : ∀ d : Fin 256, b (ix2 0 d) = Bin m c (ix1 (col (t.val % 8) (mod8 t) p d))) (r : Fin 1024) (d : Fin 256) :
    third (t.val / 8) p (outsAt0 m c t.val t.isLt).2.2.1 (outsAt0 m c t.val t.isLt).2.2.2 w b (iblk m c 10 t) (iblk m c 11 t) r d
      = Conv m c (col (t.val % 8) (mod8 t) p d) ⟨1024 * (t.val / 8) + r.val, by have := lt128 t; omega⟩ := by
  obtain ⟨k0, k1, k2⟩ := kept m c t.val t.isLt
  have hz : ∀ (u : Fin 2048 → EReal) (ρ : Fin 16384), (∀ k, u k = U m c ρ k) → proj w b u d = Z m c (col (t.val % 8) (mod8 t) p d) ρ := by
    intro u ρ e
    unfold proj Z
    simp only [e, hw, hb]
  have hr := fun r' : Fin 1024 => hz (fun k => (outsAt0 m c t.val t.isLt).2.2.1 (ix2 r' k)) _ (k0 r')
  have ht := lt128 t
  unfold third Conv
  rw [iblk10_apply, iblk10_apply, iblk10_apply, iblk11_apply]
  refine congr (congr (congrArg _ ?_) (hr r)) ?_
  · unfold upB before
    by_cases h : r.val = 0
    · rw [if_pos h]
      by_cases hi : 0 < t.val / 8
      · rw [if_pos hi, if_neg (by dsimp only; omega), hz _ _ (k1 hi)]
        exact congrArg _ (Fin.ext (by dsimp only; omega))
      · rw [if_neg hi, if_pos (by dsimp only; omega)]
    · rw [if_neg h, if_neg (by dsimp only; omega)]
      exact (hr _).trans (congrArg _ (Fin.ext (by dsimp only; omega)))
  · unfold dnB after'
    by_cases h : r.val = 1023
    · rw [if_pos h]
      by_cases hi : t.val / 8 < 15
      · rw [if_pos hi, dif_neg (by dsimp only; omega), hz _ _ (k2 hi)]
        exact congrArg _ (Fin.ext (by dsimp only; omega))
      · rw [if_neg hi, dif_pos (by dsimp only; omega)]
    · rw [if_neg h, dif_neg (by dsimp only; omega)]
      exact (hr _).trans (congrArg _ (Fin.ext (by dsimp only; omega)))

/-- Result array 0. -/
def Res12 (c : Dev nD) : Vec Ideal S16384x2048 .bf16 := (dats m 0 c).arrAt 12 cfg0.N

/-- Result array 1. -/
def Res13 (c : Dev nD) : Vec Ideal S16384x2048 .bf16 := (dats m 0 c).arrAt 13 cfg0.N

theorem flush12 (c : Dev nD) (t : Fin cfg0.N) (r : Fin 1024) (d : Fin 256) :
    Res12 m c (ix2 ⟨1024 * (t.val / 8) + r.val, by have := lt128 t; omega⟩ ⟨256 * (t.val % 8) + d.val, by omega⟩)
      = (outsAt0 m c t.val t.isLt).1 (ix2 r d) := by
  obtain ⟨-, -, -, -, -, -, -, -, h0, h1, -⟩ := idx_rows t
  have e := congrFun (block12 m c t (flush_facts t).1) (ix2 r d)
  rw [View.read_apply] at e
  refine Eq.trans ?_ e
  unfold Res12
  refine congrArg ((dats m 0 c).arrAt 12 cfg0.N) (funext fun a => Fin.ext ?_)
  match a with
  | ⟨0, _⟩ => show 1024 * (t.val / 8) + r.val = win0_12.index t 0 * 1024 + 1 * r.val; rw [h0]; omega
  | ⟨1, _⟩ => show 256 * (t.val % 8) + d.val = win0_12.index t 1 * 256 + 1 * d.val; rw [h1]; omega

theorem flush13 (c : Dev nD) (t : Fin cfg0.N) (r : Fin 1024) (d : Fin 256) :
    Res13 m c (ix2 ⟨1024 * (t.val / 8) + r.val, by have := lt128 t; omega⟩ ⟨256 * (t.val % 8) + d.val, by omega⟩)
      = (outsAt0 m c t.val t.isLt).2.1 (ix2 r d) := by
  obtain ⟨-, -, -, -, -, -, -, -, -, -, h0, h1, -⟩ := idx_rows t
  have e := congrFun (block13 m c t (flush_facts t).2) (ix2 r d)
  rw [View.read_apply] at e
  refine Eq.trans ?_ e
  unfold Res13
  refine congrArg ((dats m 0 c).arrAt 13 cfg0.N) (funext fun a => Fin.ext ?_)
  match a with
  | ⟨0, _⟩ => show 1024 * (t.val / 8) + r.val = win0_13.index t 0 * 1024 + 1 * r.val; rw [h0]; omega
  | ⟨1, _⟩ => show 256 * (t.val % 8) + d.val = win0_13.index t 1 * 256 + 1 * d.val; rw [h1]; omega

/-- Every entry lies in the block of one point. -/
theorem place (ρ : Fin 16384) (e : Fin 2048) : ∃ (t : Fin cfg0.N) (r : Fin 1024) (d : Fin 256),
    ρ.val = 1024 * (t.val / 8) + r.val ∧ e.val = 256 * (t.val % 8) + d.val := by
  refine ⟨⟨8 * (ρ.val / 1024) + e.val / 256, lt_of_lt_of_eq (by omega : _ < 128) N_0.symm⟩, ⟨ρ.val % 1024, by omega⟩, ⟨e.val % 256, by omega⟩, ?_, ?_⟩
  · dsimp only; omega
  · dsimp only; omega

/-- Result array 0, entry by entry. -/
theorem res12_apply (c : Dev nD) (ρ : Fin 16384) (e : Fin 2048) : Res12 m c (ix2 ρ e) = Conv m c ⟨e.val, by omega⟩ ρ := by
  obtain ⟨t, r, d, hρ, he⟩ := place ρ e
  have ht := lt128 t
  rw [show ρ = ⟨1024 * (t.val / 8) + r.val, by omega⟩ from Fin.ext hρ, show e = ⟨256 * (t.val % 8) + d.val, by omega⟩ from Fin.ext he]
  rw [flush12, (outs m c t).1, o0_apply (t.val / 8) (by omega), third_eq m c t 0 _ _ (iblk4_apply m c t) (iblk7_apply m c t)]
  exact congrArg (Conv m c · _) (Fin.ext (by show 0 * 2048 + (256 * (t.val % 8) + d.val) = 256 * (t.val % 8) + d.val; omega))

/-- Result array 1, entry by entry. -/
theorem res13_apply (c : Dev nD) (ρ : Fin 16384) (e : Fin 2048) :
    Res13 m c (ix2 ρ e) = Conv m c ⟨4096 + e.val, by omega⟩ ρ * Conv m c ⟨2048 + e.val, by omega⟩ ρ := by
  obtain ⟨t, r, d, hρ, he⟩ := place ρ e
  have ht := lt128 t
  rw [show ρ = ⟨1024 * (t.val / 8) + r.val, by omega⟩ from Fin.ext hρ, show e = ⟨256 * (t.val % 8) + d.val, by omega⟩ from Fin.ext he]
  rw [flush13, (outs m c t).2, o1_apply (t.val / 8) (by omega), c2_apply (t.val / 8) (by omega),
    third_eq m c t 1 _ _ (iblk5_apply m c t) (iblk8_apply m c t), third_eq m c t 2 _ _ (iblk6_apply m c t) (iblk9_apply m c t)]
  exact congrArg₂ (fun x y => Conv m c x _ * Conv m c y _)
    (Fin.ext (by show 2 * 2048 + (256 * (t.val % 8) + d.val) = 4096 + (256 * (t.val % 8) + d.val); omega))
    (Fin.ext (by show 1 * 2048 + (256 * (t.val % 8) + d.val) = 2048 + (256 * (t.val % 8) + d.val); omega))

end Cert.HyInIdeal.Work

end
-- ==== Proof.HyInRef.lean ====
/-
  What the Hyena input reference computes, entry by entry, over its arguments.
-/
module

public import proofs.«01_k».proof.Proof.Gen.HyInRefIdeal.Run
public import proofs.«01_k».proof.Proof.Gen.HyInRefIdeal.Read
public import Idealize.ShloMosaic.Lib.Pointwise

@[expose] public section

set_option maxRecDepth 16384

noncomputable section

namespace Cert.HyInRefIdeal.Work

open Cert.HyInRefIdeal Cert.HyInRefIdeal.Gen Cert.HyInRefIdeal.Read Idealize.ShloMosaic Idealize.ShloMosaic.TcCoe Idealize.SL.Sem

variable (x0 : Vec Ideal S16384x2048 .f32) (x1 : Vec Ideal S9x2048 .f32) (x2 : Vec Ideal S2048 .f32)
  (x4 : Vec Ideal S2x2048x6144 .f32) (x5 : Vec Ideal S6144 .f32) (x6 : Vec Ideal S3x6144 .f32) (x7 : Vec Ideal S6144 .f32)

/-- The modulated rows. -/
theorem u_apply (ρ : Fin 16384) (k : Fin 2048) : val_main_v24 (F := Ideal) x0 x1 x2 (ix2 ρ k)
    = x0 (ix2 ρ k) * Ideal.rsqrt (Ideal.div (∑ x, x0 (ix2 ρ x) * x0 (ix2 ρ x)) (Ideal.ofBits FTy.f32 1157627904#32)
      + Ideal.ofBits FTy.f32 897988541#32) * x2 (ix1 k) * (1 + x1 (ix2 4 k)) + x1 (ix2 3 k) := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

/-- The projected rows. -/
theorem z_apply (ρ : Fin 16384) (n : Fin 6144) : val_main_v30 (F := Ideal) x0 x1 x2 x4 x5 (ix2 ρ n)
    = (∑ k, val_main_v24 (F := Ideal) x0 x1 x2 (ix2 ρ k) * x4 (ix3 0 k n)) + x5 (ix1 n) := by
  unfold val_main_v30 val_main_v29 val_main_v28 val_main_v27 val_main_v26 val_main_v25
  generalize val_main_v24 (F := Ideal) x0 x1 x2 = y
  pointwise [dot_S16384x2048_S2048x6144_S16384x6144_1_0_0_1_n_n]

/-- The padding's integer zero, as a real. -/
theorem pad_zero : (FloatOps.sitofp FTy.f32 0#32 : Ideal FTy.f32) = 0 := by
  show ((((0#32 : BitVec 32).toInt : ℤ) : ℝ) : EReal) = 0
  simp

/-- The rows before: zero before the first. -/
theorem up_apply (ρ : Fin 16384) (n : Fin 6144) : val_main_v32 (F := Ideal) x0 x1 x2 x4 x5 (ix2 ρ n)
    = if h : ρ.val = 0 then 0 else val_main_v30 (F := Ideal) x0 x1 x2 x4 x5 (ix2 ⟨ρ.val - 1, by omega⟩ n) := by
  unfold val_main_v32 val_main_v31 val_main_call0_v0 val_main_c
  generalize val_main_v30 (F := Ideal) x0 x1 x2 x4 x5 = y
  pointwise
  rw [pad_zero]
  by_cases h : ρ.val = 0
  · rw [dif_pos h, dif_neg (by omega)]
  · rw [dif_neg h, dif_pos (by omega)]

/-- The rows after: zero after the last. -/
theorem dn_apply (ρ : Fin 16384) (n : Fin 6144) : val_main_v44 (F := Ideal) x0 x1 x2 x4 x5 (ix2 ρ n)
    = if h : ρ.val = 16383 then 0 else val_main_v30 (F := Ideal) x0 x1 x2 x4 x5 (ix2 ⟨ρ.val + 1, by omega⟩ n) := by
  unfold val_main_v44 val_main_v31 val_main_call0_v0 val_main_c
  generalize val_main_v30 (F := Ideal) x0 x1 x2 x4 x5 = y
  pointwise
  rw [pad_zero]
  by_cases h : ρ.val = 16383
  · rw [dif_pos h, dif_neg (by omega)]
  · rw [dif_neg h, dif_pos (by omega)]
    exact congrArg y (congrArg₂ ix2 (Fin.ext (by show 2 + ρ.val - 1 = ρ.val + 1; omega)) rfl)

/-- The convolved rows. -/
theorem conv_apply (ρ : Fin 16384) (n : Fin 6144) : val_main_v53 (F := Ideal) x0 x1 x2 x4 x5 x6 x7 (ix2 ρ n)
    = val_main_v32 (F := Ideal) x0 x1 x2 x4 x5 (ix2 ρ n) * x6 (ix2 0 n) + val_main_v30 (F := Ideal) x0 x1 x2 x4 x5 (ix2 ρ n) * x6 (ix2 1 n)
      + val_main_v44 (F := Ideal) x0 x1 x2 x4 x5 (ix2 ρ n) * x6 (ix2 2 n) + x7 (ix1 n) := by
  unfold val_main_v53 val_main_v52 val_main_v51 val_main_v50 val_main_v49 val_main_v48 val_main_v47 val_main_v46 val_main_v45 val_main_v43 val_main_v42 val_main_v41 val_main_v40 val_main_v39 val_main_v38 val_main_v37 val_main_v36 val_main_v35 val_main_v34 val_main_v33
  generalize val_main_v32 (F := Ideal) x0 x1 x2 x4 x5 = yu
  generalize val_main_v30 (F := Ideal) x0 x1 x2 x4 x5 = y
  generalize val_main_v44 (F := Ideal) x0 x1 x2 x4 x5 = yd
  pointwise

/-- The first result. -/
theorem out0_apply (ρ : Fin 16384) (e : Fin 2048) : val_main_v57 (F := Ideal) x0 x1 x2 x4 x5 x6 x7 (ix2 ρ e)
    = val_main_v53 (F := Ideal) x0 x1 x2 x4 x5 x6 x7 (ix2 ρ ⟨e.val, by omega⟩) := by
  unfold val_main_v57 val_main_v54
  generalize val_main_v53 (F := Ideal) x0 x1 x2 x4 x5 x6 x7 = y
  pointwise

/-- The second result. -/
theorem out1_apply (ρ : Fin 16384) (e : Fin 2048) : val_main_v59 (F := Ideal) x0 x1 x2 x4 x5 x6 x7 (ix2 ρ e)
    = val_main_v53 (F := Ideal) x0 x1 x2 x4 x5 x6 x7 (ix2 ρ ⟨4096 + e.val, by omega⟩)
      * val_main_v53 (F := Ideal) x0 x1 x2 x4 x5 x6 x7 (ix2 ρ ⟨2048 + e.val, by omega⟩) := by
  unfold val_main_v59 val_main_v58 val_main_v56 val_main_v55
  generalize val_main_v53 (F := Ideal) x0 x1 x2 x4 x5 x6 x7 = y
  pointwise

end Cert.HyInRefIdeal.Work

end
-- ==== Proof.HyInEq.lean ====
/-
  The Hyena input call and its reference leave the same two arrays, over the extended reals.
-/
module

public import proofs.«01_k».proof.Defs
public import proofs.«01_k».proof.Proof.HyInArr
public import proofs.«01_k».proof.Proof.HyInRef
public import Idealize.ShloMosaic.Lib.Claim

@[expose] public section

set_option maxRecDepth 16384

noncomputable section

namespace Cert.HyInEq

open Idealize.ShloMosaic Idealize.ShloMosaic.TcCoe Idealize.SL.Sem
open Cert.HyInIdeal.Work

variable (m : (ℓ : Loc Cert.HyInIdeal.nD Cert.HyInIdeal.τ Cert.HyInIdeal.sig) → Buf (Elt Ideal) ℓ)

/-- The modulated rows of the two programs are the same: the gain and the scale are multiplied in either order. -/
theorem u_eq (c : Dev Cert.HyInIdeal.nD) (ρ : Fin 16384) (k : Fin 2048) :
    Cert.HyInRefIdeal.Read.val_main_v24 (F := Ideal) (H m c) (Mod m c) (Gpre m c) (ix2 ρ k) = U m c ρ k := by
  rw [Cert.HyInRefIdeal.Work.u_apply]
  unfold U
  rw [mul_assoc (_ * _)]

/-- So are the projected rows. -/
theorem z_eq (c : Dev Cert.HyInIdeal.nD) (ρ : Fin 16384) (n : Fin 6144) :
    Cert.HyInRefIdeal.Read.val_main_v30 (F := Ideal) (H m c) (Mod m c) (Gpre m c) (Win m c) (Bin m c) (ix2 ρ n) = Z m c n ρ := by
  rw [Cert.HyInRefIdeal.Work.z_apply]
  simp only [u_eq]
  rfl

/-- So are the convolved rows: the reference pads the rows with zeros, the call takes zeros outside the blocks. -/
theorem conv_eq (c : Dev Cert.HyInIdeal.nD) (ρ : Fin 16384) (n : Fin 6144) :
    Cert.HyInRefIdeal.Read.val_main_v53 (F := Ideal) (H m c) (Mod m c) (Gpre m c) (Win m c) (Bin m c) (Wsc m c) (Bsc m c) (ix2 ρ n)
      = Conv m c n ρ := by
  rw [Cert.HyInRefIdeal.Work.conv_apply, Cert.HyInRefIdeal.Work.up_apply, Cert.HyInRefIdeal.Work.dn_apply]
  simp only [z_eq]
  rfl

/-- The first result is the reference's. -/
theorem first_eq (c : Dev Cert.HyInIdeal.nD) :
    Cert.HyInRefIdeal.Read.val_main_v57 (F := Ideal) (H m c) (Mod m c) (Gpre m c) (Win m c) (Bin m c) (Wsc m c) (Bsc m c) = Res12 m c := by
  refine funext fun i => ?_
  obtain ⟨ρ, e, rfl⟩ : ∃ (ρ : Fin 16384) (e : Fin 2048), i = ix2 ρ e := ⟨i 0, i 1, eq_ix2 i⟩
  rw [Cert.HyInRefIdeal.Work.out0_apply, conv_eq, res12_apply]

/-- The second result is the reference's. -/
theorem second_eq (c : Dev Cert.HyInIdeal.nD) :
    Cert.HyInRefIdeal.Read.val_main_v59 (F := Ideal) (H m c) (Mod m c) (Gpre m c) (Win m c) (Bin m c) (Wsc m c) (Bsc m c) = Res13 m c := by
  refine funext fun i => ?_
  obtain ⟨ρ, e, rfl⟩ : ∃ (ρ : Fin 16384) (e : Fin 2048), i = ix2 ρ e := ⟨i 0, i 1, eq_ix2 i⟩
  rw [Cert.HyInRefIdeal.Work.out1_apply, conv_eq, conv_eq, res13_apply]

/-- The claim: from agreeing arguments the kernel and the reference leave the same two results. -/
theorem algebraic : Cert.algebraic_HyInIdeal_HyInRefIdeal := by
  intro m g m' g' _ hagree
  refine ⟨fun c => Res12 m c, fun c => Res13 m c, run_arrays m g, ?_⟩
  refine θ_run_mono (Cert.HyInRefIdeal.Value.run m' g') fun r hr c => ?_
  obtain ⟨hfirst, hsecond, hargs⟩ := hr c
  obtain ⟨a0, a1, a2, a3, a4, a5, a6, a7⟩ := hagree c
  refine ⟨hfirst.trans ?_, hsecond.trans ?_, hargs⟩
  · refine Eq.trans ?_ (first_eq m c)
    rw [Cert.HyInRefIdeal.Read.val_main_v57_eq m' c, a0, a1, a2, a4, a5, a6, a7]
  · refine Eq.trans ?_ (second_eq m c)
    rw [Cert.HyInRefIdeal.Read.val_main_v59_eq m' c, a0, a1, a2, a4, a5, a6, a7]

end Cert.HyInEq

end
-- ==== Proof.ProjInFrames.lean ====
/-
  The frames of the three programs of one call.
-/
module

public import proofs.«01_k».proof.Defs
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjInRefIdeal
public import proofs.«01_k».proof.Proof.Gen.ProjInRefIdeal.Run
public import Idealize.ShloMosaic.Adequacy
public import Idealize.ShloMosaic.Init

@[expose] public section

noncomputable section

namespace Cert.FramesProjIn

open Idealize.ShloMosaic Idealize.SL.Sem

theorem printed : Cert.quiescent_ProjIn := fun m g _ => Cert.ProjIn.Gen.frame m g

theorem ideal : Cert.quiescent_ProjInIdeal := fun m g _ => Cert.ProjInIdeal.Gen.frame m g

theorem ref : Cert.quiescent_ProjInRefIdeal := fun m g _ =>
  (θ_run Cert.ProjInRefIdeal.defs _ _).mono (fun r h => ⟨fun c => (h c).2, sem_eq_zero_of_no_sems (by decide) r.2⟩)
    (Cert.ProjInRefIdeal.Value.run (F := Ideal) m g)

/-- The queries' scale is the named constant's value. -/
theorem preserves : Cert.preserves_ProjIn_ProjInIdeal :=
  IdealRules.named_const.statement Cert.ProjInIdeal.κ "q_scale" .f32 0x3E0293EE#32 (((Real.log 2)⁻¹ * (Real.sqrt 128)⁻¹ : ℝ) : EReal) rfl

end Cert.FramesProjIn

end
-- ==== Proof.ProjInPoint.lean ====
/-
  What one grid point of the attention's input projection leaves in its scratch array and in its output block, as the
  body's own arithmetic over whole blocks: the modulated rows of the block (`uNew`) and the four heads' rotated columns (`oNew`).
-/
module

public import proofs.«01_k».proof.Proof.Gen.ProjInIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.ProjInIdeal.Work

open Cert.ProjInIdeal Cert.ProjInIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

/-- The modulated, normalised rows of a block `x0` under the packed vectors `x1`. -/
def uNew (x0 : Vec F S1024x2048 .f32) (x1 : Vec F S8x2048 .f32) : Vec F S1024x2048 .bf16 :=
  k0_pay5 (View.ld x1 (Rect.unit (s := S8x2048) ![3, 0] S1x2048.size inb_S8x2048_S1x2048_3_0))
    (View.ld x1 (Rect.unit (s := S8x2048) ![1, 0] S1x2048.size inb_S8x2048_S1x2048_1_0)) x0
    (View.ld x1 (Rect.unit (s := S8x2048) ![0, 0] S1x2048.size inb_S8x2048_S1x2048_0_0))

/-- Four blocks of columns, side by side. -/
def join (p0 p1 p2 p3 : Vec F S1024x128 .bf16) : Vec F S1024x512 .bf16 := fun y =>
  (if (y 1).val / 128 = 0 then p0 else if (y 1).val / 128 = 1 then p1 else if (y 1).val / 128 = 2 then p2 else p3)
    (ix2 (y 0) ⟨(y 1).val % 128, Nat.mod_lt _ (by omega)⟩)

theorem join_apply (p0 p1 p2 p3 : Vec F S1024x128 .bf16) (q : ℕ) (hq : q < 4) (r : Fin 1024) (d : Fin 128) :
    join p0 p1 p2 p3 (ix2 r ⟨128 * q + d.val, by omega⟩)
      = (if q = 0 then p0 else if q = 1 then p1 else if q = 2 then p2 else p3) (ix2 r d) := by
  unfold join
  have e : (128 * q + d.val) / 128 = q := by omega
  have e' : (128 * q + d.val) % 128 = d.val := by omega
  show (if (128 * q + d.val) / 128 = 0 then p0 else if (128 * q + d.val) / 128 = 1 then p1 else if (128 * q + d.val) / 128 = 2 then p2 else p3)
    (ix2 r ⟨(128 * q + d.val) % 128, _⟩) = _
  simp only [e, e']

/-- Four stores of 128 columns each leave the four blocks side by side. -/
theorem canon_join (p0 p1 p2 p3 : Vec F S1024x128 .bf16) :
    View.canon (Val := Elt F) [(⟨Rect.unit (s := S1024x512) ![0, 384] S1024x128.size inb_S1024x512_S1024x128_0_384, p3⟩ : View.Piece (Elt F) S1024x512 .bf16),
      (⟨Rect.unit (s := S1024x512) ![0, 256] S1024x128.size inb_S1024x512_S1024x128_0_256, p2⟩ : View.Piece (Elt F) S1024x512 .bf16),
      (⟨Rect.unit (s := S1024x512) ![0, 128] S1024x128.size inb_S1024x512_S1024x128_0_128, p1⟩ : View.Piece (Elt F) S1024x512 .bf16),
      (⟨Rect.unit (s := S1024x512) ![0, 0] S1024x128.size inb_S1024x512_S1024x128_0_0, p0⟩ : View.Piece (Elt F) S1024x512 .bf16)] = join p0 p1 p2 p3 := by
  have hcov : ∀ y : S1024x512.Idx, ∃ p ∈ [(⟨Rect.unit (s := S1024x512) ![0, 384] S1024x128.size inb_S1024x512_S1024x128_0_384, p3⟩ : View.Piece (Elt F) S1024x512 .bf16),
      (⟨Rect.unit (s := S1024x512) ![0, 256] S1024x128.size inb_S1024x512_S1024x128_0_256, p2⟩ : View.Piece (Elt F) S1024x512 .bf16),
      (⟨Rect.unit (s := S1024x512) ![0, 128] S1024x128.size inb_S1024x512_S1024x128_0_128, p1⟩ : View.Piece (Elt F) S1024x512 .bf16),
      (⟨Rect.unit (s := S1024x512) ![0, 0] S1024x128.size inb_S1024x512_S1024x128_0_0, p0⟩ : View.Piece (Elt F) S1024x512 .bf16)], y ∈ p.1.set := fun y => View.cover_of_tiledL (s := S1024x512) [(⟨Rect.unit (s := S1024x512) ![0, 384] S1024x128.size inb_S1024x512_S1024x128_0_384, p3⟩ : View.Piece (Elt F) S1024x512 .bf16),
      (⟨Rect.unit (s := S1024x512) ![0, 256] S1024x128.size inb_S1024x512_S1024x128_0_256, p2⟩ : View.Piece (Elt F) S1024x512 .bf16),
      (⟨Rect.unit (s := S1024x512) ![0, 128] S1024x128.size inb_S1024x512_S1024x128_0_128, p1⟩ : View.Piece (Elt F) S1024x512 .bf16),
      (⟨Rect.unit (s := S1024x512) ![0, 0] S1024x128.size inb_S1024x512_S1024x128_0_0, p0⟩ : View.Piece (Elt F) S1024x512 .bf16)] S1024x128.size (by sl_kernel_rfl) y
  funext y
  refine View.canon_apply_of_pieces (join p0 p1 p2 p3) _ ?_ y (hcov y)
  intro pc hpc
  simp only [List.mem_cons, List.not_mem_nil, or_false] at hpc
  rcases hpc with rfl | rfl | rfl | rfl
  · intro x
    obtain ⟨r, d, rfl⟩ : ∃ (r : Fin 1024) (d : Fin 128), x = ix2 r d := ⟨x 0, x 1, eq_ix2 x⟩
    have e : (Rect.unit (s := S1024x512) ![0, 384] S1024x128.size inb_S1024x512_S1024x128_0_384).idx (ix2 r d) = ix2 r (⟨384 + d.val, by omega⟩ : Fin 512) :=
      funext fun a => Fin.ext (by
        match a with
        | ⟨0, _⟩ => show 0 + 1 * r.val = r.val; omega
        | ⟨1, _⟩ => show 384 + 1 * d.val = 384 + d.val; omega)
    show p3 (ix2 r d) = join p0 p1 p2 p3 ((Rect.unit (s := S1024x512) ![0, 384] S1024x128.size inb_S1024x512_S1024x128_0_384).idx (ix2 r d))
    rw [e, join_apply p0 p1 p2 p3 3 (by omega) r d]
    rfl
  · intro x
    obtain ⟨r, d, rfl⟩ : ∃ (r : Fin 1024) (d : Fin 128), x = ix2 r d := ⟨x 0, x 1, eq_ix2 x⟩
    have e : (Rect.unit (s := S1024x512) ![0, 256] S1024x128.size inb_S1024x512_S1024x128_0_256).idx (ix2 r d) = ix2 r (⟨256 + d.val, by omega⟩ : Fin 512) :=
      funext fun a => Fin.ext (by
        match a with
        | ⟨0, _⟩ => show 0 + 1 * r.val = r.val; omega
        | ⟨1, _⟩ => show 256 + 1 * d.val = 256 + d.val; omega)
    show p2 (ix2 r d) = join p0 p1 p2 p3 ((Rect.unit (s := S1024x512) ![0, 256] S1024x128.size inb_S1024x512_S1024x128_0_256).idx (ix2 r d))
    rw [e, join_apply p0 p1 p2 p3 2 (by omega) r d]
    rfl
  · intro x
    obtain ⟨r, d, rfl⟩ : ∃ (r : Fin 1024) (d : Fin 128), x = ix2 r d := ⟨x 0, x 1, eq_ix2 x⟩
    have e : (Rect.unit (s := S1024x512) ![0, 128] S1024x128.size inb_S1024x512_S1024x128_0_128).idx (ix2 r d) = ix2 r (⟨128 + d.val, by omega⟩ : Fin 512) :=
      funext fun a => Fin.ext (by
        match a with
        | ⟨0, _⟩ => show 0 + 1 * r.val = r.val; omega
        | ⟨1, _⟩ => show 128 + 1 * d.val = 128 + d.val; omega)
    show p1 (ix2 r d) = join p0 p1 p2 p3 ((Rect.unit (s := S1024x512) ![0, 128] S1024x128.size inb_S1024x512_S1024x128_0_128).idx (ix2 r d))
    rw [e, join_apply p0 p1 p2 p3 1 (by omega) r d]
    rfl
  · intro x
    obtain ⟨r, d, rfl⟩ : ∃ (r : Fin 1024) (d : Fin 128), x = ix2 r d := ⟨x 0, x 1, eq_ix2 x⟩
    have e : (Rect.unit (s := S1024x512) ![0, 0] S1024x128.size inb_S1024x512_S1024x128_0_0).idx (ix2 r d) = ix2 r (⟨0 + d.val, by omega⟩ : Fin 512) :=
      funext fun a => Fin.ext (by
        match a with
        | ⟨0, _⟩ => show 0 + 1 * r.val = r.val; omega
        | ⟨1, _⟩ => show 0 + 1 * d.val = 0 + d.val; omega)
    show p0 (ix2 r d) = join p0 p1 p2 p3 ((Rect.unit (s := S1024x512) ![0, 0] S1024x128.size inb_S1024x512_S1024x128_0_0).idx (ix2 r d))
    rw [e, join_apply p0 p1 p2 p3 0 (by omega) r d]
    rfl

/-- The output block, from the modulated rows `u`, the weights `w`, the bias `b` and the three tables. -/
def oNew (i : grid0.Coords) (u : Vec F S1024x2048 .bf16) (w : Vec F S2048x512 .bf16) (b : Vec F S1x512 .f32)
    (ct sa sb : Vec F S1024x128 .f32) : Vec F S1024x512 .bf16 :=
  join (k0_pay1 (k0_pay9 i sa) (k0_pay10 i sb) (k0_pay11 u w b) (k0_pay12 i u w b ct) 96#32)
    (k0_pay2 (k0_pay6 u w b) (k0_pay8 i ct) (k0_pay9 i sa) (k0_pay10 i sb))
    (k0_pay3 (k0_pay6 u w b) (k0_pay8 i ct) (k0_pay9 i sa) (k0_pay10 i sb))
    (k0_pay4 (k0_pay6 u w b) (k0_pay8 i ct) (k0_pay9 i sa) (k0_pay10 i sb))

section Cases

variable (c : Dev nD) (i : grid0.Coords)
  (arg2 : Memref sig .tc .vmem S1024x2048 .f32) (harg2 : arg2.IsWhole)
  (arg3 : Memref sig .tc .vmem S8x2048 .f32) (harg3 : arg3.IsWhole)
  (arg4 : Memref sig .tc .vmem S2048x512 .bf16) (harg4 : arg4.IsWhole)
  (arg5 : Memref sig .tc .vmem S1x512 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x512 .bf16) (harg9 : arg9.IsWhole)
  (arg10 : Memref sig .tc .vmem S1024x2048 .bf16) (harg10 : arg10.IsWhole)
  (x0 : Vec F S1024x2048 .f32) (x1 : Vec F S8x2048 .f32) (x2 : Vec F S2048x512 .bf16) (x3 : Vec F S1x512 .f32) (x4 : Vec F S1024x128 .f32) (x5 : Vec F S1024x128 .f32) (x6 : Vec F S1024x128 .f32)
  (xs0 : Vec F S1024x2048 .bf16)

/-- A later point of a row block leaves the modulated rows as they were. -/
theorem sB0 (hc0 : ¬cond0_0 i) : sout0_B_0 c i arg2 harg2 arg3 harg3 arg4 harg4 arg5 harg5 arg6 harg6 arg7 harg7 arg8 harg8 arg9 harg9 arg10 harg10 hc0 x0 x1 x2 x3 x4 x5 x6 xs0 = xs0 := rfl

/-- The first point of a row block stores the block's modulated rows. -/
theorem sA0 (hc0 : cond0_0 i) : sout0_A_0 c i arg2 harg2 arg3 harg3 arg4 harg4 arg5 harg5 arg6 harg6 arg7 harg7 arg8 harg8 arg9 harg9 arg10 harg10 hc0 x0 x1 x2 x3 x4 x5 x6 = uNew x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S1024x2048) hz]
  simp only [View.readAt_eq_ld, harg2.read_unread, harg3.read_unread, harg4.read_unread, harg5.read_unread, harg6.read_unread, harg7.read_unread, harg8.read_unread, harg10.read_unread, View.ld_unit_zero (S := S1024x2048) hz, View.ld_unit_zero (S := S2048x512) hz, View.ld_unit_zero (S := S1x512) hz, View.ld_unit_zero (S := S1024x128) hz, View.readCov_unit_zero (S := S1024x2048) _ hz]
  rfl

/-- A later point writes the output block from the rows kept. -/
theorem oB7 (hc0 : ¬cond0_0 i) : out0_B_7 c i arg2 harg2 arg3 harg3 arg4 harg4 arg5 harg5 arg6 harg6 arg7 harg7 arg8 harg8 arg9 harg9 arg10 harg10 hc0 x0 x1 x2 x3 x4 x5 x6 xs0 = oNew i xs0 x2 x3 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread, View.ld_unit_zero (S := S1024x2048) hz, View.ld_unit_zero (S := S2048x512) hz, View.ld_unit_zero (S := S1x512) hz, View.ld_unit_zero (S := S1024x128) hz]
  exact canon_join _ _ _ _

/-- The first point of a row block writes the output block from the rows it has just stored. -/
theorem oA7 (hc0 : cond0_0 i) : out0_A_7 c i arg2 harg2 arg3 harg3 arg4 harg4 arg5 harg5 arg6 harg6 arg7 harg7 arg8 harg8 arg9 harg9 arg10 harg10 hc0 x0 x1 x2 x3 x4 x5 x6 = oNew i (uNew x0 x1) x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, View.ld_unit_zero (S := S1024x2048) hz, View.ld_unit_zero (S := S2048x512) hz, View.ld_unit_zero (S := S1x512) hz, View.ld_unit_zero (S := S1024x128) hz, View.readCov_unit_zero (S := S1024x2048) _ hz]
  exact canon_join _ _ _ _

end Cases

end Cert.ProjInIdeal.Work

end
-- ==== Proof.ProjInIdx.lean ====
/-
  The body's block terms read at an index, over the extended reals: a modulated row's entries, its projection's, and the
  entries of a head's columns after the rotation.
-/
module

public import proofs.«01_k».proof.Proof.ProjInPoint
public import Idealize.ShloMosaic.Lib.Pointwise

@[expose] public section

set_option maxRecDepth 16384

noncomputable section

namespace Cert.ProjInIdeal.Work

open Cert.ProjInIdeal Cert.ProjInIdeal.Gen Idealize.ShloMosaic Idealize.ShloMosaic.TcCoe Idealize.SL.Sem

/-- A row over its root mean square, gained, scaled and shifted by the packed vectors `x1`. -/
def modrow (x1 : Vec Ideal S8x2048 .f32) (h : Fin 2048 → EReal) (d : Fin 2048) : EReal :=
  h d * Ideal.rsqrt (Ideal.div (∑ x, h x * h x) (Ideal.ofBits FTy.f32 1157627904#32)
    + Ideal.ofBits FTy.f32 897988541#32) * (x1 (ix2 3 d) * (1 + x1 (ix2 1 d))) + x1 (ix2 0 d)

/-- An entry of the block's modulated rows. -/
theorem uNew_apply (x0 : Vec Ideal S1024x2048 .f32) (x1 : Vec Ideal S8x2048 .f32) (r : Fin 1024) (d : Fin 2048) :
    uNew x0 x1 (ix2 r d) = modrow x1 (fun k => x0 (ix2 r k)) d := by
  unfold modrow uNew
  unfold_payloads
  simp only [shapeCast_self]
  pointwise

/-- The product of a row with the block's weights, with its bias. -/
def proj (w : Vec Ideal S2048x512 .bf16) (b : Vec Ideal S1x512 .f32) (u : Fin 2048 → EReal) (d : Fin 512) : EReal :=
  (∑ k : Fin 2048, u k * w (ix2 k d)) + b (ix2 0 d)

/-- A head's entry `e` rotated: `y e` times the cosine table, with the entries a quarter of the head after and before it times
    the two sine tables; the tables times the block's factor `f`, and `k` added to the cosine. -/
def rotE (y ct sa sb : Fin 128 → EReal) (f k : EReal) (e : Fin 128) : EReal :=
  y e * (ct e * f + k) + y ⟨(e.val + 128 - 96) % 128, Nat.mod_lt _ (by omega)⟩ * (sa e * f)
    + y ⟨(e.val + 128 - 32) % 128, Nat.mod_lt _ (by omega)⟩ * (sb e * f)

/-- What a column block adds to its cosines: one where it holds values, which are not rotated. -/
def keep (i : grid0.Coords) : EReal := Scalar.select (Scalar.cmpi .slt (BitVec.ofNat 32 (i 1).val) 5#32) (0 : EReal) 1

section Heads

variable (i : grid0.Coords) (u : Vec Ideal S1024x2048 .bf16) (w : Vec Ideal S2048x512 .bf16) (b : Vec Ideal S1x512 .f32)
  (ct sa sb : Vec Ideal S1024x128 .f32)

theorem pay6_apply (r : Fin 1024) (d : Fin 512) : k0_pay6 u w b (ix2 r d) = proj w b (fun k => u (ix2 r k)) d := by
  unfold proj
  unfold_payloads
  simp only [shapeCast_self]
  pointwise [dot_S1024x2048_S2048x512_S1024x512_1_0_0_1_n_n]

theorem pay8_eq : k0_pay8 i ct = fun y => ct y * k0_pay7 (F := Ideal) i + keep i := by
  refine funext fun y => ?_
  obtain ⟨r, d, rfl⟩ : ∃ (r : Fin 1024) (d : Fin 128), y = ix2 r d := ⟨y 0, y 1, eq_ix2 y⟩
  unfold k0_pay8 keep
  simp only [shapeCast_self]
  pointwise

theorem pay9_eq : k0_pay9 i sa = fun y => sa y * k0_pay7 (F := Ideal) i := by
  refine funext fun y => ?_
  obtain ⟨r, d, rfl⟩ : ∃ (r : Fin 1024) (d : Fin 128), y = ix2 r d := ⟨y 0, y 1, eq_ix2 y⟩
  unfold k0_pay9
  simp only [shapeCast_self]
  pointwise

theorem pay10_eq : k0_pay10 i sb = fun y => sb y * k0_pay7 (F := Ideal) i := by
  refine funext fun y => ?_
  obtain ⟨r, d, rfl⟩ : ∃ (r : Fin 1024) (d : Fin 128), y = ix2 r d := ⟨y 0, y 1, eq_ix2 y⟩
  unfold k0_pay10
  simp only [shapeCast_self]
  pointwise

theorem pay12_eq : k0_pay12 i u w b ct = mulf (k0_pay11 u w b) (k0_pay8 i ct) := rfl

theorem head0_apply (r : Fin 1024) (e : Fin 128) :
    (k0_pay1 (k0_pay9 i sa) (k0_pay10 i sb) (k0_pay11 u w b) (k0_pay12 i u w b ct) 96#32) (ix2 r e)
      = rotE (fun e => proj w b (fun k => u (ix2 r k)) ⟨128 * 0 + e.val, by omega⟩) (fun e => ct (ix2 r e)) (fun e => sa (ix2 r e))
          (fun e => sb (ix2 r e)) (k0_pay7 (F := Ideal) i) (keep i) e := by
  rw [pay9_eq, pay10_eq]
  rw [pay12_eq, pay8_eq]
  simp only [← pay6_apply]
  unfold rotE k0_pay1 k0_pay11
  pointwise

theorem head1_apply (r : Fin 1024) (e : Fin 128) :
    (k0_pay2 (k0_pay6 u w b) (k0_pay8 i ct) (k0_pay9 i sa) (k0_pay10 i sb)) (ix2 r e)
      = rotE (fun e => proj w b (fun k => u (ix2 r k)) ⟨128 * 1 + e.val, by omega⟩) (fun e => ct (ix2 r e)) (fun e => sa (ix2 r e))
          (fun e => sb (ix2 r e)) (k0_pay7 (F := Ideal) i) (keep i) e := by
  rw [pay8_eq, pay9_eq, pay10_eq]
  simp only [← pay6_apply]
  unfold rotE k0_pay2
  pointwise

theorem head2_apply (r : Fin 1024) (e : Fin 128) :
    (k0_pay3 (k0_pay6 u w b) (k0_pay8 i ct) (k0_pay9 i sa) (k0_pay10 i sb)) (ix2 r e)
      = rotE (fun e => proj w b (fun k => u (ix2 r k)) ⟨128 * 2 + e.val, by omega⟩) (fun e => ct (ix2 r e)) (fun e => sa (ix2 r e))
          (fun e => sb (ix2 r e)) (k0_pay7 (F := Ideal) i) (keep i) e := by
  rw [pay8_eq, pay9_eq, pay10_eq]
  simp only [← pay6_apply]
  unfold rotE k0_pay3
  pointwise

theorem head3_apply (r : Fin 1024) (e : Fin 128) :
    (k0_pay4 (k0_pay6 u w b) (k0_pay8 i ct) (k0_pay9 i sa) (k0_pay10 i sb)) (ix2 r e)
      = rotE (fun e => proj w b (fun k => u (ix2 r k)) ⟨128 * 3 + e.val, by omega⟩) (fun e => ct (ix2 r e)) (fun e => sa (ix2 r e))
          (fun e => sb (ix2 r e)) (k0_pay7 (F := Ideal) i) (keep i) e := by
  rw [pay8_eq, pay9_eq, pay10_eq]
  simp only [← pay6_apply]
  unfold rotE k0_pay4
  pointwise

/-- An entry of the output block: head `q`'s entry `e`. -/
theorem oNew_apply (q : ℕ) (hq : q < 4) (r : Fin 1024) (e : Fin 128) :
    oNew i u w b ct sa sb (ix2 r ⟨128 * q + e.val, by omega⟩)
      = rotE (fun e => proj w b (fun k => u (ix2 r k)) ⟨128 * q + e.val, by omega⟩) (fun e => ct (ix2 r e)) (fun e => sa (ix2 r e))
          (fun e => sb (ix2 r e)) (k0_pay7 (F := Ideal) i) (keep i) e := by
  unfold oNew
  rw [join_apply _ _ _ _ q hq]
  interval_cases q
  · exact head0_apply i u w b ct sa sb r e
  · exact head1_apply i u w b ct sa sb r e
  · exact head2_apply i u w b ct sa sb r e
  · exact head3_apply i u w b ct sa sb r e

end Heads

end Cert.ProjInIdeal.Work

end
-- ==== Proof.ProjInBlocks.lean ====
/-
  What the attention's input projection reads at each grid point, as entries of the arguments: the row block of `h`, the packed
  modulation vectors, the weights and bias of a column block, and the three tables of the rotation.
-/
module

public import proofs.«01_k».proof.Proof.ProjInPoint
public import proofs.«01_k».proof.Proof.Gen.ProjInIdeal.Frame
public import Idealize.ShloMosaic.Lib.Pointwise
public import Idealize.ShloMosaic.Lib.StableHlo.ReadAt

@[expose] public section

set_option maxRecDepth 16384

noncomputable section

namespace Cert.ProjInIdeal.Work

open Cert.ProjInIdeal Cert.ProjInIdeal.Gen Idealize.ShloMosaic Idealize.ShloMosaic.TcCoe Idealize.SL.Sem

variable (m : (ℓ : Loc nD τ sig) → Buf (Elt Ideal) ℓ)

theorem lt96 (t : Fin cfg0.N) : t.val < 96 := lt_of_lt_of_eq t.isLt N_0

/-- The index maps at every point: the row block is `t / 6`, the column block `t % 6`. -/
theorem idx_all : ∀ t : Fin cfg0.N,
    win0_0.index t (0 : Fin 2) = t.val / 6 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 6
    ∧ win0_3.index t (0 : Fin 2) = 0 ∧ win0_3.index t (1 : Fin 2) = t.val % 6
    ∧ win0_4.index t (0 : Fin 2) = t.val / 6 ∧ win0_4.index t (1 : Fin 2) = 0
    ∧ win0_5.index t (0 : Fin 2) = t.val / 6 ∧ win0_5.index t (1 : Fin 2) = 0
    ∧ win0_6.index t (0 : Fin 2) = t.val / 6 ∧ win0_6.index t (1 : Fin 2) = 0
    ∧ win0_7.index t (0 : Fin 2) = t.val / 6 ∧ win0_7.index t (1 : Fin 2) = t.val % 6
    ∧ (grid0.coords t 1).val = t.val % 6 :=
  (by decide +kernel : ∀ t : Fin grid0.N, _)

/-- The six arguments, as arrays over their literal shapes. -/
abbrev H (c : Dev nD) : Vec Ideal S16384x2048 .f32 := m ((c : Thread nD τ).loc main_arg0)
abbrev Mod (c : Dev nD) : Vec Ideal S9x2048 .f32 := m ((c : Thread nD τ).loc main_arg1)
abbrev Gpre (c : Dev nD) : Vec Ideal S2048 .f32 := m ((c : Thread nD τ).loc main_arg2)
abbrev Gpost (c : Dev nD) : Vec Ideal S2048 .f32 := m ((c : Thread nD τ).loc main_arg3)
abbrev Wqkv (c : Dev nD) : Vec Ideal S2048x3072 .f32 := m ((c : Thread nD τ).loc main_arg4)
abbrev Bqkv (c : Dev nD) : Vec Ideal S3072 .f32 := m ((c : Thread nD τ).loc main_arg5)

theorem mod6 (t : Fin cfg0.N) : t.val % 6 < 6 := Nat.mod_lt _ (by omega)

/-- The packed vectors: shift, scale, and the norm gain. -/
theorem V_v15 (c : Dev nD) (d : Fin 2048) :
    (V m c main_v15 : Vec Ideal S8x2048 .f32) (ix2 0 d) = Mod m c (ix2 3 d)
    ∧ (V m c main_v15 : Vec Ideal S8x2048 .f32) (ix2 1 d) = Mod m c (ix2 4 d)
    ∧ (V m c main_v15 : Vec Ideal S8x2048 .f32) (ix2 3 d) = Gpre m c (ix1 d) := by
  have e : V m c main_v15 = (StableHlo.after hostOps0 (fun b => m (c, b)) (Proc.devRef .tc main_v15)) := rfl
  rw [e]
  unfold hostOps0
  after_results
  refine ⟨?_, ?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

/-- The weights as the call reads them: the argument's, format changed. -/
theorem V_v16 (c : Dev nD) : V m c main_v16 = Wqkv m c := by
  show StableHlo.after hostOps0 (fun b => m (c, b)) (Proc.devRef .tc main_v16) = _
  unfold hostOps0
  after_results
  rfl

/-- The bias as the call reads it: one row. -/
theorem V_v59 (c : Dev nD) (n : Fin 3072) : (V m c main_v59 : Vec Ideal S1x3072 .f32) (ix2 0 n) = Bqkv m c (ix1 n) := by
  have e : V m c main_v59 = (StableHlo.after hostOps0 (fun b => m (c, b)) (Proc.devRef .tc main_v59)) := rfl
  rw [e]
  unfold hostOps0
  after_results
  pointwise
  all_goals rfl

theorem iblk0_apply (c : Dev nD) (t : Fin cfg0.N) (r : Fin 1024) (d : Fin 2048) :
    (iblk m c 0 t : Vec Ideal S1024x2048 .f32) (ix2 r d)
      = H m c (ix2 ⟨1024 * (t.val / 6) + r.val, by have := lt96 t; omega⟩ d) := by
  obtain ⟨h0, h1, -⟩ := idx_all t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = 1024 * (t.val / 6) + r.val; rw [h0]; omega
  | ⟨1, _⟩ => show win0_0.index t 1 * 2048 + 1 * d.val = d.val; rw [h1]; omega

theorem iblk1_apply (c : Dev nD) (t : Fin cfg0.N) (k : Fin 8) (d : Fin 2048) :
    (iblk m c 1 t : Vec Ideal S8x2048 .f32) (ix2 k d) = (V m c main_v15 : Vec Ideal S8x2048 .f32) (ix2 k d) := by
  obtain ⟨-, -, h0, h1, -⟩ := idx_all t
  unfold iblk
  rw [View.read_apply]
  show (V m c main_v15 : Vec Ideal S8x2048 .f32) _ = _
  refine congrArg (V m c main_v15 : Vec Ideal S8x2048 .f32) (funext fun a => Fin.ext ?_)
  match a with
  | ⟨0, _⟩ => show win0_1.index t 0 * 8 + 1 * k.val = k.val; rw [h0]; omega
  | ⟨1, _⟩ => show win0_1.index t 1 * 2048 + 1 * d.val = d.val; rw [h1]; omega

theorem iblk2_apply (c : Dev nD) (t : Fin cfg0.N) (k : Fin 2048) (d : Fin 512) :
    (iblk m c 2 t : Vec Ideal S2048x512 .bf16) (ix2 k d) = Wqkv m c (ix2 k ⟨512 * (t.val % 6) + d.val, by have := mod6 t; omega⟩) := by
  obtain ⟨-, -, -, -, h0, h1, -⟩ := idx_all t
  unfold iblk
  rw [View.read_apply]
  show (V m c main_v16 : Vec Ideal S2048x3072 .bf16) _ = _
  rw [V_v16]
  refine congrArg (Wqkv m c) (funext fun a => Fin.ext ?_)
  match a with
  | ⟨0, _⟩ => show win0_2.index t 0 * 2048 + 1 * k.val = k.val; rw [h0]; omega
  | ⟨1, _⟩ => show win0_2.index t 1 * 512 + 1 * d.val = 512 * (t.val % 6) + d.val; rw [h1]; omega

theorem iblk3_apply (c : Dev nD) (t : Fin cfg0.N) (d : Fin 512) :
    (iblk m c 3 t : Vec Ideal S1x512 .f32) (ix2 0 d) = Bqkv m c (ix1 ⟨512 * (t.val % 6) + d.val, by have := mod6 t; omega⟩) := by
  obtain ⟨-, -, -, -, -, -, h0, h1, -⟩ := idx_all t
  rw [← V_v59]
  unfold iblk
  rw [View.read_apply]
  show (V m c main_v59 : Vec Ideal S1x3072 .f32) _ = _
  refine congrArg (V m c main_v59 : Vec Ideal S1x3072 .f32) (funext fun a => Fin.ext ?_)
  match a with
  | ⟨0, _⟩ => show win0_3.index t 0 * 1 + 1 * 0 = 0; rw [h0]
  | ⟨1, _⟩ => show win0_3.index t 1 * 512 + 1 * d.val = 512 * (t.val % 6) + d.val; rw [h1]; omega

theorem iblk4_apply (c : Dev nD) (t : Fin cfg0.N) (r : Fin 1024) (e : Fin 128) :
    (iblk m c 4 t : Vec Ideal S1024x128 .f32) (ix2 r e)
      = (V m c main_v54 : Vec Ideal S16384x128 .f32) (ix2 ⟨1024 * (t.val / 6) + r.val, by have := lt96 t; omega⟩ e) := by
  obtain ⟨-, -, -, -, -, -, -, -, h0, h1, -⟩ := idx_all t
  unfold iblk
  rw [View.read_apply]
  show (V m c main_v54 : Vec Ideal S16384x128 .f32) _ = _
  refine congrArg (V m c main_v54 : Vec Ideal S16384x128 .f32) (funext fun a => Fin.ext ?_)
  match a with
  | ⟨0, _⟩ => show win0_4.index t 0 * 1024 + 1 * r.val = 1024 * (t.val / 6) + r.val; rw [h0]; omega
  | ⟨1, _⟩ => show win0_4.index t 1 * 128 + 1 * e.val = e.val; rw [h1]; omega

theorem iblk5_apply (c : Dev nD) (t : Fin cfg0.N) (r : Fin 1024) (e : Fin 128) :
    (iblk m c 5 t : Vec Ideal S1024x128 .f32) (ix2 r e)
      = (V m c main_v57 : Vec Ideal S16384x128 .f32) (ix2 ⟨1024 * (t.val / 6) + r.val, by have := lt96 t; omega⟩ e) := by
  obtain ⟨-, -, -, -, -, -, -, -, -, -, h0, h1, -⟩ := idx_all t
  unfold iblk
  rw [View.read_apply]
  show (V m c main_v57 : Vec Ideal S16384x128 .f32) _ = _
  refine congrArg (V m c main_v57 : Vec Ideal S16384x128 .f32) (funext fun a => Fin.ext ?_)
  match a with
  | ⟨0, _⟩ => show win0_5.index t 0 * 1024 + 1 * r.val = 1024 * (t.val / 6) + r.val; rw [h0]; omega
  | ⟨1, _⟩ => show win0_5.index t 1 * 128 + 1 * e.val = e.val; rw [h1]; omega

theorem iblk6_apply (c : Dev nD) (t : Fin cfg0.N) (r : Fin 1024) (e : Fin 128) :
    (iblk m c 6 t : Vec Ideal S1024x128 .f32) (ix2 r e)
      = (V m c main_v58 : Vec Ideal S16384x128 .f32) (ix2 ⟨1024 * (t.val / 6) + r.val, by have := lt96 t; omega⟩ e) := by
  obtain ⟨-, -, -, -, -, -, -, -, -, -, -, -, h0, h1, -⟩ := idx_all t
  unfold iblk
  rw [View.read_apply]
  show (V m c main_v58 : Vec Ideal S16384x128 .f32) _ = _
  refine congrArg (V m c main_v58 : Vec Ideal S16384x128 .f32) (funext fun a => Fin.ext ?_)
  match a with
  | ⟨0, _⟩ => show win0_6.index t 0 * 1024 + 1 * r.val = 1024 * (t.val / 6) + r.val; rw [h0]; omega
  | ⟨1, _⟩ => show win0_6.index t 1 * 128 + 1 * e.val = e.val; rw [h1]; omega

end Cert.ProjInIdeal.Work

end
-- ==== Proof.ProjInSpec.lean ====
/-
  The rotation of a head by the token's place in the grid: frequencies, angles, and the rotated head, a quarter at a time.
-/
module

public import Idealize.ShloMosaic.Lib.Pointwise

@[expose] public section

noncomputable section

namespace Cert.ProjInSpec

open Idealize.ShloMosaic

/-- The frequency of pair `k`. -/
def freq (k : Fin 32) : EReal :=
  Ideal.pow (Ideal.ofBits FTy.f32 1176256512#32)
    (Ideal.div (-(FloatOps.sitofp FTy.f32 (BitVec.ofNat 32 k.val) : Ideal .f32)) (Ideal.ofBits FTy.f32 1107296256#32))

/-- The angle of token `ρ`'s row of the grid. -/
def angR (ρ : Fin 16384) (k : Fin 32) : EReal := (FloatOps.sitofp FTy.f32 (BitVec.ofNat 32 (ρ.val / 64)) : Ideal .f32) * freq k

/-- The angle of token `ρ`'s column of the grid. -/
def angC (ρ : Fin 16384) (k : Fin 32) : EReal := (FloatOps.sitofp FTy.f32 (BitVec.ofNat 32 (ρ.val % 64)) : Ideal .f32) * freq k

/-- Entry `k` of quarter `s` of a rotated head: the first half of the head turns by the row's angles, the second by the column's. -/
def rot (y : Fin 128 → EReal) (ρ : Fin 16384) (k : Fin 32) : Fin 4 → EReal
  | 0 => y ⟨k.val, by omega⟩ * Ideal.cos (angR ρ k) - y ⟨32 + k.val, by omega⟩ * Ideal.sin (angR ρ k)
  | 1 => y ⟨32 + k.val, by omega⟩ * Ideal.cos (angR ρ k) + y ⟨k.val, by omega⟩ * Ideal.sin (angR ρ k)
  | 2 => y ⟨64 + k.val, by omega⟩ * Ideal.cos (angC ρ k) - y ⟨96 + k.val, by omega⟩ * Ideal.sin (angC ρ k)
  | 3 => y ⟨96 + k.val, by omega⟩ * Ideal.cos (angC ρ k) + y ⟨64 + k.val, by omega⟩ * Ideal.sin (angC ρ k)

/-- The scale of the queries. -/
def qs : EReal := (((Real.log 2)⁻¹ * (Real.sqrt 128)⁻¹ : ℝ) : EReal)

theorem qs_nonneg : 0 ≤ qs :=
  EReal.coe_nonneg.mpr (mul_nonneg (inv_nonneg.mpr (Real.log_nonneg (by norm_num))) (inv_nonneg.mpr (Real.sqrt_nonneg _)))

theorem qs_ne_top : qs ≠ ⊤ := EReal.coe_ne_top _

/-- A turn by tables whose other entry is zero, scaled: the turn's difference, scaled. -/
theorem turn_sub (a b c s z f : EReal) (h0 : 0 ≤ f) (ht : f ≠ ⊤) :
    a * (c * f + 0) + b * (-s * f) + z * (0 * f) = (a * c - b * s) * f := by
  rw [add_zero, zero_mul, mul_zero, add_zero, sub_eq_add_neg, EReal.right_distrib_of_nonneg_of_ne_top h0 ht, mul_assoc,
    ← mul_neg, mul_assoc]

theorem turn_add (a b c s z f : EReal) (h0 : 0 ≤ f) (ht : f ≠ ⊤) :
    a * (c * f + 0) + z * (0 * f) + b * (s * f) = (a * c + b * s) * f := by
  rw [add_zero, zero_mul, mul_zero, add_zero, EReal.right_distrib_of_nonneg_of_ne_top h0 ht, mul_assoc, mul_assoc]

/-- With factor zero and the kept entry one, nothing turns. -/
theorem turn_none (a b d c s s' : EReal) : a * (c * 0 + 1) + b * (s * 0) + d * (s' * 0) = a := by
  simp

end Cert.ProjInSpec

end
-- ==== Proof.ProjInTables.lean ====
/-
  The three tables of the rotation, which the host code builds, entry by entry: a head's quarters take the cosines and sines of
  the angles of the token's row of the grid (the first two) and of its column (the last two).
-/
module

public import proofs.«01_k».proof.Proof.ProjInBlocks
public import proofs.«01_k».proof.Proof.ProjInSpec
public import Idealize.ShloMosaic.Lib.StableHlo.Run

@[expose] public section

set_option maxRecDepth 16384

noncomputable section

namespace Cert.ProjInIdeal.Work

open Cert.ProjInSpec Cert.ProjInIdeal Cert.ProjInIdeal.Gen Idealize.ShloMosaic Idealize.ShloMosaic.TcCoe Idealize.SL.Sem

variable (m : (ℓ : Loc nD τ sig) → Buf (Elt Ideal) ℓ)

/-- The cosine table. -/
theorem V_v54 (c : Dev nD) (ρ : Fin 16384) (k : Fin 32) :
    @Eq EReal ((V m c main_v54 : Vec Ideal S16384x128 .f32) (ix2 ρ ⟨k.val, by omega⟩)) (Ideal.cos (angR ρ k))
    ∧ @Eq EReal ((V m c main_v54 : Vec Ideal S16384x128 .f32) (ix2 ρ ⟨32 + k.val, by omega⟩)) (Ideal.cos (angR ρ k))
    ∧ @Eq EReal ((V m c main_v54 : Vec Ideal S16384x128 .f32) (ix2 ρ ⟨64 + k.val, by omega⟩)) (Ideal.cos (angC ρ k))
    ∧ @Eq EReal ((V m c main_v54 : Vec Ideal S16384x128 .f32) (ix2 ρ ⟨96 + k.val, by omega⟩)) (Ideal.cos (angC ρ k)) := by
  have e : V m c main_v54 = (StableHlo.after hostOps0 (fun b => m (c, b)) (Proc.devRef .tc main_v54)) := rfl
  rw [e]
  unfold hostOps0
  after_results_simp
  dsimp only [Matrix.cons_val]
  after_results_simp
  refine ⟨?_, ?_, ?_, ?_⟩ <;> pointwise
  all_goals
    have hk := k.isLt
    try simp only [show 32 + k.val - 32 = k.val by omega, show 64 + k.val - 32 - 32 = k.val by omega, show 96 + k.val - 32 - 32 - 32 = k.val by omega]
    repeat' split
    all_goals first | rfl | (exfalso; omega)

/-- The first sine table. -/
theorem V_v57 (c : Dev nD) (ρ : Fin 16384) (k : Fin 32) :
    @Eq EReal ((V m c main_v57 : Vec Ideal S16384x128 .f32) (ix2 ρ ⟨k.val, by omega⟩)) (-Ideal.sin (angR ρ k))
    ∧ @Eq EReal ((V m c main_v57 : Vec Ideal S16384x128 .f32) (ix2 ρ ⟨32 + k.val, by omega⟩)) (0)
    ∧ @Eq EReal ((V m c main_v57 : Vec Ideal S16384x128 .f32) (ix2 ρ ⟨64 + k.val, by omega⟩)) (-Ideal.sin (angC ρ k))
    ∧ @Eq EReal ((V m c main_v57 : Vec Ideal S16384x128 .f32) (ix2 ρ ⟨96 + k.val, by omega⟩)) (0) := by
  have e : V m c main_v57 = (StableHlo.after hostOps0 (fun b => m (c, b)) (Proc.devRef .tc main_v57)) := rfl
  rw [e]
  unfold hostOps0
  after_results_simp
  dsimp only [Matrix.cons_val]
  after_results_simp
  refine ⟨?_, ?_, ?_, ?_⟩ <;> pointwise
  all_goals
    have hk := k.isLt
    try simp only [show 32 + k.val - 32 = k.val by omega, show 64 + k.val - 32 - 32 = k.val by omega, show 96 + k.val - 32 - 32 - 32 = k.val by omega]
    repeat' split
    all_goals first | rfl | (exfalso; omega)

/-- The second sine table. -/
theorem V_v58 (c : Dev nD) (ρ : Fin 16384) (k : Fin 32) :
    @Eq EReal ((V m c main_v58 : Vec Ideal S16384x128 .f32) (ix2 ρ ⟨k.val, by omega⟩)) (0)
    ∧ @Eq EReal ((V m c main_v58 : Vec Ideal S16384x128 .f32) (ix2 ρ ⟨32 + k.val, by omega⟩)) (Ideal.sin (angR ρ k))
    ∧ @Eq EReal ((V m c main_v58 : Vec Ideal S16384x128 .f32) (ix2 ρ ⟨64 + k.val, by omega⟩)) (0)
    ∧ @Eq EReal ((V m c main_v58 : Vec Ideal S16384x128 .f32) (ix2 ρ ⟨96 + k.val, by omega⟩)) (Ideal.sin (angC ρ k)) := by
  have e : V m c main_v58 = (StableHlo.after hostOps0 (fun b => m (c, b)) (Proc.devRef .tc main_v58)) := rfl
  rw [e]
  unfold hostOps0
  after_results_simp
  dsimp only [Matrix.cons_val]
  after_results_simp
  refine ⟨?_, ?_, ?_, ?_⟩ <;> pointwise
  all_goals
    have hk := k.isLt
    try simp only [show 32 + k.val - 32 = k.val by omega, show 64 + k.val - 32 - 32 = k.val by omega, show 96 + k.val - 32 - 32 - 32 = k.val by omega]
    repeat' split
    all_goals first | rfl | (exfalso; omega)

end Cert.ProjInIdeal.Work

end
-- ==== Proof.ProjInArr.lean ====
/-
  What the input projection's result array holds, entry by entry: the rows kept between points, their projection, its heads
  rotated.
-/
module

public import proofs.«01_k».proof.Proof.ProjInIdx
public import proofs.«01_k».proof.Proof.ProjInTables
public import proofs.«01_k».proof.Proof.Gen.ProjInIdeal.Value

@[expose] public section

set_option maxRecDepth 16384

noncomputable section

namespace Cert.ProjInIdeal.Work

open Cert.ProjInSpec Cert.ProjInIdeal Cert.ProjInIdeal.Gen Idealize.ShloMosaic Idealize.ShloMosaic.TcCoe Idealize.SL.Sem

variable (m : (ℓ : Loc nD τ sig) → Buf (Elt Ideal) ℓ)

/-- A row over its root mean square, gained, scaled and shifted. -/
def U (c : Dev nD) (ρ : Fin 16384) (d : Fin 2048) : EReal :=
  H m c (ix2 ρ d) * Ideal.rsqrt (Ideal.div (∑ x, H m c (ix2 ρ x) * H m c (ix2 ρ x)) (Ideal.ofBits FTy.f32 1157627904#32)
    + Ideal.ofBits FTy.f32 897988541#32) * (Gpre m c (ix1 d) * (1 + Mod m c (ix2 4 d))) + Mod m c (ix2 3 d)

/-- Its projection, with the bias. -/
def Z (c : Dev nD) (ρ : Fin 16384) (n : Fin 3072) : EReal := (∑ k, U m c ρ k * Wqkv m c (ix2 k n)) + Bqkv m c (ix1 n)

/-- A row modulated by the point's packed vectors is the row `U` of the same row of `h`. -/
theorem modrow_blk (c : Dev nD) (t : Fin cfg0.N) (h : Fin 2048 → EReal) (ρ : Fin 16384) (e : ∀ k, h k = H m c (ix2 ρ k)) (d : Fin 2048) :
    modrow (iblk m c 1 t : Vec Ideal S8x2048 .f32) h d = U m c ρ d := by
  obtain ⟨e0, e1, e3⟩ := V_v15 m c d
  unfold modrow U
  rw [iblk1_apply, iblk1_apply, iblk1_apply, e0, e1, e3]
  simp only [e]

/-- What the first point of a row block leaves: the block and the rows to keep. -/
theorem stateA (c : Dev nD) (t : Fin cfg0.N) (h0 : t.val % 6 = 0) : outsAt0 m c t.val t.isLt
    = (oNew (grid0.coords t) (uNew (iblk m c 0 t) (iblk m c 1 t)) (iblk m c 2 t) (iblk m c 3 t) (iblk m c 4 t) (iblk m c 5 t) (iblk m c 6 t),
      uNew (iblk m c 0 t) (iblk m c 1 t)) := by
  rw [outsAt0_A m c t h0, oA7, sA0]

/-- What a later point leaves, over the rows `s` the point before kept. -/
theorem stateB (c : Dev nD) (t : Fin cfg0.N) (h0 : ¬t.val % 6 = 0) (s : Vec Ideal S1024x2048 .bf16)
    (hs : s = (outsAt0 m c (t.val - 1) (Nat.lt_of_le_of_lt (Nat.sub_le _ _) t.isLt)).2) : outsAt0 m c t.val t.isLt
    = (oNew (grid0.coords t) s (iblk m c 2 t) (iblk m c 3 t) (iblk m c 4 t) (iblk m c 5 t) (iblk m c 6 t), s) := by
  rw [outsAt0_B m c t h0, oB7, hs]
  rfl

/-- The rows kept after a point are the row block's. -/
theorem kept (c : Dev nD) (n : ℕ) (hn : n < cfg0.N) (r : Fin 1024) (d : Fin 2048) : (outsAt0 m c n hn).2 (ix2 r d)
      = U m c ⟨1024 * (n / 6) + r.val, by have := lt96 ⟨n, hn⟩; dsimp only at this; omega⟩ d := by
  induction n with
  | zero =>
    have e0 : (outsAt0 m c 0 hn).2 = uNew (iblk m c 0 ⟨0, hn⟩) (iblk m c 1 ⟨0, hn⟩) :=
      congrArg (fun x => x.2) (stateA m c ⟨0, hn⟩ rfl)
    rw [e0, uNew_apply]
    exact modrow_blk m c _ _ _ (fun k => iblk0_apply m c ⟨0, hn⟩ r k) d
  | succ n ih =>
    by_cases h0 : (n + 1) % 6 = 0
    · have e0 : (outsAt0 m c (n + 1) hn).2 = uNew (iblk m c 0 ⟨n + 1, hn⟩) (iblk m c 1 ⟨n + 1, hn⟩) :=
        congrArg (fun x => x.2) (stateA m c ⟨n + 1, hn⟩ h0)
      rw [e0, uNew_apply]
      exact modrow_blk m c _ _ _ (fun k => iblk0_apply m c ⟨n + 1, hn⟩ r k) d
    · have e0 : (outsAt0 m c (n + 1) hn).2 = (outsAt0 m c n (Nat.lt_of_succ_lt hn)).2 :=
        congrArg (fun x => x.2) (stateB m c ⟨n + 1, hn⟩ h0 _ rfl)
      have q : (n + 1) / 6 = n / 6 := by omega
      rw [e0]
      simp only [q]
      exact ih (Nat.lt_of_succ_lt hn)

/-- The block a point leaves, over the rows it keeps. -/
theorem outs (c : Dev nD) (t : Fin cfg0.N) :
    (outsAt0 m c t.val t.isLt).1 = oNew (grid0.coords t) (outsAt0 m c t.val t.isLt).2
        (iblk m c 2 t) (iblk m c 3 t) (iblk m c 4 t) (iblk m c 5 t) (iblk m c 6 t) := by
  by_cases h0 : t.val % 6 = 0
  · rw [stateA m c t h0]
  · rw [stateB m c t h0 _ rfl]

theorem flush_all : ∀ t : Fin cfg0.N, (cfg0.win 7).flush t = true :=
  (by decide +kernel : ∀ t : Fin grid0.N, (cfg0.win 7).flush t = true)

/-- A block of the result is what its point left. -/
theorem flush7 (c : Dev nD) (t : Fin cfg0.N) (r : Fin 1024) (d : Fin 512) :
    (Value.G7 m c : Vec Ideal S16384x3072 .bf16) (ix2 ⟨1024 * (t.val / 6) + r.val, by have := lt96 t; omega⟩ ⟨512 * (t.val % 6) + d.val, by have := mod6 t; omega⟩)
      = (outsAt0 m c t.val t.isLt).1 (ix2 r d) := by
  obtain ⟨-, -, -, -, -, -, -, -, -, -, -, -, -, -, h0, h1, -⟩ := idx_all t
  have e := congrFun ((Value.blocks7 m c t (flush_all t)).trans (Value.flushed7 m c t)) (ix2 r d)
  rw [View.read_apply, Value.final7] at e
  refine Eq.trans ?_ e
  refine congrArg (Value.G7 m c) (funext fun a => Fin.ext ?_)
  match a with
  | ⟨0, _⟩ => show 1024 * (t.val / 6) + r.val = win0_7.index t 0 * 1024 + 1 * r.val; rw [h0]; omega
  | ⟨1, _⟩ => show 512 * (t.val % 6) + d.val = win0_7.index t 1 * 512 + 1 * d.val; rw [h1]; omega

/-- The factor of a column block and whether it is kept as it is: the queries' blocks are scaled, the keys' is not, the values' is kept. -/
theorem factor (t : Fin cfg0.N) :
    (t.val % 6 < 4 → k0_pay7 (F := Ideal) (grid0.coords t) = qs ∧ keep (grid0.coords t) = 0)
    ∧ (t.val % 6 = 4 → k0_pay7 (F := Ideal) (grid0.coords t) = 1 ∧ keep (grid0.coords t) = 0)
    ∧ (t.val % 6 = 5 → k0_pay7 (F := Ideal) (grid0.coords t) = 0 ∧ keep (grid0.coords t) = 1) := by
  obtain ⟨-, -, -, -, -, -, -, -, -, -, -, -, -, -, -, -, hj⟩ := idx_all t
  have hq : (Named.named (F := Ideal) κ "q_scale" 0x3E0293EE#32 : Ideal .f32) = qs := rfl
  have h1 : (Scalar.ofBits .f32 0x3F800000#32 : Ideal .f32) = 1 := by pointwise
  have h0 : (Scalar.ofBits .f32 0x00000000#32 : Ideal .f32) = 0 := by pointwise
  unfold k0_pay7 keep
  rw [hj]
  dsimp only
  rw [h1, h0]
  have hm := mod6 t
  generalize t.val % 6 = j at hm ⊢
  refine ⟨fun h => ?_, fun h => ?_, fun h => ?_⟩
  · interval_cases j <;> exact ⟨hq, rfl⟩
  · subst h; exact ⟨rfl, rfl⟩
  · subst h; exact ⟨rfl, rfl⟩

/-- An entry of the result: the rotation, by the tables, of a head of the projection. -/
theorem res_rot (c : Dev nD) (t : Fin cfg0.N) (r : Fin 1024) (q : ℕ) (hq : q < 4) (e : Fin 128) :
    (Value.G7 m c : Vec Ideal S16384x3072 .bf16) (ix2 ⟨1024 * (t.val / 6) + r.val, by have := lt96 t; omega⟩
      ⟨512 * (t.val % 6) + (128 * q + e.val), by have := mod6 t; omega⟩)
      = rotE (fun e => Z m c ⟨1024 * (t.val / 6) + r.val, by have := lt96 t; omega⟩ ⟨512 * (t.val % 6) + (128 * q + e.val), by have := mod6 t; omega⟩)
          (fun e => (V m c main_v54 : Vec Ideal S16384x128 .f32) (ix2 ⟨1024 * (t.val / 6) + r.val, by have := lt96 t; omega⟩ e))
          (fun e => (V m c main_v57 : Vec Ideal S16384x128 .f32) (ix2 ⟨1024 * (t.val / 6) + r.val, by have := lt96 t; omega⟩ e))
          (fun e => (V m c main_v58 : Vec Ideal S16384x128 .f32) (ix2 ⟨1024 * (t.val / 6) + r.val, by have := lt96 t; omega⟩ e))
          (k0_pay7 (F := Ideal) (grid0.coords t)) (keep (grid0.coords t)) e := by
  rw [flush7 m c t r ⟨128 * q + e.val, by omega⟩, outs, oNew_apply (hq := hq)]
  simp only [iblk4_apply, iblk5_apply, iblk6_apply]
  refine congrArg (fun y => rotE y _ _ _ _ _ _) (funext fun e => ?_)
  unfold proj Z
  rw [iblk3_apply]
  simp only [kept, iblk2_apply]

/-- A head of the values is kept as it is. -/
theorem rotE_none (y ct sa sb : Fin 128 → EReal) (e : Fin 128) : rotE y ct sa sb 0 1 e = y e := by
  unfold rotE
  exact turn_none _ _ _ _ _ _

/-- By the tables, a head is rotated and scaled. -/
theorem rotE_rot (c : Dev nD) (ρ : Fin 16384) (y : Fin 128 → EReal) (f : EReal) (h0 : 0 ≤ f) (ht : f ≠ ⊤) (k : Fin 32) (s : Fin 4) :
    rotE y (fun e => (V m c main_v54 : Vec Ideal S16384x128 .f32) (ix2 ρ e)) (fun e => (V m c main_v57 : Vec Ideal S16384x128 .f32) (ix2 ρ e))
      (fun e => (V m c main_v58 : Vec Ideal S16384x128 .f32) (ix2 ρ e)) f 0 ⟨32 * s.val + k.val, by omega⟩ = rot y ρ k s * f := by
  obtain ⟨a0, a1, a2, a3⟩ := V_v54 m c ρ k
  obtain ⟨b0, b1, b2, b3⟩ := V_v57 m c ρ k
  obtain ⟨c0, c1, c2, c3⟩ := V_v58 m c ρ k
  have hk := k.isLt
  unfold rotE
  match s with
  | 0 =>
    simp only [show (⟨32 * (0 : Fin 4).val + k.val, by omega⟩ : Fin 128) = ⟨k.val, by omega⟩ from Fin.ext (by show 32 * 0 + k.val = k.val; omega),
      show (⟨(32 * (0 : Fin 4).val + k.val + 128 - 96) % 128, Nat.mod_lt _ (by omega)⟩ : Fin 128) = ⟨32 + k.val, by omega⟩ from
        Fin.ext (by show (32 * 0 + k.val + 128 - 96) % 128 = 32 + k.val; omega)]
    rw [a0, b0, c0]
    exact turn_sub _ _ _ _ _ _ h0 ht
  | 1 =>
    simp only [show (⟨32 * (1 : Fin 4).val + k.val, by omega⟩ : Fin 128) = ⟨32 + k.val, by omega⟩ from Fin.ext (by show 32 * 1 + k.val = 32 + k.val; omega),
      show (⟨(32 * (1 : Fin 4).val + k.val + 128 - 32) % 128, Nat.mod_lt _ (by omega)⟩ : Fin 128) = ⟨k.val, by omega⟩ from
        Fin.ext (by show (32 * 1 + k.val + 128 - 32) % 128 = k.val; omega)]
    rw [a1, b1, c1]
    exact turn_add _ _ _ _ _ _ h0 ht
  | 2 =>
    simp only [show (⟨32 * (2 : Fin 4).val + k.val, by omega⟩ : Fin 128) = ⟨64 + k.val, by omega⟩ from Fin.ext (by show 32 * 2 + k.val = 64 + k.val; omega),
      show (⟨(32 * (2 : Fin 4).val + k.val + 128 - 96) % 128, Nat.mod_lt _ (by omega)⟩ : Fin 128) = ⟨96 + k.val, by omega⟩ from
        Fin.ext (by show (32 * 2 + k.val + 128 - 96) % 128 = 96 + k.val; omega)]
    rw [a2, b2, c2]
    exact turn_sub _ _ _ _ _ _ h0 ht
  | 3 =>
    simp only [show (⟨32 * (3 : Fin 4).val + k.val, by omega⟩ : Fin 128) = ⟨96 + k.val, by omega⟩ from Fin.ext (by show 32 * 3 + k.val = 96 + k.val; omega),
      show (⟨(32 * (3 : Fin 4).val + k.val + 128 - 32) % 128, Nat.mod_lt _ (by omega)⟩ : Fin 128) = ⟨64 + k.val, by omega⟩ from
        Fin.ext (by show (32 * 3 + k.val + 128 - 32) % 128 = 64 + k.val; omega)]
    rw [a3, b3, c3]
    exact turn_add _ _ _ _ _ _ h0 ht

end Cert.ProjInIdeal.Work

end
-- ==== Proof.ProjInRef.lean ====
/-
  What the input projection's reference computes, entry by entry, over its arguments.
-/
module

public import proofs.«01_k».proof.Proof.Gen.ProjInRefIdeal.Run
public import proofs.«01_k».proof.Proof.Gen.ProjInRefIdeal.Read
public import proofs.«01_k».proof.Proof.ProjInSpec

@[expose] public section

set_option maxRecDepth 16384

noncomputable section

namespace Cert.ProjInRefIdeal.Work

open Cert.ProjInSpec Cert.ProjInRefIdeal Cert.ProjInRefIdeal.Gen Cert.ProjInRefIdeal.Read Idealize.ShloMosaic Idealize.ShloMosaic.TcCoe Idealize.SL.Sem

variable (x0 : Vec Ideal S16384x2048 .f32) (x1 : Vec Ideal S9x2048 .f32) (x2 : Vec Ideal S2048 .f32)
  (x4 : Vec Ideal S2048x3072 .f32) (x5 : Vec Ideal S3072 .f32)

/-- The modulated rows. -/
theorem u_apply (ρ : Fin 16384) (k : Fin 2048) : val_main_v50 (F := Ideal) x0 x1 x2 (ix2 ρ k)
    = x0 (ix2 ρ k) * Ideal.rsqrt (Ideal.div (∑ x, x0 (ix2 ρ x) * x0 (ix2 ρ x)) (Ideal.ofBits FTy.f32 1157627904#32)
      + Ideal.ofBits FTy.f32 897988541#32) * x2 (ix1 k) * (1 + x1 (ix2 4 k)) + x1 (ix2 3 k) := by
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_cst_1 val_main_cst_2 val_main_cst_3 val_main_cst_4
  pointwise

/-- The projected rows. -/
theorem z_apply (ρ : Fin 16384) (n : Fin 3072) : val_main_v54 (F := Ideal) x0 x1 x2 x4 x5 (ix2 ρ n)
    = (∑ k, val_main_v50 (F := Ideal) x0 x1 x2 (ix2 ρ k) * x4 (ix2 k n)) + x5 (ix1 n) := by
  unfold val_main_v54 val_main_v53 val_main_v52 val_main_v51
  generalize val_main_v50 (F := Ideal) x0 x1 x2 = y0
  pointwise [dot_S16384x2048_S2048x3072_S16384x3072_1_0_0_1_n_n]

/-- The angles of the rows. -/
theorem angR_apply (ρ : Fin 16384) (k : Fin 32) : val_main_v20 (F := Ideal)  (ix2 ρ k) = angR ρ k := by
  unfold val_main_v20 val_main_v19 val_main_v18 val_main_v17 val_main_v16 val_main_v15 val_main_v14 val_main_v13 val_main_v12 val_main_v11 val_main_v10 val_main_v4 val_main_v3 val_main_v2 val_main_v1 val_main_v0 val_main_cst_0 val_main_cst
  pointwise
  rfl

/-- The angles of the columns. -/
theorem angC_apply (ρ : Fin 16384) (k : Fin 32) : val_main_v25 (F := Ideal)  (ix2 ρ k) = angC ρ k := by
  unfold val_main_v25 val_main_v24 val_main_v23 val_main_v22 val_main_v21 val_main_v15 val_main_v14 val_main_v13 val_main_v12 val_main_v11 val_main_v10 val_main_v9 val_main_v8 val_main_v7 val_main_v6 val_main_v5 val_main_cst_0 val_main_cst
  pointwise
  rfl

/-- The rotated queries, a quarter at a time. -/
theorem rotq (ρ : Fin 16384) (h : Fin 16) (k : Fin 32) : val_main_v91 (F := Ideal) x0 x1 x2 x4 x5 (ix3 ρ h ⟨k.val, by omega⟩) = rot (fun e => val_main_v56 (F := Ideal) x0 x1 x2 x4 x5 (ix3 ρ h e)) ρ k 0
    ∧ val_main_v91 (F := Ideal) x0 x1 x2 x4 x5 (ix3 ρ h ⟨32 + k.val, by omega⟩) = rot (fun e => val_main_v56 (F := Ideal) x0 x1 x2 x4 x5 (ix3 ρ h e)) ρ k 1
    ∧ val_main_v91 (F := Ideal) x0 x1 x2 x4 x5 (ix3 ρ h ⟨64 + k.val, by omega⟩) = rot (fun e => val_main_v56 (F := Ideal) x0 x1 x2 x4 x5 (ix3 ρ h e)) ρ k 2
    ∧ val_main_v91 (F := Ideal) x0 x1 x2 x4 x5 (ix3 ρ h ⟨96 + k.val, by omega⟩) = rot (fun e => val_main_v56 (F := Ideal) x0 x1 x2 x4 x5 (ix3 ρ h e)) ρ k 3 := by
  unfold val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 rot
  simp only [← angR_apply, ← angC_apply]
  generalize val_main_v56 (F := Ideal) x0 x1 x2 x4 x5 = y
  generalize val_main_v20 (F := Ideal) = yr
  generalize val_main_v25 (F := Ideal) = yc
  refine ⟨?_, ?_, ?_, ?_⟩ <;> pointwise
  all_goals
    have hk := k.isLt
    try simp only [show 32 + k.val - 32 = k.val by omega, show 64 + k.val - 64 = k.val by omega, show 96 + k.val - 64 - 32 = k.val by omega, show 64 + (32 + k.val) = 96 + k.val by omega]
    repeat' split
    all_goals first | rfl | (exfalso; omega)

/-- The rotated keys, a quarter at a time. -/
theorem rotk (ρ : Fin 16384) (h : Fin 4) (k : Fin 32) : val_main_v128 (F := Ideal) x0 x1 x2 x4 x5 (ix3 ρ h ⟨k.val, by omega⟩) = rot (fun e => val_main_v93 (F := Ideal) x0 x1 x2 x4 x5 (ix3 ρ h e)) ρ k 0
    ∧ val_main_v128 (F := Ideal) x0 x1 x2 x4 x5 (ix3 ρ h ⟨32 + k.val, by omega⟩) = rot (fun e => val_main_v93 (F := Ideal) x0 x1 x2 x4 x5 (ix3 ρ h e)) ρ k 1
    ∧ val_main_v128 (F := Ideal) x0 x1 x2 x4 x5 (ix3 ρ h ⟨64 + k.val, by omega⟩) = rot (fun e => val_main_v93 (F := Ideal) x0 x1 x2 x4 x5 (ix3 ρ h e)) ρ k 2
    ∧ val_main_v128 (F := Ideal) x0 x1 x2 x4 x5 (ix3 ρ h ⟨96 + k.val, by omega⟩) = rot (fun e => val_main_v93 (F := Ideal) x0 x1 x2 x4 x5 (ix3 ρ h e)) ρ k 3 := by
  unfold val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 rot
  simp only [← angR_apply, ← angC_apply]
  generalize val_main_v93 (F := Ideal) x0 x1 x2 x4 x5 = y
  generalize val_main_v20 (F := Ideal) = yr
  generalize val_main_v25 (F := Ideal) = yc
  refine ⟨?_, ?_, ?_, ?_⟩ <;> pointwise
  all_goals
    have hk := k.isLt
    try simp only [show 32 + k.val - 32 = k.val by omega, show 64 + k.val - 64 = k.val by omega, show 96 + k.val - 64 - 32 = k.val by omega, show 64 + (32 + k.val) = 96 + k.val by omega]
    repeat' split
    all_goals first | rfl | (exfalso; omega)

/-- A head of the queries before the rotation. -/
theorem q_apply (ρ : Fin 16384) (h : Fin 16) (e : Fin 128) : val_main_v56 (F := Ideal) x0 x1 x2 x4 x5 (ix3 ρ h e)
    = val_main_v54 (F := Ideal) x0 x1 x2 x4 x5 (ix2 ρ ⟨h.val * 128 + e.val, by omega⟩) := by
  unfold val_main_v56 val_main_v55
  generalize val_main_v54 (F := Ideal) x0 x1 x2 x4 x5 = y0
  pointwise

/-- A head of the keys before the rotation. -/
theorem k_apply (ρ : Fin 16384) (h : Fin 4) (e : Fin 128) : val_main_v93 (F := Ideal) x0 x1 x2 x4 x5 (ix3 ρ h e)
    = val_main_v54 (F := Ideal) x0 x1 x2 x4 x5 (ix2 ρ ⟨2048 + (h.val * 128 + e.val), by omega⟩) := by
  unfold val_main_v93 val_main_v92
  generalize val_main_v54 (F := Ideal) x0 x1 x2 x4 x5 = y0
  pointwise

/-- The scale. -/
theorem scale_apply (i : S_.Idx) : val_main_v132 (F := Ideal)  i = qs := by
  unfold val_main_v132 val_main_v131 val_main_v130 val_main_v129 val_main_cst_7 val_main_cst_5 val_main_cst_6
  pointwise
  have e2 : Ideal.ofBits FTy.f32 1073741824#32 = ((2 : ℝ) : EReal) := by
    simp [Ideal.ofBits, Ideal.ieee]
    rw [← EReal.coe_mul]
    norm_num
  have e128 : Ideal.ofBits FTy.f32 1124073472#32 = ((128 : ℝ) : EReal) := by
    simp [Ideal.ofBits, Ideal.ieee]
    rw [← EReal.coe_mul]
    norm_num
  have l2 : Ideal.log ((2 : ℝ) : EReal) = ((Real.log 2 : ℝ) : EReal) := by
    show (if (2 : ℝ) ≤ 0 then ⊥ else ((Real.log 2 : ℝ) : EReal)) = _
    rw [if_neg (by norm_num)]
  have s128 : Ideal.sqrt ((128 : ℝ) : EReal) = ((Real.sqrt 128 : ℝ) : EReal) := by
    show (if (128 : ℝ) < 0 then ⊥ else ((Real.sqrt 128 : ℝ) : EReal)) = _
    rw [if_neg (by norm_num)]
  have hne : Real.log 2 * Real.sqrt 128 ≠ 0 :=
    mul_ne_zero (Real.log_pos (by norm_num)).ne' (Real.sqrt_pos.mpr (by norm_num)).ne'
  rw [e2, e128, l2, s128, ← EReal.coe_mul]
  unfold Ideal.div qs
  rw [if_neg (by exact_mod_cast hne), one_mul, ← EReal.coe_inv, mul_inv]

/-- The result's queries. -/
theorem out_q (ρ : Fin 16384) (h : Fin 16) (e : Fin 128) : val_main_v139 (F := Ideal) x0 x1 x2 x4 x5 (ix2 ρ ⟨128 * h.val + e.val, by omega⟩)
    = val_main_v91 (F := Ideal) x0 x1 x2 x4 x5 (ix3 ρ h e) * qs := by
  unfold val_main_v139 val_main_v138 val_main_v137 val_main_v136 val_main_v135 val_main_v134 val_main_v133
  generalize val_main_v91 (F := Ideal) x0 x1 x2 x4 x5 = yq
  generalize val_main_v128 (F := Ideal) x0 x1 x2 x4 x5 = yk
  generalize val_main_v54 (F := Ideal) x0 x1 x2 x4 x5 = yv
  pointwise
  rw [dif_pos (by omega), scale_apply]

/-- The result's keys. -/
theorem out_k (ρ : Fin 16384) (h : Fin 4) (e : Fin 128) : val_main_v139 (F := Ideal) x0 x1 x2 x4 x5 (ix2 ρ ⟨2048 + (128 * h.val + e.val), by omega⟩)
    = val_main_v128 (F := Ideal) x0 x1 x2 x4 x5 (ix3 ρ h e) := by
  unfold val_main_v139 val_main_v138 val_main_v137 val_main_v136 val_main_v135 val_main_v134 val_main_v133
  generalize val_main_v91 (F := Ideal) x0 x1 x2 x4 x5 = yq
  generalize val_main_v128 (F := Ideal) x0 x1 x2 x4 x5 = yk
  generalize val_main_v54 (F := Ideal) x0 x1 x2 x4 x5 = yv
  pointwise
  rw [dif_pos (by omega)]

/-- The result's values. -/
theorem out_v (ρ : Fin 16384) (e : Fin 512) : val_main_v139 (F := Ideal) x0 x1 x2 x4 x5 (ix2 ρ ⟨2560 + e.val, by omega⟩)
    = val_main_v54 (F := Ideal) x0 x1 x2 x4 x5 (ix2 ρ ⟨2560 + e.val, by omega⟩) := by
  unfold val_main_v139 val_main_v138 val_main_v137 val_main_v136 val_main_v135 val_main_v134 val_main_v133
  generalize val_main_v91 (F := Ideal) x0 x1 x2 x4 x5 = yq
  generalize val_main_v128 (F := Ideal) x0 x1 x2 x4 x5 = yk
  generalize val_main_v54 (F := Ideal) x0 x1 x2 x4 x5 = yv
  pointwise
  rw [dif_neg (by omega), dif_neg (by omega)]
  exact congrArg yv (congrArg₂ ix2 rfl (Fin.ext (by show 2560 + (2560 + e.val - 2048 - 512) = 2560 + e.val; omega)))

end Cert.ProjInRefIdeal.Work

end
-- ==== Proof.ProjInEq.lean ====
/-
  The attention's input projection and its reference leave the same array, over the extended reals.
-/
module

public import proofs.«01_k».proof.Defs
public import proofs.«01_k».proof.Proof.ProjInArr
public import proofs.«01_k».proof.Proof.ProjInRef
public import Idealize.ShloMosaic.Lib.Claim

@[expose] public section

set_option maxRecDepth 16384

noncomputable section

namespace Cert.ProjInEq

open Idealize.ShloMosaic Idealize.ShloMosaic.TcCoe Idealize.SL.Sem
open Cert.ProjInSpec Cert.ProjInIdeal.Work

variable (m : (ℓ : Loc Cert.ProjInIdeal.nD Cert.ProjInIdeal.τ Cert.ProjInIdeal.sig) → Buf (Elt Ideal) ℓ)

/-- The modulated rows of the two programs are the same: the gain and the scale are multiplied in either order. -/
theorem u_eq (c : Dev Cert.ProjInIdeal.nD) (ρ : Fin 16384) (k : Fin 2048) :
    Cert.ProjInRefIdeal.Read.val_main_v50 (F := Ideal) (H m c) (Mod m c) (Gpre m c) (ix2 ρ k) = U m c ρ k := by
  rw [Cert.ProjInRefIdeal.Work.u_apply]
  unfold U
  rw [mul_assoc (_ * _)]

/-- So are the projected rows. -/
theorem z_eq (c : Dev Cert.ProjInIdeal.nD) (ρ : Fin 16384) (n : Fin 3072) :
    Cert.ProjInRefIdeal.Read.val_main_v54 (F := Ideal) (H m c) (Mod m c) (Gpre m c) (Wqkv m c) (Bqkv m c) (ix2 ρ n) = Z m c ρ n := by
  rw [Cert.ProjInRefIdeal.Work.z_apply]
  simp only [u_eq]
  rfl

/-- The reference's rotated queries, scaled. -/
theorem ref_q (c : Dev Cert.ProjInIdeal.nD) (ρ : Fin 16384) (h : Fin 16) (k : Fin 32) (s : Fin 4) :
    Cert.ProjInRefIdeal.Read.val_main_v139 (F := Ideal) (H m c) (Mod m c) (Gpre m c) (Wqkv m c) (Bqkv m c) (ix2 ρ ⟨128 * h.val + (32 * s.val + k.val), by omega⟩)
      = rot (fun e => Z m c ρ ⟨h.val * 128 + e.val, by omega⟩) ρ k s * qs := by
  refine (Cert.ProjInRefIdeal.Work.out_q _ _ _ _ _ ρ h ⟨32 * s.val + k.val, by omega⟩).trans (congrArg (· * qs) ?_)
  have e := Cert.ProjInRefIdeal.Work.rotq (H m c) (Mod m c) (Gpre m c) (Wqkv m c) (Bqkv m c) ρ h k
  simp only [Cert.ProjInRefIdeal.Work.q_apply, z_eq] at e
  match s with
  | 0 => exact (congrArg (fun i => Cert.ProjInRefIdeal.Read.val_main_v91 (F := Ideal) (H m c) (Mod m c) (Gpre m c) (Wqkv m c) (Bqkv m c) (ix3 ρ h i)) (Fin.ext (by show 32 * 0 + k.val = k.val; omega))).trans e.1
  | 1 => exact e.2.1
  | 2 => exact e.2.2.1
  | 3 => exact e.2.2.2

/-- The reference's rotated keys. -/
theorem ref_k (c : Dev Cert.ProjInIdeal.nD) (ρ : Fin 16384) (h : Fin 4) (k : Fin 32) (s : Fin 4) :
    Cert.ProjInRefIdeal.Read.val_main_v139 (F := Ideal) (H m c) (Mod m c) (Gpre m c) (Wqkv m c) (Bqkv m c) (ix2 ρ ⟨2048 + (128 * h.val + (32 * s.val + k.val)), by omega⟩)
      = rot (fun e => Z m c ρ ⟨2048 + (h.val * 128 + e.val), by omega⟩) ρ k s := by
  refine (Cert.ProjInRefIdeal.Work.out_k _ _ _ _ _ ρ h ⟨32 * s.val + k.val, by omega⟩).trans ?_
  have e := Cert.ProjInRefIdeal.Work.rotk (H m c) (Mod m c) (Gpre m c) (Wqkv m c) (Bqkv m c) ρ h k
  simp only [Cert.ProjInRefIdeal.Work.k_apply, z_eq] at e
  match s with
  | 0 => exact (congrArg (fun i => Cert.ProjInRefIdeal.Read.val_main_v128 (F := Ideal) (H m c) (Mod m c) (Gpre m c) (Wqkv m c) (Bqkv m c) (ix3 ρ h i)) (Fin.ext (by show 32 * 0 + k.val = k.val; omega))).trans e.1
  | 1 => exact e.2.1
  | 2 => exact e.2.2.1
  | 3 => exact e.2.2.2

/-- Every entry lies in a quarter of a head of the block of one point. -/
theorem place (ρ : Fin 16384) (n : Fin 3072) : ∃ (t : Fin Cert.ProjInIdeal.cfg0.N) (r : Fin 1024) (q : Fin 4) (s : Fin 4) (k : Fin 32),
    ρ.val = 1024 * (t.val / 6) + r.val ∧ n.val = 512 * (t.val % 6) + (128 * q.val + (32 * s.val + k.val)) := by
  refine ⟨⟨6 * (ρ.val / 1024) + n.val / 512, lt_of_lt_of_eq (by omega : _ < 96) Cert.ProjInIdeal.Gen.N_0.symm⟩, ⟨ρ.val % 1024, by omega⟩,
    ⟨n.val % 512 / 128, by omega⟩, ⟨n.val % 128 / 32, by omega⟩, ⟨n.val % 32, by omega⟩, ?_, ?_⟩
  · dsimp only; omega
  · dsimp only; omega

/-- The result is the reference's. -/
theorem result_eq (c : Dev Cert.ProjInIdeal.nD) :
    Cert.ProjInRefIdeal.Read.val_main_v139 (F := Ideal) (H m c) (Mod m c) (Gpre m c) (Wqkv m c) (Bqkv m c) = Cert.ProjInIdeal.Value.G7 m c := by
  refine funext fun i => ?_
  obtain ⟨ρ, n, rfl⟩ : ∃ (ρ : Fin 16384) (n : Fin 3072), i = ix2 ρ n := ⟨i 0, i 1, eq_ix2 i⟩
  obtain ⟨t, r, q, s, k, hρ, hn⟩ := place ρ n
  have ht := lt96 t
  have h6 := mod6 t
  have key := res_rot m c t r q.val q.isLt ⟨32 * s.val + k.val, by omega⟩
  obtain ⟨fq, fk, fv⟩ := factor t
  have eρ : (⟨1024 * (t.val / 6) + r.val, by omega⟩ : Fin 16384) = ρ := Fin.ext hρ.symm
  rw [eρ, show (⟨512 * (t.val % 6) + (128 * q.val + (32 * s.val + k.val)), by omega⟩ : Fin 3072) = n from Fin.ext hn.symm] at key
  refine Eq.trans ?_ key.symm
  rcases (by omega : t.val % 6 < 4 ∨ t.val % 6 = 4 ∨ t.val % 6 = 5) with h | h | h
  · obtain ⟨e1, e2⟩ := fq h
    rw [e1, e2, rotE_rot m c ρ _ qs qs_nonneg qs_ne_top k s,
      show n = ⟨128 * (⟨4 * (t.val % 6) + q.val, by omega⟩ : Fin 16).val + (32 * s.val + k.val), by dsimp only; omega⟩ from
        Fin.ext (by dsimp only; omega), ref_q m c ρ ⟨4 * (t.val % 6) + q.val, by omega⟩ k s]
    exact congrArg (fun y => rot y ρ k s * qs) (funext fun e => congrArg (Z m c ρ) (Fin.ext (by dsimp only; omega)))
  · obtain ⟨e1, e2⟩ := fk h
    rw [e1, e2, rotE_rot m c ρ _ 1 zero_le_one (EReal.coe_ne_top 1) k s, mul_one,
      show n = ⟨2048 + (128 * q.val + (32 * s.val + k.val)), by omega⟩ from Fin.ext (by dsimp only; omega), ref_k m c ρ q k s]
    exact congrArg (fun y => rot y ρ k s) (funext fun e => congrArg (Z m c ρ) (Fin.ext (by dsimp only; omega)))
  · obtain ⟨e1, e2⟩ := fv h
    rw [e1, e2, rotE_none, show n = ⟨2560 + (⟨128 * q.val + (32 * s.val + k.val), by omega⟩ : Fin 512).val, by dsimp only; omega⟩ from
      Fin.ext (by dsimp only; omega), Cert.ProjInRefIdeal.Work.out_v, z_eq]
    exact congrArg (Z m c ρ) (Fin.ext (by dsimp only; omega))

/-- The claim: from agreeing arguments the kernel and the reference leave the same result. -/
theorem algebraic : Cert.algebraic_ProjInIdeal_ProjInRefIdeal := by
  intro m g m' g' _ hagree
  refine ⟨fun c => Cert.ProjInIdeal.Value.G7 m c, Cert.ProjInIdeal.Value.run m g, ?_⟩
  refine θ_run_mono (Cert.ProjInRefIdeal.Value.run m' g') fun r hr c => ?_
  obtain ⟨hres, hargs⟩ := hr c
  obtain ⟨a0, a1, a2, a3, a4, a5⟩ := hagree c
  refine ⟨hres.trans (Eq.trans ?_ (result_eq m c)), hargs⟩
  rw [Cert.ProjInRefIdeal.Read.val_main_v139_eq m' c, a0, a1, a2, a4, a5]

end Cert.ProjInEq

end
-- ==== Proof.ProjOutFrames.lean ====
/-
  The frames of the three programs of one call.
-/
module

public import proofs.«01_k».proof.Defs
public import proofs.«01_k».proof.Proof.Gen.ProjOut
public import proofs.«01_k».proof.Proof.Gen.ProjOut.Frame
public import proofs.«01_k».proof.Proof.Gen.ProjOutIdeal
public import proofs.«01_k».proof.Proof.Gen.ProjOutIdeal.Frame
public import proofs.«01_k».proof.Proof.Gen.ProjOutRefIdeal
public import proofs.«01_k».proof.Proof.Gen.ProjOutRefIdeal.Run
public import Idealize.ShloMosaic.Adequacy
public import Idealize.ShloMosaic.Init

@[expose] public section

noncomputable section

namespace Cert.FramesProjOut

open Idealize.ShloMosaic Idealize.SL.Sem

theorem printed : Cert.quiescent_ProjOut := fun m g _ => Cert.ProjOut.Gen.frame m g

theorem ideal : Cert.quiescent_ProjOutIdeal := fun m g _ => Cert.ProjOutIdeal.Gen.frame m g

theorem ref : Cert.quiescent_ProjOutRefIdeal := fun m g _ =>
  (θ_run Cert.ProjOutRefIdeal.defs _ _).mono (fun r h => ⟨fun c => (h c).2.2.2, sem_eq_zero_of_no_sems (by decide) r.2⟩)
    (Cert.ProjOutRefIdeal.Value.run (F := Ideal) m g)

end Cert.FramesProjOut

end
-- ==== Proof.ProjOutPoint.lean ====
/-
  What one grid point of the output projection leaves in its three output blocks, entry by entry, over its input
  blocks: the residual row plus the gated, normalised projection, and the cast slabs of the next layer's weights.
-/
module

public import proofs.«01_k».proof.Proof.Gen.ProjOutIdeal.Value
public import Idealize.ShloMosaic.Lib.Pointwise

@[expose] public section

set_option maxRecDepth 16384

noncomputable section

namespace Cert.ProjOutIdeal.Work

open Cert.ProjOutIdeal Cert.ProjOutIdeal.Gen Idealize.ShloMosaic Idealize.ShloMosaic.TcCoe Idealize.SL.Sem

variable (x0 : Vec Ideal S512x2048 .bf16) (x1 : Vec Ideal S2048x2048 .bf16) (x2 : Vec Ideal S1x2048 .f32)
  (x3 : Vec Ideal S512x2048 .f32) (x4 : Vec Ideal S8x2048 .f32) (x5 : Vec Ideal S1x1x64x11264 .f32)
  (x6 : Vec Ideal S1x1x176x2048 .f32)

/-- An entry over the root mean square of its row `y`, times the gain. -/
def normed (y : Fin 2048 → EReal) (g : EReal) (d : Fin 2048) : EReal :=
  y d * Ideal.rsqrt (Ideal.div (∑ x, y x * y x) (Ideal.ofBits FTy.f32 1157627904#32) + Ideal.ofBits FTy.f32 897988541#32) * g

/-- Half a block of the projection: the rows times the weights, plus the bias. -/
theorem pay4_apply (a : Vec Ideal S256x2048 .bf16) (w : Vec Ideal S2048x2048 .bf16) (b : Vec Ideal S1x2048 .f32)
    (r : Fin 256) (d : Fin 2048) : k0_pay4 a w b (ix2 r d) = (∑ k, a (ix2 r k) * w (ix2 k d)) + b (ix2 0 d) := by
  unfold_payloads
  simp only [shapeCast_self]
  pointwise [dot_S256x2048_S2048x2048_S256x2048_1_0_0_1_n_n]

/-- The other half is computed alike. -/
theorem pay5_eq (a : Vec Ideal S256x2048 .bf16) (w : Vec Ideal S2048x2048 .bf16) (b : Vec Ideal S1x2048 .f32) :
    k0_pay5 a w b = k0_pay4 a w b := rfl

/-- The gain of the normalised rows: gate times norm gain. -/
theorem pay3_apply (a b : Vec Ideal S1x2048 .f32) (d : Fin 2048) : k0_pay3 a b (ix2 0 d) = a (ix2 0 d) * b (ix2 0 d) := by
  unfold_payloads
  simp only [shapeCast_self]
  pointwise

/-- The output rows of half a block. -/
theorem pay1_apply (g : Vec Ideal S1x2048 .f32) (y h : Vec Ideal S256x2048 .f32) (r : Fin 256) (d : Fin 2048) :
    k0_pay1 g y h (ix2 r d) = h (ix2 r d) + normed (fun x => y (ix2 r x)) (g (ix2 0 d)) d := by
  unfold normed
  unfold_payloads
  pointwise

/-- The other half is computed alike. -/
theorem pay2_eq (g : Vec Ideal S1x2048 .f32) (y h : Vec Ideal S256x2048 .f32) : k0_pay2 g y h = k0_pay1 g y h := rfl

/-- A row of the block's projection. -/
def yB (r : Fin 512) (d : Fin 2048) : EReal := (∑ k, x0 (ix2 r k) * x1 (ix2 k d)) + x2 (ix2 0 d)

/-- An entry of the output block. -/
def oB : Vec Ideal S512x2048 .f32 := fun y =>
  x3 (ix2 (y 0) (y 1)) + normed (yB x0 x1 x2 (y 0)) (x4 (ix2 2 (y 1)) * x4 (ix2 4 (y 1))) (y 1)

theorem oB_apply (r : Fin 512) (d : Fin 2048) : oB x0 x1 x2 x3 x4 (ix2 r d)
    = x3 (ix2 r d) + normed (yB x0 x1 x2 r) (x4 (ix2 2 d) * x4 (ix2 4 d)) d := rfl

theorem hz : (![0, 0] : Fin 2 → Nat) = fun _ => 0 := funext fun a => by fin_cases a <;> rfl
theorem hz4 : (![0, 0, 0, 0] : Fin 4 → Nat) = fun _ => 0 := funext fun a => by fin_cases a <;> rfl

theorem ld_lo {φ : EltTy} (x : Vec Ideal S512x2048 φ) (r : Fin 256) (d : Fin 2048) :
    View.ld x r0_2 (ix2 r d) = x (ix2 ⟨r.val, by omega⟩ d) := by
  unfold View.ld
  refine congrArg x (funext fun a => Fin.ext ?_)
  match a with
  | ⟨0, _⟩ => show 0 + 1 * r.val = r.val; omega
  | ⟨1, _⟩ => show 0 + 1 * d.val = d.val; omega

theorem ld_hi {φ : EltTy} (x : Vec Ideal S512x2048 φ) (r : Fin 256) (d : Fin 2048) :
    View.ld x r0_5 (ix2 r d) = x (ix2 ⟨256 + r.val, by omega⟩ d) := by
  unfold View.ld
  refine congrArg x (funext fun a => Fin.ext ?_)
  match a with
  | ⟨0, _⟩ => show 256 + 1 * r.val = 256 + r.val; omega
  | ⟨1, _⟩ => show 0 + 1 * d.val = d.val; omega

/-- The gain read off the packed vectors. -/
theorem pay8_apply (d : Fin 2048) : k0_pay8 x0 x1 x2 x3 x4 x5 x6 (ix2 0 d) = x4 (ix2 2 d) * x4 (ix2 4 d) := by
  unfold k0_pay8
  rw [pay3_apply]
  unfold View.ld
  refine congrArg₂ (fun a b => x4 a * x4 b) (funext fun a => Fin.ext ?_) (funext fun a => Fin.ext ?_)
  · match a with
    | ⟨0, _⟩ => rfl
    | ⟨1, _⟩ => show 0 + 1 * d.val = d.val; omega
  · match a with
    | ⟨0, _⟩ => rfl
    | ⟨1, _⟩ => show 0 + 1 * d.val = d.val; omega

/-- The output block's two stores leave the residual rows. -/
theorem out7_apply (y : S512x2048.Idx) : out0_7 x0 x1 x2 x3 x4 x5 x6 y = oB x0 x1 x2 x3 x4 y := by
  unfold out0_7
  refine View.canon_apply_of_pieces (oB x0 x1 x2 x3 x4) _ ?_ y (cover0_7 _ _ y)
  intro pc hpc
  rcases List.mem_cons.mp hpc with rfl | hpc
  · intro x
    obtain ⟨r, d, rfl⟩ : ∃ (r : Fin 256) (d : Fin 2048), x = ix2 r d := ⟨x 0, x 1, eq_ix2 x⟩
    have e : r0_5.idx (ix2 r d) = ix2 (⟨256 + r.val, by omega⟩ : Fin 512) d := funext fun a => Fin.ext (by
      match a with
      | ⟨0, _⟩ => show 256 + 1 * r.val = 256 + r.val; omega
      | ⟨1, _⟩ => show 0 + 1 * d.val = d.val; omega)
    show k0_pay2 (F := Ideal) _ _ _ (ix2 r d) = oB x0 x1 x2 x3 x4 (r0_5.idx (ix2 r d))
    rw [e, pay2_eq, pay1_apply, pay8_apply, ld_hi]
    unfold oB
    refine congrArg₂ (fun a b => a + normed b _ d) rfl (funext fun z => ?_)
    rw [pay5_eq, pay4_apply, View.ld_unit_zero (S := S2048x2048) hz, View.ld_unit_zero (S := S1x2048) hz]
    exact congrArg (· + _) (Finset.sum_congr rfl fun k _ => congrArg (· * _) (ld_hi x0 r k))
  · rcases List.mem_cons.mp hpc with rfl | hpc
    · intro x
      obtain ⟨r, d, rfl⟩ : ∃ (r : Fin 256) (d : Fin 2048), x = ix2 r d := ⟨x 0, x 1, eq_ix2 x⟩
      have e : r0_2.idx (ix2 r d) = ix2 (⟨r.val, by omega⟩ : Fin 512) d := funext fun a => Fin.ext (by
        match a with
        | ⟨0, _⟩ => show 0 + 1 * r.val = r.val; omega
        | ⟨1, _⟩ => show 0 + 1 * d.val = d.val; omega)
      show k0_pay1 (F := Ideal) _ _ _ (ix2 r d) = oB x0 x1 x2 x3 x4 (r0_2.idx (ix2 r d))
      rw [e, pay1_apply, pay8_apply, ld_lo]
      unfold oB
      refine congrArg₂ (fun a b => a + normed b _ d) rfl (funext fun z => ?_)
      rw [pay4_apply, View.ld_unit_zero (S := S2048x2048) hz, View.ld_unit_zero (S := S1x2048) hz]
      exact congrArg (· + _) (Finset.sum_congr rfl fun k _ => congrArg (· * _) (ld_lo x0 r k))
    · nomatch hpc

/-- The cast slab of the next up projection. -/
theorem out8_apply (r : Fin 64) (f : Fin 11264) : out0_8 x0 x1 x2 x3 x4 x5 x6 (ix2 r f) = x5 (ix4 0 0 r f) := by
  unfold out0_8
  rw [View.canon_unit_zero (S := S64x11264) hz, View.ld_unit_zero (S := S1x1x64x11264) hz4]
  unfold_payloads
  pointwise

/-- The cast slab of the next down projection. -/
theorem out9_apply (r : Fin 176) (d : Fin 2048) : out0_9 x0 x1 x2 x3 x4 x5 x6 (ix2 r d) = x6 (ix4 0 0 r d) := by
  unfold out0_9
  rw [View.canon_unit_zero (S := S176x2048) hz, View.ld_unit_zero (S := S1x1x176x2048) hz4]
  unfold_payloads
  pointwise

end Cert.ProjOutIdeal.Work

end
-- ==== Proof.ProjOutArr.lean ====
/-
  What the output projection's input windows hold at each grid point, as entries of the arguments, and what its three
  result arrays hold, entry by entry.
-/
module

public import proofs.«01_k».proof.Proof.ProjOutPoint
public import Idealize.ShloMosaic.Lib.Pointwise
public import Idealize.ShloMosaic.Lib.StableHlo.ReadAt

@[expose] public section

set_option maxRecDepth 16384

noncomputable section

namespace Cert.ProjOutIdeal.Work

open Cert.ProjOutIdeal Cert.ProjOutIdeal.Gen Idealize.ShloMosaic Idealize.ShloMosaic.TcCoe Idealize.SL.Sem

variable (m : (ℓ : Loc nD τ sig) → Buf (Elt Ideal) ℓ)

theorem lt32 (t : Fin cfg0.N) : t.val < 32 := lt_of_lt_of_eq t.isLt N_0

/-- The index maps at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem idx_facts' : ∀ t : Fin cfg0.N,
    win0_5.index t (0 : Fin 4) = 0 ∧ win0_5.index t (1 : Fin 4) = 1
    ∧ win0_5.index t (2 : Fin 4) = t.val ∧ win0_5.index t (3 : Fin 4) = 0
    ∧ win0_6.index t (0 : Fin 4) = 0 ∧ win0_6.index t (1 : Fin 4) = 1
    ∧ win0_6.index t (2 : Fin 4) = t.val ∧ win0_6.index t (3 : Fin 4) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Every point writes its three output blocks back. -/
theorem flush_facts : ∀ t : Fin cfg0.N,
    (cfg0.win 7).flush t = true ∧ (cfg0.win 8).flush t = true ∧ (cfg0.win 9).flush t = true :=
  (by decide +kernel : ∀ t : Fin grid0.N, _)

/-- The nine arguments, as arrays over their literal shapes. -/
abbrev A (c : Dev nD) : Vec Ideal S16384x2048 .bf16 := m ((c : Thread nD τ).loc main_arg0)
abbrev W (c : Dev nD) : Vec Ideal S2048x2048 .f32 := m ((c : Thread nD τ).loc main_arg1)
abbrev Bias (c : Dev nD) : Vec Ideal S2048 .f32 := m ((c : Thread nD τ).loc main_arg2)
abbrev H (c : Dev nD) : Vec Ideal S16384x2048 .f32 := m ((c : Thread nD τ).loc main_arg3)
abbrev Mod (c : Dev nD) : Vec Ideal S9x2048 .f32 := m ((c : Thread nD τ).loc main_arg4)
abbrev Gpre (c : Dev nD) : Vec Ideal S2048 .f32 := m ((c : Thread nD τ).loc main_arg5)
abbrev Gpost (c : Dev nD) : Vec Ideal S2048 .f32 := m ((c : Thread nD τ).loc main_arg6)
abbrev NextIn (c : Dev nD) : Vec Ideal S4x2x2048x11264 .f32 := m ((c : Thread nD τ).loc main_arg7)
abbrev NextOut (c : Dev nD) : Vec Ideal S4x2x5632x2048 .f32 := m ((c : Thread nD τ).loc main_arg8)

/-- The projection's weights as the call reads them: the argument's, format changed. -/
theorem V_v0 (c : Dev nD) : V m c main_v0 = W m c := by
  show StableHlo.after hostOps0 (fun b => m (c, b)) (Proc.devRef .tc main_v0) = _
  unfold hostOps0
  after_results
  rfl

/-- The bias as the call reads it: one row. -/
theorem V_v17 (c : Dev nD) (d : Fin 2048) : (V m c main_v17 : Vec Ideal S1x2048 .f32) (ix2 0 d) = Bias m c (ix1 d) := by
  have e : V m c main_v17 = (StableHlo.after hostOps0 (fun b => m (c, b)) (Proc.devRef .tc main_v17)) := rfl
  rw [e]
  unfold hostOps0
  after_results
  pointwise
  all_goals rfl

/-- The packed vectors' gate and norm gain. -/
theorem V_v16 (c : Dev nD) (d : Fin 2048) :
    (V m c main_v16 : Vec Ideal S8x2048 .f32) (ix2 2 d) = Mod m c (ix2 5 d)
    ∧ (V m c main_v16 : Vec Ideal S8x2048 .f32) (ix2 4 d) = Gpost m c (ix1 d) := by
  have e : V m c main_v16 = (StableHlo.after hostOps0 (fun b => m (c, b)) (Proc.devRef .tc main_v16)) := rfl
  rw [e]
  unfold hostOps0
  after_results
  refine ⟨?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

theorem iblk0_apply (c : Dev nD) (t : Fin cfg0.N) (r : Fin 512) (d : Fin 2048) :
    (iblk m c 0 t : Vec Ideal S512x2048 .bf16) (ix2 r d) = A m c (ix2 ⟨512 * t.val + r.val, by have := lt32 t; omega⟩ d) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * t.val + r.val; rw [h0]; omega
  | ⟨1, _⟩ => show win0_0.index t 1 * 2048 + 1 * d.val = d.val; rw [h1]; omega

theorem iblk1_apply (c : Dev nD) (t : Fin cfg0.N) (r : Fin 2048) (d : Fin 2048) :
    (iblk m c 1 t : Vec Ideal S2048x2048 .bf16) (ix2 r d) = W m c (ix2 r d) := by
  obtain ⟨-, -, h0, h1, -⟩ := idx_facts t
  unfold iblk
  rw [View.read_apply]
  show V m c main_v0 _ = _
  rw [V_v0]
  refine congrArg (W m c) (funext fun a => Fin.ext ?_)
  match a with
  | ⟨0, _⟩ => show win0_1.index t 0 * 2048 + 1 * r.val = r.val; rw [h0]; omega
  | ⟨1, _⟩ => show win0_1.index t 1 * 2048 + 1 * d.val = d.val; rw [h1]; omega

theorem iblk2_apply (c : Dev nD) (t : Fin cfg0.N) (r : Fin 1) (d : Fin 2048) :
    (iblk m c 2 t : Vec Ideal S1x2048 .f32) (ix2 r d) = (V m c main_v17 : Vec Ideal S1x2048 .f32) (ix2 r d) := by
  obtain ⟨-, -, -, -, h0, h1, -⟩ := idx_facts t
  unfold iblk
  rw [View.read_apply]
  show V m c main_v17 _ = _
  refine congrArg (V m c main_v17 : Vec Ideal S1x2048 .f32) (funext fun a => Fin.ext ?_)
  match a with
  | ⟨0, _⟩ => show win0_2.index t 0 * 1 + 1 * r.val = r.val; rw [h0]; omega
  | ⟨1, _⟩ => show win0_2.index t 1 * 2048 + 1 * d.val = d.val; rw [h1]; omega

theorem iblk3_apply (c : Dev nD) (t : Fin cfg0.N) (r : Fin 512) (d : Fin 2048) :
    (iblk m c 3 t : Vec Ideal S512x2048 .f32) (ix2 r d) = H m c (ix2 ⟨512 * t.val + r.val, by have := lt32 t; omega⟩ d) := by
  obtain ⟨-, -, -, -, -, -, h0, h1, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 512 + 1 * r.val = 512 * t.val + r.val; rw [h0]; omega
  | ⟨1, _⟩ => show win0_3.index t 1 * 2048 + 1 * d.val = d.val; rw [h1]; omega

theorem iblk4_apply (c : Dev nD) (t : Fin cfg0.N) (r : Fin 8) (d : Fin 2048) :
    (iblk m c 4 t : Vec Ideal S8x2048 .f32) (ix2 r d) = (V m c main_v16 : Vec Ideal S8x2048 .f32) (ix2 r d) := by
  obtain ⟨-, -, -, -, -, -, -, -, h0, h1⟩ := idx_facts t
  unfold iblk
  rw [View.read_apply]
  show V m c main_v16 _ = _
  refine congrArg (V m c main_v16 : Vec Ideal S8x2048 .f32) (funext fun a => Fin.ext ?_)
  match a with
  | ⟨0, _⟩ => show win0_4.index t 0 * 8 + 1 * r.val = r.val; rw [h0]; omega
  | ⟨1, _⟩ => show win0_4.index t 1 * 2048 + 1 * d.val = d.val; rw [h1]; omega

theorem iblk5_apply (c : Dev nD) (t : Fin cfg0.N) (r : Fin 64) (d : Fin 11264) :
    (iblk m c 5 t : Vec Ideal S1x1x64x11264 .f32) (ix4 0 0 r d)
      = NextIn m c (ix4 0 1 ⟨64 * t.val + r.val, by have := lt32 t; omega⟩ d) := by
  obtain ⟨h0, h1, h2, h3, -⟩ := idx_facts' t
  unfold iblk
  rw [View.read_apply]
  show V m c main_arg7 _ = _
  rw [V_main_arg7]
  refine congrArg (m ((c : Thread nD τ).loc main_arg7)) (funext fun a => Fin.ext ?_)
  match a with
  | ⟨0, _⟩ => show win0_5.index t 0 * 1 + 1 * 0 = 0; rw [h0]
  | ⟨1, _⟩ => show win0_5.index t 1 * 1 + 1 * 0 = 1; rw [h1]
  | ⟨2, _⟩ => show win0_5.index t 2 * 64 + 1 * r.val = 64 * t.val + r.val; rw [h2]; omega
  | ⟨3, _⟩ => show win0_5.index t 3 * 11264 + 1 * d.val = d.val; rw [h3]; omega

theorem iblk6_apply (c : Dev nD) (t : Fin cfg0.N) (r : Fin 176) (d : Fin 2048) :
    (iblk m c 6 t : Vec Ideal S1x1x176x2048 .f32) (ix4 0 0 r d)
      = NextOut m c (ix4 0 1 ⟨176 * t.val + r.val, by have := lt32 t; omega⟩ d) := by
  obtain ⟨-, -, -, -, h0, h1, h2, h3, -⟩ := idx_facts' t
  unfold iblk
  rw [View.read_apply]
  show V m c main_arg8 _ = _
  rw [V_main_arg8]
  refine congrArg (m ((c : Thread nD τ).loc main_arg8)) (funext fun a => Fin.ext ?_)
  match a with
  | ⟨0, _⟩ => show win0_6.index t 0 * 1 + 1 * 0 = 0; rw [h0]
  | ⟨1, _⟩ => show win0_6.index t 1 * 1 + 1 * 0 = 1; rw [h1]
  | ⟨2, _⟩ => show win0_6.index t 2 * 176 + 1 * r.val = 176 * t.val + r.val; rw [h2]; omega
  | ⟨3, _⟩ => show win0_6.index t 3 * 2048 + 1 * d.val = d.val; rw [h3]; omega

/-- The projection with its bias. -/
def Y (c : Dev nD) (ρ : Fin 16384) (d : Fin 2048) : EReal := (∑ k, A m c (ix2 ρ k) * W m c (ix2 k d)) + Bias m c (ix1 d)

/-- An entry of the first result as the call computes it. -/
def Out (c : Dev nD) (ρ : Fin 16384) (d : Fin 2048) : EReal :=
  H m c (ix2 ρ d) + normed (Y m c ρ) (Mod m c (ix2 5 d) * Gpost m c (ix1 d)) d

theorem yB_blk (c : Dev nD) (t : Fin cfg0.N) (r : Fin 512) :
    yB (iblk m c 0 t) (iblk m c 1 t) (iblk m c 2 t) r = Y m c ⟨512 * t.val + r.val, by have := lt32 t; omega⟩ := by
  funext d
  unfold yB Y
  rw [iblk2_apply, V_v17]
  simp only [iblk0_apply, iblk1_apply]

/-- The output rows a point leaves. -/
theorem oB_blk (c : Dev nD) (t : Fin cfg0.N) (r : Fin 512) (d : Fin 2048) :
    oB (iblk m c 0 t) (iblk m c 1 t) (iblk m c 2 t) (iblk m c 3 t) (iblk m c 4 t) (ix2 r d)
      = Out m c ⟨512 * t.val + r.val, by have := lt32 t; omega⟩ d := by
  obtain ⟨e2, e4⟩ := V_v16 m c d
  rw [oB_apply]
  rw [yB_blk, iblk3_apply, iblk4_apply, iblk4_apply, e2, e4]
  rfl

/-- Result array 0. -/
def Res7 (c : Dev nD) : Vec Ideal S16384x2048 .f32 := (dats m 0 c).arrAt 7 cfg0.N

theorem flush7 (c : Dev nD) (t : Fin cfg0.N) (r : Fin 512) (d : Fin 2048) :
    Res7 m c (ix2 ⟨512 * t.val + r.val, by have := lt32 t; omega⟩ d)
      = out0_7 (iblk m c 0 t) (iblk m c 1 t) (iblk m c 2 t) (iblk m c 3 t) (iblk m c 4 t) (iblk m c 5 t) (iblk m c 6 t) (ix2 r d) := by
  obtain ⟨-, -, -, -, -, -, -, -, h0, h1, -⟩ := idx_facts' t
  have e := congrFun (Cert.ProjOutIdeal.Value.blocks7 m c t (flush_facts t).1) (ix2 r d)
  rw [View.read_apply, Cert.ProjOutIdeal.Value.flushed7] at e
  refine Eq.trans ?_ e
  unfold Res7
  refine congrArg ((dats m 0 c).arrAt 7 cfg0.N) (funext fun a => Fin.ext ?_)
  match a with
  | ⟨0, _⟩ => show 512 * t.val + r.val = win0_7.index t 0 * 512 + 1 * r.val; rw [h0]; omega
  | ⟨1, _⟩ => show d.val = win0_7.index t 1 * 2048 + 1 * d.val; rw [h1]; omega

/-- Result array 0, entry by entry. -/
theorem res7_apply (c : Dev nD) (ρ : Fin 16384) (d : Fin 2048) : Res7 m c (ix2 ρ d) = Out m c ρ d := by
  have hN : ρ.val / 512 < cfg0.N := lt_of_lt_of_eq (by omega : _ < 32) N_0.symm
  have e : ρ = ⟨512 * (⟨ρ.val / 512, hN⟩ : Fin cfg0.N).val + (⟨ρ.val % 512, by omega⟩ : Fin 512).val, by
      show 512 * (ρ.val / 512) + ρ.val % 512 < _; omega⟩ :=
    Fin.ext (by show ρ.val = 512 * (ρ.val / 512) + ρ.val % 512; omega)
  rw [e, flush7, out7_apply, oB_blk]

/-- Result array 1. -/
def Res8 (c : Dev nD) : Vec Ideal S2048x11264 .bf16 := (dats m 0 c).arrAt 8 cfg0.N

theorem flush8 (c : Dev nD) (t : Fin cfg0.N) (r : Fin 64) (d : Fin 11264) :
    Res8 m c (ix2 ⟨64 * t.val + r.val, by have := lt32 t; omega⟩ d)
      = out0_8 (iblk m c 0 t) (iblk m c 1 t) (iblk m c 2 t) (iblk m c 3 t) (iblk m c 4 t) (iblk m c 5 t) (iblk m c 6 t) (ix2 r d) := by
  obtain ⟨-, -, -, -, -, -, -, -, -, -, h0, h1, -⟩ := idx_facts' t
  have e := congrFun (Cert.ProjOutIdeal.Value.blocks8 m c t (flush_facts t).2.1) (ix2 r d)
  rw [View.read_apply, Cert.ProjOutIdeal.Value.flushed8] at e
  refine Eq.trans ?_ e
  unfold Res8
  refine congrArg ((dats m 0 c).arrAt 8 cfg0.N) (funext fun a => Fin.ext ?_)
  match a with
  | ⟨0, _⟩ => show 64 * t.val + r.val = win0_8.index t 0 * 64 + 1 * r.val; rw [h0]; omega
  | ⟨1, _⟩ => show d.val = win0_8.index t 1 * 11264 + 1 * d.val; rw [h1]; omega

/-- Result array 1, entry by entry. -/
theorem res8_apply (c : Dev nD) (ρ : Fin 2048) (d : Fin 11264) : Res8 m c (ix2 ρ d) = NextIn m c (ix4 0 1 ρ d) := by
  have hN : ρ.val / 64 < cfg0.N := lt_of_lt_of_eq (by omega : _ < 32) N_0.symm
  have e : ρ = ⟨64 * (⟨ρ.val / 64, hN⟩ : Fin cfg0.N).val + (⟨ρ.val % 64, by omega⟩ : Fin 64).val, by
      show 64 * (ρ.val / 64) + ρ.val % 64 < _; omega⟩ :=
    Fin.ext (by show ρ.val = 64 * (ρ.val / 64) + ρ.val % 64; omega)
  rw [e, flush8, out8_apply, iblk5_apply]

/-- Result array 2. -/
def Res9 (c : Dev nD) : Vec Ideal S5632x2048 .bf16 := (dats m 0 c).arrAt 9 cfg0.N

theorem flush9 (c : Dev nD) (t : Fin cfg0.N) (r : Fin 176) (d : Fin 2048) :
    Res9 m c (ix2 ⟨176 * t.val + r.val, by have := lt32 t; omega⟩ d)
      = out0_9 (iblk m c 0 t) (iblk m c 1 t) (iblk m c 2 t) (iblk m c 3 t) (iblk m c 4 t) (iblk m c 5 t) (iblk m c 6 t) (ix2 r d) := by
  obtain ⟨-, -, -, -, -, -, -, -, -, -, -, -, h0, h1⟩ := idx_facts' t
  have e := congrFun (Cert.ProjOutIdeal.Value.blocks9 m c t (flush_facts t).2.2) (ix2 r d)
  rw [View.read_apply, Cert.ProjOutIdeal.Value.flushed9] at e
  refine Eq.trans ?_ e
  unfold Res9
  refine congrArg ((dats m 0 c).arrAt 9 cfg0.N) (funext fun a => Fin.ext ?_)
  match a with
  | ⟨0, _⟩ => show 176 * t.val + r.val = win0_9.index t 0 * 176 + 1 * r.val; rw [h0]; omega
  | ⟨1, _⟩ => show d.val = win0_9.index t 1 * 2048 + 1 * d.val; rw [h1]; omega

/-- Result array 2, entry by entry. -/
theorem res9_apply (c : Dev nD) (ρ : Fin 5632) (d : Fin 2048) : Res9 m c (ix2 ρ d) = NextOut m c (ix4 0 1 ρ d) := by
  have hN : ρ.val / 176 < cfg0.N := lt_of_lt_of_eq (by omega : _ < 32) N_0.symm
  have e : ρ = ⟨176 * (⟨ρ.val / 176, hN⟩ : Fin cfg0.N).val + (⟨ρ.val % 176, by omega⟩ : Fin 176).val, by
      show 176 * (ρ.val / 176) + ρ.val % 176 < _; omega⟩ :=
    Fin.ext (by show ρ.val = 176 * (ρ.val / 176) + ρ.val % 176; omega)
  rw [e, flush9, out9_apply, iblk6_apply]

end Cert.ProjOutIdeal.Work

end
-- ==== Proof.ProjOutRef.lean ====
/-
  What the output projection's reference computes, entry by entry, over its nine arguments.
-/
module

public import proofs.«01_k».proof.Proof.Gen.ProjOutRefIdeal.Run
public import proofs.«01_k».proof.Proof.Gen.ProjOutRefIdeal.Read
public import Idealize.ShloMosaic.Lib.Pointwise

@[expose] public section

set_option maxRecDepth 16384

noncomputable section

namespace Cert.ProjOutRefIdeal.Work

open Cert.ProjOutRefIdeal Cert.ProjOutRefIdeal.Gen Cert.ProjOutRefIdeal.Read Idealize.ShloMosaic Idealize.ShloMosaic.TcCoe Idealize.SL.Sem

variable (x0 : Vec Ideal S16384x2048 .bf16) (x1 : Vec Ideal S2048x2048 .f32) (x2 : Vec Ideal S2048 .f32)
  (x3 : Vec Ideal S16384x2048 .f32) (x4 : Vec Ideal S9x2048 .f32) (x6 : Vec Ideal S2048 .f32)
  (x7 : Vec Ideal S4x2x2048x11264 .f32) (x8 : Vec Ideal S4x2x5632x2048 .f32)

/-- The projection with its bias. -/
theorem y_apply (ρ : Fin 16384) (d : Fin 2048) : val_main_v7 (F := Ideal) x0 x1 x2 (ix2 ρ d)
    = (∑ k, x0 (ix2 ρ k) * x1 (ix2 k d)) + x2 (ix1 d) := by
  unfold val_main_v7 val_main_v6 val_main_v5 val_main_v4
  pointwise [dot_S16384x2048_S2048x2048_S16384x2048_1_0_0_1_n_n]

/-- The first result. -/
theorem out_apply (ρ : Fin 16384) (d : Fin 2048) : val_main_v24 (F := Ideal) x0 x1 x2 x3 x4 x6 (ix2 ρ d)
    = x3 (ix2 ρ d) + Ideal.ofBits FTy.f32 1065353216#32 * x4 (ix2 5 d)
      * (val_main_v7 (F := Ideal) x0 x1 x2 (ix2 ρ d)
        * Ideal.rsqrt (Ideal.div (∑ x, val_main_v7 (F := Ideal) x0 x1 x2 (ix2 ρ x) * val_main_v7 (F := Ideal) x0 x1 x2 (ix2 ρ x))
          (Ideal.ofBits FTy.f32 1157627904#32) + Ideal.ofBits FTy.f32 897988541#32) * x6 (ix1 d)) := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v3 val_main_v2 val_main_v1 val_main_v0 val_main_cst val_main_cst_0 val_main_cst_1 val_main_cst_2
  generalize val_main_v7 (F := Ideal) x0 x1 x2 = y
  pointwise

/-- The cast up projection of the next layer. -/
theorem nextIn_apply (k : Fin 2048) (f : Fin 11264) : val_main_v27 (F := Ideal) x7 (ix2 k f) = x7 (ix4 0 1 k f) := by
  unfold val_main_v27 val_main_v26 val_main_v25
  pointwise

/-- The cast down projection of the next layer. -/
theorem nextOut_apply (f : Fin 5632) (d : Fin 2048) : val_main_v30 (F := Ideal) x8 (ix2 f d) = x8 (ix4 0 1 f d) := by
  unfold val_main_v30 val_main_v29 val_main_v28
  pointwise

end Cert.ProjOutRefIdeal.Work

end
-- ==== Proof.ProjOutEq.lean ====
/-
  The output projection and its reference leave the same arrays, over the extended reals.
-/
module

public import proofs.«01_k».proof.Defs
public import proofs.«01_k».proof.Proof.ProjOutArr
public import proofs.«01_k».proof.Proof.ProjOutRef
public import Idealize.ShloMosaic.Lib.Claim

@[expose] public section

set_option maxRecDepth 16384

noncomputable section

namespace Cert.ProjOutEq

open Idealize.ShloMosaic Idealize.ShloMosaic.TcCoe Idealize.SL.Sem
open Cert.ProjOutIdeal.Work

variable (m : (ℓ : Loc Cert.ProjOutIdeal.nD Cert.ProjOutIdeal.τ Cert.ProjOutIdeal.sig) → Buf (Elt Ideal) ℓ)

/-- The word of one denotes one. -/
theorem one_word : Ideal.ofBits FTy.f32 1065353216#32 = 1 := by
  simp [Ideal.ofBits, Ideal.ieee]
  rw [← EReal.coe_mul, ← EReal.coe_one]
  norm_num

/-- The first result: gate, norm gain and normalised row are multiplied in either order. -/
theorem out_eq (c : Dev Cert.ProjOutIdeal.nD) (ρ : Fin 16384) (d : Fin 2048) :
    Cert.ProjOutRefIdeal.Read.val_main_v24 (F := Ideal) (A m c) (W m c) (Bias m c) (H m c) (Mod m c) (Gpost m c) (ix2 ρ d) = Out m c ρ d := by
  rw [Cert.ProjOutRefIdeal.Work.out_apply, one_word, one_mul]
  simp only [Cert.ProjOutRefIdeal.Work.y_apply]
  unfold Out
  refine congrArg (_ + ·) ?_
  unfold normed
  exact mul_left_comm _ _ _

theorem out_arr (c : Dev Cert.ProjOutIdeal.nD) :
    Cert.ProjOutRefIdeal.Read.val_main_v24 (F := Ideal) (A m c) (W m c) (Bias m c) (H m c) (Mod m c) (Gpost m c) = Res7 m c := by
  refine funext fun i => ?_
  obtain ⟨ρ, d, rfl⟩ : ∃ (ρ : Fin 16384) (d : Fin 2048), i = ix2 ρ d := ⟨i 0, i 1, eq_ix2 i⟩
  exact (out_eq m c ρ d).trans (res7_apply m c ρ d).symm

/-- The cast up projection is the reference's. -/
theorem nextIn_arr (c : Dev Cert.ProjOutIdeal.nD) : Cert.ProjOutRefIdeal.Read.val_main_v27 (F := Ideal) (NextIn m c) = Res8 m c := by
  refine funext fun i => ?_
  obtain ⟨k, f, rfl⟩ : ∃ (k : Fin 2048) (f : Fin 11264), i = ix2 k f := ⟨i 0, i 1, eq_ix2 i⟩
  exact (Cert.ProjOutRefIdeal.Work.nextIn_apply _ k f).trans (res8_apply m c k f).symm

/-- The cast down projection is the reference's. -/
theorem nextOut_arr (c : Dev Cert.ProjOutIdeal.nD) : Cert.ProjOutRefIdeal.Read.val_main_v30 (F := Ideal) (NextOut m c) = Res9 m c := by
  refine funext fun i => ?_
  obtain ⟨f, d, rfl⟩ : ∃ (f : Fin 5632) (d : Fin 2048), i = ix2 f d := ⟨i 0, i 1, eq_ix2 i⟩
  exact (Cert.ProjOutRefIdeal.Work.nextOut_apply _ f d).trans (res9_apply m c f d).symm

/-- The claim: from agreeing arguments the kernel and the reference leave the same three results. -/
theorem algebraic : Cert.algebraic_ProjOutIdeal_ProjOutRefIdeal := by
  intro m g m' g' _ hagree
  refine ⟨fun c => Res7 m c, fun c => Res8 m c, fun c => Res9 m c, Cert.ProjOutIdeal.Value.run_blocks m g, ?_⟩
  refine θ_run_mono (Cert.ProjOutRefIdeal.Value.run m' g') fun r hr c => ?_
  obtain ⟨hres, hin, hout, hargs⟩ := hr c
  obtain ⟨a0, a1, a2, a3, a4, a5, a6, a7, a8⟩ := hagree c
  refine ⟨hres.trans ?_, hin.trans ?_, hout.trans ?_, hargs⟩
  · refine Eq.trans ?_ (out_arr m c)
    rw [Cert.ProjOutRefIdeal.Read.val_main_v24_eq, a0, a1, a2, a3, a4, a6]
  · refine Eq.trans ?_ (nextIn_arr m c)
    rw [Cert.ProjOutRefIdeal.Read.val_main_v27_eq, a7]
  · refine Eq.trans ?_ (nextOut_arr m c)
    rw [Cert.ProjOutRefIdeal.Read.val_main_v30_eq, a8]

end Cert.ProjOutEq

end
-- ==== Proof.FfnCtxFrames.lean ====
/-
  The frames of the three programs of one call.
-/
module

public import proofs.«01_k».proof.Defs
public import proofs.«01_k».proof.Proof.Gen.FfnCtx
public import proofs.«01_k».proof.Proof.Gen.FfnCtx.Frame
public import proofs.«01_k».proof.Proof.Gen.FfnCtxIdeal
public import proofs.«01_k».proof.Proof.Gen.FfnCtxIdeal.Frame
public import proofs.«01_k».proof.Proof.Gen.FfnCtxRefIdeal
public import proofs.«01_k».proof.Proof.Gen.FfnCtxRefIdeal.Run
public import Idealize.ShloMosaic.Adequacy
public import Idealize.ShloMosaic.Init

@[expose] public section

noncomputable section

namespace Cert.FramesFfnCtx

open Idealize.ShloMosaic Idealize.SL.Sem

theorem printed : Cert.quiescent_FfnCtx := fun m g _ => Cert.FfnCtx.Gen.frame m g

theorem ideal : Cert.quiescent_FfnCtxIdeal := fun m g _ => Cert.FfnCtxIdeal.Gen.frame m g

theorem ref : Cert.quiescent_FfnCtxRefIdeal := fun m g _ =>
  (θ_run Cert.FfnCtxRefIdeal.defs _ _).mono (fun r h => ⟨fun c => (h c).2, sem_eq_zero_of_no_sems (by decide) r.2⟩)
    (Cert.FfnCtxRefIdeal.Value.run (F := Ideal) m g)

end Cert.FramesFfnCtx

end
-- ==== Proof.FfnCtxPoint.lean ====
/-
  What one grid point of the context feed-forward call leaves in its two scratch arrays and in its output block, as the
  body's own arithmetic over whole blocks: the modulated rows (`uNew`), the accumulated down projection (`accNew`)
  and the residual output (`outNew`).
-/
module

public import proofs.«01_k».proof.Proof.Gen.FfnCtxIdeal.Value

@[expose] public section

set_option maxRecDepth 16384

noncomputable section

namespace Cert.FfnCtxIdeal.Work

open Cert.FfnCtxIdeal Cert.FfnCtxIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The modulated, normalised rows of a block `x0` under the packed vectors `x1`. -/
def uNew (x0 : Vec F S256x2048 .f32) (x1 : Vec F S8x2048 .f32) : Vec F S256x2048 .bf16 :=
  k0_pay4 (View.ld x1 (Rect.unit (s := S8x2048) ![3, 0] S1x2048.size inb_S8x2048_S1x2048_3_0))
    (View.ld x1 (Rect.unit (s := S8x2048) ![1, 0] S1x2048.size inb_S8x2048_S1x2048_1_0)) x0
    (View.ld x1 (Rect.unit (s := S8x2048) ![0, 0] S1x2048.size inb_S8x2048_S1x2048_0_0))

/-- The down projection's accumulator after step `j`, from the modulated rows `u`, the step's three weight blocks and
    the accumulator before. -/
def accNew (j : BitVec 32) (u : Vec F S256x2048 .bf16) (x2 x3 : Vec F S2048x512 .bf16) (x4 : Vec F S512x2048 .bf16)
    (acc : Vec F S256x2048 .f32) : Vec F S256x2048 .f32 :=
  k0_pay1 j
    (k0_pay5 u (View.ld x2 (Rect.unit (s := S2048x512) ![0, 0] S2048x256.size inb_S2048x512_S2048x256_0_0))
      (View.ld x3 (Rect.unit (s := S2048x512) ![0, 0] S2048x256.size inb_S2048x512_S2048x256_0_0))
      (View.ld x4 (Rect.unit (s := S512x2048) ![0, 0] S256x2048.size inb_S512x2048_S256x2048_0_0)))
    (k0_pay6 u (View.ld x2 (Rect.unit (s := S2048x512) ![0, 256] S2048x256.size inb_S2048x512_S2048x256_0_256))
      (View.ld x3 (Rect.unit (s := S2048x512) ![0, 256] S2048x256.size inb_S2048x512_S2048x256_0_256)))
    (View.ld x4 (Rect.unit (s := S512x2048) ![256, 0] S256x2048.size inb_S512x2048_S256x2048_256_0)) acc

/-- The output block: the residual rows plus the gated, normalised accumulator. -/
def outNew (x0 : Vec F S256x2048 .f32) (x1 : Vec F S8x2048 .f32) (acc : Vec F S256x2048 .f32) : Vec F S256x2048 .f32 :=
  k0_pay2 (View.ld x1 (Rect.unit (s := S8x2048) ![2, 0] S1x2048.size inb_S8x2048_S1x2048_2_0))
    (View.ld x1 (Rect.unit (s := S8x2048) ![4, 0] S1x2048.size inb_S8x2048_S1x2048_4_0)) x0 acc

section Cases

variable (c : Dev nD) (i : grid0.Coords) (arg2 : Memref sig .tc .vmem S256x2048 .f32) (harg2 : arg2.IsWhole)
  (arg3 : Memref sig .tc .vmem S8x2048 .f32) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x2048 .bf16) (harg6 : arg6.IsWhole)
  (arg7 : Memref sig .tc .vmem S256x2048 .f32) (harg7 : arg7.IsWhole) (arg8 : Memref sig .tc .vmem S256x2048 .bf16) (harg8 : arg8.IsWhole)
  (arg9 : Memref sig .tc .vmem S256x2048 .f32) (harg9 : arg9.IsWhole)
  (x0 : Vec F S256x2048 .f32) (x1 : Vec F S8x2048 .f32) (x2 : Vec F S2048x512 .bf16) (x3 : Vec F S2048x512 .bf16)
  (x4 : Vec F S512x2048 .bf16) (xs0 : Vec F S256x2048 .bf16) (xs1 : Vec F S256x2048 .f32)

/-- A middle step leaves the modulated rows as they were. -/
theorem sB0 (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 hc0 hc1 hc2 x0 x1 x2 x3 x4 xs0 xs1 = xs0 := rfl

/-- A middle step adds its chunk to the accumulator. -/
theorem sB1 (hc0 : ¬cond0_0 i) (hc1 : ¬cond0_1 i) (hc2 : ¬cond0_2 i) :
    sout0_B_1 c i arg2 harg2 arg3 harg3 arg4 harg4 arg5 harg5 arg6 harg6 arg7 harg7 arg8 harg8 arg9 harg9 hc0 hc1 hc2 x0 x1 x2 x3 x4 xs0 xs1
      = accNew (BitVec.ofNat 32 (i 1).val) xs0 x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 hc2 x0 x1 x2 x3 x4 xs0 xs1)]
  unfold kernelRun0_B
  dsimp only
  sl_unfold_words
  rw [View.canon_unit_zero (S := S256x2048) hz]
  simp only [View.readAt_eq_ld, harg2.read_unread, harg3.read_unread, harg4.read_unread, harg5.read_unread, harg6.read_unread, harg8.read_unread, harg9.read_unread, View.ld_unit_zero (S := S256x2048) hz]
  rfl

/-- The last step leaves the modulated rows as they were. -/
theorem sC0 (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 hc0 hc1 hc2 x0 x1 x2 x3 x4 xs0 xs1 = xs0 := rfl

/-- The last step adds its chunk to the accumulator. -/
theorem sC1 (hc0 : ¬cond0_0 i) (hc1 : ¬cond0_1 i) (hc2 : cond0_2 i) :
    sout0_C_1 c i arg2 harg2 arg3 harg3 arg4 harg4 arg5 harg5 arg6 harg6 arg7 harg7 arg8 harg8 arg9 harg9 hc0 hc1 hc2 x0 x1 x2 x3 x4 xs0 xs1
      = accNew (BitVec.ofNat 32 (i 1).val) xs0 x2 x3 x4 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 hc2 x0 x1 x2 x3 x4 xs0 xs1)]
  unfold kernelRun0_C
  dsimp only
  sl_unfold_words
  rw [View.canon_unit_zero (S := S256x2048) hz]
  simp only [View.readAt_eq_ld, harg2.read_unread, harg3.read_unread, harg4.read_unread, harg5.read_unread, harg6.read_unread, harg8.read_unread, harg9.read_unread, View.ld_unit_zero (S := S256x2048) hz]
  rfl

/-- The last step writes the output block from the accumulator it has just completed. -/
theorem oC5 (hc0 : ¬cond0_0 i) (hc1 : ¬cond0_1 i) (hc2 : cond0_2 i) :
    out0_C_5 c i arg2 harg2 arg3 harg3 arg4 harg4 arg5 harg5 arg6 harg6 arg7 harg7 arg8 harg8 arg9 harg9 hc0 hc1 hc2 x0 x1 x2 x3 x4 xs0 xs1
      = outNew x0 x1 (accNew (BitVec.ofNat 32 (i 1).val) xs0 x2 x3 x4 xs1) := by
  unfold out0_C_5
  rw [View.read_writes_eq_canon _ _ _ (cover0_C_5 c i arg2 harg2 arg3 harg3 arg4 harg4 arg5 harg5 arg6 harg6 arg7 harg7 arg8 harg8 arg9 harg9 hc0 hc1 hc2 x0 x1 x2 x3 x4 xs0 xs1)]
  unfold kernelRun0_C
  dsimp only
  sl_unfold_words
  rw [View.canon_unit_zero (S := S256x2048) hz]
  simp only [View.readAt_eq_ld, harg2.read_unread, harg3.read_unread, harg4.read_unread, harg5.read_unread, harg6.read_unread, harg8.read_unread, harg9.read_unread, View.ld_unit_zero (S := S256x2048) hz, View.readCov_unit_zero (S := S256x2048) _ hz]
  rfl

/-- The first point stores's modulated rows. -/
theorem sA0 (hc0 : cond0_0 i) (hc1 : cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4
      = uNew x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero (S := S256x2048) hz]
  simp only [View.readAt_eq_ld, harg2.read_unread, harg3.read_unread, View.ld_unit_zero (S := S256x2048) hz]
  rfl

/-- The first point: the accumulator from the zeros it has just stored. -/
theorem sA1 (hc0 : cond0_0 i) (hc1 : cond0_1 i) (hc2 : ¬cond0_2 i) :
    sout0_A_1 c i arg2 harg2 arg3 harg3 arg4 harg4 arg5 harg5 arg6 harg6 arg7 harg7 arg8 harg8 arg9 harg9 hc0 hc1 hc2 x0 x1 x2 x3 x4
      = accNew (BitVec.ofNat 32 (i 1).val) (uNew x0 x1) x2 x3 x4 k0_pay3 := by
  unfold sout0_A_1
  rw [View.read_writes_eq_canon _ _ _ (scover0_A_1 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S256x2048) hz]
  simp only [View.readAt_eq_ld, harg2.read_unread, harg3.read_unread, harg4.read_unread, harg5.read_unread, harg6.read_unread, harg8.read_unread, harg9.read_unread, View.ld_unit_zero (S := S256x2048) hz, View.readCov_unit_zero (S := S256x2048) _ hz]
  rfl

end Cases

end Cert.FfnCtxIdeal.Work

end
-- ==== Proof.FfnCtxBlocks.lean ====
/-
  What the context feed-forward call's input windows hold at each grid point, as entries of the arguments: the row block of
  `h`, the packed modulation vectors, and the three weight blocks of the step.
-/
module

public import proofs.«01_k».proof.Proof.FfnCtxPoint
public import Idealize.ShloMosaic.Lib.Pointwise
public import Idealize.ShloMosaic.Lib.StableHlo.ReadAt

@[expose] public section

set_option maxRecDepth 16384

noncomputable section

namespace Cert.FfnCtxIdeal.Work

open Cert.FfnCtxIdeal Cert.FfnCtxIdeal.Gen Idealize.ShloMosaic Idealize.ShloMosaic.TcCoe Idealize.SL.Sem

variable (m : (ℓ : Loc nD τ sig) → Buf (Elt Ideal) ℓ)

theorem lt11 (t : Fin cfg0.N) : t.val < 11 := lt_of_lt_of_eq t.isLt N_0

/-- The index maps at every point: the row block is `t / 11`, the step `t % 11`. -/
theorem idx_facts : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11 + 11
    ∧ win0_4.index t (0 : Fin 2) = t.val % 11 ∧ win0_4.index t (1 : Fin 2) = 0
    ∧ (grid0.coords t 1).val = t.val % 11 :=
  (by decide +kernel : ∀ t : Fin grid0.N, _)

/-- The six arguments, as arrays over their literal shapes. -/
abbrev H (c : Dev nD) : Vec Ideal S256x2048 .f32 := m ((c : Thread nD τ).loc main_arg0)
abbrev Mod (c : Dev nD) : Vec Ideal S9x2048 .f32 := m ((c : Thread nD τ).loc main_arg1)
abbrev Gpre (c : Dev nD) : Vec Ideal S2048 .f32 := m ((c : Thread nD τ).loc main_arg2)
abbrev Gpost (c : Dev nD) : Vec Ideal S2048 .f32 := m ((c : Thread nD τ).loc main_arg3)
abbrev Win (c : Dev nD) : Vec Ideal S2048x11264 .f32 := m ((c : Thread nD τ).loc main_arg4)
abbrev Wout (c : Dev nD) : Vec Ideal S5632x2048 .f32 := m ((c : Thread nD τ).loc main_arg5)

/-- The up projection's weights as the call reads them: the argument's, format changed. -/
theorem V_v0 (c : Dev nD) : V m c main_v0 = Win m c := by
  show StableHlo.after hostOps0 (fun b => m (c, b)) (Proc.devRef .tc main_v0) = _
  unfold hostOps0
  after_results
  rfl

/-- The down projection's weights as the call reads them: the argument's, format changed. -/
theorem V_v1 (c : Dev nD) : V m c main_v1 = Wout m c := by
  show StableHlo.after hostOps0 (fun b => m (c, b)) (Proc.devRef .tc main_v1) = _
  unfold hostOps0
  after_results
  rfl

/-- The packed vectors: shift, scale, gate, then the two norm gains. -/
theorem V_v17 (c : Dev nD) (d : Fin 2048) :
    (V m c main_v17 : Vec Ideal S8x2048 .f32) (ix2 0 d) = Mod m c (ix2 0 d)
    ∧ (V m c main_v17 : Vec Ideal S8x2048 .f32) (ix2 1 d) = Mod m c (ix2 1 d)
    ∧ (V m c main_v17 : Vec Ideal S8x2048 .f32) (ix2 2 d) = Mod m c (ix2 2 d)
    ∧ (V m c main_v17 : Vec Ideal S8x2048 .f32) (ix2 3 d) = Gpre m c (ix1 d)
    ∧ (V m c main_v17 : Vec Ideal S8x2048 .f32) (ix2 4 d) = Gpost m c (ix1 d) := by
  have e : V m c main_v17 = (StableHlo.after hostOps0 (fun b => m (c, b)) (Proc.devRef .tc main_v17)) := rfl
  rw [e]
  unfold hostOps0
  after_results
  refine ⟨?_, ?_, ?_, ?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

theorem iblk0_apply (c : Dev nD) (t : Fin cfg0.N) (r : Fin 256) (d : Fin 2048) :
    (iblk m c 0 t : Vec Ideal S256x2048 .f32) (ix2 r d)
      = H m c (ix2 ⟨256 * (t.val / 11) + r.val, by have := lt11 t; omega⟩ d) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = 256 * (t.val / 11) + r.val; rw [h0]; omega
  | ⟨1, _⟩ => show win0_0.index t 1 * 2048 + 1 * d.val = d.val; rw [h1]; omega

theorem iblk1_apply (c : Dev nD) (t : Fin cfg0.N) (k : Fin 8) (d : Fin 2048) :
    (iblk m c 1 t : Vec Ideal S8x2048 .f32) (ix2 k d) = (V m c main_v17 : Vec Ideal S8x2048 .f32) (ix2 k d) := by
  obtain ⟨-, -, h0, h1, -⟩ := idx_facts t
  unfold iblk
  rw [View.read_apply]
  show (V m c main_v17 : Vec Ideal S8x2048 .f32) _ = _
  refine congrArg (V m c main_v17 : Vec Ideal S8x2048 .f32) (funext fun a => Fin.ext ?_)
  match a with
  | ⟨0, _⟩ => show win0_1.index t 0 * 8 + 1 * k.val = k.val; rw [h0]; omega
  | ⟨1, _⟩ => show win0_1.index t 1 * 2048 + 1 * d.val = d.val; rw [h1]; omega

theorem iblk2_apply (c : Dev nD) (t : Fin cfg0.N) (k : Fin 2048) (f : Fin 512) :
    (iblk m c 2 t : Vec Ideal S2048x512 .bf16) (ix2 k f)
      = Win m c (ix2 k ⟨512 * (t.val % 11) + f.val, by have := lt11 t; omega⟩) := by
  obtain ⟨-, -, -, -, h0, h1, -⟩ := idx_facts t
  unfold iblk
  rw [View.read_apply]
  show (V m c main_v0 : Vec Ideal S2048x11264 .bf16) _ = _
  rw [V_v0]
  refine congrArg (Win m c) (funext fun a => Fin.ext ?_)
  match a with
  | ⟨0, _⟩ => show win0_2.index t 0 * 2048 + 1 * k.val = k.val; rw [h0]; omega
  | ⟨1, _⟩ => show win0_2.index t 1 * 512 + 1 * f.val = 512 * (t.val % 11) + f.val; rw [h1]; omega

theorem iblk3_apply (c : Dev nD) (t : Fin cfg0.N) (k : Fin 2048) (f : Fin 512) :
    (iblk m c 3 t : Vec Ideal S2048x512 .bf16) (ix2 k f)
      = Win m c (ix2 k ⟨5632 + (512 * (t.val % 11) + f.val), by have := lt11 t; omega⟩) := by
  obtain ⟨-, -, -, -, -, -, h0, h1, -⟩ := idx_facts t
  unfold iblk
  rw [View.read_apply]
  show (V m c main_v0 : Vec Ideal S2048x11264 .bf16) _ = _
  rw [V_v0]
  refine congrArg (Win m c) (funext fun a => Fin.ext ?_)
  match a with
  | ⟨0, _⟩ => show win0_3.index t 0 * 2048 + 1 * k.val = k.val; rw [h0]; omega
  | ⟨1, _⟩ => show win0_3.index t 1 * 512 + 1 * f.val = 5632 + (512 * (t.val % 11) + f.val); rw [h1]; omega

theorem iblk4_apply (c : Dev nD) (t : Fin cfg0.N) (f : Fin 512) (d : Fin 2048) :
    (iblk m c 4 t : Vec Ideal S512x2048 .bf16) (ix2 f d)
      = Wout m c (ix2 ⟨512 * (t.val % 11) + f.val, by have := lt11 t; omega⟩ d) := by
  obtain ⟨-, -, -, -, -, -, -, -, h0, h1, -⟩ := idx_facts t
  unfold iblk
  rw [View.read_apply]
  show (V m c main_v1 : Vec Ideal S5632x2048 .bf16) _ = _
  rw [V_v1]
  refine congrArg (Wout m c) (funext fun a => Fin.ext ?_)
  match a with
  | ⟨0, _⟩ => show win0_4.index t 0 * 512 + 1 * f.val = 512 * (t.val % 11) + f.val; rw [h0]; omega
  | ⟨1, _⟩ => show win0_4.index t 1 * 2048 + 1 * d.val = d.val; rw [h1]; omega

end Cert.FfnCtxIdeal.Work

end
-- ==== Proof.FfnCtxIdx.lean ====
/-
  The context feed-forward body's block terms read at an index, over the extended reals: a row's normalised and modulated
  entries, one step of the accumulated down projection, and an output entry.
-/
module

public import proofs.«01_k».proof.Proof.FfnCtxPoint
public import Idealize.ShloMosaic.Lib.Pointwise

@[expose] public section

set_option maxRecDepth 16384

noncomputable section

namespace Cert.FfnCtxIdeal.Work

open Cert.FfnCtxIdeal Cert.FfnCtxIdeal.Gen Idealize.ShloMosaic Idealize.ShloMosaic.TcCoe Idealize.SL.Sem

/-- An entry of the modulated rows: the row's entry over its root mean square, gained, scaled and shifted. -/
theorem uNew_apply (x0 : Vec Ideal S256x2048 .f32) (x1 : Vec Ideal S8x2048 .f32) (r : Fin 256) (d : Fin 2048) :
    uNew x0 x1 (ix2 r d)
      = x0 (ix2 r d) * Ideal.rsqrt (Ideal.div (∑ x, x0 (ix2 r x) * x0 (ix2 r x)) (Ideal.ofBits FTy.f32 1157627904#32)
          + Ideal.ofBits FTy.f32 897988541#32) * (x1 (ix2 3 d) * (1 + x1 (ix2 1 d))) + x1 (ix2 0 d) := by
  unfold uNew
  unfold_payloads
  simp only [shapeCast_self]
  pointwise

/-- An output entry: the residual entry plus the accumulator's over its row's root mean square, gated and gained. -/
theorem outNew_apply (x0 : Vec Ideal S256x2048 .f32) (x1 : Vec Ideal S8x2048 .f32) (acc : Vec Ideal S256x2048 .f32)
    (r : Fin 256) (d : Fin 2048) :
    outNew x0 x1 acc (ix2 r d)
      = x0 (ix2 r d) + acc (ix2 r d) * Ideal.rsqrt (Ideal.div (∑ x, acc (ix2 r x) * acc (ix2 r x))
          (Ideal.ofBits FTy.f32 1157627904#32) + Ideal.ofBits FTy.f32 897988541#32)
          * (Ideal.ofBits FTy.f32 1056964608#32 * x1 (ix2 2 d) * x1 (ix2 4 d)) := by
  unfold outNew
  unfold_payloads
  simp only [shapeCast_self]
  pointwise

/-- The gated activation of row `r` at the step's column `f`. -/
def gateUp (u : Vec Ideal S256x2048 .bf16) (x2 x3 : Vec Ideal S2048x512 .bf16) (r : Fin 256) (f : Fin 512) : EReal :=
  ((∑ k : Fin 2048, u (ix2 r k) * x2 (ix2 k f)) * Ideal.logistic (∑ k : Fin 2048, u (ix2 r k) * x2 (ix2 k f)))
    * ∑ k : Fin 2048, u (ix2 r k) * x3 (ix2 k f)

/-- An entry of the accumulator after a step: what was there (nothing at the first step) plus the step's two halves. -/
theorem accNew_apply (j : BitVec 32) (u : Vec Ideal S256x2048 .bf16) (x2 x3 : Vec Ideal S2048x512 .bf16)
    (x4 : Vec Ideal S512x2048 .bf16) (acc : Vec Ideal S256x2048 .f32) (r : Fin 256) (d : Fin 2048) :
    accNew j u x2 x3 x4 acc (ix2 r d)
      = Scalar.select (Scalar.cmpi CmpIPredicate.sgt j 0#32) (acc (ix2 r d)) 0
        + (∑ x : Fin 256, gateUp u x2 x3 r ⟨x.val, by omega⟩ * x4 (ix2 ⟨x.val, by omega⟩ d))
        + ∑ x : Fin 256, gateUp u x2 x3 r ⟨256 + x.val, by omega⟩ * x4 (ix2 ⟨256 + x.val, by omega⟩ d) := by
  unfold accNew
  unfold_payloads
  simp only [shapeCast_self]
  pointwise [dot_S256x2048_S2048x256_S256x256_1_0_0_1_n_n, dot_S256x256_S256x2048_S256x2048_1_0_0_1_n_n]
  exact (add_assoc _ _ _).symm

end Cert.FfnCtxIdeal.Work

end
-- ==== Proof.FfnCtxAcc.lean ====
/-
  What the context feed-forward call's result array holds, entry by entry: the residual row plus the gated, normalised
  down projection of the whole hidden row. The accumulator's value after each step is proved by induction over the
  grid points, as the sum over the hidden columns seen so far.
-/
module

public import proofs.«01_k».proof.Proof.FfnCtxBlocks
public import proofs.«01_k».proof.Proof.FfnCtxIdx

@[expose] public section

set_option maxRecDepth 16384

noncomputable section

namespace Cert.FfnCtxIdeal.Work

open Cert.FfnCtxIdeal Cert.FfnCtxIdeal.Gen Cert.FfnCtxIdeal.Value Idealize.ShloMosaic Idealize.ShloMosaic.TcCoe Idealize.SL.Sem

variable (m : (ℓ : Loc nD τ sig) → Buf (Elt Ideal) ℓ)

/-- The modulated, normalised row of `h`. -/
def U (c : Dev nD) (ρ : Fin 256) (k : Fin 2048) : EReal :=
  H m c (ix2 ρ k) * Ideal.rsqrt (Ideal.div (∑ x, H m c (ix2 ρ x) * H m c (ix2 ρ x)) (Ideal.ofBits FTy.f32 1157627904#32)
    + Ideal.ofBits FTy.f32 897988541#32) * (Gpre m c (ix1 k) * (1 + Mod m c (ix2 1 k))) + Mod m c (ix2 0 k)

/-- The gated hidden activation at column `f`. -/
def Act (c : Dev nD) (ρ : Fin 256) (f : Fin 5632) : EReal :=
  ((∑ k : Fin 2048, U m c ρ k * Win m c (ix2 k ⟨f.val, by omega⟩))
    * Ideal.logistic (∑ k : Fin 2048, U m c ρ k * Win m c (ix2 k ⟨f.val, by omega⟩)))
    * ∑ k : Fin 2048, U m c ρ k * Win m c (ix2 k ⟨5632 + f.val, by omega⟩)

/-- The term of hidden column `n` in the down projection's entry. -/
def term (c : Dev nD) (ρ : Fin 256) (d : Fin 2048) (n : ℕ) : EReal :=
  if h : n < 5632 then Act m c ρ ⟨n, h⟩ * Wout m c (ix2 ⟨n, h⟩ d) else 0

/-- The first `n` hidden columns' part of the down projection's entry. -/
def part (c : Dev nD) (ρ : Fin 256) (d : Fin 2048) (n : ℕ) : EReal := ∑ f ∈ Finset.range n, term m c ρ d f

/-- The down projection. -/
def Y (c : Dev nD) (ρ : Fin 256) (d : Fin 2048) : EReal := ∑ f : Fin 5632, Act m c ρ f * Wout m c (ix2 f d)

theorem part_all (c : Dev nD) (ρ : Fin 256) (d : Fin 2048) : part m c ρ d 5632 = Y m c ρ d := by
  unfold part Y
  rw [Finset.sum_range]
  exact Finset.sum_congr rfl fun f _ => dif_pos f.isLt

/-- The row of `h` that a point's block row `r` is. -/
abbrev row (t : Fin cfg0.N) (r : Fin 256) : Fin 256 := ⟨256 * (t.val / 11) + r.val, by have := lt11 t; omega⟩

/-- The rows a point modulates. -/
theorem uNew_blk (c : Dev nD) (t : Fin cfg0.N) (r : Fin 256) (k : Fin 2048) :
    uNew (iblk m c 0 t) (iblk m c 1 t) (ix2 r k) = U m c (row t r) k := by
  obtain ⟨e0, e1, e2, e3, e4⟩ := V_v17 m c k
  rw [uNew_apply]
  simp only [iblk0_apply, iblk1_apply, e0, e1, e3]
  rfl

/-- A select on "the step is not the first". -/
theorem select_step {α : Type} (j : ℕ) (hj : j < 11) (a b : α) :
    Scalar.select (Scalar.cmpi CmpIPredicate.sgt (BitVec.ofNat 32 j) 0#32) a b = if j = 0 then b else a := by
  interval_cases j <;> rfl

/-- One step carries the accumulator from the columns before it to the columns up to its end. -/
theorem accNew_blk (c : Dev nD) (t : Fin cfg0.N) (u : Vec Ideal S256x2048 .bf16) (acc : Vec Ideal S256x2048 .f32)
    (r : Fin 256) (d : Fin 2048) (hu : ∀ k, u (ix2 r k) = U m c (row t r) k)
    (hacc : t.val % 11 ≠ 0 → acc (ix2 r d) = part m c (row t r) d (512 * (t.val % 11))) :
    accNew (BitVec.ofNat 32 (grid0.coords t 1).val) u (iblk m c 2 t) (iblk m c 3 t) (iblk m c 4 t) acc (ix2 r d)
      = part m c (row t r) d (512 * (t.val % 11 + 1)) := by
  have ht := lt11 t
  have hg : ∀ (n : ℕ) (hn : n < 512), gateUp u (iblk m c 2 t) (iblk m c 3 t) r ⟨n, hn⟩ * (iblk m c 4 t : Vec Ideal S512x2048 .bf16) (ix2 ⟨n, hn⟩ d)
      = term m c (row t r) d (512 * (t.val % 11) + n) := by
    intro n hn
    unfold gateUp term
    rw [dif_pos (by omega)]
    simp only [iblk2_apply, iblk3_apply, iblk4_apply, hu]
    rfl
  obtain ⟨-, -, -, -, -, -, -, -, -, -, hj⟩ := idx_facts t
  rw [accNew_apply, hj, select_step _ (Nat.mod_lt _ (by omega))]
  simp only [hg]
  have e0 : (if t.val % 11 = 0 then (0 : EReal) else acc (ix2 r d)) = part m c (row t r) d (512 * (t.val % 11)) := by
    split
    · next h => rw [h]; rfl
    · next h => exact hacc h
  rw [e0]
  unfold part
  rw [show 512 * (t.val % 11 + 1) = 512 * (t.val % 11) + 256 + 256 by omega, Finset.sum_range_add, Finset.sum_range_add,
    Finset.sum_range (n := 256), Finset.sum_range (n := 256)]
  simp only [Nat.add_assoc]

/-- What a point's two scratch arrays hold after it. -/
def Inv (c : Dev nD) (t : Fin cfg0.N) (s : Vec Ideal S256x2048 .f32 × Vec Ideal S256x2048 .bf16 × Vec Ideal S256x2048 .f32) : Prop :=
  (∀ r k, s.2.1 (ix2 r k) = U m c (row t r) k)
  ∧ ∀ r d, s.2.2 (ix2 r d) = part m c (row t r) d (512 * (t.val % 11 + 1))

/-- The first point of a row block: whatever was there before. -/
theorem inv_first (c : Dev nD) (t : Fin cfg0.N) (acc) (h1 : t.val % 11 = 0) : Inv m c t (stAt0 m c t.val t.isLt acc) := by
  rw [stAt0_A m c t acc h1 h1 (by omega)]
  unfold Inv
  dsimp only
  rw [sA0, sA1]
  exact ⟨fun r k => uNew_blk m c t r k, fun r d => accNew_blk m c t _ _ r d (fun k => uNew_blk m c t r k) (fun h => absurd h1 h)⟩

/-- A later point of a row block, over the point before. -/
theorem inv_next (c : Dev nD) (t t' : Fin cfg0.N) (htt : t.val = t'.val + 1) (acc) (h1 : t.val % 11 ≠ 0) (ih : Inv m c t' acc) :
    Inv m c t (stAt0 m c t.val t.isLt acc) := by
  have ht := lt11 t
  have hr : ∀ r, row t r = row t' r := fun r => Fin.ext (by show 256 * (t.val / 11) + r.val = 256 * (t'.val / 11) + r.val; omega)
  have hm : 512 * (t'.val % 11 + 1) = 512 * (t.val % 11) := by omega
  have hu : ∀ r k, acc.2.1 (ix2 r k) = U m c (row t r) k := fun r k => by rw [hr]; exact ih.1 r k
  have ha : ∀ r d, acc.2.2 (ix2 r d) = part m c (row t r) d (512 * (t.val % 11)) := fun r d => by rw [hr, ← hm]; exact ih.2 r d
  by_cases h2 : t.val % 11 = 10
  · rw [stAt0_C m c t acc (by omega) h1 h2]
    unfold Inv
    dsimp only
    rw [sC0, sC1]
    exact ⟨hu, fun r d => accNew_blk m c t _ _ r d (hu r) (fun _ => ha r d)⟩
  · rw [stAt0_B m c t acc (by omega) h1 h2]
    unfold Inv
    dsimp only
    rw [sB0, sB1]
    exact ⟨hu, fun r d => accNew_blk m c t _ _ r d (hu r) (fun _ => ha r d)⟩

/-- The scratch arrays after every point. -/
theorem inv_all (c : Dev nD) : ∀ (n : ℕ) (hn : n < cfg0.N), Inv m c ⟨n, hn⟩ (outsAt0 m c n hn)
  | 0, hn => by
    rw [outsAt0_zero]
    exact inv_first m c ⟨0, hn⟩ _ (Nat.zero_mod _)
  | n + 1, hn => by
    rw [outsAt0_succ]
    by_cases h1 : (n + 1) % 11 = 0
    · exact inv_first m c ⟨n + 1, hn⟩ _ h1
    · exact inv_next m c ⟨n + 1, hn⟩ ⟨n, Nat.lt_of_succ_lt hn⟩ rfl _ h1 (inv_all c n _)

/-- An output entry as the call computes it. -/
def Out (c : Dev nD) (ρ : Fin 256) (d : Fin 2048) : EReal :=
  H m c (ix2 ρ d) + Y m c ρ d * Ideal.rsqrt (Ideal.div (∑ x, Y m c ρ x * Y m c ρ x) (Ideal.ofBits FTy.f32 1157627904#32)
    + Ideal.ofBits FTy.f32 897988541#32) * (Ideal.ofBits FTy.f32 1056964608#32 * Mod m c (ix2 2 d) * Gpost m c (ix1 d))

/-- The output block that the last point of a row block leaves. -/
theorem out_last (c : Dev nD) (t : Fin cfg0.N) (h2 : t.val % 11 = 10) (r : Fin 256) (d : Fin 2048) :
    (outsAt0 m c t.val t.isLt).1 (ix2 r d) = Out m c (row t r) d := by
  have ht := lt11 t
  obtain ⟨n, hn⟩ : ∃ n, t.val = n + 1 := ⟨t.val - 1, by omega⟩
  have hinv := inv_all m c t.val t.isLt
  obtain ⟨e0, e1, e2, e3, e4⟩ := V_v17 m c d
  have hC := outsAt0_C m c t (by omega) (by omega) h2
  rw [hC] at hinv ⊢
  unfold Inv at hinv
  dsimp only at hinv ⊢
  rw [oC5, outNew_apply]
  rw [sC1] at hinv
  have hy : ∀ x, accNew _ _ _ _ _ _ (ix2 r x) = Y m c (row t r) x := fun x =>
    (hinv.2 r x).trans (by rw [← part_all]; show part m c (row t r) x (512 * (t.val % 11 + 1)) = _; rw [h2])
  simp only [iblk0_apply, iblk1_apply, e2, e4]
  simp only [hy]
  rfl

/-- The result array, entry by entry. -/
theorem G5_apply (c : Dev nD) (ρ : Fin 256) (d : Fin 2048) :
    (G5 m c : Vec Ideal S256x2048 .f32) (ix2 ρ d) = Out m c ρ d := by
  have hp : pt5Of (ix2 ρ d) = 11 * (ρ.val / 256) + 10 := by
    show 11 * (1 * (ρ.val / 256 - 0) + 1 * (d.val / 2048 - 0)) + 10 = _
    omega
  have hlt : pt5Of (ix2 ρ d) < cfg0.N := by rw [hp, show cfg0.N = 11 from N_0]; omega
  unfold G5
  rw [dif_pos hlt, ← outsAt0_sweep m c (pt5Of (ix2 ρ d)) hlt]
  have hl : loc5Of (ix2 ρ d) = ix2 (⟨ρ.val % 256, by omega⟩ : Fin 256) d := by
    funext a
    match a with
    | ⟨0, _⟩ => rfl
    | ⟨1, _⟩ => exact Fin.ext (show d.val % 2048 = d.val by omega)
  rw [hl]
  refine (out_last m c ⟨pt5Of (ix2 ρ d), hlt⟩ (by show pt5Of (ix2 ρ d) % 11 = 10; omega) _ d).trans ?_
  refine congrArg (fun x => Out m c x d) (Fin.ext ?_)
  show 256 * (pt5Of (ix2 ρ d) / 11) + ρ.val % 256 = ρ.val
  omega

end Cert.FfnCtxIdeal.Work

end
-- ==== Proof.FfnCtxRef.lean ====
/-
  What the context feed-forward reference computes, entry by entry, over its six arguments.
-/
module

public import proofs.«01_k».proof.Proof.Gen.FfnCtxRefIdeal.Run
public import proofs.«01_k».proof.Proof.Gen.FfnCtxRefIdeal.Read
public import Idealize.ShloMosaic.Lib.Pointwise

@[expose] public section

set_option maxRecDepth 16384

noncomputable section

namespace Cert.FfnCtxRefIdeal.Work

open Cert.FfnCtxRefIdeal Cert.FfnCtxRefIdeal.Gen Cert.FfnCtxRefIdeal.Read Idealize.ShloMosaic Idealize.ShloMosaic.TcCoe Idealize.SL.Sem

variable (x0 : Vec Ideal S256x2048 .f32) (x1 : Vec Ideal S9x2048 .f32) (x2 x3 : Vec Ideal S2048 .f32)
  (x4 : Vec Ideal S2048x11264 .f32) (x5 : Vec Ideal S5632x2048 .f32)

/-- The modulated rows. -/
theorem u_apply (ρ : Fin 256) (k : Fin 2048) : val_main_v24 (F := Ideal) x0 x1 x2 (ix2 ρ k)
    = x0 (ix2 ρ k) * Ideal.rsqrt (Ideal.div (∑ x, x0 (ix2 ρ x) * x0 (ix2 ρ x)) (Ideal.ofBits FTy.f32 1157627904#32)
      + Ideal.ofBits FTy.f32 897988541#32) * x2 (ix1 k) * (1 + x1 (ix2 1 k)) + x1 (ix2 0 k) := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

/-- The up projection. -/
theorem up_apply (ρ : Fin 256) (n : Fin 11264) : val_main_v25 (F := Ideal) x0 x1 x2 x4 (ix2 ρ n)
    = ∑ k, val_main_v24 (F := Ideal) x0 x1 x2 (ix2 ρ k) * x4 (ix2 k n) := by
  unfold val_main_v25
  generalize val_main_v24 (F := Ideal) x0 x1 x2 = y
  pointwise [dot_S256x2048_S2048x11264_S256x11264_1_0_0_1_n_n]

/-- The gated activation. -/
theorem act_apply (ρ : Fin 256) (f : Fin 5632) : val_main_v29 (F := Ideal) x0 x1 x2 x4 (ix2 ρ f)
    = val_main_v25 (F := Ideal) x0 x1 x2 x4 (ix2 ρ ⟨f.val, by omega⟩)
        * Ideal.logistic (val_main_v25 (F := Ideal) x0 x1 x2 x4 (ix2 ρ ⟨f.val, by omega⟩))
      * val_main_v25 (F := Ideal) x0 x1 x2 x4 (ix2 ρ ⟨5632 + f.val, by omega⟩) := by
  unfold val_main_v29 val_main_v28 val_main_call0_v5 val_main_call0_v4 val_main_call0_v3 val_main_call0_v2 val_main_call0_v1 val_main_call0_v0 val_main_call0_cst val_main_call0_cst_0 val_main_v26 val_main_v27
  generalize val_main_v25 (F := Ideal) x0 x1 x2 x4 = y
  pointwise
  rfl

/-- The down projection. -/
theorem down_apply (ρ : Fin 256) (d : Fin 2048) : val_main_v30 (F := Ideal) x0 x1 x2 x4 x5 (ix2 ρ d)
    = ∑ f, val_main_v29 (F := Ideal) x0 x1 x2 x4 (ix2 ρ f) * x5 (ix2 f d) := by
  unfold val_main_v30
  generalize val_main_v29 (F := Ideal) x0 x1 x2 x4 = y
  pointwise [dot_S256x5632_S5632x2048_S256x2048_1_0_0_1_n_n]

/-- The result. -/
theorem out_apply (ρ : Fin 256) (d : Fin 2048) : val_main_v51 (F := Ideal) x0 x1 x2 x3 x4 x5 (ix2 ρ d)
    = x0 (ix2 ρ d) + Ideal.ofBits FTy.f32 1056964608#32 * x1 (ix2 2 d)
      * (val_main_v30 (F := Ideal) x0 x1 x2 x4 x5 (ix2 ρ d)
        * Ideal.rsqrt (Ideal.div (∑ x, val_main_v30 (F := Ideal) x0 x1 x2 x4 x5 (ix2 ρ x) * val_main_v30 (F := Ideal) x0 x1 x2 x4 x5 (ix2 ρ x))
          (Ideal.ofBits FTy.f32 1157627904#32) + Ideal.ofBits FTy.f32 897988541#32) * x3 (ix1 d)) := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_cst_3 val_main_cst_4 val_main_cst_5 val_main_cst_6
  generalize val_main_v30 (F := Ideal) x0 x1 x2 x4 x5 = y
  pointwise

end Cert.FfnCtxRefIdeal.Work

end
-- ==== Proof.FfnCtxEq.lean ====
/-
  The context feed-forward call and its reference leave the same array, over the extended reals.
-/
module

public import proofs.«01_k».proof.Defs
public import proofs.«01_k».proof.Proof.FfnCtxAcc
public import proofs.«01_k».proof.Proof.FfnCtxRef
public import Idealize.ShloMosaic.Lib.Claim

@[expose] public section

set_option maxRecDepth 16384

noncomputable section

namespace Cert.FfnCtxEq

open Idealize.ShloMosaic Idealize.ShloMosaic.TcCoe Idealize.SL.Sem
open Cert.FfnCtxIdeal.Work

variable (m : (ℓ : Loc Cert.FfnCtxIdeal.nD Cert.FfnCtxIdeal.τ Cert.FfnCtxIdeal.sig) → Buf (Elt Ideal) ℓ)

/-- The modulated rows of the two programs are the same: the gain and the scale are multiplied in either order. -/
theorem u_eq (c : Dev Cert.FfnCtxIdeal.nD) (ρ : Fin 256) (k : Fin 2048) :
    Cert.FfnCtxRefIdeal.Read.val_main_v24 (F := Ideal) (H m c) (Mod m c) (Gpre m c) (ix2 ρ k) = U m c ρ k := by
  rw [Cert.FfnCtxRefIdeal.Work.u_apply]
  unfold U
  rw [mul_assoc (_ * _)]

/-- So are the gated activations. -/
theorem act_eq (c : Dev Cert.FfnCtxIdeal.nD) (ρ : Fin 256) (f : Fin 5632) :
    Cert.FfnCtxRefIdeal.Read.val_main_v29 (F := Ideal) (H m c) (Mod m c) (Gpre m c) (Win m c) (ix2 ρ f) = Act m c ρ f := by
  rw [Cert.FfnCtxRefIdeal.Work.act_apply]
  simp only [Cert.FfnCtxRefIdeal.Work.up_apply, u_eq]
  rfl

/-- So are the down projections. -/
theorem down_eq (c : Dev Cert.FfnCtxIdeal.nD) (ρ : Fin 256) (d : Fin 2048) :
    Cert.FfnCtxRefIdeal.Read.val_main_v30 (F := Ideal) (H m c) (Mod m c) (Gpre m c) (Win m c) (Wout m c) (ix2 ρ d) = Y m c ρ d := by
  rw [Cert.FfnCtxRefIdeal.Work.down_apply]
  simp only [act_eq]
  rfl

/-- So are the results. -/
theorem out_eq (c : Dev Cert.FfnCtxIdeal.nD) (ρ : Fin 256) (d : Fin 2048) :
    Cert.FfnCtxRefIdeal.Read.val_main_v51 (F := Ideal) (H m c) (Mod m c) (Gpre m c) (Gpost m c) (Win m c) (Wout m c) (ix2 ρ d) = Out m c ρ d := by
  rw [Cert.FfnCtxRefIdeal.Work.out_apply]
  simp only [down_eq]
  unfold Out
  refine congrArg (_ + ·) ?_
  exact mul_left_comm _ _ _

/-- The kernel's array is the reference's. -/
theorem array_eq (c : Dev Cert.FfnCtxIdeal.nD) :
    Cert.FfnCtxRefIdeal.Read.val_main_v51 (F := Ideal) (H m c) (Mod m c) (Gpre m c) (Gpost m c) (Win m c) (Wout m c)
      = Cert.FfnCtxIdeal.Value.G5 m c := by
  refine funext fun i => ?_
  obtain ⟨ρ, d, rfl⟩ : ∃ (ρ : Fin 256) (d : Fin 2048), i = ix2 ρ d := ⟨i 0, i 1, eq_ix2 i⟩
  exact (out_eq m c ρ d).trans (G5_apply m c ρ d).symm

/-- The claim: from agreeing arguments the kernel and the reference leave one result. -/
theorem algebraic : Cert.algebraic_FfnCtxIdeal_FfnCtxRefIdeal := by
  intro m g m' g' _ hagree
  refine ⟨fun c => Cert.FfnCtxIdeal.Value.G5 m c, Cert.FfnCtxIdeal.Value.run m g, ?_⟩
  refine θ_run_mono (Cert.FfnCtxRefIdeal.Value.run m' g') fun r hr c => ?_
  obtain ⟨hres, hargs⟩ := hr c
  refine ⟨hres.trans ?_, hargs⟩
  obtain ⟨a0, a1, a2, a3, a4, a5⟩ := hagree c
  refine Eq.trans ?_ (array_eq m c)
  rw [Cert.FfnCtxRefIdeal.Read.val_main_v51_eq m' c, a0, a1, a2, a3, a4, a5]

end Cert.FfnCtxEq

end
-- ==== Proof.KvInFrames.lean ====
/-
  The frames of the three programs of one call.
-/
module

public import proofs.«01_k».proof.Defs
public import proofs.«01_k».proof.Proof.Gen.KvIn
public import proofs.«01_k».proof.Proof.Gen.KvIn.Frame
public import proofs.«01_k».proof.Proof.Gen.KvInIdeal
public import proofs.«01_k».proof.Proof.Gen.KvInIdeal.Frame
public import proofs.«01_k».proof.Proof.Gen.KvInRefIdeal
public import proofs.«01_k».proof.Proof.Gen.KvInRefIdeal.Run
public import Idealize.ShloMosaic.Adequacy
public import Idealize.ShloMosaic.Init

@[expose] public section

noncomputable section

namespace Cert.FramesKvIn

open Idealize.ShloMosaic Idealize.SL.Sem

theorem printed : Cert.quiescent_KvIn := fun m g _ => Cert.KvIn.Gen.frame m g

theorem ideal : Cert.quiescent_KvInIdeal := fun m g _ => Cert.KvInIdeal.Gen.frame m g

theorem ref : Cert.quiescent_KvInRefIdeal := fun m g _ =>
  (θ_run Cert.KvInRefIdeal.defs _ _).mono (fun r h => ⟨fun c => (h c).2, sem_eq_zero_of_no_sems (by decide) r.2⟩)
    (Cert.KvInRefIdeal.Value.run (F := Ideal) m g)

end Cert.FramesKvIn

end
-- ==== Proof.KvInPoint.lean ====
/-
  What one grid point of the context's input projection leaves in its scratch array and in its output block: the modulated
  rows of the context (`uNew`), and their product with a block of weights, with its bias.
-/
module

public import proofs.«01_k».proof.Proof.Gen.KvInIdeal.Value
public import Idealize.ShloMosaic.Lib.Pointwise

@[expose] public section

set_option maxRecDepth 16384

noncomputable section

namespace Cert.KvInIdeal.Work

open Cert.KvInIdeal Cert.KvInIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The modulated, normalised rows of a block `x0` under the packed vectors `x1`. -/
def uNew (x0 : Vec F S256x2048 .f32) (x1 : Vec F S8x2048 .f32) : Vec F S256x2048 .bf16 :=
  k0_pay1 (View.ld x1 (Rect.unit (s := S8x2048) ![3, 0] S1x2048.size inb_S8x2048_S1x2048_3_0))
    (View.ld x1 (Rect.unit (s := S8x2048) ![1, 0] S1x2048.size inb_S8x2048_S1x2048_1_0)) x0
    (View.ld x1 (Rect.unit (s := S8x2048) ![0, 0] S1x2048.size inb_S8x2048_S1x2048_0_0))

section Cases

variable (c : Dev nD) (i : grid0.Coords)
  (arg2 : Memref sig .tc .vmem S256x2048 .f32) (harg2 : arg2.IsWhole)
  (arg3 : Memref sig .tc .vmem S8x2048 .f32) (harg3 : arg3.IsWhole)
  (arg4 : Memref sig .tc .vmem S2048x512 .bf16) (harg4 : arg4.IsWhole)
  (arg5 : Memref sig .tc .vmem S1x512 .f32) (harg5 : arg5.IsWhole)
  (arg6 : Memref sig .tc .vmem S256x512 .bf16) (harg6 : arg6.IsWhole)
  (arg7 : Memref sig .tc .vmem S256x2048 .bf16) (harg7 : arg7.IsWhole)
  (x0 : Vec F S256x2048 .f32) (x1 : Vec F S8x2048 .f32) (x2 : Vec F S2048x512 .bf16) (x3 : Vec F S1x512 .f32)
  (xs0 : Vec F S256x2048 .bf16)

/-- The later point leaves the modulated rows as they were. -/
theorem sB0 (hc0 : ¬cond0_0 i) : sout0_B_0 c i arg2 harg2 arg3 harg3 arg4 harg4 arg5 harg5 arg6 harg6 arg7 harg7 hc0 x0 x1 x2 x3 xs0 = xs0 := rfl

/-- The first point stores the modulated rows. -/
theorem sA0 (hc0 : cond0_0 i) : sout0_A_0 c i arg2 harg2 arg3 harg3 arg4 harg4 arg5 harg5 arg6 harg6 arg7 harg7 hc0 x0 x1 x2 x3 = uNew x0 x1 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero (S := S256x2048) hz]
  simp only [View.readAt_eq_ld, harg2.read_unread, harg3.read_unread, harg4.read_unread, harg5.read_unread, harg7.read_unread, View.ld_unit_zero (S := S256x2048) hz, View.ld_unit_zero (S := S2048x512) hz, View.ld_unit_zero (S := S1x512) hz, View.readCov_unit_zero (S := S256x2048) _ hz]
  rfl

/-- The later point writes its output block from the rows kept. -/
theorem oB4 (hc0 : ¬cond0_0 i) : out0_B_4 c i arg2 harg2 arg3 harg3 arg4 harg4 arg5 harg5 arg6 harg6 arg7 harg7 hc0 x0 x1 x2 x3 xs0 = k0_pay2 xs0 x2 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S256x512) hz]
  simp only [View.readAt_eq_ld, harg2.read_unread, harg3.read_unread, harg4.read_unread, harg5.read_unread, harg7.read_unread, View.ld_unit_zero (S := S256x2048) hz, View.ld_unit_zero (S := S2048x512) hz, View.ld_unit_zero (S := S1x512) hz, View.readCov_unit_zero (S := S256x2048) _ hz]

/-- The first point writes its output block from the rows it has just stored. -/
theorem oA4 (hc0 : cond0_0 i) : out0_A_4 c i arg2 harg2 arg3 harg3 arg4 harg4 arg5 harg5 arg6 harg6 arg7 harg7 hc0 x0 x1 x2 x3 = k0_pay2 (uNew x0 x1) x2 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S256x512) hz]
  simp only [View.readAt_eq_ld, harg2.read_unread, harg3.read_unread, harg4.read_unread, harg5.read_unread, harg7.read_unread, View.ld_unit_zero (S := S256x2048) hz, View.ld_unit_zero (S := S2048x512) hz, View.ld_unit_zero (S := S1x512) hz, View.readCov_unit_zero (S := S256x2048) _ hz]
  rfl

end Cases

/-- An entry of the modulated rows: the row's entry over its root mean square, gained, scaled and shifted. -/
theorem uNew_apply (x0 : Vec Ideal S256x2048 .f32) (x1 : Vec Ideal S8x2048 .f32) (r : Fin 256) (d : Fin 2048) :
    uNew x0 x1 (ix2 r d)
      = x0 (ix2 r d) * Ideal.rsqrt (Ideal.div (∑ x, x0 (ix2 r x) * x0 (ix2 r x)) (Ideal.ofBits FTy.f32 1157627904#32)
          + Ideal.ofBits FTy.f32 897988541#32) * (x1 (ix2 3 d) * (1 + x1 (ix2 1 d))) + x1 (ix2 0 d) := by
  unfold uNew
  unfold_payloads
  simp only [shapeCast_self]
  pointwise

/-- An entry of the output block. -/
theorem pay2_apply (u : Vec Ideal S256x2048 .bf16) (w : Vec Ideal S2048x512 .bf16) (b : Vec Ideal S1x512 .f32) (r : Fin 256) (d : Fin 512) :
    k0_pay2 u w b (ix2 r d) = (∑ k : Fin 2048, u (ix2 r k) * w (ix2 k d)) + b (ix2 0 d) := by
  unfold_payloads
  simp only [shapeCast_self]
  pointwise [dot_S256x2048_S2048x512_S256x512_1_0_0_1_n_n]

end Cert.KvInIdeal.Work

end
-- ==== Proof.KvInArr.lean ====
/-
  What the context's input projection reads at each grid point, as entries of the arguments, and what its result array holds,
  entry by entry.
-/
module

public import proofs.«01_k».proof.Proof.KvInPoint
public import Idealize.ShloMosaic.Lib.Pointwise
public import Idealize.ShloMosaic.Lib.StableHlo.ReadAt

@[expose] public section

set_option maxRecDepth 16384

noncomputable section

namespace Cert.KvInIdeal.Work

open Cert.KvInIdeal Cert.KvInIdeal.Gen Idealize.ShloMosaic Idealize.ShloMosaic.TcCoe Idealize.SL.Sem

variable (m : (ℓ : Loc nD τ sig) → Buf (Elt Ideal) ℓ)

theorem lt2 (t : Fin cfg0.N) : t.val < 2 := lt_of_lt_of_eq t.isLt N_0

/-- The index maps at both points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ (cfg0.win 4).flush t = true :=
  (by decide +kernel : ∀ t : Fin grid0.N, _)

/-- The six arguments, as arrays over their literal shapes. -/
abbrev H (c : Dev nD) : Vec Ideal S256x2048 .f32 := m ((c : Thread nD τ).loc main_arg0)
abbrev Mod (c : Dev nD) : Vec Ideal S9x2048 .f32 := m ((c : Thread nD τ).loc main_arg1)
abbrev Gpre (c : Dev nD) : Vec Ideal S2048 .f32 := m ((c : Thread nD τ).loc main_arg2)
abbrev Gpost (c : Dev nD) : Vec Ideal S2048 .f32 := m ((c : Thread nD τ).loc main_arg3)
abbrev Wqkv (c : Dev nD) : Vec Ideal S2048x3072 .f32 := m ((c : Thread nD τ).loc main_arg4)
abbrev Bqkv (c : Dev nD) : Vec Ideal S3072 .f32 := m ((c : Thread nD τ).loc main_arg5)

/-- The packed vectors: shift, scale, and the norm gain. -/
theorem V_v15 (c : Dev nD) (d : Fin 2048) :
    (V m c main_v15 : Vec Ideal S8x2048 .f32) (ix2 0 d) = Mod m c (ix2 3 d)
    ∧ (V m c main_v15 : Vec Ideal S8x2048 .f32) (ix2 1 d) = Mod m c (ix2 4 d)
    ∧ (V m c main_v15 : Vec Ideal S8x2048 .f32) (ix2 3 d) = Gpre m c (ix1 d) := by
  have e : V m c main_v15 = (StableHlo.after hostOps0 (fun b => m (c, b)) (Proc.devRef .tc main_v15)) := rfl
  rw [e]
  unfold hostOps0
  after_results
  refine ⟨?_, ?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

/-- The weights as the call reads them: the argument's last 1024 columns, format changed. -/
theorem V_v17 (c : Dev nD) (k : Fin 2048) (n : Fin 1024) :
    (V m c main_v17 : Vec Ideal S2048x1024 .bf16) (ix2 k n) = Wqkv m c (ix2 k ⟨2048 + n.val, by omega⟩) := by
  have e : V m c main_v17 = (StableHlo.after hostOps0 (fun b => m (c, b)) (Proc.devRef .tc main_v17)) := rfl
  rw [e]
  unfold hostOps0
  after_results
  pointwise
  all_goals rfl

/-- The bias as the call reads it: one row of the argument's last 1024 entries. -/
theorem V_v19 (c : Dev nD) (n : Fin 1024) :
    (V m c main_v19 : Vec Ideal S1x1024 .f32) (ix2 0 n) = Bqkv m c (ix1 ⟨2048 + n.val, by omega⟩) := by
  have e : V m c main_v19 = (StableHlo.after hostOps0 (fun b => m (c, b)) (Proc.devRef .tc main_v19)) := rfl
  rw [e]
  unfold hostOps0
  after_results
  pointwise
  all_goals rfl

theorem iblk0_apply (c : Dev nD) (t : Fin cfg0.N) (r : Fin 256) (d : Fin 2048) :
    (iblk m c 0 t : Vec Ideal S256x2048 .f32) (ix2 r d) = H m c (ix2 r d) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = r.val; rw [h0]; omega
  | ⟨1, _⟩ => show win0_0.index t 1 * 2048 + 1 * d.val = d.val; rw [h1]; omega

theorem iblk1_apply (c : Dev nD) (t : Fin cfg0.N) (k : Fin 8) (d : Fin 2048) :
    (iblk m c 1 t : Vec Ideal S8x2048 .f32) (ix2 k d) = (V m c main_v15 : Vec Ideal S8x2048 .f32) (ix2 k d) := by
  obtain ⟨-, -, h0, h1, -⟩ := idx_facts t
  unfold iblk
  rw [View.read_apply]
  show (V m c main_v15 : Vec Ideal S8x2048 .f32) _ = _
  refine congrArg (V m c main_v15 : Vec Ideal S8x2048 .f32) (funext fun a => Fin.ext ?_)
  match a with
  | ⟨0, _⟩ => show win0_1.index t 0 * 8 + 1 * k.val = k.val; rw [h0]; omega
  | ⟨1, _⟩ => show win0_1.index t 1 * 2048 + 1 * d.val = d.val; rw [h1]; omega

theorem iblk2_apply (c : Dev nD) (t : Fin cfg0.N) (k : Fin 2048) (d : Fin 512) :
    (iblk m c 2 t : Vec Ideal S2048x512 .bf16) (ix2 k d) = Wqkv m c (ix2 k ⟨2048 + (512 * t.val + d.val), by have := lt2 t; omega⟩) := by
  obtain ⟨-, -, -, -, h0, h1, -⟩ := idx_facts t
  have ht := lt2 t
  refine Eq.trans ?_ (V_v17 m c k ⟨512 * t.val + d.val, by omega⟩)
  unfold iblk
  rw [View.read_apply]
  show (V m c main_v17 : Vec Ideal S2048x1024 .bf16) _ = _
  refine congrArg (V m c main_v17 : Vec Ideal S2048x1024 .bf16) (funext fun a => Fin.ext ?_)
  match a with
  | ⟨0, _⟩ => show win0_2.index t 0 * 2048 + 1 * k.val = k.val; rw [h0]; omega
  | ⟨1, _⟩ => show win0_2.index t 1 * 512 + 1 * d.val = 512 * t.val + d.val; rw [h1]; omega

theorem iblk3_apply (c : Dev nD) (t : Fin cfg0.N) (d : Fin 512) :
    (iblk m c 3 t : Vec Ideal S1x512 .f32) (ix2 0 d) = Bqkv m c (ix1 ⟨2048 + (512 * t.val + d.val), by have := lt2 t; omega⟩) := by
  obtain ⟨-, -, -, -, -, -, h0, h1, -⟩ := idx_facts t
  have ht := lt2 t
  refine Eq.trans ?_ (V_v19 m c ⟨512 * t.val + d.val, by omega⟩)
  unfold iblk
  rw [View.read_apply]
  show (V m c main_v19 : Vec Ideal S1x1024 .f32) _ = _
  refine congrArg (V m c main_v19 : Vec Ideal S1x1024 .f32) (funext fun a => Fin.ext ?_)
  match a with
  | ⟨0, _⟩ => show win0_3.index t 0 * 1 + 1 * 0 = 0; rw [h0]
  | ⟨1, _⟩ => show win0_3.index t 1 * 512 + 1 * d.val = 512 * t.val + d.val; rw [h1]; omega

/-- A row over its root mean square, gained, scaled and shifted. -/
def U (c : Dev nD) (ρ : Fin 256) (d : Fin 2048) : EReal :=
  H m c (ix2 ρ d) * Ideal.rsqrt (Ideal.div (∑ x, H m c (ix2 ρ x) * H m c (ix2 ρ x)) (Ideal.ofBits FTy.f32 1157627904#32)
    + Ideal.ofBits FTy.f32 897988541#32) * (Gpre m c (ix1 d) * (1 + Mod m c (ix2 4 d))) + Mod m c (ix2 3 d)

/-- Its projection, with the bias. -/
def Z (c : Dev nD) (ρ : Fin 256) (n : Fin 3072) : EReal := (∑ k, U m c ρ k * Wqkv m c (ix2 k n)) + Bqkv m c (ix1 n)

/-- The rows a point modulates. -/
theorem uNew_blk (c : Dev nD) (t : Fin cfg0.N) (r : Fin 256) (d : Fin 2048) :
    uNew (iblk m c 0 t) (iblk m c 1 t) (ix2 r d) = U m c r d := by
  obtain ⟨e0, e1, e3⟩ := V_v15 m c d
  rw [uNew_apply]
  simp only [iblk0_apply, iblk1_apply, e0, e1, e3]
  rfl

/-- The rows kept after the first point. -/
theorem kept (c : Dev nD) (hn : 0 < cfg0.N) (r : Fin 256) (d : Fin 2048) : (outsAt0 m c 0 hn).2 (ix2 r d) = U m c r d := by
  have e := congrArg (fun x => x.2) (outsAt0_A m c ⟨0, hn⟩ rfl)
  dsimp only at e
  rw [e, sA0, uNew_blk]

/-- The block a point leaves. -/
theorem block (c : Dev nD) (t : Fin cfg0.N) (r : Fin 256) (d : Fin 512) :
    (outsAt0 m c t.val t.isLt).1 (ix2 r d) = Z m c r ⟨2048 + (512 * t.val + d.val), by have := lt2 t; omega⟩ := by
  have ht := lt2 t
  unfold Z
  by_cases h0 : t.val % 2 = 0
  · rw [outsAt0_A m c t h0]
    dsimp only
    rw [oA4, pay2_apply, iblk3_apply]
    simp only [uNew_blk, iblk2_apply]
  · rw [outsAt0_B m c t h0]
    dsimp only
    rw [oB4, pay2_apply, iblk3_apply]
    have e : t.val - 1 = 0 := by omega
    simp only [e, kept, iblk2_apply]

/-- A block of the result is what its point left. -/
theorem flush4 (c : Dev nD) (t : Fin cfg0.N) (r : Fin 256) (d : Fin 512) :
    (Value.G4 m c : Vec Ideal S256x1024 .bf16) (ix2 r ⟨512 * t.val + d.val, by have := lt2 t; omega⟩)
      = (outsAt0 m c t.val t.isLt).1 (ix2 r d) := by
  obtain ⟨-, -, -, -, -, -, -, -, h0, h1, hf⟩ := idx_facts t
  have e := congrFun ((Value.blocks4 m c t hf).trans (Value.flushed4 m c t)) (ix2 r d)
  rw [View.read_apply, Value.final4] at e
  refine Eq.trans ?_ e
  refine congrArg (Value.G4 m c) (funext fun a => Fin.ext ?_)
  match a with
  | ⟨0, _⟩ => show r.val = win0_4.index t 0 * 256 + 1 * r.val; rw [h0]; omega
  | ⟨1, _⟩ => show 512 * t.val + d.val = win0_4.index t 1 * 512 + 1 * d.val; rw [h1]; omega

/-- The result, entry by entry. -/
theorem G4_apply (c : Dev nD) (ρ : Fin 256) (n : Fin 1024) :
    (Value.G4 m c : Vec Ideal S256x1024 .bf16) (ix2 ρ n) = Z m c ρ ⟨2048 + n.val, by omega⟩ := by
  have hN : n.val / 512 < cfg0.N := lt_of_lt_of_eq (by omega : _ < 2) N_0.symm
  have e := (flush4 m c ⟨n.val / 512, hN⟩ ρ ⟨n.val % 512, by omega⟩).trans (block m c _ _ _)
  have en : (⟨512 * (n.val / 512) + n.val % 512, by omega⟩ : Fin 1024) = n := Fin.ext (by dsimp only; omega)
  dsimp only at e
  rw [en] at e
  refine e.trans (congrArg (Z m c ρ) (Fin.ext (by dsimp only; omega)))

end Cert.KvInIdeal.Work

end
-- ==== Proof.KvInRef.lean ====
/-
  What the reference of the context's input projection computes, entry by entry, over its arguments.
-/
module

public import proofs.«01_k».proof.Proof.Gen.KvInRefIdeal.Run
public import proofs.«01_k».proof.Proof.Gen.KvInRefIdeal.Read
public import Idealize.ShloMosaic.Lib.Pointwise

@[expose] public section

set_option maxRecDepth 16384

noncomputable section

namespace Cert.KvInRefIdeal.Work

open Cert.KvInRefIdeal Cert.KvInRefIdeal.Gen Cert.KvInRefIdeal.Read Idealize.ShloMosaic Idealize.ShloMosaic.TcCoe Idealize.SL.Sem

variable (x0 : Vec Ideal S256x2048 .f32) (x1 : Vec Ideal S9x2048 .f32) (x2 : Vec Ideal S2048 .f32)
  (x4 : Vec Ideal S2048x3072 .f32) (x5 : Vec Ideal S3072 .f32)

/-- The modulated rows. -/
theorem u_apply (ρ : Fin 256) (k : Fin 2048) : val_main_v24 (F := Ideal) x0 x1 x2 (ix2 ρ k)
    = x0 (ix2 ρ k) * Ideal.rsqrt (Ideal.div (∑ x, x0 (ix2 ρ x) * x0 (ix2 ρ x)) (Ideal.ofBits FTy.f32 1157627904#32)
      + Ideal.ofBits FTy.f32 897988541#32) * x2 (ix1 k) * (1 + x1 (ix2 4 k)) + x1 (ix2 3 k) := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

/-- The keys and values. -/
theorem kv_apply (ρ : Fin 256) (n : Fin 1024) : val_main_v30 (F := Ideal) x0 x1 x2 x4 x5 (ix2 ρ n)
    = (∑ k, val_main_v24 (F := Ideal) x0 x1 x2 (ix2 ρ k) * x4 (ix2 k ⟨2048 + n.val, by omega⟩)) + x5 (ix1 ⟨2048 + n.val, by omega⟩) := by
  unfold val_main_v30 val_main_v29 val_main_v28 val_main_v27 val_main_v26 val_main_v25
  generalize val_main_v24 (F := Ideal) x0 x1 x2 = y0
  pointwise [dot_S256x2048_S2048x3072_S256x3072_1_0_0_1_n_n]

end Cert.KvInRefIdeal.Work

end
-- ==== Proof.KvInEq.lean ====
/-
  The context's input projection and its reference leave the same array, over the extended reals.
-/
module

public import proofs.«01_k».proof.Defs
public import proofs.«01_k».proof.Proof.KvInArr
public import proofs.«01_k».proof.Proof.KvInRef
public import Idealize.ShloMosaic.Lib.Claim

@[expose] public section

set_option maxRecDepth 16384

noncomputable section

namespace Cert.KvInEq

open Cert.KvInIdeal.Work Idealize.ShloMosaic Idealize.ShloMosaic.TcCoe Idealize.SL.Sem

variable (m : (ℓ : Loc Cert.KvInIdeal.nD Cert.KvInIdeal.τ Cert.KvInIdeal.sig) → Buf (Elt Ideal) ℓ)

/-- The modulated rows of the two programs are the same: the gain and the scale are multiplied in either order. -/
theorem u_eq (c : Dev Cert.KvInIdeal.nD) (ρ : Fin 256) (k : Fin 2048) :
    Cert.KvInRefIdeal.Read.val_main_v24 (F := Ideal) (H m c) (Mod m c) (Gpre m c) (ix2 ρ k) = U m c ρ k := by
  rw [Cert.KvInRefIdeal.Work.u_apply]
  unfold U
  rw [mul_assoc (_ * _)]

/-- The result is the reference's. -/
theorem result_eq (c : Dev Cert.KvInIdeal.nD) :
    Cert.KvInRefIdeal.Read.val_main_v30 (F := Ideal) (H m c) (Mod m c) (Gpre m c) (Wqkv m c) (Bqkv m c) = Cert.KvInIdeal.Value.G4 m c := by
  refine funext fun i => ?_
  obtain ⟨ρ, n, rfl⟩ : ∃ (ρ : Fin 256) (n : Fin 1024), i = ix2 ρ n := ⟨i 0, i 1, eq_ix2 i⟩
  refine Eq.trans ?_ (G4_apply m c ρ n).symm
  rw [Cert.KvInRefIdeal.Work.kv_apply]
  simp only [u_eq]
  rfl

/-- The claim: from agreeing arguments the kernel and the reference leave the same result. -/
theorem algebraic : Cert.algebraic_KvInIdeal_KvInRefIdeal := by
  intro m g m' g' _ hagree
  refine ⟨fun c => Cert.KvInIdeal.Value.G4 m c, Cert.KvInIdeal.Value.run m g, ?_⟩
  refine θ_run_mono (Cert.KvInRefIdeal.Value.run m' g') fun r hr c => ?_
  obtain ⟨hres, hargs⟩ := hr c
  obtain ⟨a0, a1, a2, a3, a4, a5⟩ := hagree c
  refine ⟨hres.trans (Eq.trans ?_ (result_eq m c)), hargs⟩
  rw [Cert.KvInRefIdeal.Read.val_main_v30_eq, a0, a1, a2, a4, a5]

end Cert.KvInEq

end
-- ==== Proof.PoolFrames.lean ====
/-
  The frames of the three programs of one call.
-/
module

public import proofs.«01_k».proof.Defs
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import Idealize.ShloMosaic.Adequacy
public import Idealize.ShloMosaic.Init

@[expose] public section

noncomputable section

namespace Cert.FramesPool

open Idealize.ShloMosaic Idealize.SL.Sem

theorem printed : Cert.quiescent_Pool := fun m g _ => Cert.Pool.Gen.frame m g

theorem ideal : Cert.quiescent_PoolIdeal := fun m g _ => Cert.PoolIdeal.Gen.frame m g

theorem ref : Cert.quiescent_PoolRefIdeal := fun m g _ =>
  (θ_run Cert.PoolRefIdeal.defs _ _).mono (fun r h => ⟨fun c => (h c).2.2.2, sem_eq_zero_of_no_sems (by decide) r.2⟩)
    (Cert.PoolRefIdeal.Value.run (F := Ideal) m g)

end Cert.FramesPool

end
-- ==== Proof.PoolPoint.lean ====
/-
  The body of the pooling call as arithmetic: the modulated rows of a block and of the eight rows on either side, the window
  sums over them, the four groups' columns, and the residual rows.
-/
module

public import proofs.«01_k».proof.Proof.Gen.PoolIdeal.Skeleton
public import proofs.«01_k».proof.Proof.Gen.PoolIdeal.Frame
public import Idealize.ShloMosaic.Lib.Pointwise

@[expose] public section

set_option maxRecDepth 16384

noncomputable section

namespace Cert.PoolIdeal.Work

open Cert.PoolIdeal Cert.PoolIdeal.Gen Idealize.ShloMosaic Idealize.ShloMosaic.TcCoe Idealize.SL.Sem

/-- An entry over the root mean square of its row `y`, times the gain. -/
def normed (y : Fin 2048 → EReal) (g : EReal) (d : Fin 2048) : EReal :=
  y d * Ideal.rsqrt (Ideal.div (∑ x, y x * y x) (Ideal.ofBits FTy.f32 1157627904#32) + Ideal.ofBits FTy.f32 897988541#32) * g

/-- The normalised entry, scaled and shifted. -/
def modulated (y : Fin 2048 → EReal) (g s b : EReal) (d : Fin 2048) : EReal :=
  normed y g d * (Ideal.ofBits FTy.f32 1065353216#32 + s) + b

/-- The block's modulated rows. -/
theorem pay4_apply (x : Vec Ideal S512x2048 .f32) (g s b : Vec Ideal S1x2048 .f32) (r : Fin 512) (d : Fin 2048) :
    k0_pay4 x g s b (ix2 r d) = modulated (fun z => x (ix2 r z)) (g (ix2 0 d)) (s (ix2 0 d)) (b (ix2 0 d)) d := by
  unfold modulated normed
  unfold_payloads
  simp only [shapeCast_self]
  pointwise

/-- The modulated rows before the block, zero before the first block. -/
theorem pay5_apply (i : BitVec 32) (x : Vec Ideal S8x2048 .f32) (g s b : Vec Ideal S1x2048 .f32) (r : Fin 8) (d : Fin 2048) :
    k0_pay5 i x g s b (ix2 r d) = Scalar.select (Scalar.cmpi .sgt i 0#32)
      (modulated (fun z => x (ix2 r z)) (g (ix2 0 d)) (s (ix2 0 d)) (b (ix2 0 d)) d) (0 : EReal) := by
  unfold modulated normed
  unfold_payloads
  simp only [shapeCast_self]
  pointwise

/-- The modulated rows after the block, zero after the last block. -/
theorem pay9_apply (i : BitVec 1) (x : Vec Ideal S8x2048 .f32) (g s b : Vec Ideal S1x2048 .f32) (r : Fin 8) (d : Fin 2048) :
    k0_pay9 i x (k0_pay6 g) (k0_pay7 x) k0_pay8 s b (ix2 r d) = Scalar.select i
      (modulated (fun z => x (ix2 r z)) (g (ix2 0 d)) (s (ix2 0 d)) (b (ix2 0 d)) d) (0 : EReal) := by
  unfold modulated normed
  unfold_payloads
  simp only [shapeCast_self]
  pointwise

/-- The residual rows of the block. -/
theorem pay1_apply (h : Vec Ideal S512x2048 .f32) (a : Vec Ideal S1x2048 .f32) (y : Vec Ideal S512x2048 .f32) (g : Vec Ideal S1x2048 .f32)
    (r : Fin 512) (d : Fin 2048) :
    k0_pay1 h a y g (ix2 r d) = h (ix2 r d) + a (ix2 0 d) * normed (fun z => y (ix2 r z)) (g (ix2 0 d)) d := by
  unfold normed
  unfold_payloads
  simp only [shapeCast_self]
  pointwise

/-! ## The rows of a block with the eight on either side -/

variable (u : FVec Ideal S512x2048 .f32) (up un : FVec Ideal S8x2048 .f32)

/-- Row `e` of the eight rows before, the block's and the eight after, in column `d`. -/
def ext (e : ℕ) (d : Fin 2048) : EReal :=
  if h : e < 8 then up (ix2 ⟨e, h⟩ d) else if h : e < 520 then u (ix2 ⟨e - 8, by omega⟩ d)
    else if h : e < 528 then un (ix2 ⟨e - 520, by omega⟩ d) else 0

/-- Three pieces joined along the rows, read at a row. -/
theorem cat_apply (a : FVec Ideal S8x512 .f32) (b : FVec Ideal S512x512 .f32) (c : FVec Ideal S8x512 .f32) (e : Fin 528) (d : Fin 512) :
    concatenate S528x512 0 [⟨S8x512, a⟩, ⟨S512x512, b⟩, ⟨S8x512, c⟩] concatenates_S8x512_S512x512_S8x512_S528x512_d0 (ix2 e d)
      = if h : e.val < 8 then a (ix2 ⟨e.val, h⟩ d) else if h : e.val < 520 then b (ix2 ⟨e.val - 8, by omega⟩ d)
        else c (ix2 ⟨e.val - 520, by omega⟩ d) := by
  pointwise
  split
  · rfl
  · split
    · rw [dif_pos (by omega)]
      all_goals rfl
    · rw [dif_neg (by omega)]
      all_goals exact congrArg c (congrArg₂ ix2 (Fin.ext (by show e.val - 8 - 512 = e.val - 520; omega)) rfl)

/-- Column `d` of group `q`, among all the columns. -/
def gcol (q : Fin 4) (d : Fin 512) : Fin 2048 := ⟨512 * q.val + d.val, by omega⟩

/-- The row `n` further, around the end. -/
def sh (n : ℕ) (e : Fin 528) : Fin 528 := ⟨(e.val + n) % 528, Nat.mod_lt _ (by omega)⟩

/-- A roll by all but `n` rows reads the row `n` further. -/
theorem roll_apply (n : ℕ) (hn : 0 < n) (hn' : n < 528) (x : FVec Ideal S528x512 .f32) (h : S528x512.Rotates 0 none) (e : Fin 528) (d : Fin 512) :
    dynamicRotate 0 (BitVec.ofNat 32 (528 - n)) none x h (ix2 e d) = x (ix2 (sh n e) d) := by
  unfold dynamicRotate
  refine congrArg x (funext fun a => ?_)
  match a with
  | ⟨0, _⟩ =>
    refine Fin.ext ?_
    show (e.val + 528 - ((BitVec.ofNat 32 (528 - n)).toNat + 0) % 528) % 528 = (e.val + n) % 528
    rw [BitVec.toNat_ofNat, Nat.mod_eq_of_lt (by omega : 528 - n < 2 ^ 32)]
    omega
  | ⟨1, _⟩ => rfl

theorem roll1 (x : FVec Ideal S528x512 .f32) (h : S528x512.Rotates 0 none) (e : Fin 528) (d : Fin 512) :
    dynamicRotate 0 527#32 none x h (ix2 e d) = x (ix2 (sh 1 e) d) := roll_apply 1 (by omega) (by omega) x h e d
theorem roll2 (x : FVec Ideal S528x512 .f32) (h : S528x512.Rotates 0 none) (e : Fin 528) (d : Fin 512) :
    dynamicRotate 0 526#32 none x h (ix2 e d) = x (ix2 (sh 2 e) d) := roll_apply 2 (by omega) (by omega) x h e d
theorem roll4 (x : FVec Ideal S528x512 .f32) (h : S528x512.Rotates 0 none) (e : Fin 528) (d : Fin 512) :
    dynamicRotate 0 524#32 none x h (ix2 e d) = x (ix2 (sh 4 e) d) := roll_apply 4 (by omega) (by omega) x h e d
theorem roll6 (x : FVec Ideal S528x512 .f32) (h : S528x512.Rotates 0 none) (e : Fin 528) (d : Fin 512) :
    dynamicRotate 0 522#32 none x h (ix2 e d) = x (ix2 (sh 6 e) d) := roll_apply 6 (by omega) (by omega) x h e d
theorem roll7 (x : FVec Ideal S528x512 .f32) (h : S528x512.Rotates 0 none) (e : Fin 528) (d : Fin 512) :
    dynamicRotate 0 521#32 none x h (ix2 e d) = x (ix2 (sh 7 e) d) := roll_apply 7 (by omega) (by omega) x h e d
theorem roll8 (x : FVec Ideal S528x512 .f32) (h : S528x512.Rotates 0 none) (e : Fin 528) (d : Fin 512) :
    dynamicRotate 0 520#32 none x h (ix2 e d) = x (ix2 (sh 8 e) d) := roll_apply 8 (by omega) (by omega) x h e d

theorem add_at (x y : FVec Ideal S528x512 .f32) (j : S528x512.Idx) : addf x y j = (x j + y j : EReal) := rfl

/-- The first 512 rows. -/
theorem top_apply (x : FVec Ideal S528x512 .f32) (h : S528x512.Slices ![0, 0] S512x512) (r d : Fin 512) :
    extractStridedSlice S512x512 ![0, 0] x h (ix2 r d) = x (ix2 (⟨r.val, by omega⟩ : Fin 528) d) :=
  congrArg x (funext fun a => Fin.ext (by
    match a with
    | ⟨0, _⟩ => show 0 + r.val = r.val; omega
    | ⟨1, _⟩ => show 0 + d.val = d.val; omega))

/-- The window's `s` rows from the `st`-th after row `r`. -/
def win (s st : ℕ) (r : ℕ) (d : Fin 2048) : EReal := ∑ k ∈ Finset.range s, ext u up un (r + (st + k)) d

theorem ext_ix (e : Fin 528) (d : Fin 2048) : ext u up un e.val d = if h : e.val < 8 then up (ix2 ⟨e.val, h⟩ d)
    else if h : e.val < 520 then u (ix2 ⟨e.val - 8, by omega⟩ d) else un (ix2 ⟨e.val - 520, by omega⟩ d) := by
  unfold ext
  split
  · rfl
  · split
    · rfl
    · rw [dif_pos e.isLt]

/-- The three pieces' columns of group 0, joined along the rows. -/
theorem cat0 (h : S8x2048.Slices ![0, 0] S8x512) (h' : S512x2048.Slices ![0, 0] S512x512) (h'' : S8x2048.Slices ![0, 0] S8x512)
    (e : Fin 528) (d : Fin 512) :
    concatenate S528x512 0 [⟨S8x512, extractStridedSlice S8x512 ![0, 0] up h⟩, ⟨S512x512, extractStridedSlice S512x512 ![0, 0] u h'⟩,
      ⟨S8x512, extractStridedSlice S8x512 ![0, 0] un h''⟩] concatenates_S8x512_S512x512_S8x512_S528x512_d0 (ix2 e d)
      = ext u up un e.val (gcol 0 d) := by
  rw [cat_apply, ext_ix]
  have c : ∀ {n : ℕ} (x : FVec Ideal ⟨2, ![n, 2048]⟩ .f32) (hx : Shape.Slices ⟨2, ![n, 2048]⟩ ![0, 0] ⟨2, ![n, 512]⟩) (r : Fin n),
      extractStridedSlice ⟨2, ![n, 512]⟩ ![0, 0] x hx (ix2 r d) = x (ix2 r (gcol 0 d)) := fun x hx r =>
    congrArg x (funext fun a => Fin.ext (by
      match a with
      | ⟨0, _⟩ => show 0 + r.val = r.val; omega
      | ⟨1, _⟩ => show 0 + d.val = 512 * 0 + d.val; omega))
  split
  · exact c up h _
  · split
    · exact c u h' _
    · exact c un h'' _

/-- The three pieces' columns of group 1, joined along the rows. -/
theorem cat1 (h : S8x2048.Slices ![0, 512] S8x512) (h' : S512x2048.Slices ![0, 512] S512x512) (h'' : S8x2048.Slices ![0, 512] S8x512)
    (e : Fin 528) (d : Fin 512) :
    concatenate S528x512 0 [⟨S8x512, extractStridedSlice S8x512 ![0, 512] up h⟩, ⟨S512x512, extractStridedSlice S512x512 ![0, 512] u h'⟩,
      ⟨S8x512, extractStridedSlice S8x512 ![0, 512] un h''⟩] concatenates_S8x512_S512x512_S8x512_S528x512_d0 (ix2 e d)
      = ext u up un e.val (gcol 1 d) := by
  rw [cat_apply, ext_ix]
  have c : ∀ {n : ℕ} (x : FVec Ideal ⟨2, ![n, 2048]⟩ .f32) (hx : Shape.Slices ⟨2, ![n, 2048]⟩ ![0, 512] ⟨2, ![n, 512]⟩) (r : Fin n),
      extractStridedSlice ⟨2, ![n, 512]⟩ ![0, 512] x hx (ix2 r d) = x (ix2 r (gcol 1 d)) := fun x hx r =>
    congrArg x (funext fun a => Fin.ext (by
      match a with
      | ⟨0, _⟩ => show 0 + r.val = r.val; omega
      | ⟨1, _⟩ => show 512 + d.val = 512 * 1 + d.val; omega))
  split
  · exact c up h _
  · split
    · exact c u h' _
    · exact c un h'' _

/-- The three pieces' columns of group 2, joined along the rows. -/
theorem cat2 (h : S8x2048.Slices ![0, 1024] S8x512) (h' : S512x2048.Slices ![0, 1024] S512x512) (h'' : S8x2048.Slices ![0, 1024] S8x512)
    (e : Fin 528) (d : Fin 512) :
    concatenate S528x512 0 [⟨S8x512, extractStridedSlice S8x512 ![0, 1024] up h⟩, ⟨S512x512, extractStridedSlice S512x512 ![0, 1024] u h'⟩,
      ⟨S8x512, extractStridedSlice S8x512 ![0, 1024] un h''⟩] concatenates_S8x512_S512x512_S8x512_S528x512_d0 (ix2 e d)
      = ext u up un e.val (gcol 2 d) := by
  rw [cat_apply, ext_ix]
  have c : ∀ {n : ℕ} (x : FVec Ideal ⟨2, ![n, 2048]⟩ .f32) (hx : Shape.Slices ⟨2, ![n, 2048]⟩ ![0, 1024] ⟨2, ![n, 512]⟩) (r : Fin n),
      extractStridedSlice ⟨2, ![n, 512]⟩ ![0, 1024] x hx (ix2 r d) = x (ix2 r (gcol 2 d)) := fun x hx r =>
    congrArg x (funext fun a => Fin.ext (by
      match a with
      | ⟨0, _⟩ => show 0 + r.val = r.val; omega
      | ⟨1, _⟩ => show 1024 + d.val = 512 * 2 + d.val; omega))
  split
  · exact c up h _
  · split
    · exact c u h' _
    · exact c un h'' _

/-- The three pieces' columns of group 3, joined along the rows. -/
theorem cat3 (h : S8x2048.Slices ![0, 1536] S8x512) (h' : S512x2048.Slices ![0, 1536] S512x512) (h'' : S8x2048.Slices ![0, 1536] S8x512)
    (e : Fin 528) (d : Fin 512) :
    concatenate S528x512 0 [⟨S8x512, extractStridedSlice S8x512 ![0, 1536] up h⟩, ⟨S512x512, extractStridedSlice S512x512 ![0, 1536] u h'⟩,
      ⟨S8x512, extractStridedSlice S8x512 ![0, 1536] un h''⟩] concatenates_S8x512_S512x512_S8x512_S528x512_d0 (ix2 e d)
      = ext u up un e.val (gcol 3 d) := by
  rw [cat_apply, ext_ix]
  have c : ∀ {n : ℕ} (x : FVec Ideal ⟨2, ![n, 2048]⟩ .f32) (hx : Shape.Slices ⟨2, ![n, 2048]⟩ ![0, 1536] ⟨2, ![n, 512]⟩) (r : Fin n),
      extractStridedSlice ⟨2, ![n, 512]⟩ ![0, 1536] x hx (ix2 r d) = x (ix2 r (gcol 3 d)) := fun x hx r =>
    congrArg x (funext fun a => Fin.ext (by
      match a with
      | ⟨0, _⟩ => show 0 + r.val = r.val; omega
      | ⟨1, _⟩ => show 1536 + d.val = 512 * 3 + d.val; omega))
  split
  · exact c up h _
  · split
    · exact c u h' _
    · exact c un h'' _

/-- The window sums of group 1. -/
theorem pay15_apply (r d : Fin 512) : k0_pay15 u up un (ix2 r d) = win u up un 4 6 r.val (gcol 1 d) := by
  unfold k0_pay15
  dsimp only
  rw [top_apply]
  repeat (first | rw [add_at] | rw [roll1] | rw [roll2] | rw [roll6] | rw [cat1])
  unfold win sh
  simp only [Finset.sum_range_succ, Finset.sum_range_zero, zero_add]
  simp (disch := omega) only [Nat.mod_eq_of_lt]
  simp only [add_assoc, Nat.reduceAdd]

/-- The window sums of group 2. -/
theorem pay19_apply (r d : Fin 512) : k0_pay19 u up un (ix2 r d) = win u up un 8 4 r.val (gcol 2 d) := by
  unfold k0_pay19
  dsimp only
  rw [top_apply]
  repeat (first | rw [add_at] | rw [roll1] | rw [roll2] | rw [roll4] | rw [cat2])
  unfold win sh
  simp only [Finset.sum_range_succ, Finset.sum_range_zero, zero_add]
  simp (disch := omega) only [Nat.mod_eq_of_lt]
  simp only [add_assoc, Nat.reduceAdd]

/-- The window sums of group 0. -/
theorem pay11_apply (v61 : BitVec 1) (v62 : Vec Ideal S8x2048 .f32) (v64 : FVec Ideal S1x2048 .f32) (v69 v70 : FVec Ideal S8x1 .f32)
    (v77 v83 : Vec Ideal S1x2048 .f32) (r d : Fin 512) :
    k0_pay11 u up v61 v62 v64 v69 v70 v77 v83 (ix2 r d) = win u up (k0_pay9 v61 v62 v64 v69 v70 v77 v83) 2 7 r.val (gcol 0 d) := by
  unfold k0_pay11
  dsimp only
  rw [top_apply]
  repeat (first | rw [add_at] | rw [roll1] | rw [roll7] | rw [cat0])
  unfold win sh
  simp only [Finset.sum_range_succ, Finset.sum_range_zero, zero_add]
  simp (disch := omega) only [Nat.mod_eq_of_lt]

/-- The window sums of group 3. -/
theorem pay23_apply (h : S528x512.Slices ![0, 0] S512x512) (h' : S528x512.Rotates 0 none) (r d : Fin 512) :
    extractStridedSlice S512x512 ![0, 0] (addf (k0_pay23 u up un) (dynamicRotate 0 520#32 none (k0_pay23 u up un) h')) h (ix2 r d)
      = win u up un 16 0 r.val (gcol 3 d) := by
  unfold k0_pay23
  dsimp only
  rw [top_apply]
  repeat (first | rw [add_at] | rw [roll1] | rw [roll2] | rw [roll4] | rw [roll8] | rw [cat3])
  unfold win sh
  simp only [Finset.sum_range_succ, Finset.sum_range_zero, zero_add]
  simp (disch := omega) only [Nat.mod_eq_of_lt]
  simp only [add_assoc, Nat.reduceAdd, add_zero]

/-! ## The groups' columns -/

/-- The number of rows of the window of `w` rows from `h` before row `t` that lie in the sequence. -/
def count (h w t : BitVec 32) : EReal :=
  FloatOps.sitofp (F := Ideal) FTy.f32 (IntOp.subi (IntOp.minsi 16384#32 (IntOp.maxsi 0#32 (IntOp.addi (IntOp.subi t h) w)))
    (IntOp.minsi 16384#32 (IntOp.maxsi 0#32 (IntOp.subi t h))))

/-- An entry of a group: the window means less the rows, times the weights, plus the bias, times the scale. -/
def grp (q : Fin 4) (a : Fin 512 → EReal) (n : EReal) (x : Fin 2048 → EReal) (w : Vec Ideal S1x512x512 .bf16) (b s : EReal) (d : Fin 512) : EReal :=
  ((∑ k, (Ideal.div (a k) n - x (gcol q k)) * w (ix3 0 k d)) + b) * s

/-- Row `r` of block `t`, as a word. -/
def word (t : BitVec 32) (r : Fin 512) : BitVec 32 := IntOp.addi (Scalar.muli t 512#32) (BitVec.ofNat 32 r.val)

variable (t : BitVec 32) (p : FVec Ideal S512x512 .f32) (w : Vec Ideal S1x512x512 .bf16) (b s : Vec Ideal S1x512 .f32) (r d : Fin 512)

theorem pay14_apply : k0_pay14 u p (k0_pay12 t) (k0_pay13 t) w b s (ix2 r d)
    = grp 0 (fun k => p (ix2 r k)) (count 1#32 2#32 (word t r)) (fun z => u (ix2 r z)) w (b (ix2 0 d)) (s (ix2 0 d)) d := by
  unfold grp count word gcol
  unfold_payloads
  simp only [shapeCast_self]
  pointwise [dot_S512x512_S512x512_S512x512_1_0_0_1_n_n]
  try rfl

theorem pay18_apply : k0_pay18 u p (k0_pay16 (k0_pay10 t)) (k0_pay17 (k0_pay10 t)) w b s (ix2 r d)
    = grp 1 (fun k => p (ix2 r k)) (count 2#32 4#32 (word t r)) (fun z => u (ix2 r z)) w (b (ix2 0 d)) (s (ix2 0 d)) d := by
  unfold grp count word gcol
  unfold_payloads
  simp only [shapeCast_self]
  pointwise [dot_S512x512_S512x512_S512x512_1_0_0_1_n_n]
  try rfl

theorem pay22_apply : k0_pay22 u (k0_pay10 t) p (k0_pay20 (k0_pay10 t)) 16384#32 k0_pay21 w b s (ix2 r d)
    = grp 2 (fun k => p (ix2 r k)) (count 4#32 8#32 (word t r)) (fun z => u (ix2 r z)) w (b (ix2 0 d)) (s (ix2 0 d)) d := by
  unfold grp count word gcol
  unfold_payloads
  simp only [shapeCast_self]
  pointwise [dot_S512x512_S512x512_S512x512_1_0_0_1_n_n]
  try rfl

theorem pay24_apply : k0_pay24 u (k0_pay10 t) (k0_pay23 u up un) w b s (ix2 r d)
    = grp 3 (fun k => win u up un 16 0 r.val (gcol 3 k)) (count 8#32 16#32 (word t r)) (fun z => u (ix2 r z)) w (b (ix2 0 d)) (s (ix2 0 d)) d := by
  unfold k0_pay24
  dsimp only
  simp only [← pay23_apply u up un slices_S528x512_o0_0_S512x512 rotates_S528x512_d0]
  generalize extractStridedSlice S512x512 ![0, 0] (addf (k0_pay23 u up un) (dynamicRotate 0 520#32 none (k0_pay23 u up un) rotates_S528x512_d0)) slices_S528x512_o0_0_S512x512 = p
  unfold grp count word gcol
  unfold k0_pay10
  simp only [shapeCast_self]
  pointwise [dot_S512x512_S512x512_S512x512_1_0_0_1_n_n]
  try rfl

end Cert.PoolIdeal.Work

end
-- ==== Proof.PoolRun.lean ====
/-
  What one grid point of the pooling call leaves in its three output blocks, as the body's own arithmetic over its input blocks.
-/
module

public import proofs.«01_k».proof.Proof.PoolPoint
public import proofs.«01_k».proof.Proof.Gen.PoolIdeal.Value
public import Idealize.ShloMosaic.Lib.Pipeline.ValueKit

@[expose] public section

set_option maxRecDepth 16384

noncomputable section

namespace Cert.PoolIdeal.Work

open Cert.PoolIdeal Cert.PoolIdeal.Gen Idealize.ShloMosaic Idealize.ShloMosaic.TcCoe Idealize.SL.Sem

theorem hz : (![0, 0] : Fin 2 → Nat) = fun _ => 0 := funext fun a => by fin_cases a <;> rfl
theorem hz4 : (![0, 0, 0, 0] : Fin 4 → Nat) = fun _ => 0 := funext fun a => by fin_cases a <;> rfl

/-- Four groups of 512 columns, side by side. -/
def join (p0 p1 p2 p3 : Vec Ideal S512x512 .f32) : Vec Ideal S512x2048 .f32 := fun y =>
  (if (y 1).val / 512 = 0 then p0 else if (y 1).val / 512 = 1 then p1 else if (y 1).val / 512 = 2 then p2 else p3)
    (ix2 (y 0) ⟨(y 1).val % 512, Nat.mod_lt _ (by omega)⟩)

theorem join_apply (p0 p1 p2 p3 : Vec Ideal S512x512 .f32) (q : ℕ) (hq : q < 4) (r : Fin 512) (d : Fin 512) :
    join p0 p1 p2 p3 (ix2 r ⟨512 * q + d.val, by omega⟩)
      = (if q = 0 then p0 else if q = 1 then p1 else if q = 2 then p2 else p3) (ix2 r d) := by
  unfold join
  have e : (512 * q + d.val) / 512 = q := by omega
  have e' : (512 * q + d.val) % 512 = d.val := by omega
  show (if (512 * q + d.val) / 512 = 0 then p0 else if (512 * q + d.val) / 512 = 1 then p1 else if (512 * q + d.val) / 512 = 2 then p2 else p3)
    (ix2 r ⟨(512 * q + d.val) % 512, _⟩) = _
  simp only [e, e']

/-- Four stores of 512 columns each, read back whole, are the four groups side by side. -/
theorem read_join (v : View sig .tc .vmem S512x2048 .f32) (p0 p1 p2 p3 : Vec Ideal S512x512 .f32) :
    v.readCov (Val := Elt Ideal) [(⟨Rect.unit (s := S512x2048) ![0, 1536] S512x512.size inb_S512x2048_S512x512_0_1536, p3⟩ : View.Piece (Elt Ideal) S512x2048 .f32),
      (⟨Rect.unit (s := S512x2048) ![0, 1024] S512x512.size inb_S512x2048_S512x512_0_1024, p2⟩ : View.Piece (Elt Ideal) S512x2048 .f32),
      (⟨Rect.unit (s := S512x2048) ![0, 512] S512x512.size inb_S512x2048_S512x512_0_512, p1⟩ : View.Piece (Elt Ideal) S512x2048 .f32),
      (⟨Rect.unit (s := S512x2048) ![0, 0] S512x512.size inb_S512x2048_S512x512_0_0, p0⟩ : View.Piece (Elt Ideal) S512x2048 .f32)]
      (Rect.unit (s := S512x2048) ![0, 0] S512x2048.size inb_S512x2048_S512x2048_0_0).toLoadRect = join p0 p1 p2 p3 := by
  have hcov : ∀ y : S512x2048.Idx, ∃ p ∈ [(⟨Rect.unit (s := S512x2048) ![0, 1536] S512x512.size inb_S512x2048_S512x512_0_1536, p3⟩ : View.Piece (Elt Ideal) S512x2048 .f32),
      (⟨Rect.unit (s := S512x2048) ![0, 1024] S512x512.size inb_S512x2048_S512x512_0_1024, p2⟩ : View.Piece (Elt Ideal) S512x2048 .f32),
      (⟨Rect.unit (s := S512x2048) ![0, 512] S512x512.size inb_S512x2048_S512x512_0_512, p1⟩ : View.Piece (Elt Ideal) S512x2048 .f32),
      (⟨Rect.unit (s := S512x2048) ![0, 0] S512x512.size inb_S512x2048_S512x512_0_0, p0⟩ : View.Piece (Elt Ideal) S512x2048 .f32)], y ∈ p.1.set := fun y => View.cover_of_tiledL (s := S512x2048) [(⟨Rect.unit (s := S512x2048) ![0, 1536] S512x512.size inb_S512x2048_S512x512_0_1536, p3⟩ : View.Piece (Elt Ideal) S512x2048 .f32),
      (⟨Rect.unit (s := S512x2048) ![0, 1024] S512x512.size inb_S512x2048_S512x512_0_1024, p2⟩ : View.Piece (Elt Ideal) S512x2048 .f32),
      (⟨Rect.unit (s := S512x2048) ![0, 512] S512x512.size inb_S512x2048_S512x512_0_512, p1⟩ : View.Piece (Elt Ideal) S512x2048 .f32),
      (⟨Rect.unit (s := S512x2048) ![0, 0] S512x512.size inb_S512x2048_S512x512_0_0, p0⟩ : View.Piece (Elt Ideal) S512x2048 .f32)] S512x512.size (by sl_kernel_rfl) y
  rw [View.readCov_eq_canon_ld _ _ _ hcov, View.ld_unit_zero (S := S512x2048) hz]
  funext y
  refine View.canon_apply_of_pieces (join p0 p1 p2 p3) _ ?_ y (hcov y)
  intro pc hpc
  simp only [List.mem_cons, List.not_mem_nil, or_false] at hpc
  rcases hpc with rfl | rfl | rfl | rfl
  · intro x
    obtain ⟨r, d, rfl⟩ : ∃ (r : Fin 512) (d : Fin 512), x = ix2 r d := ⟨x 0, x 1, eq_ix2 x⟩
    have e : (Rect.unit (s := S512x2048) ![0, 1536] S512x512.size inb_S512x2048_S512x512_0_1536).idx (ix2 r d) = ix2 r (⟨1536 + d.val, by omega⟩ : Fin 2048) :=
      funext fun a => Fin.ext (by
        match a with
        | ⟨0, _⟩ => show 0 + 1 * r.val = r.val; omega
        | ⟨1, _⟩ => show 1536 + 1 * d.val = 1536 + d.val; omega)
    show p3 (ix2 r d) = join p0 p1 p2 p3 ((Rect.unit (s := S512x2048) ![0, 1536] S512x512.size inb_S512x2048_S512x512_0_1536).idx (ix2 r d))
    rw [e, join_apply p0 p1 p2 p3 3 (by omega) r d]
    rfl
  · intro x
    obtain ⟨r, d, rfl⟩ : ∃ (r : Fin 512) (d : Fin 512), x = ix2 r d := ⟨x 0, x 1, eq_ix2 x⟩
    have e : (Rect.unit (s := S512x2048) ![0, 1024] S512x512.size inb_S512x2048_S512x512_0_1024).idx (ix2 r d) = ix2 r (⟨1024 + d.val, by omega⟩ : Fin 2048) :=
      funext fun a => Fin.ext (by
        match a with
        | ⟨0, _⟩ => show 0 + 1 * r.val = r.val; omega
        | ⟨1, _⟩ => show 1024 + 1 * d.val = 1024 + d.val; omega)
    show p2 (ix2 r d) = join p0 p1 p2 p3 ((Rect.unit (s := S512x2048) ![0, 1024] S512x512.size inb_S512x2048_S512x512_0_1024).idx (ix2 r d))
    rw [e, join_apply p0 p1 p2 p3 2 (by omega) r d]
    rfl
  · intro x
    obtain ⟨r, d, rfl⟩ : ∃ (r : Fin 512) (d : Fin 512), x = ix2 r d := ⟨x 0, x 1, eq_ix2 x⟩
    have e : (Rect.unit (s := S512x2048) ![0, 512] S512x512.size inb_S512x2048_S512x512_0_512).idx (ix2 r d) = ix2 r (⟨512 + d.val, by omega⟩ : Fin 2048) :=
      funext fun a => Fin.ext (by
        match a with
        | ⟨0, _⟩ => show 0 + 1 * r.val = r.val; omega
        | ⟨1, _⟩ => show 512 + 1 * d.val = 512 + d.val; omega)
    show p1 (ix2 r d) = join p0 p1 p2 p3 ((Rect.unit (s := S512x2048) ![0, 512] S512x512.size inb_S512x2048_S512x512_0_512).idx (ix2 r d))
    rw [e, join_apply p0 p1 p2 p3 1 (by omega) r d]
    rfl
  · intro x
    obtain ⟨r, d, rfl⟩ : ∃ (r : Fin 512) (d : Fin 512), x = ix2 r d := ⟨x 0, x 1, eq_ix2 x⟩
    have e : (Rect.unit (s := S512x2048) ![0, 0] S512x512.size inb_S512x2048_S512x512_0_0).idx (ix2 r d) = ix2 r (⟨0 + d.val, by omega⟩ : Fin 2048) :=
      funext fun a => Fin.ext (by
        match a with
        | ⟨0, _⟩ => show 0 + 1 * r.val = r.val; omega
        | ⟨1, _⟩ => show 0 + 1 * d.val = 0 + d.val; omega)
    show p0 (ix2 r d) = join p0 p1 p2 p3 ((Rect.unit (s := S512x2048) ![0, 0] S512x512.size inb_S512x2048_S512x512_0_0).idx (ix2 r d))
    rw [e, join_apply p0 p1 p2 p3 0 (by omega) r d]
    rfl

section Parts

variable (i : BitVec 32) (x0 : Vec Ideal S512x2048 .f32) (x1 : Vec Ideal S8x2048 .f32) (x2 : Vec Ideal S8x2048 .f32) (x3 : Vec Ideal S8x2048 .f32)
  (x4 : Vec Ideal S4x512x512 .bf16) (x5 : Vec Ideal S1x2048 .f32) (x6 : Vec Ideal S1x2048 .f32)

/-- The block's modulated rows. -/
def uB : Vec Ideal S512x2048 .f32 := k0_pay4 x0 (View.ld x3 (Rect.unit (s := S8x2048) ![3, 0] S1x2048.size inb_S8x2048_S1x2048_3_0))
  (View.ld x3 (Rect.unit (s := S8x2048) ![1, 0] S1x2048.size inb_S8x2048_S1x2048_1_0))
  (View.ld x3 (Rect.unit (s := S8x2048) ![0, 0] S1x2048.size inb_S8x2048_S1x2048_0_0))

/-- The modulated rows before the block. -/
def upB : Vec Ideal S8x2048 .f32 := k0_pay5 i x1 (View.ld x3 (Rect.unit (s := S8x2048) ![3, 0] S1x2048.size inb_S8x2048_S1x2048_3_0))
  (View.ld x3 (Rect.unit (s := S8x2048) ![1, 0] S1x2048.size inb_S8x2048_S1x2048_1_0))
  (View.ld x3 (Rect.unit (s := S8x2048) ![0, 0] S1x2048.size inb_S8x2048_S1x2048_0_0))

/-- The modulated rows after the block. -/
def unB : Vec Ideal S8x2048 .f32 := k0_pay9 (Scalar.cmpi .slt i 31#32) x2 (k0_pay6 (View.ld x3 (Rect.unit (s := S8x2048) ![3, 0] S1x2048.size inb_S8x2048_S1x2048_3_0)))
  (k0_pay7 x2) k0_pay8 (View.ld x3 (Rect.unit (s := S8x2048) ![1, 0] S1x2048.size inb_S8x2048_S1x2048_1_0))
  (View.ld x3 (Rect.unit (s := S8x2048) ![0, 0] S1x2048.size inb_S8x2048_S1x2048_0_0))

/-- The four groups' columns. -/
def yB : Vec Ideal S512x2048 .f32 := join
  (k0_pay14 (uB x0 x3) (k0_pay11 (uB x0 x3) (upB i x1 x3) (Scalar.cmpi .slt i 31#32) x2 (k0_pay6 (View.ld x3 (Rect.unit (s := S8x2048) ![3, 0] S1x2048.size inb_S8x2048_S1x2048_3_0)))
    (k0_pay7 x2) k0_pay8 (View.ld x3 (Rect.unit (s := S8x2048) ![1, 0] S1x2048.size inb_S8x2048_S1x2048_1_0))
    (View.ld x3 (Rect.unit (s := S8x2048) ![0, 0] S1x2048.size inb_S8x2048_S1x2048_0_0))) (k0_pay12 i) (k0_pay13 i)
    (View.ld x4 (Rect.unit (s := S4x512x512) ![0, 0, 0] S1x512x512.size inb_S4x512x512_S1x512x512_0_0_0))
    (View.ld x5 (Rect.unit (s := S1x2048) ![0, 0] S1x512.size inb_S1x2048_S1x512_0_0))
    (View.ld x6 (Rect.unit (s := S1x2048) ![0, 0] S1x512.size inb_S1x2048_S1x512_0_0)))
  (k0_pay18 (uB x0 x3) (k0_pay15 (uB x0 x3) (upB i x1 x3) (unB i x2 x3)) (k0_pay16 (k0_pay10 i)) (k0_pay17 (k0_pay10 i))
    (View.ld x4 (Rect.unit (s := S4x512x512) ![1, 0, 0] S1x512x512.size inb_S4x512x512_S1x512x512_1_0_0))
    (View.ld x5 (Rect.unit (s := S1x2048) ![0, 512] S1x512.size inb_S1x2048_S1x512_0_512))
    (View.ld x6 (Rect.unit (s := S1x2048) ![0, 512] S1x512.size inb_S1x2048_S1x512_0_512)))
  (k0_pay22 (uB x0 x3) (k0_pay10 i) (k0_pay19 (uB x0 x3) (upB i x1 x3) (unB i x2 x3)) (k0_pay20 (k0_pay10 i)) 16384#32 k0_pay21
    (View.ld x4 (Rect.unit (s := S4x512x512) ![2, 0, 0] S1x512x512.size inb_S4x512x512_S1x512x512_2_0_0))
    (View.ld x5 (Rect.unit (s := S1x2048) ![0, 1024] S1x512.size inb_S1x2048_S1x512_0_1024))
    (View.ld x6 (Rect.unit (s := S1x2048) ![0, 1024] S1x512.size inb_S1x2048_S1x512_0_1024)))
  (k0_pay24 (uB x0 x3) (k0_pay10 i) (k0_pay23 (uB x0 x3) (upB i x1 x3) (unB i x2 x3))
    (View.ld x4 (Rect.unit (s := S4x512x512) ![3, 0, 0] S1x512x512.size inb_S4x512x512_S1x512x512_3_0_0))
    (View.ld x5 (Rect.unit (s := S1x2048) ![0, 1536] S1x512.size inb_S1x2048_S1x512_0_1536))
    (View.ld x6 (Rect.unit (s := S1x2048) ![0, 1536] S1x512.size inb_S1x2048_S1x512_0_1536)))

/-- The output rows. -/
def oB : Vec Ideal S512x2048 .f32 := k0_pay1 x0 (View.ld x3 (Rect.unit (s := S8x2048) ![2, 0] S1x2048.size inb_S8x2048_S1x2048_2_0))
  (yB i x0 x1 x2 x3 x4 x5 x6) (View.ld x3 (Rect.unit (s := S8x2048) ![4, 0] S1x2048.size inb_S8x2048_S1x2048_4_0))

end Parts

section Cases

variable (c : Dev nD) (i : grid0.Coords)
  (arg1 : Memref sig .tc .vmem S512x2048 .f32) (harg1 : arg1.IsWhole)
  (arg2 : Memref sig .tc .vmem S8x2048 .f32) (harg2 : arg2.IsWhole)
  (arg3 : Memref sig .tc .vmem S8x2048 .f32) (harg3 : arg3.IsWhole)
  (arg4 : Memref sig .tc .vmem S8x2048 .f32) (harg4 : arg4.IsWhole)
  (arg5 : Memref sig .tc .vmem S4x512x512 .bf16) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S1x1x64x11264 .f32) (harg8 : arg8.IsWhole)
  (arg9 : Memref sig .tc .vmem S1x1x176x2048 .f32) (harg9 : arg9.IsWhole)
  (arg10 : Memref sig .tc .vmem S512x2048 .f32) (harg10 : arg10.IsWhole)
  (arg11 : Memref sig .tc .vmem S64x11264 .bf16) (harg11 : arg11.IsWhole)
  (arg12 : Memref sig .tc .vmem S176x2048 .bf16) (harg12 : arg12.IsWhole)
  (arg13 : Memref sig .tc .vmem S512x2048 .f32) (harg13 : arg13.IsWhole)
  (x0 : Vec Ideal S512x2048 .f32) (x1 : Vec Ideal S8x2048 .f32) (x2 : Vec Ideal S8x2048 .f32) (x3 : Vec Ideal S8x2048 .f32) (x4 : Vec Ideal S4x512x512 .bf16) (x5 : Vec Ideal S1x2048 .f32) (x6 : Vec Ideal S1x2048 .f32) (x7 : Vec Ideal S1x1x64x11264 .f32) (x8 : Vec Ideal S1x1x176x2048 .f32)

/-- The output block. -/
theorem o9 : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = oB (BitVec.ofNat 32 (i 0).val) x0 x1 x2 x3 x4 x5 x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  sl_unfold_words
  rw [View.canon_unit_zero (S := S512x2048) hz]
  simp only [View.readAt_eq_ld, harg1.read_unread, harg2.read_unread, harg3.read_unread, harg4.read_unread, harg5.read_unread, harg6.read_unread, harg7.read_unread, harg8.read_unread, harg9.read_unread, View.ld_unit_zero (S := S512x2048) hz, View.ld_unit_zero (S := S8x2048) hz, View.ld_unit_zero (S := S1x1x64x11264) hz4, View.ld_unit_zero (S := S1x1x176x2048) hz4]
  exact congrArg (fun y => k0_pay1 x0 _ y _) (read_join _ _ _ _ _)

/-- The first cast slab. -/
theorem o10 : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = k0_pay2 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  sl_unfold_words
  rw [View.canon_unit_zero (S := S64x11264) hz]
  simp only [View.readAt_eq_ld, harg1.read_unread, harg2.read_unread, harg3.read_unread, harg4.read_unread, harg5.read_unread, harg6.read_unread, harg7.read_unread, harg8.read_unread, harg9.read_unread, View.ld_unit_zero (S := S512x2048) hz, View.ld_unit_zero (S := S8x2048) hz, View.ld_unit_zero (S := S1x1x64x11264) hz4, View.ld_unit_zero (S := S1x1x176x2048) hz4]

/-- The second cast slab. -/
theorem o11 : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = k0_pay3 x8 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  sl_unfold_words
  rw [View.canon_unit_zero (S := S176x2048) hz]
  simp only [View.readAt_eq_ld, harg1.read_unread, harg2.read_unread, harg3.read_unread, harg4.read_unread, harg5.read_unread, harg6.read_unread, harg7.read_unread, harg8.read_unread, harg9.read_unread, View.ld_unit_zero (S := S512x2048) hz, View.ld_unit_zero (S := S8x2048) hz, View.ld_unit_zero (S := S1x1x64x11264) hz4, View.ld_unit_zero (S := S1x1x176x2048) hz4]

end Cases

end Cert.PoolIdeal.Work

end
-- ==== Proof.PoolArr.lean ====
/-
  What the pooling call's input windows hold at each grid point, as entries of the arguments, and what its three result
  arrays hold, entry by entry.
-/
module

public import proofs.«01_k».proof.Proof.PoolRun
public import Idealize.ShloMosaic.Lib.Pointwise
public import Idealize.ShloMosaic.Lib.StableHlo.ReadAt

@[expose] public section

set_option maxRecDepth 16384

noncomputable section

namespace Cert.PoolIdeal.Work

open Cert.PoolIdeal Cert.PoolIdeal.Gen Idealize.ShloMosaic Idealize.ShloMosaic.TcCoe Idealize.SL.Sem

variable (m : (ℓ : Loc nD τ sig) → Buf (Elt Ideal) ℓ)

theorem lt32 (t : Fin cfg0.N) : t.val < 32 := lt_of_lt_of_eq t.isLt N_0

/-- The index maps of the row windows at every point. -/
theorem idx_rows : ∀ t : Fin cfg0.N,
    win0_0.index t (0 : Fin 2) = t.val ∧ win0_0.index t (1 : Fin 2) = 0
    ∧ win0_1.index t (0 : Fin 2) = t.val * 64 - 1 ∧ win0_1.index t (1 : Fin 2) = 0
    ∧ win0_2.index t (0 : Fin 2) = min (t.val * 64 + 64) 2047 ∧ win0_2.index t (1 : Fin 2) = 0
    ∧ win0_9.index t (0 : Fin 2) = t.val ∧ win0_9.index t (1 : Fin 2) = 0
    ∧ (grid0.coords t 0).val = t.val :=
  (by decide +kernel : ∀ t : Fin grid0.N, _)

/-- The index maps of the vectors and weights. -/
theorem idx_vecs : ∀ t : Fin cfg0.N,
    win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The index maps of the slabs. -/
theorem idx_slabs : ∀ t : Fin cfg0.N,
    win0_7.index t (0 : Fin 4) = 2 ∧ win0_7.index t (1 : Fin 4) = 1
    ∧ win0_7.index t (2 : Fin 4) = t.val ∧ win0_7.index t (3 : Fin 4) = 0
    ∧ win0_8.index t (0 : Fin 4) = 2 ∧ win0_8.index t (1 : Fin 4) = 1
    ∧ win0_8.index t (2 : Fin 4) = t.val ∧ win0_8.index t (3 : Fin 4) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Every point writes its three output blocks back. -/
theorem flush_facts : ∀ t : Fin cfg0.N,
    (cfg0.win 9).flush t = true ∧ (cfg0.win 10).flush t = true ∧ (cfg0.win 11).flush t = true :=
  (by decide +kernel : ∀ t : Fin grid0.N, _)

/-- The nine arguments, as arrays over their literal shapes. -/
abbrev H (c : Dev nD) : Vec Ideal S16384x2048 .f32 := m ((c : Thread nD τ).loc main_arg0)
abbrev Mod (c : Dev nD) : Vec Ideal S9x2048 .f32 := m ((c : Thread nD τ).loc main_arg1)
abbrev Gpre (c : Dev nD) : Vec Ideal S2048 .f32 := m ((c : Thread nD τ).loc main_arg2)
abbrev Gpost (c : Dev nD) : Vec Ideal S2048 .f32 := m ((c : Thread nD τ).loc main_arg3)
abbrev Wp (c : Dev nD) : Vec Ideal S4x512x512 .f32 := m ((c : Thread nD τ).loc main_arg4)
abbrev Bias (c : Dev nD) : Vec Ideal S2048 .f32 := m ((c : Thread nD τ).loc main_arg5)
abbrev Scl (c : Dev nD) : Vec Ideal S2048 .f32 := m ((c : Thread nD τ).loc main_arg6)
abbrev NextIn (c : Dev nD) : Vec Ideal S4x2x2048x11264 .f32 := m ((c : Thread nD τ).loc main_arg7)
abbrev NextOut (c : Dev nD) : Vec Ideal S4x2x5632x2048 .f32 := m ((c : Thread nD τ).loc main_arg8)

/-- The packed vectors: shift, scale, gate and the two norm gains. -/
theorem V_v15 (c : Dev nD) (d : Fin 2048) :
    (V m c main_v15 : Vec Ideal S8x2048 .f32) (ix2 0 d) = Mod m c (ix2 3 d)
    ∧ (V m c main_v15 : Vec Ideal S8x2048 .f32) (ix2 1 d) = Mod m c (ix2 4 d)
    ∧ (V m c main_v15 : Vec Ideal S8x2048 .f32) (ix2 2 d) = Mod m c (ix2 5 d)
    ∧ (V m c main_v15 : Vec Ideal S8x2048 .f32) (ix2 3 d) = Gpre m c (ix1 d)
    ∧ (V m c main_v15 : Vec Ideal S8x2048 .f32) (ix2 4 d) = Gpost m c (ix1 d) := by
  have e : V m c main_v15 = (StableHlo.after hostOps0 (fun b => m (c, b)) (Proc.devRef .tc main_v15)) := rfl
  rw [e]
  unfold hostOps0
  after_results
  refine ⟨?_, ?_, ?_, ?_, ?_⟩ <;> pointwise
  all_goals repeat rw [StableHlo.unary_result_ne _ _ _ _ _ _ (by decide)]
  all_goals rw [StableHlo.unary_result]
  all_goals repeat first
    | (rw [StableHlo.unary_result_ne]; rotate_left; decide)
    | (rw [StableHlo.reshape_result_ne]; rotate_left; decide)
    | (rw [StableHlo.nullary_result_ne]; rotate_left; decide)
    | rw [StableHlo.unary_result]
    | rw [StableHlo.reshape_result]
  all_goals pointwise
  all_goals rfl

/-- The weights as the call reads them: the argument's, format changed. -/
theorem V_v16 (c : Dev nD) : V m c main_v16 = Wp m c := by
  show StableHlo.after hostOps0 (fun b => m (c, b)) (Proc.devRef .tc main_v16) = _
  unfold hostOps0
  after_results
  rfl

/-- The bias as the call reads it: one row. -/
theorem V_v17 (c : Dev nD) (d : Fin 2048) : (V m c main_v17 : Vec Ideal S1x2048 .f32) (ix2 0 d) = Bias m c (ix1 d) := by
  have e : V m c main_v17 = (StableHlo.after hostOps0 (fun b => m (c, b)) (Proc.devRef .tc main_v17)) := rfl
  rw [e]
  unfold hostOps0
  after_results
  pointwise
  all_goals rfl

/-- The scale as the call reads it: one row. -/
theorem V_v18 (c : Dev nD) (d : Fin 2048) : (V m c main_v18 : Vec Ideal S1x2048 .f32) (ix2 0 d) = Scl m c (ix1 d) := by
  have e : V m c main_v18 = (StableHlo.after hostOps0 (fun b => m (c, b)) (Proc.devRef .tc main_v18)) := rfl
  rw [e]
  unfold hostOps0
  after_results
  pointwise
  all_goals rfl

theorem iblk0_apply (c : Dev nD) (t : Fin cfg0.N) (r : Fin 512) (d : Fin 2048) :
    (iblk m c 0 t : Vec Ideal S512x2048 .f32) (ix2 r d) = H m c (ix2 ⟨512 * t.val + r.val, by have := lt32 t; omega⟩ d) := by
  obtain ⟨h0, h1, -⟩ := idx_rows t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * t.val + r.val; rw [h0]; omega
  | ⟨1, _⟩ => show win0_0.index t 1 * 2048 + 1 * d.val = d.val; rw [h1]; omega

/-- The eight rows before a block that is not the first. -/
theorem iblk1_apply (c : Dev nD) (t : Fin cfg0.N) (hp : 0 < t.val) (r : Fin 8) (d : Fin 2048) :
    (iblk m c 1 t : Vec Ideal S8x2048 .f32) (ix2 r d)
      = H m c (ix2 ⟨512 * t.val + r.val - 8, by have := lt32 t; omega⟩ d) := by
  obtain ⟨-, -, h0, h1, -⟩ := idx_rows t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 8 + 1 * r.val = 512 * t.val + r.val - 8; rw [h0]; omega
  | ⟨1, _⟩ => show win0_1.index t 1 * 2048 + 1 * d.val = d.val; rw [h1]; omega

/-- The eight rows after a block that is not the last. -/
theorem iblk2_apply (c : Dev nD) (t : Fin cfg0.N) (hn : t.val < 31) (r : Fin 8) (d : Fin 2048) :
    (iblk m c 2 t : Vec Ideal S8x2048 .f32) (ix2 r d)
      = H m c (ix2 ⟨512 * t.val + 512 + r.val, by omega⟩ d) := by
  obtain ⟨-, -, -, -, h0, h1, -⟩ := idx_rows t
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 8 + 1 * r.val = 512 * t.val + 512 + r.val; rw [h0]; omega
  | ⟨1, _⟩ => show win0_2.index t 1 * 2048 + 1 * d.val = d.val; rw [h1]; omega

theorem iblk3_apply (c : Dev nD) (t : Fin cfg0.N) (k : Fin 8) (d : Fin 2048) :
    (iblk m c 3 t : Vec Ideal S8x2048 .f32) (ix2 k d) = (V m c main_v15 : Vec Ideal S8x2048 .f32) (ix2 k d) := by
  obtain ⟨h0, h1, -⟩ := idx_vecs t
  unfold iblk
  rw [View.read_apply]
  show (V m c main_v15 : Vec Ideal S8x2048 .f32) _ = _
  refine congrArg (V m c main_v15 : Vec Ideal S8x2048 .f32) (funext fun a => Fin.ext ?_)
  match a with
  | ⟨0, _⟩ => show win0_3.index t 0 * 8 + 1 * k.val = k.val; rw [h0]; omega
  | ⟨1, _⟩ => show win0_3.index t 1 * 2048 + 1 * d.val = d.val; rw [h1]; omega

theorem iblk4_apply (c : Dev nD) (t : Fin cfg0.N) (q : Fin 4) (k d : Fin 512) :
    (iblk m c 4 t : Vec Ideal S4x512x512 .bf16) (ix3 q k d) = Wp m c (ix3 q k d) := by
  obtain ⟨-, -, h0, h1, h2, -⟩ := idx_vecs t
  unfold iblk
  rw [View.read_apply]
  show (V m c main_v16 : Vec Ideal S4x512x512 .bf16) _ = _
  rw [V_v16]
  refine congrArg (Wp m c) (funext fun a => Fin.ext ?_)
  match a with
  | ⟨0, _⟩ => show win0_4.index t 0 * 4 + 1 * q.val = q.val; rw [h0]; omega
  | ⟨1, _⟩ => show win0_4.index t 1 * 512 + 1 * k.val = k.val; rw [h1]; omega
  | ⟨2, _⟩ => show win0_4.index t 2 * 512 + 1 * d.val = d.val; rw [h2]; omega

theorem iblk5_apply (c : Dev nD) (t : Fin cfg0.N) (d : Fin 2048) :
    (iblk m c 5 t : Vec Ideal S1x2048 .f32) (ix2 0 d) = Bias m c (ix1 d) := by
  obtain ⟨-, -, -, -, -, h0, h1, -⟩ := idx_vecs t
  rw [← V_v17]
  unfold iblk
  rw [View.read_apply]
  show (V m c main_v17 : Vec Ideal S1x2048 .f32) _ = _
  refine congrArg (V m c main_v17 : Vec Ideal S1x2048 .f32) (funext fun a => Fin.ext ?_)
  match a with
  | ⟨0, _⟩ => show win0_5.index t 0 * 1 + 1 * 0 = 0; rw [h0]
  | ⟨1, _⟩ => show win0_5.index t 1 * 2048 + 1 * d.val = d.val; rw [h1]; omega

theorem iblk6_apply (c : Dev nD) (t : Fin cfg0.N) (d : Fin 2048) :
    (iblk m c 6 t : Vec Ideal S1x2048 .f32) (ix2 0 d) = Scl m c (ix1 d) := by
  obtain ⟨-, -, -, -, -, -, -, h0, h1⟩ := idx_vecs t
  rw [← V_v18]
  unfold iblk
  rw [View.read_apply]
  show (V m c main_v18 : Vec Ideal S1x2048 .f32) _ = _
  refine congrArg (V m c main_v18 : Vec Ideal S1x2048 .f32) (funext fun a => Fin.ext ?_)
  match a with
  | ⟨0, _⟩ => show win0_6.index t 0 * 1 + 1 * 0 = 0; rw [h0]
  | ⟨1, _⟩ => show win0_6.index t 1 * 2048 + 1 * d.val = d.val; rw [h1]; omega

theorem iblk7_apply (c : Dev nD) (t : Fin cfg0.N) (r : Fin 64) (d : Fin 11264) :
    (iblk m c 7 t : Vec Ideal S1x1x64x11264 .f32) (ix4 0 0 r d)
      = NextIn m c (ix4 2 1 ⟨64 * t.val + r.val, by have := lt32 t; omega⟩ d) := by
  obtain ⟨h0, h1, h2, h3, -⟩ := idx_slabs t
  unfold iblk
  rw [View.read_apply]
  show V m c main_arg7 _ = _
  rw [V_main_arg7]
  refine congrArg (m ((c : Thread nD τ).loc main_arg7)) (funext fun a => Fin.ext ?_)
  match a with
  | ⟨0, _⟩ => show win0_7.index t 0 * 1 + 1 * 0 = 2; rw [h0]
  | ⟨1, _⟩ => show win0_7.index t 1 * 1 + 1 * 0 = 1; rw [h1]
  | ⟨2, _⟩ => show win0_7.index t 2 * 64 + 1 * r.val = 64 * t.val + r.val; rw [h2]; omega
  | ⟨3, _⟩ => show win0_7.index t 3 * 11264 + 1 * d.val = d.val; rw [h3]; omega

theorem iblk8_apply (c : Dev nD) (t : Fin cfg0.N) (r : Fin 176) (d : Fin 2048) :
    (iblk m c 8 t : Vec Ideal S1x1x176x2048 .f32) (ix4 0 0 r d)
      = NextOut m c (ix4 2 1 ⟨176 * t.val + r.val, by have := lt32 t; omega⟩ d) := by
  obtain ⟨-, -, -, -, h0, h1, h2, h3, -⟩ := idx_slabs t
  unfold iblk
  rw [View.read_apply]
  show V m c main_arg8 _ = _
  rw [V_main_arg8]
  refine congrArg (m ((c : Thread nD τ).loc main_arg8)) (funext fun a => Fin.ext ?_)
  match a with
  | ⟨0, _⟩ => show win0_8.index t 0 * 1 + 1 * 0 = 2; rw [h0]
  | ⟨1, _⟩ => show win0_8.index t 1 * 1 + 1 * 0 = 1; rw [h1]
  | ⟨2, _⟩ => show win0_8.index t 2 * 176 + 1 * r.val = 176 * t.val + r.val; rw [h2]; omega
  | ⟨3, _⟩ => show win0_8.index t 3 * 2048 + 1 * d.val = d.val; rw [h3]; omega

/-! ## Reads of one row, one group's weights and one group's columns -/

theorem row0 (x : Vec Ideal S8x2048 .f32) (d : Fin 2048) :
    View.ld x (Rect.unit (s := S8x2048) ![0, 0] S1x2048.size inb_S8x2048_S1x2048_0_0) (ix2 0 d) = x (ix2 0 d) :=
  congrArg x (funext fun a => Fin.ext (by
    match a with
    | ⟨0, _⟩ => rfl
    | ⟨1, _⟩ => show 0 + 1 * d.val = d.val; omega))

theorem row1 (x : Vec Ideal S8x2048 .f32) (d : Fin 2048) :
    View.ld x (Rect.unit (s := S8x2048) ![1, 0] S1x2048.size inb_S8x2048_S1x2048_1_0) (ix2 0 d) = x (ix2 1 d) :=
  congrArg x (funext fun a => Fin.ext (by
    match a with
    | ⟨0, _⟩ => rfl
    | ⟨1, _⟩ => show 0 + 1 * d.val = d.val; omega))

theorem row2 (x : Vec Ideal S8x2048 .f32) (d : Fin 2048) :
    View.ld x (Rect.unit (s := S8x2048) ![2, 0] S1x2048.size inb_S8x2048_S1x2048_2_0) (ix2 0 d) = x (ix2 2 d) :=
  congrArg x (funext fun a => Fin.ext (by
    match a with
    | ⟨0, _⟩ => rfl
    | ⟨1, _⟩ => show 0 + 1 * d.val = d.val; omega))

theorem row3 (x : Vec Ideal S8x2048 .f32) (d : Fin 2048) :
    View.ld x (Rect.unit (s := S8x2048) ![3, 0] S1x2048.size inb_S8x2048_S1x2048_3_0) (ix2 0 d) = x (ix2 3 d) :=
  congrArg x (funext fun a => Fin.ext (by
    match a with
    | ⟨0, _⟩ => rfl
    | ⟨1, _⟩ => show 0 + 1 * d.val = d.val; omega))

theorem row4 (x : Vec Ideal S8x2048 .f32) (d : Fin 2048) :
    View.ld x (Rect.unit (s := S8x2048) ![4, 0] S1x2048.size inb_S8x2048_S1x2048_4_0) (ix2 0 d) = x (ix2 4 d) :=
  congrArg x (funext fun a => Fin.ext (by
    match a with
    | ⟨0, _⟩ => rfl
    | ⟨1, _⟩ => show 0 + 1 * d.val = d.val; omega))

theorem wt0 (x : Vec Ideal S4x512x512 .bf16) (k d : Fin 512) :
    View.ld x (Rect.unit (s := S4x512x512) ![0, 0, 0] S1x512x512.size inb_S4x512x512_S1x512x512_0_0_0) (ix3 0 k d) = x (ix3 0 k d) :=
  congrArg x (funext fun a => Fin.ext (by
    match a with
    | ⟨0, _⟩ => rfl
    | ⟨1, _⟩ => show 0 + 1 * k.val = k.val; omega
    | ⟨2, _⟩ => show 0 + 1 * d.val = d.val; omega))

theorem cols0 (x : Vec Ideal S1x2048 .f32) (d : Fin 512) :
    View.ld x (Rect.unit (s := S1x2048) ![0, 0] S1x512.size inb_S1x2048_S1x512_0_0) (ix2 0 d) = x (ix2 0 (gcol 0 d)) :=
  congrArg x (funext fun a => Fin.ext (by
    match a with
    | ⟨0, _⟩ => rfl
    | ⟨1, _⟩ => show 0 + 1 * d.val = 512 * 0 + d.val; omega))

theorem wt1 (x : Vec Ideal S4x512x512 .bf16) (k d : Fin 512) :
    View.ld x (Rect.unit (s := S4x512x512) ![1, 0, 0] S1x512x512.size inb_S4x512x512_S1x512x512_1_0_0) (ix3 0 k d) = x (ix3 1 k d) :=
  congrArg x (funext fun a => Fin.ext (by
    match a with
    | ⟨0, _⟩ => rfl
    | ⟨1, _⟩ => show 0 + 1 * k.val = k.val; omega
    | ⟨2, _⟩ => show 0 + 1 * d.val = d.val; omega))

theorem cols1 (x : Vec Ideal S1x2048 .f32) (d : Fin 512) :
    View.ld x (Rect.unit (s := S1x2048) ![0, 512] S1x512.size inb_S1x2048_S1x512_0_512) (ix2 0 d) = x (ix2 0 (gcol 1 d)) :=
  congrArg x (funext fun a => Fin.ext (by
    match a with
    | ⟨0, _⟩ => rfl
    | ⟨1, _⟩ => show 512 + 1 * d.val = 512 * 1 + d.val; omega))

theorem wt2 (x : Vec Ideal S4x512x512 .bf16) (k d : Fin 512) :
    View.ld x (Rect.unit (s := S4x512x512) ![2, 0, 0] S1x512x512.size inb_S4x512x512_S1x512x512_2_0_0) (ix3 0 k d) = x (ix3 2 k d) :=
  congrArg x (funext fun a => Fin.ext (by
    match a with
    | ⟨0, _⟩ => rfl
    | ⟨1, _⟩ => show 0 + 1 * k.val = k.val; omega
    | ⟨2, _⟩ => show 0 + 1 * d.val = d.val; omega))

theorem cols2 (x : Vec Ideal S1x2048 .f32) (d : Fin 512) :
    View.ld x (Rect.unit (s := S1x2048) ![0, 1024] S1x512.size inb_S1x2048_S1x512_0_1024) (ix2 0 d) = x (ix2 0 (gcol 2 d)) :=
  congrArg x (funext fun a => Fin.ext (by
    match a with
    | ⟨0, _⟩ => rfl
    | ⟨1, _⟩ => show 1024 + 1 * d.val = 512 * 2 + d.val; omega))

theorem wt3 (x : Vec Ideal S4x512x512 .bf16) (k d : Fin 512) :
    View.ld x (Rect.unit (s := S4x512x512) ![3, 0, 0] S1x512x512.size inb_S4x512x512_S1x512x512_3_0_0) (ix3 0 k d) = x (ix3 3 k d) :=
  congrArg x (funext fun a => Fin.ext (by
    match a with
    | ⟨0, _⟩ => rfl
    | ⟨1, _⟩ => show 0 + 1 * k.val = k.val; omega
    | ⟨2, _⟩ => show 0 + 1 * d.val = d.val; omega))

theorem cols3 (x : Vec Ideal S1x2048 .f32) (d : Fin 512) :
    View.ld x (Rect.unit (s := S1x2048) ![0, 1536] S1x512.size inb_S1x2048_S1x512_0_1536) (ix2 0 d) = x (ix2 0 (gcol 3 d)) :=
  congrArg x (funext fun a => Fin.ext (by
    match a with
    | ⟨0, _⟩ => rfl
    | ⟨1, _⟩ => show 1536 + 1 * d.val = 512 * 3 + d.val; omega))

/-! ## The rows around a block -/

theorem sgt_sel {α : Type} (a b : α) (i : ℕ) (h : i < 32) :
    Scalar.select (Scalar.cmpi CmpIPredicate.sgt (BitVec.ofNat 32 i) 0#32) a b = if 0 < i then a else b := by
  interval_cases i <;> rfl

theorem slt_sel {α : Type} (a b : α) (i : ℕ) (h : i < 32) :
    Scalar.select (Scalar.cmpi CmpIPredicate.slt (BitVec.ofNat 32 i) 31#32) a b = if i < 31 then a else b := by
  interval_cases i <;> rfl

/-- An entry of the modulated rows. -/
def U (c : Dev nD) (ρ : Fin 16384) (d : Fin 2048) : EReal :=
  modulated (fun z => H m c (ix2 ρ z)) (Gpre m c (ix1 d)) (Mod m c (ix2 4 d)) (Mod m c (ix2 3 d)) d

/-- The modulated rows from eight before the first, zero outside the sequence. -/
def Upad (c : Dev nD) (p : ℕ) (d : Fin 2048) : EReal :=
  if h : 8 ≤ p ∧ p < 16392 then U m c ⟨p - 8, by omega⟩ d else 0

variable (c : Dev nD) (t : Fin cfg0.N)

/-- The grid coordinate, as a word. -/
abbrev gi : BitVec 32 := BitVec.ofNat 32 (grid0.coords t 0).val

theorem gi_eq : gi t = BitVec.ofNat 32 t.val := congrArg _ (idx_rows t).2.2.2.2.2.2.2.2

abbrev ub : Vec Ideal S512x2048 .f32 := uB (iblk m c 0 t) (iblk m c 3 t)
abbrev upb : Vec Ideal S8x2048 .f32 := upB (gi t) (iblk m c 1 t) (iblk m c 3 t)
abbrev unb : Vec Ideal S8x2048 .f32 := unB (gi t) (iblk m c 2 t) (iblk m c 3 t)

theorem uB_blk (r : Fin 512) (d : Fin 2048) : ub m c t (ix2 r d) = U m c ⟨512 * t.val + r.val, by have := lt32 t; omega⟩ d := by
  obtain ⟨e0, e1, -, e3, -⟩ := V_v15 m c d
  unfold ub uB U
  rw [pay4_apply, row3, row1, row0, iblk3_apply, iblk3_apply, iblk3_apply, e0, e1, e3]
  simp only [iblk0_apply]

theorem upB_blk (r : Fin 8) (d : Fin 2048) : upb m c t (ix2 r d) = Upad m c (512 * t.val + r.val) d := by
  obtain ⟨e0, e1, -, e3, -⟩ := V_v15 m c d
  have ht := lt32 t
  unfold upb upB Upad U
  rw [pay5_apply, row3, row1, row0, iblk3_apply, iblk3_apply, iblk3_apply, e0, e1, e3, gi_eq, sgt_sel _ _ _ ht]
  by_cases h : 0 < t.val
  · rw [if_pos h, dif_pos (by omega)]
    simp only [iblk1_apply m c t h]
  · rw [if_neg h, dif_neg (by omega)]

theorem unB_blk (r : Fin 8) (d : Fin 2048) : unb m c t (ix2 r d) = Upad m c (512 * t.val + (520 + r.val)) d := by
  obtain ⟨e0, e1, -, e3, -⟩ := V_v15 m c d
  have ht := lt32 t
  unfold unb unB Upad U
  rw [pay9_apply, row3, row1, row0, iblk3_apply, iblk3_apply, iblk3_apply, e0, e1, e3, gi_eq, slt_sel _ _ _ ht]
  by_cases h : t.val < 31
  · rw [if_pos h, dif_pos (by omega)]
    simp only [iblk2_apply m c t h]
    refine congrArg (fun f : Fin 2048 → EReal => modulated f _ _ _ d) (funext fun z => congrArg (fun ρ => H m c (ix2 ρ z)) (Fin.ext ?_))
    show 512 * t.val + 512 + r.val = 512 * t.val + (520 + r.val) - 8
    omega
  · rw [if_neg h, dif_neg (by omega)]

/-- The rows around a block are the padded sequence's. -/
theorem ext_blk (e : ℕ) (he : e < 528) (d : Fin 2048) : ext (ub m c t) (upb m c t) (unb m c t) e d = Upad m c (512 * t.val + e) d := by
  have ht := lt32 t
  unfold ext
  split
  · exact upB_blk m c t ⟨e, by assumption⟩ d
  · split
    · rename_i h1 h2
      rw [uB_blk]
      unfold Upad
      rw [dif_pos (by omega)]
      refine congrArg (fun ρ => U m c ρ d) (Fin.ext ?_)
      show 512 * t.val + (e - 8) = 512 * t.val + e - 8
      omega
    · rename_i h1 h2
      rw [unB_blk]
      show Upad m c (512 * t.val + (520 + (e - 520))) d = _
      rw [show 520 + (e - 520) = e by omega]

/-- The sum of the `s` rows of the padded sequence from the `st`-th after row `ρ`. -/
def Wsum (s st : ℕ) (ρ : ℕ) (d : Fin 2048) : EReal := ∑ k ∈ Finset.range s, Upad m c (ρ + (st + k)) d

theorem win_blk (s st : ℕ) (h : st + s ≤ 17) (r : Fin 512) (d : Fin 2048) :
    win (ub m c t) (upb m c t) (unb m c t) s st r.val d = Wsum m c s st (512 * t.val + r.val) d := by
  unfold win Wsum
  refine Finset.sum_congr rfl fun k hk => ?_
  have := Finset.mem_range.mp hk
  rw [ext_blk m c t _ (by omega)]
  exact congrArg (fun p => Upad m c p d) (by omega)

/-- The row's number, as a word. -/
theorem word_eq (r : Fin 512) : word (gi t) r = BitVec.ofNat 32 (512 * t.val + r.val) := by
  rw [gi_eq]
  have ht := lt32 t
  show BitVec.ofNat 32 t.val * 512#32 + BitVec.ofNat 32 r.val = _
  apply BitVec.eq_of_toNat_eq
  simp only [BitVec.toNat_add, BitVec.toNat_mul, BitVec.toNat_ofNat]
  omega

/-- An entry of a group's columns, for windows of `s` rows from the `st`-th of the padded sequence's. -/
def Yq (q : Fin 4) (s st : ℕ) (h w : BitVec 32) (ρ : Fin 16384) (d : Fin 512) : EReal :=
  ((∑ k, (Ideal.div (Wsum m c s st ρ.val (gcol q k)) (count h w (BitVec.ofNat 32 ρ.val)) - U m c ρ (gcol q k)) * Wp m c (ix3 q k d))
    + Bias m c (ix1 (gcol q d))) * Scl m c (ix1 (gcol q d))

/-- An entry of the four groups' columns. -/
def Y (ρ : Fin 16384) (z : Fin 2048) : EReal :=
  if z.val / 512 = 0 then Yq m c 0 2 7 1#32 2#32 ρ ⟨z.val % 512, Nat.mod_lt _ (by omega)⟩
  else if z.val / 512 = 1 then Yq m c 1 4 6 2#32 4#32 ρ ⟨z.val % 512, Nat.mod_lt _ (by omega)⟩
  else if z.val / 512 = 2 then Yq m c 2 8 4 4#32 8#32 ρ ⟨z.val % 512, Nat.mod_lt _ (by omega)⟩
  else Yq m c 3 16 0 8#32 16#32 ρ ⟨z.val % 512, Nat.mod_lt _ (by omega)⟩

abbrev yb : Vec Ideal S512x2048 .f32 :=
  yB (gi t) (iblk m c 0 t) (iblk m c 1 t) (iblk m c 2 t) (iblk m c 3 t) (iblk m c 4 t) (iblk m c 5 t) (iblk m c 6 t)

theorem grp_blk (q : Fin 4) (s st : ℕ) (h w : BitVec 32) (hs : st + s ≤ 17) (a : Fin 512 → EReal) (wv : Vec Ideal S1x512x512 .bf16) (bv sv : EReal) (r d : Fin 512)
    (ha : ∀ k, a k = win (ub m c t) (upb m c t) (unb m c t) s st r.val (gcol q k))
    (hw : ∀ k, wv (ix3 0 k d) = Wp m c (ix3 q k d)) (hb : bv = Bias m c (ix1 (gcol q d))) (hv : sv = Scl m c (ix1 (gcol q d))) :
    grp q a (count h w (word (gi t) r)) (fun z => ub m c t (ix2 r z)) wv bv sv d
      = Yq m c q s st h w ⟨512 * t.val + r.val, by have := lt32 t; omega⟩ d := by
  unfold grp Yq
  rw [hb, hv, word_eq]
  simp only [ha, hw, win_blk m c t s st hs, uB_blk]

/-- The block's columns. -/
theorem yB_blk (r : Fin 512) (z : Fin 2048) : yb m c t (ix2 r z) = Y m c ⟨512 * t.val + r.val, by have := lt32 t; omega⟩ z := by
  have hz : z.val / 512 < 4 := by omega
  unfold yb yB join Y
  show (if z.val / 512 = 0 then (_ : Vec Ideal S512x512 .f32) else if z.val / 512 = 1 then _ else if z.val / 512 = 2 then _ else _)
    (ix2 r (⟨z.val % 512, Nat.mod_lt _ (by omega)⟩ : Fin 512)) = _
  generalize (⟨z.val % 512, Nat.mod_lt _ (by omega)⟩ : Fin 512) = d
  split
  · exact (pay14_apply _ _ _ _ _ _ _ _).trans (grp_blk m c t 0 2 7 _ _ (by omega) _ _ _ _ r d (fun k => pay11_apply _ _ _ _ _ _ _ _ _ r k)
      (fun k => (wt0 _ k d).trans (iblk4_apply m c t 0 k d)) ((cols0 _ d).trans (iblk5_apply m c t _)) ((cols0 _ d).trans (iblk6_apply m c t _)))
  · split
    · exact (pay18_apply _ _ _ _ _ _ _ _).trans (grp_blk m c t 1 4 6 _ _ (by omega) _ _ _ _ r d (fun k => pay15_apply _ _ _ r k)
        (fun k => (wt1 _ k d).trans (iblk4_apply m c t 1 k d)) ((cols1 _ d).trans (iblk5_apply m c t _)) ((cols1 _ d).trans (iblk6_apply m c t _)))
    · split
      · exact (pay22_apply _ _ _ _ _ _ _ _).trans (grp_blk m c t 2 8 4 _ _ (by omega) _ _ _ _ r d (fun k => pay19_apply _ _ _ r k)
          (fun k => (wt2 _ k d).trans (iblk4_apply m c t 2 k d)) ((cols2 _ d).trans (iblk5_apply m c t _)) ((cols2 _ d).trans (iblk6_apply m c t _)))
      · exact (pay24_apply _ _ _ _ _ _ _ _ _).trans (grp_blk m c t 3 16 0 _ _ (by omega) _ _ _ _ r d (fun k => rfl)
          (fun k => (wt3 _ k d).trans (iblk4_apply m c t 3 k d)) ((cols3 _ d).trans (iblk5_apply m c t _)) ((cols3 _ d).trans (iblk6_apply m c t _)))

/-- An entry of the first result as the call computes it. -/
def Out (ρ : Fin 16384) (d : Fin 2048) : EReal :=
  H m c (ix2 ρ d) + Mod m c (ix2 5 d) * normed (Y m c ρ) (Gpost m c (ix1 d)) d

/-- The output rows a point leaves. -/
theorem oB_blk (r : Fin 512) (d : Fin 2048) :
    oB (gi t) (iblk m c 0 t) (iblk m c 1 t) (iblk m c 2 t) (iblk m c 3 t) (iblk m c 4 t) (iblk m c 5 t) (iblk m c 6 t) (ix2 r d)
      = Out m c ⟨512 * t.val + r.val, by have := lt32 t; omega⟩ d := by
  obtain ⟨-, -, e2, -, e4⟩ := V_v15 m c d
  unfold oB Out
  rw [pay1_apply, row2, row4, iblk3_apply, iblk3_apply, e2, e4, iblk0_apply]
  rw [show (fun z => yB (gi t) (iblk m c 0 t) (iblk m c 1 t) (iblk m c 2 t) (iblk m c 3 t) (iblk m c 4 t) (iblk m c 5 t) (iblk m c 6 t) (ix2 r z))
    = Y m c ⟨512 * t.val + r.val, by have := lt32 t; omega⟩ from funext fun z => yB_blk m c t r z]

/-- Result array 0. -/
def Res9 : Vec Ideal S16384x2048 .f32 := (dats m 0 c).arrAt 9 cfg0.N

theorem flush9 (r : Fin 512) (d : Fin 2048) :
    Res9 m c (ix2 ⟨512 * t.val + r.val, by have := lt32 t; omega⟩ d)
      = Out m c ⟨512 * t.val + r.val, by have := lt32 t; omega⟩ d := by
  obtain ⟨-, -, -, -, -, -, h0, h1, -⟩ := idx_rows t
  have e := congrFun (Cert.PoolIdeal.Value.blocks9 m c t (flush_facts t).1) (ix2 r d)
  rw [View.read_apply, Cert.PoolIdeal.Value.flushed9_A] at e
  refine Eq.trans (Eq.trans ?_ e) ?_
  · unfold Res9
    refine congrArg ((dats m 0 c).arrAt 9 cfg0.N) (funext fun a => Fin.ext ?_)
    match a with
    | ⟨0, _⟩ => show 512 * t.val + r.val = win0_9.index t 0 * 512 + 1 * r.val; rw [h0]; omega
    | ⟨1, _⟩ => show d.val = win0_9.index t 1 * 2048 + 1 * d.val; rw [h1]; omega
  show out0_A_9 (F := Ideal) c (grid0.coords t) _ _ _ _ _ _ _ _ _ _ _ _ _ _ _ _ _ _ _ _ _ _ _ _ _ _ _ _ _ _ _ _ _ _ _ (ix2 r d) = _
  rw [o9]
  exact oB_blk m c t r d

/-- Result array 0, entry by entry. -/
theorem res9_apply (ρ : Fin 16384) (d : Fin 2048) : Res9 m c (ix2 ρ d) = Out m c ρ d := by
  have hN : ρ.val / 512 < cfg0.N := lt_of_lt_of_eq (by omega : _ < 32) N_0.symm
  have e : ρ = ⟨512 * (⟨ρ.val / 512, hN⟩ : Fin cfg0.N).val + (⟨ρ.val % 512, by omega⟩ : Fin 512).val, by
      show 512 * (ρ.val / 512) + ρ.val % 512 < _; omega⟩ :=
    Fin.ext (by show ρ.val = 512 * (ρ.val / 512) + ρ.val % 512; omega)
  rw [e, flush9]

/-- Result array 1. -/
def Res10 : Vec Ideal S2048x11264 .bf16 := (dats m 0 c).arrAt 10 cfg0.N

theorem flush10 (r : Fin 64) (d : Fin 11264) :
    Res10 m c (ix2 ⟨64 * t.val + r.val, by have := lt32 t; omega⟩ d)
      = NextIn m c (ix4 2 1 ⟨64 * t.val + r.val, by have := lt32 t; omega⟩ d) := by
  obtain ⟨-, -, -, -, -, -, -, -, h0, h1, -⟩ := idx_slabs t
  have e := congrFun (Cert.PoolIdeal.Value.blocks10 m c t (flush_facts t).2.1) (ix2 r d)
  rw [View.read_apply, Cert.PoolIdeal.Value.flushed10_A] at e
  refine Eq.trans (Eq.trans ?_ e) ?_
  · unfold Res10
    refine congrArg ((dats m 0 c).arrAt 10 cfg0.N) (funext fun a => Fin.ext ?_)
    match a with
    | ⟨0, _⟩ => show 64 * t.val + r.val = win0_10.index t 0 * 64 + 1 * r.val; rw [h0]; omega
    | ⟨1, _⟩ => show d.val = win0_10.index t 1 * 11264 + 1 * d.val; rw [h1]; omega
  show out0_A_10 (F := Ideal) c (grid0.coords t) _ _ _ _ _ _ _ _ _ _ _ _ _ _ _ _ _ _ _ _ _ _ _ _ _ _ _ _ _ _ _ _ _ _ _ (ix2 r d) = _
  rw [o10, ← iblk7_apply]
  unfold_payloads
  pointwise

/-- Result array 1, entry by entry. -/
theorem res10_apply (ρ : Fin 2048) (d : Fin 11264) : Res10 m c (ix2 ρ d) = NextIn m c (ix4 2 1 ρ d) := by
  have hN : ρ.val / 64 < cfg0.N := lt_of_lt_of_eq (by omega : _ < 32) N_0.symm
  have e : ρ = ⟨64 * (⟨ρ.val / 64, hN⟩ : Fin cfg0.N).val + (⟨ρ.val % 64, by omega⟩ : Fin 64).val, by
      show 64 * (ρ.val / 64) + ρ.val % 64 < _; omega⟩ :=
    Fin.ext (by show ρ.val = 64 * (ρ.val / 64) + ρ.val % 64; omega)
  rw [e, flush10]

/-- Result array 2. -/
def Res11 : Vec Ideal S5632x2048 .bf16 := (dats m 0 c).arrAt 11 cfg0.N

theorem flush11 (r : Fin 176) (d : Fin 2048) :
    Res11 m c (ix2 ⟨176 * t.val + r.val, by have := lt32 t; omega⟩ d)
      = NextOut m c (ix4 2 1 ⟨176 * t.val + r.val, by have := lt32 t; omega⟩ d) := by
  obtain ⟨-, -, -, -, -, -, -, -, -, -, h0, h1⟩ := idx_slabs t
  have e := congrFun (Cert.PoolIdeal.Value.blocks11 m c t (flush_facts t).2.2) (ix2 r d)
  rw [View.read_apply, Cert.PoolIdeal.Value.flushed11_A] at e
  refine Eq.trans (Eq.trans ?_ e) ?_
  · unfold Res11
    refine congrArg ((dats m 0 c).arrAt 11 cfg0.N) (funext fun a => Fin.ext ?_)
    match a with
    | ⟨0, _⟩ => show 176 * t.val + r.val = win0_11.index t 0 * 176 + 1 * r.val; rw [h0]; omega
    | ⟨1, _⟩ => show d.val = win0_11.index t 1 * 2048 + 1 * d.val; rw [h1]; omega
  show out0_A_11 (F := Ideal) c (grid0.coords t) _ _ _ _ _ _ _ _ _ _ _ _ _ _ _ _ _ _ _ _ _ _ _ _ _ _ _ _ _ _ _ _ _ _ _ (ix2 r d) = _
  rw [o11, ← iblk8_apply]
  unfold_payloads
  pointwise

/-- Result array 2, entry by entry. -/
theorem res11_apply (ρ : Fin 5632) (d : Fin 2048) : Res11 m c (ix2 ρ d) = NextOut m c (ix4 2 1 ρ d) := by
  have hN : ρ.val / 176 < cfg0.N := lt_of_lt_of_eq (by omega : _ < 32) N_0.symm
  have e : ρ = ⟨176 * (⟨ρ.val / 176, hN⟩ : Fin cfg0.N).val + (⟨ρ.val % 176, by omega⟩ : Fin 176).val, by
      show 176 * (ρ.val / 176) + ρ.val % 176 < _; omega⟩ :=
    Fin.ext (by show ρ.val = 176 * (ρ.val / 176) + ρ.val % 176; omega)
  rw [e, flush11]

end Cert.PoolIdeal.Work

end
-- ==== Proof.PoolRef.lean ====
/-
  What the pooling call's reference computes, entry by entry, over its nine arguments.
-/
module

public import proofs.«01_k».proof.Proof.Gen.PoolRefIdeal.Run
public import proofs.«01_k».proof.Proof.Gen.PoolRefIdeal.Read
public import proofs.«01_k».proof.Proof.PoolPoint
public import Idealize.ShloMosaic.Lib.Pointwise
public import Idealize.ShloMosaic.Lib.KernelVsHost

@[expose] public section

set_option maxRecDepth 16384

noncomputable section

namespace Cert.PoolRefIdeal.Work

open Cert.PoolRefIdeal Cert.PoolRefIdeal.Gen Cert.PoolRefIdeal.Read Idealize.ShloMosaic Idealize.ShloMosaic.TcCoe Idealize.SL.Sem
open Cert.PoolIdeal.Work (normed modulated gcol count)

variable (x0 : Vec Ideal S16384x2048 .f32) (x1 : Vec Ideal S9x2048 .f32) (x2 x3 : Vec Ideal S2048 .f32)
  (x4 : Vec Ideal S4x512x512 .f32) (x5 x6 : Vec Ideal S2048 .f32)
  (x7 : Vec Ideal S4x2x2048x11264 .f32) (x8 : Vec Ideal S4x2x5632x2048 .f32)

/-- The modulated rows. -/
theorem u_apply (ρ : Fin 16384) (d : Fin 2048) : val_main_v24 (F := Ideal) x0 x1 x2 (ix2 ρ d)
    = modulated (fun z => x0 (ix2 ρ z)) (x2 (ix1 d)) (x1 (ix2 4 d)) (x1 (ix2 3 d)) d := by
  unfold modulated normed
  unfold val_main_v24 val_main_v23 val_main_v22 val_main_v21 val_main_v20 val_main_v19 val_main_v18 val_main_v17 val_main_v16 val_main_v15 val_main_cst_2 val_main_v14 val_main_v13 val_main_v12 val_main_v11 val_main_v10 val_main_v9 val_main_v8 val_main_v7 val_main_v6 val_main_v5 val_main_cst_1 val_main_v4 val_main_v3 val_main_cst_0 val_main_v2 val_main_v1 val_main_cst val_main_v0
  pointwise

/-- An array of rows, from eight before the first, zero outside it. -/
def padded (u : Vec Ideal S16384x2048 .f32) (p : ℕ) (d : Fin 2048) : EReal :=
  if h : 8 ≤ p ∧ p < 16392 then u (ix2 ⟨p - 8, by omega⟩ d) else 0

/-- The integer zero converts to zero. -/
theorem sitofp_zero : (FloatOps.sitofp FTy.f32 0#32 : Ideal FTy.f32) = (0 : EReal) := by
  first
  | (show (((0#32 : BitVec 32).toInt : ℝ) : EReal) = 0; simp)
  | simp [FloatOps.sitofp]

/-- Rows put between rows of another entry read the operand inside it and that entry outside. -/
theorem pad_rows (lo hi n : ℕ) (x : Vec Ideal S16384x512 .f32) (v : Vec Ideal S_ .f32) (z : EReal) (hv : ∀ i, v i = z)
    (h : S16384x512.Pads (![lo, 0] : Fin 2 → ℕ) ![hi, 0] ![0, 0] ⟨2, ![n, 512]⟩) (hu : 0 < S_.numel) (p : Fin n) (d : Fin 512) :
    (pad ⟨2, ![n, 512]⟩ ![lo, 0] ![hi, 0] ![0, 0] x v h hu : Vec Ideal ⟨2, ![n, 512]⟩ .f32) (ix2 p d)
      = if h : lo ≤ p.val ∧ p.val < lo + 16384 then x (ix2 ⟨p.val - lo, by omega⟩ d) else z := by
  by_cases hp : lo ≤ p.val ∧ p.val < lo + 16384
  · rw [dif_pos hp]
    refine pad_apply_of_inside _ _ _ x v h hu _ _ fun a => ?_
    match a with
    | ⟨0, _⟩ => show p.val = lo + (p.val - lo) * (0 + 1); omega
    | ⟨1, _⟩ => show d.val = 0 + d.val * (0 + 1); omega
  · rw [dif_neg hp]
    refine (pad_apply_of_not_inside _ _ _ x v h hu _ (0 : Fin 2) ?_).trans (hv _)
    show ¬(lo ≤ p.val ∧ (p.val - lo) % (0 + 1) = 0 ∧ (p.val - lo) / (0 + 1) < 16384)
    omega

/-- The padded columns of group 0. -/
theorem pad0_apply (p : Fin 16385) (d : Fin 512) : val_main_v35 (F := Ideal) x0 x1 x2 (ix2 p d)
    = padded (val_main_v24 (F := Ideal) x0 x1 x2) (p.val + 7) (gcol 0 d) := by
  unfold val_main_v35 padded
  refine (pad_rows 1 0 16385 _ _ 0 (fun i => ?_) _ _ p d).trans ?_
  · unfold val_main_call2_v0 val_main_c_9
    pointwise
    exact sitofp_zero
  · unfold val_main_v34
    generalize val_main_v24 (F := Ideal) x0 x1 x2 = u
    by_cases hp : 1 ≤ p.val ∧ p.val < 1 + 16384
    · rw [dif_pos hp, dif_pos (by omega)]
      pointwise
      refine congrArg u (congrArg₂ ix2 (Fin.ext ?_) (Fin.ext ?_))
      · show p.val - 1 = p.val + 7 - 8
        omega
      · show _ = 512 * 0 + d.val
        first | rfl | omega | (show d.val = 512 * 0 + d.val; omega)
    · rw [dif_neg hp, dif_neg (by omega)]

/-- The window sums of group 0. -/
theorem sum0_apply (ρ : Fin 16384) (d : Fin 512) : val_main_v38 (F := Ideal) x0 x1 x2 (ix2 ρ d)
    = ∑ k ∈ Finset.range 2, padded (val_main_v24 (F := Ideal) x0 x1 x2) (ρ.val + (7 + k)) (gcol 0 d) := by
  have hy := pad0_apply x0 x1 x2
  unfold val_main_v38 val_main_v37 val_main_v36
  generalize val_main_v35 (F := Ideal) x0 x1 x2 = y at hy ⊢
  generalize val_main_v24 (F := Ideal) x0 x1 x2 = u at hy
  generalize hP : (fun e => padded u e (gcol 0 d)) = P
  have hz : ∀ p : Fin 16385, y (ix2 p d) = P (p.val + 7) := fun p => by rw [hy, ← hP]
  have hr : ∀ e, padded u e (gcol 0 d) = P e := fun e => by rw [← hP]
  simp only [hr, Finset.sum_range_succ, Finset.sum_range_zero, zero_add]
  pointwise
  simp only [hz]
  repeat' refine congrArg₂ (· + ·) ?_ ?_
  all_goals exact congrArg P (by first | omega | (dsimp only; omega))

/-- The number of rows inside the window, group 0. -/
theorem count0_apply (ρ : Fin 16384) : val_main_v40 (F := Ideal) (ix1 ρ) = count 1#32 2#32 (BitVec.ofNat 32 ρ.val) := by
  rfl

/-- The window means less the rows, group 0. -/
theorem z0_apply (ρ : Fin 16384) (d : Fin 512) : val_main_v44 (F := Ideal) x0 x1 x2 (ix2 ρ d)
    = Ideal.div (∑ k ∈ Finset.range 2, padded (val_main_v24 (F := Ideal) x0 x1 x2) (ρ.val + (7 + k)) (gcol 0 d))
        (count 1#32 2#32 (BitVec.ofNat 32 ρ.val)) - val_main_v24 (F := Ideal) x0 x1 x2 (ix2 ρ (gcol 0 d)) := by
  rw [← sum0_apply, ← count0_apply]
  unfold val_main_v44 val_main_v43 val_main_v42 val_main_v41 val_main_v34
  generalize val_main_v38 (F := Ideal) x0 x1 x2 = a
  generalize val_main_v24 (F := Ideal) x0 x1 x2 = u
  generalize val_main_v40 (F := Ideal) = n
  pointwise
  first | done | rfl | exact congrArg (_ - ·) (congrArg u (congrArg (ix2 ρ) (Fin.ext (show d.val = 512 * 0 + d.val by omega))))

/-- The padded columns of group 1. -/
theorem pad1_apply (p : Fin 16387) (d : Fin 512) : val_main_v54 (F := Ideal) x0 x1 x2 (ix2 p d)
    = padded (val_main_v24 (F := Ideal) x0 x1 x2) (p.val + 6) (gcol 1 d) := by
  unfold val_main_v54 padded
  refine (pad_rows 2 1 16387 _ _ 0 (fun i => ?_) _ _ p d).trans ?_
  · unfold val_main_call5_v0 val_main_c_17
    pointwise
    exact sitofp_zero
  · unfold val_main_v53
    generalize val_main_v24 (F := Ideal) x0 x1 x2 = u
    by_cases hp : 2 ≤ p.val ∧ p.val < 2 + 16384
    · rw [dif_pos hp, dif_pos (by omega)]
      pointwise
      refine congrArg u (congrArg₂ ix2 (Fin.ext ?_) (Fin.ext ?_))
      · show p.val - 2 = p.val + 6 - 8
        omega
      · show _ = 512 * 1 + d.val
        first | rfl | omega | (show d.val = 512 * 0 + d.val; omega)
    · rw [dif_neg hp, dif_neg (by omega)]

/-- The window sums of group 1. -/
theorem sum1_apply (ρ : Fin 16384) (d : Fin 512) : val_main_v61 (F := Ideal) x0 x1 x2 (ix2 ρ d)
    = ∑ k ∈ Finset.range 4, padded (val_main_v24 (F := Ideal) x0 x1 x2) (ρ.val + (6 + k)) (gcol 1 d) := by
  have hy := pad1_apply x0 x1 x2
  unfold val_main_v61 val_main_v60 val_main_v59 val_main_v58 val_main_v57 val_main_v56 val_main_v55
  generalize val_main_v54 (F := Ideal) x0 x1 x2 = y at hy ⊢
  generalize val_main_v24 (F := Ideal) x0 x1 x2 = u at hy
  generalize hP : (fun e => padded u e (gcol 1 d)) = P
  have hz : ∀ p : Fin 16387, y (ix2 p d) = P (p.val + 6) := fun p => by rw [hy, ← hP]
  have hr : ∀ e, padded u e (gcol 1 d) = P e := fun e => by rw [← hP]
  simp only [hr, Finset.sum_range_succ, Finset.sum_range_zero, zero_add]
  pointwise
  simp only [hz]
  repeat' refine congrArg₂ (· + ·) ?_ ?_
  all_goals exact congrArg P (by first | omega | (dsimp only; omega))

/-- The number of rows inside the window, group 1. -/
theorem count1_apply (ρ : Fin 16384) : val_main_v63 (F := Ideal) (ix1 ρ) = count 2#32 4#32 (BitVec.ofNat 32 ρ.val) := by
  rfl

/-- The window means less the rows, group 1. -/
theorem z1_apply (ρ : Fin 16384) (d : Fin 512) : val_main_v67 (F := Ideal) x0 x1 x2 (ix2 ρ d)
    = Ideal.div (∑ k ∈ Finset.range 4, padded (val_main_v24 (F := Ideal) x0 x1 x2) (ρ.val + (6 + k)) (gcol 1 d))
        (count 2#32 4#32 (BitVec.ofNat 32 ρ.val)) - val_main_v24 (F := Ideal) x0 x1 x2 (ix2 ρ (gcol 1 d)) := by
  rw [← sum1_apply, ← count1_apply]
  unfold val_main_v67 val_main_v66 val_main_v65 val_main_v64 val_main_v53
  generalize val_main_v61 (F := Ideal) x0 x1 x2 = a
  generalize val_main_v24 (F := Ideal) x0 x1 x2 = u
  generalize val_main_v63 (F := Ideal) = n
  pointwise
  first | done | rfl | exact congrArg (_ - ·) (congrArg u (congrArg (ix2 ρ) (Fin.ext (show d.val = 512 * 0 + d.val by omega))))

/-- The padded columns of group 2. -/
theorem pad2_apply (p : Fin 16391) (d : Fin 512) : val_main_v77 (F := Ideal) x0 x1 x2 (ix2 p d)
    = padded (val_main_v24 (F := Ideal) x0 x1 x2) (p.val + 4) (gcol 2 d) := by
  unfold val_main_v77 padded
  refine (pad_rows 4 3 16391 _ _ 0 (fun i => ?_) _ _ p d).trans ?_
  · unfold val_main_call8_v0 val_main_c_25
    pointwise
    exact sitofp_zero
  · unfold val_main_v76
    generalize val_main_v24 (F := Ideal) x0 x1 x2 = u
    by_cases hp : 4 ≤ p.val ∧ p.val < 4 + 16384
    · rw [dif_pos hp, dif_pos (by omega)]
      pointwise
      refine congrArg u (congrArg₂ ix2 (Fin.ext ?_) (Fin.ext ?_))
      · show p.val - 4 = p.val + 4 - 8
        omega
      · show _ = 512 * 2 + d.val
        first | rfl | omega | (show d.val = 512 * 0 + d.val; omega)
    · rw [dif_neg hp, dif_neg (by omega)]

/-- The window sums of group 2. -/
theorem sum2_apply (ρ : Fin 16384) (d : Fin 512) : val_main_v92 (F := Ideal) x0 x1 x2 (ix2 ρ d)
    = ∑ k ∈ Finset.range 8, padded (val_main_v24 (F := Ideal) x0 x1 x2) (ρ.val + (4 + k)) (gcol 2 d) := by
  have hy := pad2_apply x0 x1 x2
  unfold val_main_v92 val_main_v91 val_main_v90 val_main_v89 val_main_v88 val_main_v87 val_main_v86 val_main_v85 val_main_v84 val_main_v83 val_main_v82 val_main_v81 val_main_v80 val_main_v79 val_main_v78
  generalize val_main_v77 (F := Ideal) x0 x1 x2 = y at hy ⊢
  generalize val_main_v24 (F := Ideal) x0 x1 x2 = u at hy
  generalize hP : (fun e => padded u e (gcol 2 d)) = P
  have hz : ∀ p : Fin 16391, y (ix2 p d) = P (p.val + 4) := fun p => by rw [hy, ← hP]
  have hr : ∀ e, padded u e (gcol 2 d) = P e := fun e => by rw [← hP]
  simp only [hr, Finset.sum_range_succ, Finset.sum_range_zero, zero_add]
  pointwise
  simp only [hz]
  repeat' refine congrArg₂ (· + ·) ?_ ?_
  all_goals exact congrArg P (by first | omega | (dsimp only; omega))

/-- The number of rows inside the window, group 2. -/
theorem count2_apply (ρ : Fin 16384) : val_main_v94 (F := Ideal) (ix1 ρ) = count 4#32 8#32 (BitVec.ofNat 32 ρ.val) := by
  rfl

/-- The window means less the rows, group 2. -/
theorem z2_apply (ρ : Fin 16384) (d : Fin 512) : val_main_v98 (F := Ideal) x0 x1 x2 (ix2 ρ d)
    = Ideal.div (∑ k ∈ Finset.range 8, padded (val_main_v24 (F := Ideal) x0 x1 x2) (ρ.val + (4 + k)) (gcol 2 d))
        (count 4#32 8#32 (BitVec.ofNat 32 ρ.val)) - val_main_v24 (F := Ideal) x0 x1 x2 (ix2 ρ (gcol 2 d)) := by
  rw [← sum2_apply, ← count2_apply]
  unfold val_main_v98 val_main_v97 val_main_v96 val_main_v95 val_main_v76
  generalize val_main_v92 (F := Ideal) x0 x1 x2 = a
  generalize val_main_v24 (F := Ideal) x0 x1 x2 = u
  generalize val_main_v94 (F := Ideal) = n
  pointwise
  first | done | rfl | exact congrArg (_ - ·) (congrArg u (congrArg (ix2 ρ) (Fin.ext (show d.val = 512 * 0 + d.val by omega))))

/-- The padded columns of group 3. -/
theorem pad3_apply (p : Fin 16399) (d : Fin 512) : val_main_v108 (F := Ideal) x0 x1 x2 (ix2 p d)
    = padded (val_main_v24 (F := Ideal) x0 x1 x2) (p.val + 0) (gcol 3 d) := by
  unfold val_main_v108 padded
  refine (pad_rows 8 7 16399 _ _ 0 (fun i => ?_) _ _ p d).trans ?_
  · unfold val_main_call11_v0 val_main_c_33
    pointwise
    exact sitofp_zero
  · unfold val_main_v107
    generalize val_main_v24 (F := Ideal) x0 x1 x2 = u
    by_cases hp : 8 ≤ p.val ∧ p.val < 8 + 16384
    · rw [dif_pos hp, dif_pos (by omega)]
      pointwise
      refine congrArg u (congrArg₂ ix2 (Fin.ext ?_) (Fin.ext ?_))
      · show p.val - 8 = p.val + 0 - 8
        omega
      · show _ = 512 * 3 + d.val
        first | rfl | omega | (show d.val = 512 * 0 + d.val; omega)
    · rw [dif_neg hp, dif_neg (by omega)]

/-- The window sums of group 3. -/
theorem sum3_apply (ρ : Fin 16384) (d : Fin 512) : val_main_v139 (F := Ideal) x0 x1 x2 (ix2 ρ d)
    = ∑ k ∈ Finset.range 16, padded (val_main_v24 (F := Ideal) x0 x1 x2) (ρ.val + (0 + k)) (gcol 3 d) := by
  have hy := pad3_apply x0 x1 x2
  unfold val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109
  generalize val_main_v108 (F := Ideal) x0 x1 x2 = y at hy ⊢
  generalize val_main_v24 (F := Ideal) x0 x1 x2 = u at hy
  generalize hP : (fun e => padded u e (gcol 3 d)) = P
  have hz : ∀ p : Fin 16399, y (ix2 p d) = P (p.val + 0) := fun p => by rw [hy, ← hP]
  have hr : ∀ e, padded u e (gcol 3 d) = P e := fun e => by rw [← hP]
  simp only [hr, Finset.sum_range_succ, Finset.sum_range_zero, zero_add]
  pointwise
  simp only [hz]
  repeat' refine congrArg₂ (· + ·) ?_ ?_
  all_goals exact congrArg P (by first | omega | (dsimp only; omega))

/-- The number of rows inside the window, group 3. -/
theorem count3_apply (ρ : Fin 16384) : val_main_v141 (F := Ideal) (ix1 ρ) = count 8#32 16#32 (BitVec.ofNat 32 ρ.val) := by
  rfl

/-- The window means less the rows, group 3. -/
theorem z3_apply (ρ : Fin 16384) (d : Fin 512) : val_main_v145 (F := Ideal) x0 x1 x2 (ix2 ρ d)
    = Ideal.div (∑ k ∈ Finset.range 16, padded (val_main_v24 (F := Ideal) x0 x1 x2) (ρ.val + (0 + k)) (gcol 3 d))
        (count 8#32 16#32 (BitVec.ofNat 32 ρ.val)) - val_main_v24 (F := Ideal) x0 x1 x2 (ix2 ρ (gcol 3 d)) := by
  rw [← sum3_apply, ← count3_apply]
  unfold val_main_v145 val_main_v144 val_main_v143 val_main_v142 val_main_v107
  generalize val_main_v139 (F := Ideal) x0 x1 x2 = a
  generalize val_main_v24 (F := Ideal) x0 x1 x2 = u
  generalize val_main_v141 (F := Ideal) = n
  pointwise
  first | done | rfl | exact congrArg (_ - ·) (congrArg u (congrArg (ix2 ρ) (Fin.ext (show d.val = 512 * 0 + d.val by omega))))

/-- The four groups side by side. -/
theorem cat_apply (ρ : Fin 16384) (q : Fin 4) (k : Fin 512) : val_main_v150 (F := Ideal) x0 x1 x2 (ix3 ρ q k)
    = if q.val = 0 then val_main_v44 (F := Ideal) x0 x1 x2 (ix2 ρ k)
      else if q.val = 1 then val_main_v67 (F := Ideal) x0 x1 x2 (ix2 ρ k)
      else if q.val = 2 then val_main_v98 (F := Ideal) x0 x1 x2 (ix2 ρ k)
      else val_main_v145 (F := Ideal) x0 x1 x2 (ix2 ρ k) := by
  unfold val_main_v150 val_main_v149 val_main_v148 val_main_v147 val_main_v146
  generalize val_main_v44 (F := Ideal) x0 x1 x2 = z0
  generalize val_main_v67 (F := Ideal) x0 x1 x2 = z1
  generalize val_main_v98 (F := Ideal) x0 x1 x2 = z2
  generalize val_main_v145 (F := Ideal) x0 x1 x2 = z3
  match q with
  | ⟨0, _⟩ => pointwise; first | done | rfl
  | ⟨1, _⟩ => pointwise; first | done | rfl
  | ⟨2, _⟩ => pointwise; first | done | rfl
  | ⟨3, _⟩ => pointwise; first | done | rfl

/-- A column of a group after the weights. -/
theorem col_apply (ρ : Fin 16384) (q : Fin 4) (d : Fin 512) : val_main_v153 (F := Ideal) x0 x1 x2 x4 (ix2 ρ (gcol q d))
    = ∑ k, x4 (ix3 q k d) * val_main_v150 (F := Ideal) x0 x1 x2 (ix3 ρ q k) := by
  rw [val_main_v153_apply]
  have e : idx_main_v153 (ix2 ρ (gcol q d)) = ix3 ρ q d := funext fun a => Fin.ext (by
    match a with
    | ⟨0, _⟩ => (show (ρ.val * 2048 + (512 * q.val + d.val)) / 2048 = ρ.val); omega
    | ⟨1, _⟩ => (show (ρ.val * 2048 + (512 * q.val + d.val)) / 512 % 4 = q.val); omega
    | ⟨2, _⟩ => (show (ρ.val * 2048 + (512 * q.val + d.val)) % 512 = d.val); omega)
  rw [e]
  unfold val_main_v152 val_main_v151
  generalize val_main_v150 (F := Ideal) x0 x1 x2 = v
  pointwise [dot_S4x512x512_S16384x4x512_S4x512x16384_1_2_2_0_0_1]

/-- A column of a group after the weights, the bias and the scale. -/
theorem y_apply (ρ : Fin 16384) (q : Fin 4) (d : Fin 512) : val_main_v163 (F := Ideal) x0 x1 x2 x4 x5 x6 (ix2 ρ (gcol q d))
    = ((∑ k, x4 (ix3 q k d) * val_main_v150 (F := Ideal) x0 x1 x2 (ix3 ρ q k)) + x5 (ix1 (gcol q d))) * x6 (ix1 (gcol q d)) := by
  rw [← col_apply]
  unfold val_main_v163 val_main_v162 val_main_v161 val_main_v156 val_main_v155 val_main_v154
  generalize val_main_v153 (F := Ideal) x0 x1 x2 x4 = v
  pointwise

/-- The first result. -/
theorem out_apply (ρ : Fin 16384) (d : Fin 2048) : val_main_v180 (F := Ideal) x0 x1 x2 x3 x4 x5 x6 (ix2 ρ d)
    = x0 (ix2 ρ d) + Ideal.ofBits FTy.f32 1065353216#32 * x1 (ix2 5 d)
      * normed (fun z => val_main_v163 (F := Ideal) x0 x1 x2 x4 x5 x6 (ix2 ρ z)) (x3 (ix1 d)) d := by
  unfold normed
  unfold val_main_v180 val_main_v179 val_main_v178 val_main_v177 val_main_v176 val_main_v175 val_main_v174 val_main_v173 val_main_v172 val_main_v171 val_main_v170 val_main_v169 val_main_cst_37 val_main_v168 val_main_v167 val_main_cst_36 val_main_v166 val_main_v165 val_main_cst_35 val_main_v164 val_main_v160 val_main_v159 val_main_cst_34 val_main_v158 val_main_v157
  generalize val_main_v163 (F := Ideal) x0 x1 x2 x4 x5 x6 = y
  pointwise

/-- The cast up projection of the next layer. -/
theorem nextIn_apply (k : Fin 2048) (f : Fin 11264) : val_main_v183 (F := Ideal) x7 (ix2 k f) = x7 (ix4 2 1 k f) := by
  unfold val_main_v183 val_main_v182 val_main_v181
  pointwise

/-- The cast down projection of the next layer. -/
theorem nextOut_apply (f : Fin 5632) (d : Fin 2048) : val_main_v186 (F := Ideal) x8 (ix2 f d) = x8 (ix4 2 1 f d) := by
  unfold val_main_v186 val_main_v185 val_main_v184
  pointwise

end Cert.PoolRefIdeal.Work

end
-- ==== Proof.PoolEq.lean ====
/-
  The pooling call and its reference leave the same arrays, over the extended reals.
-/
module

public import proofs.«01_k».proof.Defs
public import proofs.«01_k».proof.Proof.PoolArr
public import proofs.«01_k».proof.Proof.PoolRef
public import proofs.«01_k».proof.Proof.Gen.PoolIdeal.Value
public import Idealize.ShloMosaic.Lib.Claim

@[expose] public section

set_option maxRecDepth 16384

noncomputable section

namespace Cert.PoolEq

open Idealize.ShloMosaic Idealize.ShloMosaic.TcCoe Idealize.SL.Sem
open Cert.PoolIdeal.Work

variable (m : (ℓ : Loc Cert.PoolIdeal.nD Cert.PoolIdeal.τ Cert.PoolIdeal.sig) → Buf (Elt Ideal) ℓ)

/-- The word of one denotes one. -/
theorem one_word : Ideal.ofBits FTy.f32 1065353216#32 = 1 := by
  simp [Ideal.ofBits, Ideal.ieee]
  rw [← EReal.coe_mul, ← EReal.coe_one]
  norm_num

/-- The reference's modulated rows are the kernel's. -/
theorem u_eq (c : Dev Cert.PoolIdeal.nD) (ρ : Fin 16384) (d : Fin 2048) :
    Cert.PoolRefIdeal.Read.val_main_v24 (F := Ideal) (H m c) (Mod m c) (Gpre m c) (ix2 ρ d) = U m c ρ d :=
  Cert.PoolRefIdeal.Work.u_apply _ _ _ ρ d

/-- So are the rows with zeros around them. -/
theorem padded_eq (c : Dev Cert.PoolIdeal.nD) (p : ℕ) (d : Fin 2048) :
    Cert.PoolRefIdeal.Work.padded (Cert.PoolRefIdeal.Read.val_main_v24 (F := Ideal) (H m c) (Mod m c) (Gpre m c)) p d = Upad m c p d := by
  unfold Cert.PoolRefIdeal.Work.padded Upad
  by_cases h : 8 ≤ p ∧ p < 16392
  · rw [dif_pos h, dif_pos h, u_eq]
  · rw [dif_neg h, dif_neg h]

/-- A group's columns: the weights are multiplied from either side. -/
theorem group_eq (c : Dev Cert.PoolIdeal.nD) (q : Fin 4) (s st : ℕ) (h w : BitVec 32) (ρ : Fin 16384) (d : Fin 512)
    (hz : ∀ k, Cert.PoolRefIdeal.Read.val_main_v150 (F := Ideal) (H m c) (Mod m c) (Gpre m c) (ix3 ρ q k)
      = Ideal.div (Wsum m c s st ρ.val (gcol q k)) (count h w (BitVec.ofNat 32 ρ.val)) - U m c ρ (gcol q k)) :
    Cert.PoolRefIdeal.Read.val_main_v163 (F := Ideal) (H m c) (Mod m c) (Gpre m c) (Wp m c) (Bias m c) (Scl m c) (ix2 ρ (gcol q d))
      = Yq m c q s st h w ρ d := by
  rw [Cert.PoolRefIdeal.Work.y_apply]
  unfold Yq
  refine congrArg (· * _) (congrArg (· + _) (Finset.sum_congr rfl fun k _ => ?_))
  rw [hz, mul_comm]

/-- The columns after weights, bias and scale. -/
theorem y_eq (c : Dev Cert.PoolIdeal.nD) (ρ : Fin 16384) (z : Fin 2048) :
    Cert.PoolRefIdeal.Read.val_main_v163 (F := Ideal) (H m c) (Mod m c) (Gpre m c) (Wp m c) (Bias m c) (Scl m c) (ix2 ρ z) = Y m c ρ z := by
  have hcol : ∀ q : Fin 4, z.val / 512 = q.val → z = gcol q ⟨z.val % 512, Nat.mod_lt _ (by omega)⟩ := fun q hq =>
    Fin.ext (show z.val = 512 * q.val + z.val % 512 by omega)
  have hlt : z.val / 512 < 4 := by have := z.isLt; omega
  unfold Y
  by_cases h0 : z.val / 512 = 0
  · rw [if_pos h0]
    refine (congrArg (fun y => Cert.PoolRefIdeal.Read.val_main_v163 (F := Ideal) (H m c) (Mod m c) (Gpre m c) (Wp m c) (Bias m c) (Scl m c) (ix2 ρ y)) (hcol 0 h0)).trans
      (group_eq m c 0 2 7 1#32 2#32 ρ _ fun k => ?_)
    refine (Cert.PoolRefIdeal.Work.cat_apply _ _ _ ρ 0 k).trans ((if_pos rfl).trans ?_)
    rw [Cert.PoolRefIdeal.Work.z0_apply, u_eq]
    simp only [padded_eq]
    rfl
  rw [if_neg h0]
  by_cases h1 : z.val / 512 = 1
  · rw [if_pos h1]
    refine (congrArg (fun y => Cert.PoolRefIdeal.Read.val_main_v163 (F := Ideal) (H m c) (Mod m c) (Gpre m c) (Wp m c) (Bias m c) (Scl m c) (ix2 ρ y)) (hcol 1 h1)).trans
      (group_eq m c 1 4 6 2#32 4#32 ρ _ fun k => ?_)
    refine (Cert.PoolRefIdeal.Work.cat_apply _ _ _ ρ 1 k).trans ((if_neg (by decide)).trans ((if_pos rfl).trans ?_))
    rw [Cert.PoolRefIdeal.Work.z1_apply, u_eq]
    simp only [padded_eq]
    rfl
  rw [if_neg h1]
  by_cases h2 : z.val / 512 = 2
  · rw [if_pos h2]
    refine (congrArg (fun y => Cert.PoolRefIdeal.Read.val_main_v163 (F := Ideal) (H m c) (Mod m c) (Gpre m c) (Wp m c) (Bias m c) (Scl m c) (ix2 ρ y)) (hcol 2 h2)).trans
      (group_eq m c 2 8 4 4#32 8#32 ρ _ fun k => ?_)
    refine (Cert.PoolRefIdeal.Work.cat_apply _ _ _ ρ 2 k).trans ((if_neg (by decide)).trans ((if_neg (by decide)).trans ((if_pos rfl).trans ?_)))
    rw [Cert.PoolRefIdeal.Work.z2_apply, u_eq]
    simp only [padded_eq]
    rfl
  rw [if_neg h2]
  refine (congrArg (fun y => Cert.PoolRefIdeal.Read.val_main_v163 (F := Ideal) (H m c) (Mod m c) (Gpre m c) (Wp m c) (Bias m c) (Scl m c) (ix2 ρ y)) (hcol 3 (by show _ = 3; omega))).trans
    (group_eq m c 3 16 0 8#32 16#32 ρ _ fun k => ?_)
  refine (Cert.PoolRefIdeal.Work.cat_apply _ _ _ ρ 3 k).trans ((if_neg (by decide)).trans ((if_neg (by decide)).trans ((if_neg (by decide)).trans ?_)))
  rw [Cert.PoolRefIdeal.Work.z3_apply, u_eq]
  simp only [padded_eq]
  rfl

/-- The first result. -/
theorem out_eq (c : Dev Cert.PoolIdeal.nD) (ρ : Fin 16384) (d : Fin 2048) :
    Cert.PoolRefIdeal.Read.val_main_v180 (F := Ideal) (H m c) (Mod m c) (Gpre m c) (Gpost m c) (Wp m c) (Bias m c) (Scl m c) (ix2 ρ d) = Out m c ρ d := by
  rw [Cert.PoolRefIdeal.Work.out_apply, one_word, one_mul]
  unfold Out
  exact congrArg (fun y => H m c (ix2 ρ d) + Mod m c (ix2 5 d) * normed y (Gpost m c (ix1 d)) d) (funext fun z => y_eq m c ρ z)

theorem out_arr (c : Dev Cert.PoolIdeal.nD) :
    Cert.PoolRefIdeal.Read.val_main_v180 (F := Ideal) (H m c) (Mod m c) (Gpre m c) (Gpost m c) (Wp m c) (Bias m c) (Scl m c) = Res9 m c := by
  refine funext fun i => ?_
  obtain ⟨ρ, d, rfl⟩ : ∃ (ρ : Fin 16384) (d : Fin 2048), i = ix2 ρ d := ⟨i 0, i 1, eq_ix2 i⟩
  exact (out_eq m c ρ d).trans (res9_apply m c ρ d).symm

/-- The cast up projection is the reference's. -/
theorem nextIn_arr (c : Dev Cert.PoolIdeal.nD) : Cert.PoolRefIdeal.Read.val_main_v183 (F := Ideal) (NextIn m c) = Res10 m c := by
  refine funext fun i => ?_
  obtain ⟨k, f, rfl⟩ : ∃ (k : Fin 2048) (f : Fin 11264), i = ix2 k f := ⟨i 0, i 1, eq_ix2 i⟩
  exact (Cert.PoolRefIdeal.Work.nextIn_apply _ k f).trans (res10_apply m c k f).symm

/-- The cast down projection is the reference's. -/
theorem nextOut_arr (c : Dev Cert.PoolIdeal.nD) : Cert.PoolRefIdeal.Read.val_main_v186 (F := Ideal) (NextOut m c) = Res11 m c := by
  refine funext fun i => ?_
  obtain ⟨f, d, rfl⟩ : ∃ (f : Fin 5632) (d : Fin 2048), i = ix2 f d := ⟨i 0, i 1, eq_ix2 i⟩
  exact (Cert.PoolRefIdeal.Work.nextOut_apply _ f d).trans (res11_apply m c f d).symm

/-- The claim: from agreeing arguments the kernel and the reference leave the same three results. -/
theorem algebraic : Cert.algebraic_PoolIdeal_PoolRefIdeal := by
  intro m g m' g' _ hagree
  refine ⟨fun c => Res9 m c, fun c => Res10 m c, fun c => Res11 m c, Cert.PoolIdeal.Value.run_blocks m g, ?_⟩
  refine θ_run_mono (Cert.PoolRefIdeal.Value.run m' g') fun r hr c => ?_
  obtain ⟨hres, hin, hout, hargs⟩ := hr c
  obtain ⟨a0, a1, a2, a3, a4, a5, a6, a7, a8⟩ := hagree c
  have e0 : StableHlo.launchContents m' c (Proc.devRef .tc Cert.PoolRefIdeal.main_arg0) = H m c := a0
  have e1 : StableHlo.launchContents m' c (Proc.devRef .tc Cert.PoolRefIdeal.main_arg1) = Mod m c := a1
  have e2 : StableHlo.launchContents m' c (Proc.devRef .tc Cert.PoolRefIdeal.main_arg2) = Gpre m c := a2
  have e3 : StableHlo.launchContents m' c (Proc.devRef .tc Cert.PoolRefIdeal.main_arg3) = Gpost m c := a3
  have e4 : StableHlo.launchContents m' c (Proc.devRef .tc Cert.PoolRefIdeal.main_arg4) = Wp m c := a4
  have e5 : StableHlo.launchContents m' c (Proc.devRef .tc Cert.PoolRefIdeal.main_arg5) = Bias m c := a5
  have e6 : StableHlo.launchContents m' c (Proc.devRef .tc Cert.PoolRefIdeal.main_arg6) = Scl m c := a6
  have e7 : StableHlo.launchContents m' c (Proc.devRef .tc Cert.PoolRefIdeal.main_arg7) = NextIn m c := a7
  have e8 : StableHlo.launchContents m' c (Proc.devRef .tc Cert.PoolRefIdeal.main_arg8) = NextOut m c := a8
  refine ⟨hres.trans ?_, hin.trans ?_, hout.trans ?_, hargs⟩
  · refine Eq.trans ?_ (out_arr m c)
    rw [Cert.PoolRefIdeal.Read.val_main_v180_eq]
    rw [e0, e1, e2, e3, e4, e5, e6]
  · refine Eq.trans ?_ (nextIn_arr m c)
    rw [Cert.PoolRefIdeal.Read.val_main_v183_eq]
    rw [e7]
  · refine Eq.trans ?_ (nextOut_arr m c)
    rw [Cert.PoolRefIdeal.Read.val_main_v186_eq]
    rw [e8]

end Cert.PoolEq

end
-- ==== Proof.lean ====
module

public import proofs.«01_k».proof.Defs
public import proofs.«01_k».proof.Proof.Frames
public import proofs.«01_k».proof.Proof.FfnEq
public import proofs.«01_k».proof.Proof.AttnEq
public import proofs.«01_k».proof.Proof.FfnNextFrames
public import proofs.«01_k».proof.Proof.FfnNextEq
public import proofs.«01_k».proof.Proof.HyInFrames
public import proofs.«01_k».proof.Proof.HyInEq
public import proofs.«01_k».proof.Proof.ProjInFrames
public import proofs.«01_k».proof.Proof.ProjInEq
public import proofs.«01_k».proof.Proof.ProjOutFrames
public import proofs.«01_k».proof.Proof.ProjOutEq
public import proofs.«01_k».proof.Proof.FfnCtxFrames
public import proofs.«01_k».proof.Proof.FfnCtxEq
public import proofs.«01_k».proof.Proof.KvInFrames
public import proofs.«01_k».proof.Proof.KvInEq
public import proofs.«01_k».proof.Proof.PoolFrames
public import proofs.«01_k».proof.Proof.PoolEq
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.FfnNext.Gen.facts, Cert.FfnNextIdeal.Gen.facts, Cert.FfnNextRefIdeal.Gen.facts,
    Cert.HyIn.Gen.facts, Cert.HyInIdeal.Gen.facts, Cert.HyInRefIdeal.Gen.facts,
    Cert.ProjIn.Gen.facts, Cert.ProjInIdeal.Gen.facts, Cert.ProjInRefIdeal.Gen.facts,
    Cert.ProjOut.Gen.facts, Cert.ProjOutIdeal.Gen.facts, Cert.ProjOutRefIdeal.Gen.facts,
    Cert.FfnCtx.Gen.facts, Cert.FfnCtxIdeal.Gen.facts, Cert.FfnCtxRefIdeal.Gen.facts,
    Cert.KvIn.Gen.facts, Cert.KvInIdeal.Gen.facts, Cert.KvInRefIdeal.Gen.facts,
    Cert.Pool.Gen.facts, Cert.PoolIdeal.Gen.facts, Cert.PoolRefIdeal.Gen.facts,
    Cert.AttnEq.facts, Cert.Frames.attn, Cert.Frames.attnIdeal, fun m g _ => Cert.Frames.attnIdeal m g trivial,
    Cert.Frames.attnRef, fun m g _ => Cert.Frames.attnRef m g trivial, Cert.Frames.ffn, Cert.Frames.ffnIdeal, Cert.Frames.ffnRef,
    Cert.FramesFfnNext.printed, Cert.FramesFfnNext.ideal, Cert.FramesFfnNext.ref,
    Cert.FramesHyIn.printed, Cert.FramesHyIn.ideal, Cert.FramesHyIn.ref,
    Cert.FramesProjIn.printed, Cert.FramesProjIn.ideal, Cert.FramesProjIn.ref,
    Cert.FramesProjOut.printed, Cert.FramesProjOut.ideal, Cert.FramesProjOut.ref,
    Cert.FramesFfnCtx.printed, Cert.FramesFfnCtx.ideal, Cert.FramesFfnCtx.ref,
    Cert.FramesKvIn.printed, Cert.FramesKvIn.ideal, Cert.FramesKvIn.ref,
    Cert.FramesPool.printed, Cert.FramesPool.ideal, Cert.FramesPool.ref,
    Cert.Frames.attnPreserves, Cert.AttnEq.algebraic, Cert.Frames.ffnPreserves, Cert.FfnEq.algebraic, trivial, Cert.FfnNextEq.algebraic,
    trivial, Cert.HyInEq.algebraic, Cert.FramesProjIn.preserves, Cert.ProjInEq.algebraic, trivial, Cert.ProjOutEq.algebraic,
    trivial, Cert.FfnCtxEq.algebraic,
    trivial, Cert.KvInEq.algebraic,
    trivial, Cert.PoolEq.algebraic⟩

end Cert.Proof

end
